-- ==== Defs.lean ====
def Pre_Kernel [hPre_offsets_nonneg : Cert.Pre_offsets_nonneg.Facts] (m : (ℓ : Loc Cert.Kernel.nD Cert.Kernel.τ Cert.Kernel.sig) → Buf (Elt Bits) ℓ) : Prop :=
  ∀ c : Dev Cert.Kernel.nD,
    (Cert.Pre_offsets_nonneg.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_offsets_nonneg : Cert.Pre_offsets_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_offsets_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_KernelIdeal_well_formed [hPre_well_formed : Cert.Pre_well_formed.Facts] (m : (ℓ : Loc Cert.KernelIdeal.nD Cert.KernelIdeal.τ Cert.KernelIdeal.sig) → Buf (Elt Ideal) ℓ) : Prop :=
  ∀ c : Dev Cert.KernelIdeal.nD,
    (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_formed [hPre_well_formed : Cert.Pre_well_formed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_offsets_nonneg : Cert.Pre_offsets_nonneg.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_offsets_nonneg : Cert.Pre_offsets_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_well_formed [hKernelIdeal : Cert.KernelIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_formed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_well_formed [hReferenceIdeal : Cert.ReferenceIdeal.Facts] [hPre_well_formed : Cert.Pre_well_formed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_formed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_well_formed [hKernelIdeal : Cert.KernelIdeal.Facts] [hReferenceIdeal : Cert.ReferenceIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_formed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_offsets_nonneg : Cert.Pre_offsets_nonneg.Facts) (hPre_well_formed : Cert.Pre_well_formed.Facts),
    quiescent_Kernel (hKernel := hKernel) (hPre_offsets_nonneg := hPre_offsets_nonneg)
    ∧ quiescent_KernelIdeal (hKernelIdeal := hKernelIdeal) (hPre_offsets_nonneg := hPre_offsets_nonneg)
    ∧ quiescent_KernelIdeal_pre_well_formed (hKernelIdeal := hKernelIdeal) (hPre_well_formed := hPre_well_formed)
    ∧ quiescent_ReferenceIdeal (hReferenceIdeal := hReferenceIdeal)
    ∧ quiescent_ReferenceIdeal_pre_well_formed (hReferenceIdeal := hReferenceIdeal) (hPre_well_formed := hPre_well_formed)
    ∧ preserves_Kernel_KernelIdeal
    ∧ algebraic_KernelIdeal_ReferenceIdeal_pre_well_formed (hKernelIdeal := hKernelIdeal) (hReferenceIdeal := hReferenceIdeal) (hPre_well_formed := hPre_well_formed)
-- ==== Pre_offsets_nonneg.lean ====
abbrev S16x12288 : Shape := ⟨2, ![16, 12288]⟩
abbrev S16 : Shape := ⟨1, ![16]⟩
abbrev S12288x32000 : Shape := ⟨2, ![12288, 32000]⟩
abbrev S32000 : Shape := ⟨1, ![32000]⟩
abbrev S16384 : Shape := ⟨1, ![16384]⟩
abbrev S17 : Shape := ⟨1, ![17]⟩
abbrev S16x20 : Shape := ⟨2, ![16, 20]⟩
abbrev S_ : Shape := ⟨0, ![]⟩

class Facts : Prop where
  bcast_S_S17 : S_.BroadcastsInDim S17 (![] : Fin 0 → Fin S17.rank)
  reducesTo_S17_S_d0 : S17.ReducesTo [0] S_
  h_S_ : 0 < S_.numel

variable [Facts]

def fn {F : FTy → Type} [FloatOps F] (main_arg0 : FVec F S16x12288 .fp8e4m3) (main_arg1 : FVec F S16 .f32) (main_arg2 : FVec F S12288x32000 .fp8e4m3) (main_arg3 : FVec F S32000 .f32) (main_arg4 : IVec S16384 32) (main_arg5 : IVec S17 32) (main_arg6 : FVec F S16 .f32) (main_arg7 : FVec F S16 .f32) (main_arg8 : FVec F S16 .f32) (main_arg9 : IVec S16x20 32) : IVec S_ 1 :=
  let main_c : IVec S_ 32 := constantI S_ 32 0#32
  let main_v0 : IVec S17 32 := broadcastInDim S17 ![] bcast_S_S17 main_c
  let main_v1 : IVec S17 1 := cmpi .sge main_arg5 main_v0
  let main_c_0 : IVec S_ 1 := constantI S_ 1 1#1
  let main_v2 : IVec S_ 1 := (fun x v => Host.reduce IntOp.andi x v reducesTo_S17_S_d0 h_S_) main_v1 main_c_0
  main_v2
-- ==== Pre_well_formed.lean ====
abbrev S16x12288 : Shape := ⟨2, ![16, 12288]⟩
abbrev S16 : Shape := ⟨1, ![16]⟩
abbrev S12288x32000 : Shape := ⟨2, ![12288, 32000]⟩
abbrev S32000 : Shape := ⟨1, ![32000]⟩
abbrev S16384 : Shape := ⟨1, ![16384]⟩
abbrev S17 : Shape := ⟨1, ![17]⟩
abbrev S16x20 : Shape := ⟨2, ![16, 20]⟩
abbrev S1 : Shape := ⟨1, ![1]⟩
abbrev S_ : Shape := ⟨0, ![]⟩

class Facts : Prop where
  slices_S17_S1_0 : S17.Slices ![0] S1
  shapeCasts_S1_S_ : S1.ShapeCasts S_
  slices_S17_S16_1 : S17.Slices ![1] S16
  slices_S17_S16_0 : S17.Slices ![0] S16
  reducesTo_S16_S_d0 : S16.ReducesTo [0] S_
  h_S_ : 0 < S_.numel
  bcast_S_S16384 : S_.BroadcastsInDim S16384 (![] : Fin 0 → Fin S16384.rank)
  reducesTo_S16384_S_d0 : S16384.ReducesTo [0] S_
  bcast_S_S16x20 : S_.BroadcastsInDim S16x20 (![] : Fin 0 → Fin S16x20.rank)
  reducesTo_S16x20_S_d0_1 : S16x20.ReducesTo [0, 1] S_

variable [Facts]

def fn_part1 {F : FTy → Type} [FloatOps F] (main_v11 : IVec S_ 1) (main_v16 : IVec S16x20 1) (main_c_5 : IVec S_ 1) : IVec S_ 1 :=
  let main_v17 : IVec S_ 1 := (fun x v => Host.reduce IntOp.andi x v reducesTo_S16x20_S_d0_1 h_S_) main_v16 main_c_5
  let main_v18 : IVec S_ 1 := andi main_v11 main_v17
  main_v18

def fn {F : FTy → Type} [FloatOps F] (main_arg0 : FVec F S16x12288 .fp8e4m3) (main_arg1 : FVec F S16 .f32) (main_arg2 : FVec F S12288x32000 .fp8e4m3) (main_arg3 : FVec F S32000 .f32) (main_arg4 : IVec S16384 32) (main_arg5 : IVec S17 32) (main_arg6 : FVec F S16 .f32) (main_arg7 : FVec F S16 .f32) (main_arg8 : FVec F S16 .f32) (main_arg9 : IVec S16x20 32) : IVec S_ 1 :=
  let main_v0 : IVec S1 32 := (extractStridedSlice S1 ![0] · slices_S17_S1_0) main_arg5
  let main_v1 : IVec S_ 32 := shapeCast S_ main_v0 shapeCasts_S1_S_
  let main_c : IVec S_ 32 := constantI S_ 32 0#32
  let main_v2 : IVec S_ 1 := cmpi .eq main_v1 main_c
  let main_v3 : IVec S16 32 := (extractStridedSlice S16 ![1] · slices_S17_S16_1) main_arg5
  let main_v4 : IVec S16 32 := (extractStridedSlice S16 ![0] · slices_S17_S16_0) main_arg5
  let main_v5 : IVec S16 1 := cmpi .sge main_v3 main_v4
  let main_c_0 : IVec S_ 1 := constantI S_ 1 1#1
  let main_v6 : IVec S_ 1 := (fun x v => Host.reduce IntOp.andi x v reducesTo_S16_S_d0 h_S_) main_v5 main_c_0
  let main_v7 : IVec S_ 1 := andi main_v2 main_v6
  let main_c_1 : IVec S_ 32 := constantI S_ 32 0#32
  let main_v8 : IVec S16384 32 := broadcastInDim S16384 ![] bcast_S_S16384 main_c_1
  let main_v9 : IVec S16384 1 := cmpi .sge main_arg4 main_v8
  let main_c_2 : IVec S_ 1 := constantI S_ 1 1#1
  let main_v10 : IVec S_ 1 := (fun x v => Host.reduce IntOp.andi x v reducesTo_S16384_S_d0 h_S_) main_v9 main_c_2
  let main_v11 : IVec S_ 1 := andi main_v7 main_v10
  let main_c_3 : IVec S_ 32 := constantI S_ 32 0#32
  let main_v12 : IVec S16x20 32 := broadcastInDim S16x20 ![] bcast_S_S16x20 main_c_3
  let main_v13 : IVec S16x20 1 := cmpi .sge main_arg9 main_v12
  let main_c_4 : IVec S_ 32 := constantI S_ 32 32000#32
  let main_v14 : IVec S16x20 32 := broadcastInDim S16x20 ![] bcast_S_S16x20 main_c_4
  let main_v15 : IVec S16x20 1 := cmpi .slt main_arg9 main_v14
  let main_v16 : IVec S16x20 1 := andi main_v13 main_v15
  let main_c_5 : IVec S_ 1 := constantI S_ 1 1#1
  fn_part1 (F := F) main_v11 main_v16 main_c_5
-- ==== Kernel.lean ====
abbrev S16x12288 : Shape := ⟨2, ![16, 12288]⟩
abbrev S16 : Shape := ⟨1, ![16]⟩
abbrev S12288x32000 : Shape := ⟨2, ![12288, 32000]⟩
abbrev S32000 : Shape := ⟨1, ![32000]⟩
abbrev S16384 : Shape := ⟨1, ![16384]⟩
abbrev S17 : Shape := ⟨1, ![17]⟩
abbrev S16x20 : Shape := ⟨2, ![16, 20]⟩
abbrev S250x128 : Shape := ⟨2, ![250, 128]⟩
abbrev S128x128 : Shape := ⟨2, ![128, 128]⟩
abbrev S1x16 : Shape := ⟨2, ![1, 16]⟩
abbrev S16x32000 : Shape := ⟨2, ![16, 32000]⟩
abbrev S14x12288x256 : Shape := ⟨3, ![14, 12288, 256]⟩
abbrev S4000x128 : Shape := ⟨2, ![4000, 128]⟩
abbrev S16x256 : Shape := ⟨2, ![16, 256]⟩
abbrev S2x16x256 : Shape := ⟨3, ![2, 16, 256]⟩
abbrev S14 : Shape := ⟨1, ![14]⟩
abbrev S2 : Shape := ⟨1, ![2]⟩
abbrev S1 : Shape := ⟨1, ![1]⟩
abbrev S_ : Shape := ⟨0, ![]⟩
abbrev S1x12288x256 : Shape := ⟨3, ![1, 12288, 256]⟩
abbrev S12288x256 : Shape := ⟨2, ![12288, 256]⟩
abbrev S256x128 : Shape := ⟨2, ![256, 128]⟩
abbrev S1x128 : Shape := ⟨2, ![1, 128]⟩
abbrev S16x128 : Shape := ⟨2, ![16, 128]⟩
abbrev S16x108 : Shape := ⟨2, ![16, 108]⟩
abbrev S1x16x256 : Shape := ⟨3, ![1, 16, 256]⟩
abbrev S1x16x128 : Shape := ⟨3, ![1, 16, 128]⟩
abbrev S16x128x1 : Shape := ⟨3, ![16, 128, 1]⟩
abbrev S16x1 : Shape := ⟨2, ![16, 1]⟩
abbrev S128 : Shape := ⟨1, ![128]⟩

abbrev nBuf : Space → Nat
  | .hbm => 16
  | .vmem => 10
  | .smem => 5
  | _ => 0

abbrev bufTy : (tb : Table) → Fin (tcTables nBuf tb) → BufTy
  | .hbm, ⟨0, _⟩ => ⟨S16x12288, .fp8e4m3⟩
  | .hbm, ⟨1, _⟩ => ⟨S16, .f32⟩
  | .hbm, ⟨2, _⟩ => ⟨S12288x32000, .fp8e4m3⟩
  | .hbm, ⟨3, _⟩ => ⟨S32000, .f32⟩
  | .hbm, ⟨4, _⟩ => ⟨S16384, .i32⟩
  | .hbm, ⟨5, _⟩ => ⟨S17, .i32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S16x20, .i32⟩
  | .hbm, ⟨10, _⟩ => ⟨S250x128, .f32⟩
  | .hbm, ⟨11, _⟩ => ⟨S128x128, .i32⟩
  | .hbm, ⟨12, _⟩ => ⟨S1x16, .f32⟩
  | .hbm, ⟨13, _⟩ => ⟨S16x20, .f32⟩
  | .hbm, ⟨14, _⟩ => ⟨S16x32000, .f32⟩
  | .hbm, ⟨15, _⟩ => ⟨S16, .f32⟩
  | .local _ .vmem, ⟨0, _⟩ => ⟨S16x12288, .fp8e4m3⟩
  | .local _ .vmem, ⟨1, _⟩ => ⟨S250x128, .f32⟩
  | .local _ .vmem, ⟨2, _⟩ => ⟨S128x128, .i32⟩
  | .local _ .vmem, ⟨3, _⟩ => ⟨S16x20, .i32⟩
  | .local _ .vmem, ⟨4, _⟩ => ⟨S1x16, .f32⟩
  | .local _ .vmem, ⟨5, _⟩ => ⟨S16x20, .f32⟩
  | .local _ .vmem, ⟨6, _⟩ => ⟨S14x12288x256, .fp8e4m3⟩
  | .local _ .vmem, ⟨7, _⟩ => ⟨S4000x128, .f32⟩
  | .local _ .vmem, ⟨8, _⟩ => ⟨S16x256, .f32⟩
  | .local _ .vmem, ⟨9, _⟩ => ⟨S2x16x256, .f32⟩
  | .local _ .smem, ⟨0, _⟩ => ⟨S17, .i32⟩
  | .local _ .smem, ⟨1, _⟩ => ⟨S16, .f32⟩
  | .local _ .smem, ⟨2, _⟩ => ⟨S16, .f32⟩
  | .local _ .smem, ⟨3, _⟩ => ⟨S16, .f32⟩
  | .local _ .smem, ⟨4, _⟩ => ⟨S16, .f32⟩
  | _, _ => ⟨S16x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v3 : Ref sig .tc := ⟨.hbm, 15, rfl⟩
abbrev cc0_stg5_0 : Ref sig .tc := ⟨.vmem, 0, rfl⟩
abbrev cc0_stg6_0 : Ref sig .tc := ⟨.vmem, 1, rfl⟩
abbrev cc0_stg7_0 : Ref sig .tc := ⟨.vmem, 2, rfl⟩
abbrev cc0_stg8_0 : Ref sig .tc := ⟨.vmem, 3, rfl⟩
abbrev cc0_stg9_0 : Ref sig .tc := ⟨.vmem, 4, rfl⟩
abbrev cc0_stg10_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

@[reducible] def k0_t1_loop : Scf.Loop 32 :=
  let c0_i32_57 : BitVec 32 := 0#32
  let c16_i32 : BitVec 32 := 16#32
  let v73 : BitVec 32 := Scalar.addi c0_i32_57 c16_i32
  let c1_i32_58 : BitVec 32 := 1#32
  ⟨c0_i32_57, v73, c1_i32_58⟩
def k0_off1 (k0_t1 : Fin k0_t1_loop.trips) : Fin 1 → Nat :=
  let c0_i32_57 : BitVec 32 := 0#32
  let c1_i32_58 : BitVec 32 := 1#32
  let arg19 : BitVec 32 := Scf.iv c0_i32_57 c1_i32_58 k0_t1
  let v433 : Index := Scalar.indexCast arg19
  ![v433.toNat]
def k0_off2 (k0_t1 : Fin k0_t1_loop.trips) : Fin 1 → Nat :=
  let c0_i32_57 : BitVec 32 := 0#32
  let c1_i32_58 : BitVec 32 := 1#32
  let arg19 : BitVec 32 := Scf.iv c0_i32_57 c1_i32_58 k0_t1
  let c1_i32_193 : BitVec 32 := 1#32
  let v435 : BitVec 32 := Scalar.addi arg19 c1_i32_193
  let v436 : Index := Scalar.indexCast v435
  ![v436.toNat]
@[reducible] def k0_t2_loop (v434 : BitVec 32) (v437 : BitVec 32) : Scf.Loop 32 :=
  let c7_i32_194 : BitVec 32 := 7#32
  let v439 : BitVec 32 := Scalar.shrsi v434 c7_i32_194
  let c16384_i32 : BitVec 32 := 16384#32
  let v438 : BitVec 32 := Scalar.minsi v437 c16384_i32
  let c128_i32 : BitVec 32 := 128#32
  let v440 : BitVec 32 := Scalar.addi v438 c128_i32
  let c1_i32_195 : BitVec 32 := 1#32
  let v441 : BitVec 32 := Scalar.subi v440 c1_i32_195
  let c7_i32_196 : BitVec 32 := 7#32
  let v442 : BitVec 32 := Scalar.shrsi v441 c7_i32_196
  let v444 : BitVec 32 := Scalar.subi v442 v439
  let c1_i32_198 : BitVec 32 := 1#32
  let v446 : BitVec 32 := Scalar.divsi v444 c1_i32_198
  let v447 : BitVec 32 := Scalar.muli v446 c1_i32_198
  let v448 : BitVec 32 := Scalar.addi v439 v447
  let c1_i32_199 : BitVec 32 := 1#32
  ⟨v439, v448, c1_i32_199⟩

def k0_off3 (v434 : BitVec 32) (v437 : BitVec 32) (k0_t2 : Fin (k0_t2_loop v434 v437).trips) : Fin 2 → Nat :=
  let c7_i32_194 : BitVec 32 := 7#32
  let v439 : BitVec 32 := Scalar.shrsi v434 c7_i32_194
  let c1_i32_199 : BitVec 32 := 1#32
  let arg20 : BitVec 32 := Scf.iv v439 c1_i32_199 k0_t2
  let v456 : Index := Scalar.indexCast arg20
  let c0_202 : Index := 0#32
  ![v456.toNat, 0]
@[reducible] def k0_t3_loop (v434 : BitVec 32) (v437 : BitVec 32) : Scf.Loop 32 :=
  let c7_i32_194 : BitVec 32 := 7#32
  let v439 : BitVec 32 := Scalar.shrsi v434 c7_i32_194
  let c16384_i32 : BitVec 32 := 16384#32
  let v438 : BitVec 32 := Scalar.minsi v437 c16384_i32
  let c128_i32 : BitVec 32 := 128#32
  let v440 : BitVec 32 := Scalar.addi v438 c128_i32
  let c1_i32_195 : BitVec 32 := 1#32
  let v441 : BitVec 32 := Scalar.subi v440 c1_i32_195
  let c7_i32_196 : BitVec 32 := 7#32
  let v442 : BitVec 32 := Scalar.shrsi v441 c7_i32_196
  let v444 : BitVec 32 := Scalar.subi v442 v439
  let c1_i32_198 : BitVec 32 := 1#32
  let v446 : BitVec 32 := Scalar.divsi v444 c1_i32_198
  let v447 : BitVec 32 := Scalar.muli v446 c1_i32_198
  let v448 : BitVec 32 := Scalar.addi v439 v447
  let v445 : BitVec 32 := Scalar.addi v439 v444
  let c1_i32_200 : BitVec 32 := 1#32
  ⟨v448, v445, c1_i32_200⟩
def k0_off4 (v434 : BitVec 32) (v437 : BitVec 32) (k0_t3 : Fin (k0_t3_loop v434 v437).trips) : Fin 2 → Nat :=
  let c7_i32_194 : BitVec 32 := 7#32
  let v439 : BitVec 32 := Scalar.shrsi v434 c7_i32_194
  let c16384_i32 : BitVec 32 := 16384#32
  let v438 : BitVec 32 := Scalar.minsi v437 c16384_i32
  let c128_i32 : BitVec 32 := 128#32
  let v440 : BitVec 32 := Scalar.addi v438 c128_i32
  let c1_i32_195 : BitVec 32 := 1#32
  let v441 : BitVec 32 := Scalar.subi v440 c1_i32_195
  let c7_i32_196 : BitVec 32 := 7#32
  let v442 : BitVec 32 := Scalar.shrsi v441 c7_i32_196
  let v444 : BitVec 32 := Scalar.subi v442 v439
  let c1_i32_198 : BitVec 32 := 1#32
  let v446 : BitVec 32 := Scalar.divsi v444 c1_i32_198
  let v447 : BitVec 32 := Scalar.muli v446 c1_i32_198
  let v448 : BitVec 32 := Scalar.addi v439 v447
  let c1_i32_200 : BitVec 32 := 1#32
  let arg20 : BitVec 32 := Scf.iv v448 c1_i32_200 k0_t3
  let v456 : Index := Scalar.indexCast arg20
  let c0_202 : Index := 0#32
  ![v456.toNat, 0]

def k0_chk1 (v434 : BitVec 32) (v437 : BitVec 32) : Prop :=
  ((k0_t2_loop v434 v437).OK) ∧
  (∀ k0_t2 : Fin (k0_t2_loop v434 v437).trips, ∀ a, (k0_off3 v434 v437 k0_t2) a + S1x128.size a ≤ S128x128.size a) ∧
  ((k0_t3_loop v434 v437).OK) ∧
  (∀ k0_t3 : Fin (k0_t3_loop v434 v437).trips, ∀ a, (k0_off4 v434 v437 k0_t3) a + S1x128.size a ≤ S128x128.size a)
theorem k0_t2_ok : ∀ (v434 : BitVec 32) (v437 : BitVec 32) (k0_hw1 : k0_chk1 v434 v437), (k0_t2_loop v434 v437).OK := fun v434 v437 k0_hw1 => k0_hw1.1
theorem k0_off3_inb : ∀ (v434 : BitVec 32) (v437 : BitVec 32) (k0_hw1 : k0_chk1 v434 v437) (k0_t2 : Fin (k0_t2_loop v434 v437).trips), ∀ a, (k0_off3 v434 v437 k0_t2) a + S1x128.size a ≤ S128x128.size a := fun v434 v437 k0_hw1 k0_t2 => k0_hw1.2.1 k0_t2
theorem k0_t3_ok : ∀ (v434 : BitVec 32) (v437 : BitVec 32) (k0_hw1 : k0_chk1 v434 v437), (k0_t3_loop v434 v437).OK := fun v434 v437 k0_hw1 => k0_hw1.2.2.1
theorem k0_off4_inb : ∀ (v434 : BitVec 32) (v437 : BitVec 32) (k0_hw1 : k0_chk1 v434 v437) (k0_t3 : Fin (k0_t3_loop v434 v437).trips), ∀ a, (k0_off4 v434 v437 k0_t3) a + S1x128.size a ≤ S128x128.size a := fun v434 v437 k0_hw1 k0_t3 => k0_hw1.2.2.2 k0_t3

def k0_off5 (k0_t1 : Fin k0_t1_loop.trips) : Fin 2 → Nat :=
  let c0_i32_57 : BitVec 32 := 0#32
  let c1_i32_58 : BitVec 32 := 1#32
  let arg19 : BitVec 32 := Scf.iv c0_i32_57 c1_i32_58 k0_t1
  let v452 : Index := Scalar.indexCast arg19
  let c0_201 : Index := 0#32
  ![v452.toNat, 0]
@[reducible] def k0_t4_loop : Scf.Loop 32 :=
  let c0_i32_172 : BitVec 32 := 0#32
  let c125_i32 : BitVec 32 := 125#32
  let v396 : BitVec 32 := Scalar.addi c0_i32_172 c125_i32
  let c1_i32_173 : BitVec 32 := 1#32
  ⟨c0_i32_172, v396, c1_i32_173⟩
def k0_off6 (k0_t4 : Fin k0_t4_loop.trips) : Fin 1 → Nat :=
  let c0_i32_172 : BitVec 32 := 0#32
  let c1_i32_173 : BitVec 32 := 1#32
  let arg19 : BitVec 32 := Scf.iv c0_i32_172 c1_i32_173 k0_t4
  let c1_i32_197 : BitVec 32 := 1#32
  let v437 : BitVec 32 := Scalar.muli arg19 c1_i32_197
  let c0_i32_196 : BitVec 32 := 0#32
  let v438 : BitVec 32 := Scalar.addi v437 c0_i32_196
  let c14_i32_211 : BitVec 32 := 14#32
  let c0_i32_212 : BitVec 32 := 0#32
  let v466 : BitVec 1 := Scalar.cmpi .eq c14_i32_211 c0_i32_212
  let c1_i32_213 : BitVec 32 := 1#32
  let v467 : BitVec 32 := Scalar.select v466 c1_i32_213 c14_i32_211
  let v468 : BitVec 32 := Scalar.remsi v438 v467
  let c0_i32_215 : BitVec 32 := 0#32
  let v470 : BitVec 1 := Scalar.cmpi .slt v468 c0_i32_215
  let c0_i32_216 : BitVec 32 := 0#32
  let v471 : BitVec 1 := Scalar.cmpi .slt v467 c0_i32_216
  let v472 : BitVec 1 := Scalar.xori v470 v471
  let c0_i32_214 : BitVec 32 := 0#32
  let v469 : BitVec 1 := Scalar.cmpi .ne v468 c0_i32_214
  let v473 : BitVec 1 := Scalar.andi v472 v469
  let v474 : BitVec 32 := Scalar.addi v468 v467
  let v475 : BitVec 32 := Scalar.select v473 v474 v468
  ![v475.toNat]
def k0_off7 (k0_t4 : Fin k0_t4_loop.trips) : Fin 3 → Nat :=
  let c0_i32_172 : BitVec 32 := 0#32
  let c1_i32_173 : BitVec 32 := 1#32
  let arg19 : BitVec 32 := Scf.iv c0_i32_172 c1_i32_173 k0_t4
  let c1_i32_197 : BitVec 32 := 1#32
  let v437 : BitVec 32 := Scalar.muli arg19 c1_i32_197
  let c0_i32_196 : BitVec 32 := 0#32
  let v438 : BitVec 32 := Scalar.addi v437 c0_i32_196
  let c14_i32_211 : BitVec 32 := 14#32
  let c0_i32_212 : BitVec 32 := 0#32
  let v466 : BitVec 1 := Scalar.cmpi .eq c14_i32_211 c0_i32_212
  let c1_i32_213 : BitVec 32 := 1#32
  let v467 : BitVec 32 := Scalar.select v466 c1_i32_213 c14_i32_211
  let v468 : BitVec 32 := Scalar.remsi v438 v467
  let c0_i32_215 : BitVec 32 := 0#32
  let v470 : BitVec 1 := Scalar.cmpi .slt v468 c0_i32_215
  let c0_i32_216 : BitVec 32 := 0#32
  let v471 : BitVec 1 := Scalar.cmpi .slt v467 c0_i32_216
  let v472 : BitVec 1 := Scalar.xori v470 v471
  let c0_i32_214 : BitVec 32 := 0#32
  let v469 : BitVec 1 := Scalar.cmpi .ne v468 c0_i32_214
  let v473 : BitVec 1 := Scalar.andi v472 v469
  let v474 : BitVec 32 := Scalar.addi v468 v467
  let v475 : BitVec 32 := Scalar.select v473 v474 v468
  let c0_i32_218 : BitVec 32 := 0#32
  let c0_i32_219 : BitVec 32 := 0#32
  ![v475.toNat, 0, 0]
def k0_off8 (k0_t4 : Fin k0_t4_loop.trips) : Fin 2 → Nat :=
  let c0_i32_172 : BitVec 32 := 0#32
  let c1_i32_173 : BitVec 32 := 1#32
  let arg19 : BitVec 32 := Scf.iv c0_i32_172 c1_i32_173 k0_t4
  let c1_i32_197 : BitVec 32 := 1#32
  let v437 : BitVec 32 := Scalar.muli arg19 c1_i32_197
  let c0_i32_196 : BitVec 32 := 0#32
  let v438 : BitVec 32 := Scalar.addi v437 c0_i32_196
  let c1_i32_205 : BitVec 32 := 1#32
  let c0_i32_206 : BitVec 32 := 0#32
  let v456 : BitVec 1 := Scalar.cmpi .eq c1_i32_205 c0_i32_206
  let c1_i32_207 : BitVec 32 := 1#32
  let v457 : BitVec 32 := Scalar.select v456 c1_i32_207 c1_i32_205
  let v458 : BitVec 32 := Scalar.remsi v438 v457
  let c0_i32_209 : BitVec 32 := 0#32
  let v460 : BitVec 1 := Scalar.cmpi .slt v458 c0_i32_209
  let c0_i32_210 : BitVec 32 := 0#32
  let v461 : BitVec 1 := Scalar.cmpi .slt v457 c0_i32_210
  let v462 : BitVec 1 := Scalar.xori v460 v461
  let c0_i32_208 : BitVec 32 := 0#32
  let v459 : BitVec 1 := Scalar.cmpi .ne v458 c0_i32_208
  let v463 : BitVec 1 := Scalar.andi v462 v459
  let v464 : BitVec 32 := Scalar.addi v458 v457
  let v465 : BitVec 32 := Scalar.select v463 v464 v458
  let c12288_i32 : BitVec 32 := 12288#32
  let v476 : BitVec 32 := Scalar.muli v465 c12288_i32
  let c0_i32_199 : BitVec 32 := 0#32
  let v440 : BitVec 1 := Scalar.cmpi .sgt v438 c0_i32_199
  let v441 : BitVec 32 := Scalar.extui v440
  let c0_i32_200 : BitVec 32 := 0#32
  let v442 : BitVec 1 := Scalar.cmpi .slt v438 c0_i32_200
  let v443 : BitVec 32 := Scalar.extui v442
  let v444 : BitVec 32 := Scalar.subi v441 v443
  let c1_i32_198 : BitVec 32 := 1#32
  let c0_i32_201 : BitVec 32 := 0#32
  let v445 : BitVec 1 := Scalar.cmpi .sgt c1_i32_198 c0_i32_201
  let v446 : BitVec 32 := Scalar.extui v445
  let c0_i32_202 : BitVec 32 := 0#32
  let v447 : BitVec 1 := Scalar.cmpi .slt c1_i32_198 c0_i32_202
  let v448 : BitVec 32 := Scalar.extui v447
  let v449 : BitVec 32 := Scalar.subi v446 v448
  let v450 : BitVec 1 := Scalar.cmpi .ne v444 v449
  let v451 : BitVec 32 := Scalar.remsi v438 c1_i32_198
  let c0_i32_203 : BitVec 32 := 0#32
  let v452 : BitVec 1 := Scalar.cmpi .ne v451 c0_i32_203
  let v453 : BitVec 1 := Scalar.andi v450 v452
  let v439 : BitVec 32 := Scalar.divsi v438 c1_i32_198
  let c1_i32_204 : BitVec 32 := 1#32
  let v454 : BitVec 32 := Scalar.subi v439 c1_i32_204
  let v455 : BitVec 32 := Scalar.select v453 v454 v439
  let c256_i32_217 : BitVec 32 := 256#32
  let v477 : BitVec 32 := Scalar.muli v455 c256_i32_217
  ![v476.toNat, v477.toNat]
def k0_mult1 : BitVec 32 :=
  let c0_i32_196 : BitVec 32 := 0#32
  let c12288_i32_222 : BitVec 32 := 12288#32
  let v484 : BitVec 32 := Scalar.muli c0_i32_196 c12288_i32_222
  v484
def k0_off9 : Fin 2 → Nat :=
  let c0_223 : Index := 0#32
  let c0_i32_196 : BitVec 32 := 0#32
  let c12288_i32_222 : BitVec 32 := 12288#32
  let v484 : BitVec 32 := Scalar.muli c0_i32_196 c12288_i32_222
  let v485 : BitVec 32 := v484
  let v486 : Index := Scalar.indexCast v485
  ![0, v486.toNat]
def k0_off10 (k0_t4 : Fin k0_t4_loop.trips) : Fin 3 → Nat :=
  let c0_i32_172 : BitVec 32 := 0#32
  let c1_i32_173 : BitVec 32 := 1#32
  let arg19 : BitVec 32 := Scf.iv c0_i32_172 c1_i32_173 k0_t4
  let c1_i32_197 : BitVec 32 := 1#32
  let v437 : BitVec 32 := Scalar.muli arg19 c1_i32_197
  let c0_i32_196 : BitVec 32 := 0#32
  let v438 : BitVec 32 := Scalar.addi v437 c0_i32_196
  let c14_i32_224 : BitVec 32 := 14#32
  let c0_i32_225 : BitVec 32 := 0#32
  let v488 : BitVec 1 := Scalar.cmpi .eq c14_i32_224 c0_i32_225
  let c1_i32_226 : BitVec 32 := 1#32
  let v489 : BitVec 32 := Scalar.select v488 c1_i32_226 c14_i32_224
  let v490 : BitVec 32 := Scalar.remsi v438 v489
  let c0_i32_228 : BitVec 32 := 0#32
  let v492 : BitVec 1 := Scalar.cmpi .slt v490 c0_i32_228
  let c0_i32_229 : BitVec 32 := 0#32
  let v493 : BitVec 1 := Scalar.cmpi .slt v489 c0_i32_229
  let v494 : BitVec 1 := Scalar.xori v492 v493
  let c0_i32_227 : BitVec 32 := 0#32
  let v491 : BitVec 1 := Scalar.cmpi .ne v490 c0_i32_227
  let v495 : BitVec 1 := Scalar.andi v494 v491
  let v496 : BitVec 32 := Scalar.addi v490 v489
  let v497 : BitVec 32 := Scalar.select v495 v496 v490
  let v498 : Index := Scalar.indexCast v497
  let c0_230 : Index := 0#32
  let c0_231 : Index := 0#32
  ![v498.toNat, 0, 0]
def k0_cond1 (k0_t4 : Fin k0_t4_loop.trips) : BitVec 1 :=
  let c0_i32_172 : BitVec 32 := 0#32
  let c1_i32_173 : BitVec 32 := 1#32
  let arg19 : BitVec 32 := Scf.iv c0_i32_172 c1_i32_173 k0_t4
  let c1_i32_197 : BitVec 32 := 1#32
  let v437 : BitVec 32 := Scalar.muli arg19 c1_i32_197
  let c0_i32_196 : BitVec 32 := 0#32
  let v438 : BitVec 32 := Scalar.addi v437 c0_i32_196
  let c14_i32_235 : BitVec 32 := 14#32
  let v506 : BitVec 32 := Scalar.addi v438 c14_i32_235
  let c125_i32_236 : BitVec 32 := 125#32
  let v507 : BitVec 1 := Scalar.cmpi .slt v506 c125_i32_236
  let v508 : BitVec 32 := Scalar.extui v507
  let c0_i32_237 : BitVec 32 := 0#32
  let v509 : BitVec 1 := Scalar.cmpi .ne v508 c0_i32_237
  v509

def k0_off11 (k0_t4 : Fin k0_t4_loop.trips) : Fin 1 → Nat :=
  let c0_i32_172 : BitVec 32 := 0#32
  let c1_i32_173 : BitVec 32 := 1#32
  let arg19 : BitVec 32 := Scf.iv c0_i32_172 c1_i32_173 k0_t4
  let c1_i32_197 : BitVec 32 := 1#32
  let v437 : BitVec 32 := Scalar.muli arg19 c1_i32_197
  let c0_i32_196 : BitVec 32 := 0#32
  let v438 : BitVec 32 := Scalar.addi v437 c0_i32_196
  let c14_i32_298 : BitVec 32 := 14#32
  let v664 : BitVec 32 := Scalar.addi v438 c14_i32_298
  let c14_i32_312 : BitVec 32 := 14#32
  let c0_i32_313 : BitVec 32 := 0#32
  let v692 : BitVec 1 := Scalar.cmpi .eq c14_i32_312 c0_i32_313
  let c1_i32_314 : BitVec 32 := 1#32
  let v693 : BitVec 32 := Scalar.select v692 c1_i32_314 c14_i32_312
  let v694 : BitVec 32 := Scalar.remsi v664 v693
  let c0_i32_316 : BitVec 32 := 0#32
  let v696 : BitVec 1 := Scalar.cmpi .slt v694 c0_i32_316
  let c0_i32_317 : BitVec 32 := 0#32
  let v697 : BitVec 1 := Scalar.cmpi .slt v693 c0_i32_317
  let v698 : BitVec 1 := Scalar.xori v696 v697
  let c0_i32_315 : BitVec 32 := 0#32
  let v695 : BitVec 1 := Scalar.cmpi .ne v694 c0_i32_315
  let v699 : BitVec 1 := Scalar.andi v698 v695
  let v700 : BitVec 32 := Scalar.addi v694 v693
  let v701 : BitVec 32 := Scalar.select v699 v700 v694
  ![v701.toNat]
def k0_off12 (k0_t4 : Fin k0_t4_loop.trips) : Fin 3 → Nat :=
  let c0_i32_172 : BitVec 32 := 0#32
  let c1_i32_173 : BitVec 32 := 1#32
  let arg19 : BitVec 32 := Scf.iv c0_i32_172 c1_i32_173 k0_t4
  let c1_i32_197 : BitVec 32 := 1#32
  let v437 : BitVec 32 := Scalar.muli arg19 c1_i32_197
  let c0_i32_196 : BitVec 32 := 0#32
  let v438 : BitVec 32 := Scalar.addi v437 c0_i32_196
  let c14_i32_298 : BitVec 32 := 14#32
  let v664 : BitVec 32 := Scalar.addi v438 c14_i32_298
  let c14_i32_312 : BitVec 32 := 14#32
  let c0_i32_313 : BitVec 32 := 0#32
  let v692 : BitVec 1 := Scalar.cmpi .eq c14_i32_312 c0_i32_313
  let c1_i32_314 : BitVec 32 := 1#32
  let v693 : BitVec 32 := Scalar.select v692 c1_i32_314 c14_i32_312
  let v694 : BitVec 32 := Scalar.remsi v664 v693
  let c0_i32_316 : BitVec 32 := 0#32
  let v696 : BitVec 1 := Scalar.cmpi .slt v694 c0_i32_316
  let c0_i32_317 : BitVec 32 := 0#32
  let v697 : BitVec 1 := Scalar.cmpi .slt v693 c0_i32_317
  let v698 : BitVec 1 := Scalar.xori v696 v697
  let c0_i32_315 : BitVec 32 := 0#32
  let v695 : BitVec 1 := Scalar.cmpi .ne v694 c0_i32_315
  let v699 : BitVec 1 := Scalar.andi v698 v695
  let v700 : BitVec 32 := Scalar.addi v694 v693
  let v701 : BitVec 32 := Scalar.select v699 v700 v694
  let c0_i32_320 : BitVec 32 := 0#32
  let c0_i32_321 : BitVec 32 := 0#32
  ![v701.toNat, 0, 0]
def k0_off13 (k0_t4 : Fin k0_t4_loop.trips) : Fin 2 → Nat :=
  let c0_i32_172 : BitVec 32 := 0#32
  let c1_i32_173 : BitVec 32 := 1#32
  let arg19 : BitVec 32 := Scf.iv c0_i32_172 c1_i32_173 k0_t4
  let c1_i32_197 : BitVec 32 := 1#32
  let v437 : BitVec 32 := Scalar.muli arg19 c1_i32_197
  let c0_i32_196 : BitVec 32 := 0#32
  let v438 : BitVec 32 := Scalar.addi v437 c0_i32_196
  let c14_i32_298 : BitVec 32 := 14#32
  let v664 : BitVec 32 := Scalar.addi v438 c14_i32_298
  let c1_i32_306 : BitVec 32 := 1#32
  let c0_i32_307 : BitVec 32 := 0#32
  let v682 : BitVec 1 := Scalar.cmpi .eq c1_i32_306 c0_i32_307
  let c1_i32_308 : BitVec 32 := 1#32
  let v683 : BitVec 32 := Scalar.select v682 c1_i32_308 c1_i32_306
  let v684 : BitVec 32 := Scalar.remsi v664 v683
  let c0_i32_310 : BitVec 32 := 0#32
  let v686 : BitVec 1 := Scalar.cmpi .slt v684 c0_i32_310
  let c0_i32_311 : BitVec 32 := 0#32
  let v687 : BitVec 1 := Scalar.cmpi .slt v683 c0_i32_311
  let v688 : BitVec 1 := Scalar.xori v686 v687
  let c0_i32_309 : BitVec 32 := 0#32
  let v685 : BitVec 1 := Scalar.cmpi .ne v684 c0_i32_309
  let v689 : BitVec 1 := Scalar.andi v688 v685
  let v690 : BitVec 32 := Scalar.addi v684 v683
  let v691 : BitVec 32 := Scalar.select v689 v690 v684
  let c12288_i32_318 : BitVec 32 := 12288#32
  let v702 : BitVec 32 := Scalar.muli v691 c12288_i32_318
  let c0_i32_300 : BitVec 32 := 0#32
  let v666 : BitVec 1 := Scalar.cmpi .sgt v664 c0_i32_300
  let v667 : BitVec 32 := Scalar.extui v666
  let c0_i32_301 : BitVec 32 := 0#32
  let v668 : BitVec 1 := Scalar.cmpi .slt v664 c0_i32_301
  let v669 : BitVec 32 := Scalar.extui v668
  let v670 : BitVec 32 := Scalar.subi v667 v669
  let c1_i32_299 : BitVec 32 := 1#32
  let c0_i32_302 : BitVec 32 := 0#32
  let v671 : BitVec 1 := Scalar.cmpi .sgt c1_i32_299 c0_i32_302
  let v672 : BitVec 32 := Scalar.extui v671
  let c0_i32_303 : BitVec 32 := 0#32
  let v673 : BitVec 1 := Scalar.cmpi .slt c1_i32_299 c0_i32_303
  let v674 : BitVec 32 := Scalar.extui v673
  let v675 : BitVec 32 := Scalar.subi v672 v674
  let v676 : BitVec 1 := Scalar.cmpi .ne v670 v675
  let v677 : BitVec 32 := Scalar.remsi v664 c1_i32_299
  let c0_i32_304 : BitVec 32 := 0#32
  let v678 : BitVec 1 := Scalar.cmpi .ne v677 c0_i32_304
  let v679 : BitVec 1 := Scalar.andi v676 v678
  let v665 : BitVec 32 := Scalar.divsi v664 c1_i32_299
  let c1_i32_305 : BitVec 32 := 1#32
  let v680 : BitVec 32 := Scalar.subi v665 c1_i32_305
  let v681 : BitVec 32 := Scalar.select v679 v680 v665
  let c256_i32_319 : BitVec 32 := 256#32
  let v703 : BitVec 32 := Scalar.muli v681 c256_i32_319
  ![v702.toNat, v703.toNat]
def k0_cond2 (k0_t4 : Fin k0_t4_loop.trips) : BitVec 1 :=
  let c0_i32_172 : BitVec 32 := 0#32
  let c1_i32_173 : BitVec 32 := 1#32
  let arg19 : BitVec 32 := Scf.iv c0_i32_172 c1_i32_173 k0_t4
  let c2_i32_239 : BitVec 32 := 2#32
  let v510 : BitVec 1 := Scalar.cmpi .sge arg19 c2_i32_239
  let v511 : BitVec 32 := Scalar.extui v510
  let c0_i32_240 : BitVec 32 := 0#32
  let v512 : BitVec 1 := Scalar.cmpi .ne v511 c0_i32_240
  v512

def k0_off14 (k0_t4 : Fin k0_t4_loop.trips) : Fin 1 → Nat :=
  let c0_i32_172 : BitVec 32 := 0#32
  let c1_i32_173 : BitVec 32 := 1#32
  let arg19 : BitVec 32 := Scf.iv c0_i32_172 c1_i32_173 k0_t4
  let c2_i32_298 : BitVec 32 := 2#32
  let v664 : BitVec 32 := Scalar.subi arg19 c2_i32_298
  let c2_i32_306 : BitVec 32 := 2#32
  let c0_i32_307 : BitVec 32 := 0#32
  let v676 : BitVec 1 := Scalar.cmpi .eq c2_i32_306 c0_i32_307
  let c1_i32_308 : BitVec 32 := 1#32
  let v677 : BitVec 32 := Scalar.select v676 c1_i32_308 c2_i32_306
  let v678 : BitVec 32 := Scalar.remsi v664 v677
  let c0_i32_310 : BitVec 32 := 0#32
  let v680 : BitVec 1 := Scalar.cmpi .slt v678 c0_i32_310
  let c0_i32_311 : BitVec 32 := 0#32
  let v681 : BitVec 1 := Scalar.cmpi .slt v677 c0_i32_311
  let v682 : BitVec 1 := Scalar.xori v680 v681
  let c0_i32_309 : BitVec 32 := 0#32
  let v679 : BitVec 1 := Scalar.cmpi .ne v678 c0_i32_309
  let v683 : BitVec 1 := Scalar.andi v682 v679
  let v684 : BitVec 32 := Scalar.addi v678 v677
  let v685 : BitVec 32 := Scalar.select v683 v684 v678
  ![v685.toNat]
def k0_off15 (k0_t4 : Fin k0_t4_loop.trips) : Fin 2 → Nat :=
  let c0_i32_312 : BitVec 32 := 0#32
  let c0_i32_172 : BitVec 32 := 0#32
  let c1_i32_173 : BitVec 32 := 1#32
  let arg19 : BitVec 32 := Scf.iv c0_i32_172 c1_i32_173 k0_t4
  let c2_i32_298 : BitVec 32 := 2#32
  let v664 : BitVec 32 := Scalar.subi arg19 c2_i32_298
  let c256_i32_305 : BitVec 32 := 256#32
  let v675 : BitVec 32 := Scalar.muli v664 c256_i32_305
  ![0, v675.toNat]
def k0_off16 (k0_t4 : Fin k0_t4_loop.trips) : Fin 3 → Nat :=
  let c0_i32_172 : BitVec 32 := 0#32
  let c1_i32_173 : BitVec 32 := 1#32
  let arg19 : BitVec 32 := Scf.iv c0_i32_172 c1_i32_173 k0_t4
  let c2_i32_298 : BitVec 32 := 2#32
  let v664 : BitVec 32 := Scalar.subi arg19 c2_i32_298
  let c2_i32_299 : BitVec 32 := 2#32
  let c0_i32_300 : BitVec 32 := 0#32
  let v665 : BitVec 1 := Scalar.cmpi .eq c2_i32_299 c0_i32_300
  let c1_i32_301 : BitVec 32 := 1#32
  let v666 : BitVec 32 := Scalar.select v665 c1_i32_301 c2_i32_299
  let v667 : BitVec 32 := Scalar.remsi v664 v666
  let c0_i32_303 : BitVec 32 := 0#32
  let v669 : BitVec 1 := Scalar.cmpi .slt v667 c0_i32_303
  let c0_i32_304 : BitVec 32 := 0#32
  let v670 : BitVec 1 := Scalar.cmpi .slt v666 c0_i32_304
  let v671 : BitVec 1 := Scalar.xori v669 v670
  let c0_i32_302 : BitVec 32 := 0#32
  let v668 : BitVec 1 := Scalar.cmpi .ne v667 c0_i32_302
  let v672 : BitVec 1 := Scalar.andi v671 v668
  let v673 : BitVec 32 := Scalar.addi v667 v666
  let v674 : BitVec 32 := Scalar.select v672 v673 v667
  let c0_i32_313 : BitVec 32 := 0#32
  let c0_i32_314 : BitVec 32 := 0#32
  ![v674.toNat, 0, 0]
def k0_mult2 : BitVec 32 :=
  let c0_i32_241 : BitVec 32 := 0#32
  let c2_i32_242 : BitVec 32 := 2#32
  let v513 : BitVec 32 := Scalar.muli c0_i32_241 c2_i32_242
  let c0_i32_243 : BitVec 32 := 0#32
  let v514 : BitVec 32 := Scalar.addi v513 c0_i32_243
  let c128_i32 : BitVec 32 := 128#32
  let v517 : BitVec 32 := Scalar.muli v514 c128_i32
  v517
def k0_off17 (c0_i32_243 : BitVec 32) : Fin 2 → Nat :=
  let c0_245 : Index := 0#32
  let c0_i32_241 : BitVec 32 := 0#32
  let c2_i32_242 : BitVec 32 := 2#32
  let v513 : BitVec 32 := Scalar.muli c0_i32_241 c2_i32_242
  let v514 : BitVec 32 := Scalar.addi v513 c0_i32_243
  let c128_i32 : BitVec 32 := 128#32
  let v517 : BitVec 32 := Scalar.muli v514 c128_i32
  let v518 : BitVec 32 := v517
  let v519 : Index := Scalar.indexCast v518
  ![0, v519.toNat]
def k0_off18 (k0_t4 : Fin k0_t4_loop.trips) (c0_i32_243 : BitVec 32) : Fin 2 → Nat :=
  let c0_i32_172 : BitVec 32 := 0#32
  let c1_i32_173 : BitVec 32 := 1#32
  let arg19 : BitVec 32 := Scf.iv c0_i32_172 c1_i32_173 k0_t4
  let c2_i32_244 : BitVec 32 := 2#32
  let v515 : BitVec 32 := Scalar.muli arg19 c2_i32_244
  let c0_i32_241 : BitVec 32 := 0#32
  let c2_i32_242 : BitVec 32 := 2#32
  let v513 : BitVec 32 := Scalar.muli c0_i32_241 c2_i32_242
  let v514 : BitVec 32 := Scalar.addi v513 c0_i32_243
  let v516 : BitVec 32 := Scalar.addi v515 v514
  let v522 : Index := Scalar.indexCast v516
  let c0_246 : Index := 0#32
  ![v522.toNat, 0]
def k0_mult3 (k0_t4 : Fin k0_t4_loop.trips) : BitVec 32 :=
  let c0_i32_172 : BitVec 32 := 0#32
  let c1_i32_173 : BitVec 32 := 1#32
  let arg19 : BitVec 32 := Scf.iv c0_i32_172 c1_i32_173 k0_t4
  let c2_i32_244 : BitVec 32 := 2#32
  let v515 : BitVec 32 := Scalar.muli arg19 c2_i32_244
  let c0_i32_241 : BitVec 32 := 0#32
  let c2_i32_242 : BitVec 32 := 2#32
  let v513 : BitVec 32 := Scalar.muli c0_i32_241 c2_i32_242
  let c0_i32_243 : BitVec 32 := 0#32
  let v514 : BitVec 32 := Scalar.addi v513 c0_i32_243
  let v516 : BitVec 32 := Scalar.addi v515 v514
  let c16_i32_247 : BitVec 32 := 16#32
  let v527 : BitVec 32 := Scalar.muli v516 c16_i32_247
  v527
def k0_off19 (k0_t4 : Fin k0_t4_loop.trips) (c0_i32_243 : BitVec 32) : Fin 2 → Nat :=
  let c0_i32_172 : BitVec 32 := 0#32
  let c1_i32_173 : BitVec 32 := 1#32
  let arg19 : BitVec 32 := Scf.iv c0_i32_172 c1_i32_173 k0_t4
  let c2_i32_244 : BitVec 32 := 2#32
  let v515 : BitVec 32 := Scalar.muli arg19 c2_i32_244
  let c0_i32_241 : BitVec 32 := 0#32
  let c2_i32_242 : BitVec 32 := 2#32
  let v513 : BitVec 32 := Scalar.muli c0_i32_241 c2_i32_242
  let v514 : BitVec 32 := Scalar.addi v513 c0_i32_243
  let v516 : BitVec 32 := Scalar.addi v515 v514
  let c16_i32_247 : BitVec 32 := 16#32
  let v527 : BitVec 32 := Scalar.muli v516 c16_i32_247
  let v528 : BitVec 32 := v527
  let v529 : Index := Scalar.indexCast v528
  let c0_248 : Index := 0#32
  ![v529.toNat, 0]
def k0_off20 (k0_t4 : Fin k0_t4_loop.trips) (c0_i32_243 : BitVec 32) : Fin 3 → Nat :=
  let c0_i32_172 : BitVec 32 := 0#32
  let c1_i32_173 : BitVec 32 := 1#32
  let arg19 : BitVec 32 := Scf.iv c0_i32_172 c1_i32_173 k0_t4
  let c2_i32_252 : BitVec 32 := 2#32
  let c0_i32_253 : BitVec 32 := 0#32
  let v544 : BitVec 1 := Scalar.cmpi .eq c2_i32_252 c0_i32_253
  let c1_i32_254 : BitVec 32 := 1#32
  let v545 : BitVec 32 := Scalar.select v544 c1_i32_254 c2_i32_252
  let v546 : BitVec 32 := Scalar.remsi arg19 v545
  let c0_i32_256 : BitVec 32 := 0#32
  let v548 : BitVec 1 := Scalar.cmpi .slt v546 c0_i32_256
  let c0_i32_257 : BitVec 32 := 0#32
  let v549 : BitVec 1 := Scalar.cmpi .slt v545 c0_i32_257
  let v550 : BitVec 1 := Scalar.xori v548 v549
  let c0_i32_255 : BitVec 32 := 0#32
  let v547 : BitVec 1 := Scalar.cmpi .ne v546 c0_i32_255
  let v551 : BitVec 1 := Scalar.andi v550 v547
  let v552 : BitVec 32 := Scalar.addi v546 v545
  let v553 : BitVec 32 := Scalar.select v551 v552 v546
  let v554 : Index := Scalar.indexCast v553
  let c0_258 : Index := 0#32
  let c0_i32_241 : BitVec 32 := 0#32
  let c2_i32_242 : BitVec 32 := 2#32
  let v513 : BitVec 32 := Scalar.muli c0_i32_241 c2_i32_242
  let v514 : BitVec 32 := Scalar.addi v513 c0_i32_243
  let c128_i32 : BitVec 32 := 128#32
  let v517 : BitVec 32 := Scalar.muli v514 c128_i32
  let v518 : BitVec 32 := v517
  let v555 : Index := Scalar.indexCast v518
  ![v554.toNat, 0, v555.toNat]
def k0_mult4 : BitVec 32 :=
  let c0_i32_241 : BitVec 32 := 0#32
  let c2_i32_261 : BitVec 32 := 2#32
  let v571 : BitVec 32 := Scalar.muli c0_i32_241 c2_i32_261
  let c1_i32_262 : BitVec 32 := 1#32
  let v572 : BitVec 32 := Scalar.addi v571 c1_i32_262
  let c128_i32_264 : BitVec 32 := 128#32
  let v575 : BitVec 32 := Scalar.muli v572 c128_i32_264
  v575
def k0_mult5 (k0_t4 : Fin k0_t4_loop.trips) : BitVec 32 :=
  let c0_i32_172 : BitVec 32 := 0#32
  let c1_i32_173 : BitVec 32 := 1#32
  let arg19 : BitVec 32 := Scf.iv c0_i32_172 c1_i32_173 k0_t4
  let c2_i32_263 : BitVec 32 := 2#32
  let v573 : BitVec 32 := Scalar.muli arg19 c2_i32_263
  let c0_i32_241 : BitVec 32 := 0#32
  let c2_i32_261 : BitVec 32 := 2#32
  let v571 : BitVec 32 := Scalar.muli c0_i32_241 c2_i32_261
  let c1_i32_262 : BitVec 32 := 1#32
  let v572 : BitVec 32 := Scalar.addi v571 c1_i32_262
  let v574 : BitVec 32 := Scalar.addi v573 v572
  let c16_i32_267 : BitVec 32 := 16#32
  let v585 : BitVec 32 := Scalar.muli v574 c16_i32_267
  v585
def k0_off21 (k0_t4 : Fin k0_t4_loop.trips) : Fin 1 → Nat :=
  let c0_i32_172 : BitVec 32 := 0#32
  let c1_i32_173 : BitVec 32 := 1#32
  let arg19 : BitVec 32 := Scf.iv c0_i32_172 c1_i32_173 k0_t4
  let c2_i32_289 : BitVec 32 := 2#32
  let c0_i32_290 : BitVec 32 := 0#32
  let v649 : BitVec 1 := Scalar.cmpi .eq c2_i32_289 c0_i32_290
  let c1_i32_291 : BitVec 32 := 1#32
  let v650 : BitVec 32 := Scalar.select v649 c1_i32_291 c2_i32_289
  let v651 : BitVec 32 := Scalar.remsi arg19 v650
  let c0_i32_293 : BitVec 32 := 0#32
  let v653 : BitVec 1 := Scalar.cmpi .slt v651 c0_i32_293
  let c0_i32_294 : BitVec 32 := 0#32
  let v654 : BitVec 1 := Scalar.cmpi .slt v650 c0_i32_294
  let v655 : BitVec 1 := Scalar.xori v653 v654
  let c0_i32_292 : BitVec 32 := 0#32
  let v652 : BitVec 1 := Scalar.cmpi .ne v651 c0_i32_292
  let v656 : BitVec 1 := Scalar.andi v655 v652
  let v657 : BitVec 32 := Scalar.addi v651 v650
  let v658 : BitVec 32 := Scalar.select v656 v657 v651
  ![v658.toNat]
def k0_off22 (k0_t4 : Fin k0_t4_loop.trips) : Fin 2 → Nat :=
  let c0_i32_295 : BitVec 32 := 0#32
  let c0_i32_172 : BitVec 32 := 0#32
  let c1_i32_173 : BitVec 32 := 1#32
  let arg19 : BitVec 32 := Scf.iv c0_i32_172 c1_i32_173 k0_t4
  let c256_i32_288 : BitVec 32 := 256#32
  let v648 : BitVec 32 := Scalar.muli arg19 c256_i32_288
  ![0, v648.toNat]
def k0_off23 (k0_t4 : Fin k0_t4_loop.trips) : Fin 3 → Nat :=
  let c0_i32_172 : BitVec 32 := 0#32
  let c1_i32_173 : BitVec 32 := 1#32
  let arg19 : BitVec 32 := Scf.iv c0_i32_172 c1_i32_173 k0_t4
  let c2_i32_282 : BitVec 32 := 2#32
  let c0_i32_283 : BitVec 32 := 0#32
  let v638 : BitVec 1 := Scalar.cmpi .eq c2_i32_282 c0_i32_283
  let c1_i32_284 : BitVec 32 := 1#32
  let v639 : BitVec 32 := Scalar.select v638 c1_i32_284 c2_i32_282
  let v640 : BitVec 32 := Scalar.remsi arg19 v639
  let c0_i32_286 : BitVec 32 := 0#32
  let v642 : BitVec 1 := Scalar.cmpi .slt v640 c0_i32_286
  let c0_i32_287 : BitVec 32 := 0#32
  let v643 : BitVec 1 := Scalar.cmpi .slt v639 c0_i32_287
  let v644 : BitVec 1 := Scalar.xori v642 v643
  let c0_i32_285 : BitVec 32 := 0#32
  let v641 : BitVec 1 := Scalar.cmpi .ne v640 c0_i32_285
  let v645 : BitVec 1 := Scalar.andi v644 v641
  let v646 : BitVec 32 := Scalar.addi v640 v639
  let v647 : BitVec 32 := Scalar.select v645 v646 v640
  let c0_i32_296 : BitVec 32 := 0#32
  let c0_i32_297 : BitVec 32 := 0#32
  ![v647.toNat, 0, 0]
abbrev stage0_0 : Fin 1 → Memref sig .tc .smem S17 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x12288 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S250x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x128 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x20 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x20 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== ReferenceIdeal.lean ====
abbrev S16x12288 : Shape := ⟨2, ![16, 12288]⟩
abbrev S16 : Shape := ⟨1, ![16]⟩
abbrev S12288x32000 : Shape := ⟨2, ![12288, 32000]⟩
abbrev S32000 : Shape := ⟨1, ![32000]⟩
abbrev S16384 : Shape := ⟨1, ![16384]⟩
abbrev S17 : Shape := ⟨1, ![17]⟩
abbrev S16x20 : Shape := ⟨2, ![16, 20]⟩
abbrev S16x32000 : Shape := ⟨2, ![16, 32000]⟩
abbrev S16x1 : Shape := ⟨2, ![16, 1]⟩
abbrev S1x32000 : Shape := ⟨2, ![1, 32000]⟩
abbrev S1x16384 : Shape := ⟨2, ![1, 16384]⟩
abbrev S17x1 : Shape := ⟨2, ![17, 1]⟩
abbrev S17x16384 : Shape := ⟨2, ![17, 16384]⟩
abbrev S_ : Shape := ⟨0, ![]⟩
abbrev S16384x1 : Shape := ⟨2, ![16384, 1]⟩
abbrev S16384x2 : Shape := ⟨2, ![16384, 2]⟩
abbrev S16x20x1 : Shape := ⟨3, ![16, 20, 1]⟩
abbrev S1 : Shape := ⟨1, ![1]⟩
abbrev S1x1x1 : Shape := ⟨3, ![1, 1, 1]⟩

abbrev nBuf : Space → Nat
  | .hbm => 113
  | .vmem => 3
  | .smem => 0
  | _ => 0

abbrev bufTy : (tb : Table) → Fin (tcTables nBuf tb) → BufTy
  | .hbm, ⟨0, _⟩ => ⟨S16x12288, .fp8e4m3⟩
  | .hbm, ⟨1, _⟩ => ⟨S16, .f32⟩
  | .hbm, ⟨2, _⟩ => ⟨S12288x32000, .fp8e4m3⟩
  | .hbm, ⟨3, _⟩ => ⟨S32000, .f32⟩
  | .hbm, ⟨4, _⟩ => ⟨S16384, .i32⟩
  | .hbm, ⟨5, _⟩ => ⟨S17, .i32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S16x20, .i32⟩
  | .hbm, ⟨10, _⟩ => ⟨S16x32000, .f32⟩
  | .hbm, ⟨11, _⟩ => ⟨S16x1, .f32⟩
  | .hbm, ⟨12, _⟩ => ⟨S16x32000, .f32⟩
  | .hbm, ⟨13, _⟩ => ⟨S16x32000, .f32⟩
  | .hbm, ⟨14, _⟩ => ⟨S1x32000, .f32⟩
  | .hbm, ⟨15, _⟩ => ⟨S16x32000, .f32⟩
  | .hbm, ⟨16, _⟩ => ⟨S16x32000, .f32⟩
  | .hbm, ⟨17, _⟩ => ⟨S16384, .i32⟩
  | .hbm, ⟨18, _⟩ => ⟨S1x16384, .i32⟩
  | .hbm, ⟨19, _⟩ => ⟨S17x1, .i32⟩
  | .hbm, ⟨20, _⟩ => ⟨S17x16384, .i32⟩
  | .hbm, ⟨21, _⟩ => ⟨S17x16384, .i32⟩
  | .hbm, ⟨22, _⟩ => ⟨S17x16384, .i1⟩
  | .hbm, ⟨23, _⟩ => ⟨S17x16384, .i32⟩
  | .hbm, ⟨24, _⟩ => ⟨S_, .i32⟩
  | .hbm, ⟨25, _⟩ => ⟨S16384, .i32⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S_, .i32⟩
  | .hbm, ⟨33, _⟩ => ⟨S16384, .i32⟩
  | .hbm, ⟨34, _⟩ => ⟨S16384, .i1⟩
  | .hbm, ⟨35, _⟩ => ⟨S16384, .f32⟩
  | .hbm, ⟨36, _⟩ => ⟨S_, .f32⟩
  | .hbm, ⟨37, _⟩ => ⟨S16x32000, .f32⟩
  | .hbm, ⟨38, _⟩ => ⟨S_, .i32⟩
  | .hbm, ⟨39, _⟩ => ⟨S16384, .i32⟩
  | .hbm, ⟨40, _⟩ => ⟨S16384, .i1⟩
  | .hbm, ⟨41, _⟩ => ⟨S_, .i32⟩
  | .hbm, ⟨42, _⟩ => ⟨S16384, .i32⟩
  | .hbm, ⟨43, _⟩ => ⟨S16384, .i32⟩
  | .hbm, ⟨44, _⟩ => ⟨S16384, .i32⟩
  | .hbm, ⟨45, _⟩ => ⟨S_, .i32⟩
  | .hbm, ⟨46, _⟩ => ⟨S16384, .i32⟩
  | .hbm, ⟨47, _⟩ => ⟨S16384, .i1⟩
  | .hbm, ⟨48, _⟩ => ⟨S_, .i32⟩
  | .hbm, ⟨49, _⟩ => ⟨S16384, .i32⟩
  | .hbm, ⟨50, _⟩ => ⟨S16384, .i32⟩
  | .hbm, ⟨51, _⟩ => ⟨S16384, .i32⟩
  | .hbm, ⟨52, _⟩ => ⟨S16384x1, .i32⟩
  | .hbm, ⟨53, _⟩ => ⟨S16384x1, .i32⟩
  | .hbm, ⟨54, _⟩ => ⟨S16384x2, .i32⟩
  | .hbm, ⟨55, _⟩ => ⟨S16x32000, .f32⟩
  | .hbm, ⟨56, _⟩ => ⟨S_, .f32⟩
  | .hbm, ⟨57, _⟩ => ⟨S16x32000, .f32⟩
  | .hbm, ⟨58, _⟩ => ⟨S16x32000, .i1⟩
  | .hbm, ⟨59, _⟩ => ⟨S16x1, .f32⟩
  | .hbm, ⟨60, _⟩ => ⟨S_, .f32⟩
  | .hbm, ⟨61, _⟩ => ⟨S16x32000, .f32⟩
  | .hbm, ⟨62, _⟩ => ⟨S16x32000, .i1⟩
  | .hbm, ⟨63, _⟩ => ⟨S16x32000, .f32⟩
  | .hbm, ⟨64, _⟩ => ⟨S16x32000, .f32⟩
  | .hbm, ⟨65, _⟩ => ⟨S16x32000, .f32⟩
  | .hbm, ⟨66, _⟩ => ⟨S16x32000, .f32⟩
  | .hbm, ⟨67, _⟩ => ⟨S16x32000, .f32⟩
  | .hbm, ⟨68, _⟩ => ⟨S16x32000, .f32⟩
  | .hbm, ⟨69, _⟩ => ⟨S16x1, .f32⟩
  | .hbm, ⟨70, _⟩ => ⟨S16x32000, .f32⟩
  | .hbm, ⟨71, _⟩ => ⟨S16x32000, .f32⟩
  | .hbm, ⟨72, _⟩ => ⟨S16x32000, .f32⟩
  | .hbm, ⟨73, _⟩ => ⟨S16x32000, .f32⟩
  | .hbm, ⟨74, _⟩ => ⟨S16x1, .f32⟩
  | .hbm, ⟨75, _⟩ => ⟨S16x32000, .f32⟩
  | .hbm, ⟨76, _⟩ => ⟨S16x32000, .f32⟩
  | .hbm, ⟨77, _⟩ => ⟨S16x32000, .f32⟩
  | .hbm, ⟨78, _⟩ => ⟨S_, .f32⟩
  | .hbm, ⟨79, _⟩ => ⟨S16, .f32⟩
  | .hbm, ⟨80, _⟩ => ⟨S16x1, .f32⟩
  | .hbm, ⟨81, _⟩ => ⟨S16x32000, .f32⟩
  | .hbm, ⟨82, _⟩ => ⟨S16x32000, .f32⟩
  | .hbm, ⟨83, _⟩ => ⟨S16x32000, .f32⟩
  | .hbm, ⟨84, _⟩ => ⟨S_, .f32⟩
  | .hbm, ⟨85, _⟩ => ⟨S16, .f32⟩
  | .hbm, ⟨86, _⟩ => ⟨S16, .f32⟩
  | .hbm, ⟨87, _⟩ => ⟨S16, .f32⟩
  | .hbm, ⟨88, _⟩ => ⟨S_, .i32⟩
  | .hbm, ⟨89, _⟩ => ⟨S16x20, .i32⟩
  | .hbm, ⟨90, _⟩ => ⟨S16x20, .i1⟩
  | .hbm, ⟨91, _⟩ => ⟨S_, .i32⟩
  | .hbm, ⟨92, _⟩ => ⟨S16x20, .i32⟩
  | .hbm, ⟨93, _⟩ => ⟨S16x20, .i32⟩
  | .hbm, ⟨94, _⟩ => ⟨S16x20, .i32⟩
  | .hbm, ⟨95, _⟩ => ⟨S16x20x1, .i32⟩
  | .hbm, ⟨96, _⟩ => ⟨S1, .i32⟩
  | .hbm, ⟨97, _⟩ => ⟨S_, .i32⟩
  | .hbm, ⟨98, _⟩ => ⟨S16x20x1, .i32⟩
  | .hbm, ⟨99, _⟩ => ⟨S16x20x1, .i1⟩
  | .hbm, ⟨100, _⟩ => ⟨S1x1x1, .i32⟩
  | .hbm, ⟨101, _⟩ => ⟨S16x20x1, .i32⟩
  | .hbm, ⟨102, _⟩ => ⟨S16x20x1, .i1⟩
  | .hbm, ⟨103, _⟩ => ⟨S16x20x1, .i1⟩
  | .hbm, ⟨104, _⟩ => ⟨S_, .i1⟩
  | .hbm, ⟨105, _⟩ => ⟨S16x20, .i1⟩
  | .hbm, ⟨106, _⟩ => ⟨S16x20, .f32⟩
  | .hbm, ⟨107, _⟩ => ⟨S_, .f32⟩
  | .hbm, ⟨108, _⟩ => ⟨S16x20, .f32⟩
  | .hbm, ⟨109, _⟩ => ⟨S16x20, .f32⟩
  | .hbm, ⟨110, _⟩ => ⟨S16x1, .f32⟩
  | .hbm, ⟨111, _⟩ => ⟨S16x20, .f32⟩
  | .hbm, ⟨112, _⟩ => ⟨S16x20, .f32⟩
  | .local _ .vmem, ⟨0, _⟩ => ⟨S16x12288, .fp8e4m3⟩
  | .local _ .vmem, ⟨1, _⟩ => ⟨S12288x32000, .fp8e4m3⟩
  | .local _ .vmem, ⟨2, _⟩ => ⟨S16x32000, .f32⟩
  | _, _ => ⟨S16x12288, .fp8e4m3⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_c : Ref sig .tc := ⟨.hbm, 24, rfl⟩
abbrev main_v8 : Ref sig .tc := ⟨.hbm, 25, rfl⟩
abbrev main_c : Ref sig .tc := ⟨.hbm, 26, rfl⟩
abbrev main_v9 : Ref sig .tc := ⟨.hbm, 27, rfl⟩
abbrev main_v10 : Ref sig .tc := ⟨.hbm, 28, rfl⟩
abbrev main_c_0 : Ref sig .tc := ⟨.hbm, 29, rfl⟩
abbrev main_v11 : Ref sig .tc := ⟨.hbm, 30, rfl⟩
abbrev main_v12 : Ref sig .tc := ⟨.hbm, 31, rfl⟩
abbrev main_c_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst : Ref sig .tc := ⟨.hbm, 36, rfl⟩
abbrev main_v16 : Ref sig .tc := ⟨.hbm, 37, rfl⟩
abbrev main_c_2 : Ref sig .tc := ⟨.hbm, 38, rfl⟩
abbrev main_v17 : Ref sig .tc := ⟨.hbm, 39, rfl⟩
abbrev main_v18 : Ref sig .tc := ⟨.hbm, 40, rfl⟩
abbrev main_c_3 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_6 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_7 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_8 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_9 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_call3_c : Ref sig .tc := ⟨.hbm, 88, rfl⟩
abbrev main_call3_v0 : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_c_1 : Ref sig .tc := ⟨.hbm, 96, rfl⟩
abbrev main_call3_c_2 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_c_3 : Ref sig .tc := ⟨.hbm, 104, rfl⟩
abbrev main_call3_v12 : Ref sig .tc := ⟨.hbm, 105, rfl⟩
abbrev main_call3_v13 : Ref sig .tc := ⟨.hbm, 106, rfl⟩
abbrev main_call3_cst : Ref sig .tc := ⟨.hbm, 107, rfl⟩
abbrev main_call3_v14 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S16x12288 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x32000 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x32000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.INames.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Pipeline.FrameSuffixV
public import Idealize.ShloMosaic.Lib.Ring
public import Idealize.ShloMosaic.Lib.Affine
public import Idealize.ShloMosaic.Lib.Tactic

/-!
  The names the body's transfers go by: slot `s` of the weight ring and its cell, column block `b` of the weights,
  slot `s` of the logit staging buffer and its cell, column block `b` of the logits; and the closed forms of the
  offsets the body computes, by which its slices are those names.
-/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev wM : Memref sig .tc .hbm S12288x32000 .fp8e4m3 := Memref.whole main_arg2
abbrev zM : Memref sig .tc .hbm S16x32000 .f32 := Memref.whole main_v2_2
abbrev ringM : Memref sig .tc .vmem S14x12288x256 .fp8e4m3 := Memref.whole cc0_scratch0
abbrev cntM : Memref sig .tc .vmem S4000x128 .f32 := Memref.whole cc0_scratch1
abbrev accM : Memref sig .tc .vmem S16x256 .f32 := Memref.whole cc0_scratch2
abbrev zbM : Memref sig .tc .vmem S2x16x256 .f32 := Memref.whole cc0_scratch3

abbrev wOff (b : Fin 125) : Fin 2 → Nat := ![0, 256 * b.val]
theorem wOff_inb (b : Fin 125) : ∀ a, wOff b a + S12288x256.size a ≤ S12288x32000.size a := by
  have := b.isLt; intro a; fin_cases a
  · show 0 + 12288 ≤ 12288; omega
  · show 256 * b.val + 256 ≤ 32000; omega
theorem zOff_inb (b : Fin 125) : ∀ a, wOff b a + S16x256.size a ≤ S16x32000.size a := by
  have := b.isLt; intro a; fin_cases a
  · show 0 + 16 ≤ 16; omega
  · show 256 * b.val + 256 ≤ 32000; omega
abbrev slotOff (s : Fin 14) : Fin 3 → Nat := ![s.val, 0, 0]
theorem slotOff_inb (s : Fin 14) : ∀ a, slotOff s a + S1x12288x256.size a ≤ S14x12288x256.size a := by
  have := s.isLt; intro a; fin_cases a
  · show s.val + 1 ≤ 14; omega
  · show 0 + 12288 ≤ 12288; omega
  · show 0 + 256 ≤ 256; omega
abbrev zslotOff (s : Fin 2) : Fin 3 → Nat := ![s.val, 0, 0]
theorem zslotOff_inb (s : Fin 2) : ∀ a, zslotOff s a + S1x16x256.size a ≤ S2x16x256.size a := by
  have := s.isLt; intro a; fin_cases a
  · show s.val + 1 ≤ 2; omega
  · show 0 + 16 ≤ 16; omega
  · show 0 + 256 ≤ 256; omega
abbrev semOff (s : Fin 14) : Fin 1 → Nat := ![s.val]
theorem semOff_inb (s : Fin 14) : ∀ a, semOff s a + S1.size a ≤ S14.size a := by
  have := s.isLt; intro a; fin_cases a; show s.val + 1 ≤ 14; omega
abbrev zsemOff (s : Fin 2) : Fin 1 → Nat := ![s.val]
theorem zsemOff_inb (s : Fin 2) : ∀ a, zsemOff s a + S1.size a ≤ S2.size a := by
  have := s.isLt; intro a; fin_cases a; show s.val + 1 ≤ 2; omega

/-- Column block `b` of the weights. -/
def wblk (b : Fin 125) : Memref sig .tc .hbm S12288x256 .fp8e4m3 :=
  wM.slice (Rect.unit (s := S12288x32000) (wOff b) S12288x256.size (wOff_inb b)) (fun _ => rfl)
/-- Column block `b` of the logits. -/
def zblk (b : Fin 125) : Memref sig .tc .hbm S16x256 .f32 :=
  zM.slice (Rect.unit (s := S16x32000) (wOff b) S16x256.size (zOff_inb b)) (fun _ => rfl)
/-- Slot `s` of the weight ring. -/
def rslot (s : Fin 14) : Memref sig .tc .vmem S12288x256 .fp8e4m3 :=
  (ringM.slice (Rect.unit (s := S14x12288x256) (slotOff s) S1x12288x256.size (slotOff_inb s)) (fun _ => rfl)).squeeze S12288x256 squeezes_S1x12288x256_S12288x256
/-- Slot `s` of the logit staging buffer. -/
def zslot (s : Fin 2) : Memref sig .tc .vmem S16x256 .f32 :=
  (zbM.slice (Rect.unit (s := S2x16x256) (zslotOff s) S1x16x256.size (zslotOff_inb s)) (fun _ => rfl)).squeeze S16x256 squeezes_S1x16x256_S16x256
/-- The ring's cell `s`. -/
def csm (s : Fin 14) : DmaSems sig S_ := (cc0_scratch4.slice (Rect.unit (s := S14) (semOff s) S1.size (semOff_inb s))).squeeze S_ squeezes_S1_S_
/-- The logit staging buffer's cell `s`. -/
def zsm (s : Fin 2) : DmaSems sig S_ := (cc0_scratch5.slice (Rect.unit (s := S2) (zsemOff s) S1.size (zsemOff_inb s))).squeeze S_ squeezes_S1_S_

instance (b : Fin 125) : ClosedOff (wOff b) := ⟨wOff b, rfl⟩
instance (s : Fin 14) : ClosedOff (slotOff s) := ⟨slotOff s, rfl⟩
instance (s : Fin 2) : ClosedOff (zslotOff s) := ⟨zslotOff s, rfl⟩

/-! ## The offsets in closed form -/

theorem off6_eq : ∀ k : Fin k0_t4_loop.trips, k0_off6 k = semOff (Ring.sl 14 k.val) := by decide +kernel
theorem off7_eq : ∀ k : Fin k0_t4_loop.trips, k0_off7 k = slotOff (Ring.sl 14 k.val) := by decide +kernel
theorem off8_eq : ∀ k : Fin k0_t4_loop.trips, k0_off8 k = wOff (Ring.bk 125 k.val) := by decide +kernel
theorem off10_eq : ∀ k : Fin k0_t4_loop.trips, k0_off10 k = slotOff (Ring.sl 14 k.val) := by decide +kernel
theorem off11_eq : ∀ k : Fin k0_t4_loop.trips, k0_cond1 k = 1#1 → k0_off11 k = semOff (Ring.sl 14 k.val) := by decide +kernel
theorem off12_eq : ∀ k : Fin k0_t4_loop.trips, k0_cond1 k = 1#1 → k0_off12 k = slotOff (Ring.sl 14 k.val) := by decide +kernel
theorem off13_eq : ∀ k : Fin k0_t4_loop.trips, k0_cond1 k = 1#1 → k0_off13 k = wOff (Ring.bk 125 (k.val + 14)) := by decide +kernel
theorem off14_eq : ∀ k : Fin k0_t4_loop.trips, k0_cond2 k = 1#1 → k0_off14 k = zsemOff (Ring.sl 2 k.val) := by decide +kernel
theorem off15_eq : ∀ k : Fin k0_t4_loop.trips, k0_cond2 k = 1#1 → k0_off15 k = wOff (Ring.bk 125 (k.val - 2)) := by decide +kernel
theorem off16_eq : ∀ k : Fin k0_t4_loop.trips, k0_cond2 k = 1#1 → k0_off16 k = zslotOff (Ring.sl 2 k.val) := by decide +kernel
theorem off20_eq : ∀ k : Fin k0_t4_loop.trips, ∀ r : Fin 2, k0_off20 k (BitVec.ofNat 32 r.val) = ![(Ring.sl 2 k.val).val, 0, 128 * r.val] := by decide +kernel
theorem off21_eq : ∀ k : Fin k0_t4_loop.trips, k0_off21 k = zsemOff (Ring.sl 2 k.val) := by decide +kernel
theorem off22_eq : ∀ k : Fin k0_t4_loop.trips, k0_off22 k = wOff (Ring.bk 125 k.val) := by decide +kernel
theorem off23_eq : ∀ k : Fin k0_t4_loop.trips, k0_off23 k = zslotOff (Ring.sl 2 k.val) := by decide +kernel
theorem cond1_iff : ∀ k : Fin k0_t4_loop.trips, k0_cond1 k = 1#1 ↔ k.val + 14 < 125 := by decide +kernel
theorem cond2_iff : ∀ k : Fin k0_t4_loop.trips, k0_cond2 k = 1#1 ↔ 2 ≤ k.val := by decide +kernel
theorem trips4 : k0_t4_loop.trips = 125 := by decide +kernel
theorem trips1 : k0_t1_loop.trips = 16 := by decide +kernel

instance (k : Fin k0_t4_loop.trips) : ClosedOff (k0_off7 k) := ⟨slotOff (Ring.sl 14 k.val), off7_eq k⟩
instance (k : Fin k0_t4_loop.trips) : ClosedOff (k0_off10 k) := ⟨slotOff (Ring.sl 14 k.val), off10_eq k⟩
instance closedOff_off20_0 (k : Fin k0_t4_loop.trips) : ClosedOff (k0_off20 k (BitVec.ofNat 32 0)) := ⟨![(Ring.sl 2 k.val).val, 0, 128 * 0], off20_eq k ⟨0, by decide⟩⟩
instance closedOff_off20_1 (k : Fin k0_t4_loop.trips) : ClosedOff (k0_off20 k (BitVec.ofNat 32 1)) := ⟨![(Ring.sl 2 k.val).val, 0, 128 * 1], off20_eq k ⟨1, by decide⟩⟩
instance (k : Fin k0_t4_loop.trips) : ClosedOff (k0_off23 k) := ⟨zslotOff (Ring.sl 2 k.val), off23_eq k⟩

/-! ## The body's slices under those names -/

theorem csm_congr {off : Fin 1 → Nat} {s : Fin 14} (e : off = semOff s) (hh) :
    (cc0_scratch4.slice (Rect.unit (s := S14) off S1.size hh)).squeeze S_ squeezes_S1_S_ = csm s :=
  congrArg (fun A : DmaSems sig S1 => A.squeeze S_ squeezes_S1_S_) (SemArray.slice_unit_congr _ e _ _)
theorem zsm_congr {off : Fin 1 → Nat} {s : Fin 2} (e : off = zsemOff s) (hh) :
    (cc0_scratch5.slice (Rect.unit (s := S2) off S1.size hh)).squeeze S_ squeezes_S1_S_ = zsm s :=
  congrArg (fun A : DmaSems sig S1 => A.squeeze S_ squeezes_S1_S_) (SemArray.slice_unit_congr _ e _ _)
theorem rslot_congr {off : Fin 3 → Nat} {s : Fin 14} (e : off = slotOff s) (hh hs) :
    (ringM.slice (Rect.unit (s := S14x12288x256) off S1x12288x256.size hh) hs).squeeze S12288x256 squeezes_S1x12288x256_S12288x256 = rslot s :=
  congrArg (fun M : Memref sig .tc .vmem S1x12288x256 .fp8e4m3 => M.squeeze S12288x256 squeezes_S1x12288x256_S12288x256) (Memref.slice_unit_congr _ e _ _ _ _)
theorem zslot_congr {off : Fin 3 → Nat} {s : Fin 2} (e : off = zslotOff s) (hh hs) :
    (zbM.slice (Rect.unit (s := S2x16x256) off S1x16x256.size hh) hs).squeeze S16x256 squeezes_S1x16x256_S16x256 = zslot s :=
  congrArg (fun M : Memref sig .tc .vmem S1x16x256 .f32 => M.squeeze S16x256 squeezes_S1x16x256_S16x256) (Memref.slice_unit_congr _ e _ _ _ _)
theorem wblk_congr {off : Fin 2 → Nat} {b : Fin 125} (e : off = wOff b) (hh hs) :
    wM.slice (Rect.unit (s := S12288x32000) off S12288x256.size hh) hs = wblk b := Memref.slice_unit_congr _ e _ _ _ (fun _ => rfl)
theorem zblk_congr {off : Fin 2 → Nat} {b : Fin 125} (e : off = wOff b) (hh hs) :
    zM.slice (Rect.unit (s := S16x32000) off S16x256.size hh) hs = zblk b := Memref.slice_unit_congr _ e _ _ _ (fun _ => rfl)

@[sl_canon] theorem semL0 (hh) : (cc0_scratch4.slice (Rect.unit (s := S14) ![0] S1.size hh)).squeeze S_ squeezes_S1_S_ = csm 0 := csm_congr (by decide) _
@[sl_canon] theorem slotL0 (hh hs) : (ringM.slice (Rect.unit (s := S14x12288x256) ![0, 0, 0] S1x12288x256.size hh) hs).squeeze S12288x256 squeezes_S1x12288x256_S12288x256 = rslot 0 := rslot_congr (by decide) _ _
@[sl_canon] theorem wL0 (hh hs) : wM.slice (Rect.unit (s := S12288x32000) ![0, 0] S12288x256.size hh) hs = wblk 0 := wblk_congr (by decide) _ _
@[sl_canon] theorem semL1 (hh) : (cc0_scratch4.slice (Rect.unit (s := S14) ![1] S1.size hh)).squeeze S_ squeezes_S1_S_ = csm 1 := csm_congr (by decide) _
@[sl_canon] theorem slotL1 (hh hs) : (ringM.slice (Rect.unit (s := S14x12288x256) ![1, 0, 0] S1x12288x256.size hh) hs).squeeze S12288x256 squeezes_S1x12288x256_S12288x256 = rslot 1 := rslot_congr (by decide) _ _
@[sl_canon] theorem wL1 (hh hs) : wM.slice (Rect.unit (s := S12288x32000) ![0, 256] S12288x256.size hh) hs = wblk 1 := wblk_congr (by decide) _ _
@[sl_canon] theorem semL2 (hh) : (cc0_scratch4.slice (Rect.unit (s := S14) ![2] S1.size hh)).squeeze S_ squeezes_S1_S_ = csm 2 := csm_congr (by decide) _
@[sl_canon] theorem slotL2 (hh hs) : (ringM.slice (Rect.unit (s := S14x12288x256) ![2, 0, 0] S1x12288x256.size hh) hs).squeeze S12288x256 squeezes_S1x12288x256_S12288x256 = rslot 2 := rslot_congr (by decide) _ _
@[sl_canon] theorem wL2 (hh hs) : wM.slice (Rect.unit (s := S12288x32000) ![0, 512] S12288x256.size hh) hs = wblk 2 := wblk_congr (by decide) _ _
@[sl_canon] theorem semL3 (hh) : (cc0_scratch4.slice (Rect.unit (s := S14) ![3] S1.size hh)).squeeze S_ squeezes_S1_S_ = csm 3 := csm_congr (by decide) _
@[sl_canon] theorem slotL3 (hh hs) : (ringM.slice (Rect.unit (s := S14x12288x256) ![3, 0, 0] S1x12288x256.size hh) hs).squeeze S12288x256 squeezes_S1x12288x256_S12288x256 = rslot 3 := rslot_congr (by decide) _ _
@[sl_canon] theorem wL3 (hh hs) : wM.slice (Rect.unit (s := S12288x32000) ![0, 768] S12288x256.size hh) hs = wblk 3 := wblk_congr (by decide) _ _
@[sl_canon] theorem semL4 (hh) : (cc0_scratch4.slice (Rect.unit (s := S14) ![4] S1.size hh)).squeeze S_ squeezes_S1_S_ = csm 4 := csm_congr (by decide) _
@[sl_canon] theorem slotL4 (hh hs) : (ringM.slice (Rect.unit (s := S14x12288x256) ![4, 0, 0] S1x12288x256.size hh) hs).squeeze S12288x256 squeezes_S1x12288x256_S12288x256 = rslot 4 := rslot_congr (by decide) _ _
@[sl_canon] theorem wL4 (hh hs) : wM.slice (Rect.unit (s := S12288x32000) ![0, 1024] S12288x256.size hh) hs = wblk 4 := wblk_congr (by decide) _ _
@[sl_canon] theorem semL5 (hh) : (cc0_scratch4.slice (Rect.unit (s := S14) ![5] S1.size hh)).squeeze S_ squeezes_S1_S_ = csm 5 := csm_congr (by decide) _
@[sl_canon] theorem slotL5 (hh hs) : (ringM.slice (Rect.unit (s := S14x12288x256) ![5, 0, 0] S1x12288x256.size hh) hs).squeeze S12288x256 squeezes_S1x12288x256_S12288x256 = rslot 5 := rslot_congr (by decide) _ _
@[sl_canon] theorem wL5 (hh hs) : wM.slice (Rect.unit (s := S12288x32000) ![0, 1280] S12288x256.size hh) hs = wblk 5 := wblk_congr (by decide) _ _
@[sl_canon] theorem semL6 (hh) : (cc0_scratch4.slice (Rect.unit (s := S14) ![6] S1.size hh)).squeeze S_ squeezes_S1_S_ = csm 6 := csm_congr (by decide) _
@[sl_canon] theorem slotL6 (hh hs) : (ringM.slice (Rect.unit (s := S14x12288x256) ![6, 0, 0] S1x12288x256.size hh) hs).squeeze S12288x256 squeezes_S1x12288x256_S12288x256 = rslot 6 := rslot_congr (by decide) _ _
@[sl_canon] theorem wL6 (hh hs) : wM.slice (Rect.unit (s := S12288x32000) ![0, 1536] S12288x256.size hh) hs = wblk 6 := wblk_congr (by decide) _ _
@[sl_canon] theorem semL7 (hh) : (cc0_scratch4.slice (Rect.unit (s := S14) ![7] S1.size hh)).squeeze S_ squeezes_S1_S_ = csm 7 := csm_congr (by decide) _
@[sl_canon] theorem slotL7 (hh hs) : (ringM.slice (Rect.unit (s := S14x12288x256) ![7, 0, 0] S1x12288x256.size hh) hs).squeeze S12288x256 squeezes_S1x12288x256_S12288x256 = rslot 7 := rslot_congr (by decide) _ _
@[sl_canon] theorem wL7 (hh hs) : wM.slice (Rect.unit (s := S12288x32000) ![0, 1792] S12288x256.size hh) hs = wblk 7 := wblk_congr (by decide) _ _
@[sl_canon] theorem semL8 (hh) : (cc0_scratch4.slice (Rect.unit (s := S14) ![8] S1.size hh)).squeeze S_ squeezes_S1_S_ = csm 8 := csm_congr (by decide) _
@[sl_canon] theorem slotL8 (hh hs) : (ringM.slice (Rect.unit (s := S14x12288x256) ![8, 0, 0] S1x12288x256.size hh) hs).squeeze S12288x256 squeezes_S1x12288x256_S12288x256 = rslot 8 := rslot_congr (by decide) _ _
@[sl_canon] theorem wL8 (hh hs) : wM.slice (Rect.unit (s := S12288x32000) ![0, 2048] S12288x256.size hh) hs = wblk 8 := wblk_congr (by decide) _ _
@[sl_canon] theorem semL9 (hh) : (cc0_scratch4.slice (Rect.unit (s := S14) ![9] S1.size hh)).squeeze S_ squeezes_S1_S_ = csm 9 := csm_congr (by decide) _
@[sl_canon] theorem slotL9 (hh hs) : (ringM.slice (Rect.unit (s := S14x12288x256) ![9, 0, 0] S1x12288x256.size hh) hs).squeeze S12288x256 squeezes_S1x12288x256_S12288x256 = rslot 9 := rslot_congr (by decide) _ _
@[sl_canon] theorem wL9 (hh hs) : wM.slice (Rect.unit (s := S12288x32000) ![0, 2304] S12288x256.size hh) hs = wblk 9 := wblk_congr (by decide) _ _
@[sl_canon] theorem semL10 (hh) : (cc0_scratch4.slice (Rect.unit (s := S14) ![10] S1.size hh)).squeeze S_ squeezes_S1_S_ = csm 10 := csm_congr (by decide) _
@[sl_canon] theorem slotL10 (hh hs) : (ringM.slice (Rect.unit (s := S14x12288x256) ![10, 0, 0] S1x12288x256.size hh) hs).squeeze S12288x256 squeezes_S1x12288x256_S12288x256 = rslot 10 := rslot_congr (by decide) _ _
@[sl_canon] theorem wL10 (hh hs) : wM.slice (Rect.unit (s := S12288x32000) ![0, 2560] S12288x256.size hh) hs = wblk 10 := wblk_congr (by decide) _ _
@[sl_canon] theorem semL11 (hh) : (cc0_scratch4.slice (Rect.unit (s := S14) ![11] S1.size hh)).squeeze S_ squeezes_S1_S_ = csm 11 := csm_congr (by decide) _
@[sl_canon] theorem slotL11 (hh hs) : (ringM.slice (Rect.unit (s := S14x12288x256) ![11, 0, 0] S1x12288x256.size hh) hs).squeeze S12288x256 squeezes_S1x12288x256_S12288x256 = rslot 11 := rslot_congr (by decide) _ _
@[sl_canon] theorem wL11 (hh hs) : wM.slice (Rect.unit (s := S12288x32000) ![0, 2816] S12288x256.size hh) hs = wblk 11 := wblk_congr (by decide) _ _
@[sl_canon] theorem semL12 (hh) : (cc0_scratch4.slice (Rect.unit (s := S14) ![12] S1.size hh)).squeeze S_ squeezes_S1_S_ = csm 12 := csm_congr (by decide) _
@[sl_canon] theorem slotL12 (hh hs) : (ringM.slice (Rect.unit (s := S14x12288x256) ![12, 0, 0] S1x12288x256.size hh) hs).squeeze S12288x256 squeezes_S1x12288x256_S12288x256 = rslot 12 := rslot_congr (by decide) _ _
@[sl_canon] theorem wL12 (hh hs) : wM.slice (Rect.unit (s := S12288x32000) ![0, 3072] S12288x256.size hh) hs = wblk 12 := wblk_congr (by decide) _ _
@[sl_canon] theorem semL13 (hh) : (cc0_scratch4.slice (Rect.unit (s := S14) ![13] S1.size hh)).squeeze S_ squeezes_S1_S_ = csm 13 := csm_congr (by decide) _
@[sl_canon] theorem slotL13 (hh hs) : (ringM.slice (Rect.unit (s := S14x12288x256) ![13, 0, 0] S1x12288x256.size hh) hs).squeeze S12288x256 squeezes_S1x12288x256_S12288x256 = rslot 13 := rslot_congr (by decide) _ _
@[sl_canon] theorem wL13 (hh hs) : wM.slice (Rect.unit (s := S12288x32000) ![0, 3328] S12288x256.size hh) hs = wblk 13 := wblk_congr (by decide) _ _
@[sl_canon] theorem zsemL1 (hh) : (cc0_scratch5.slice (Rect.unit (s := S2) ![1] S1.size hh)).squeeze S_ squeezes_S1_S_ = zsm 1 := zsm_congr (by decide) _
@[sl_canon] theorem zslotL1 (hh hs) : (zbM.slice (Rect.unit (s := S2x16x256) ![1, 0, 0] S1x16x256.size hh) hs).squeeze S16x256 squeezes_S1x16x256_S16x256 = zslot 1 := zslot_congr (by decide) _ _
@[sl_canon] theorem zblkL1 (hh hs) : zM.slice (Rect.unit (s := S16x32000) ![0, 31488] S16x256.size hh) hs = zblk 123 := zblk_congr (by decide) _ _
@[sl_canon] theorem zsemL0 (hh) : (cc0_scratch5.slice (Rect.unit (s := S2) ![0] S1.size hh)).squeeze S_ squeezes_S1_S_ = zsm 0 := zsm_congr (by decide) _
@[sl_canon] theorem zslotL0 (hh hs) : (zbM.slice (Rect.unit (s := S2x16x256) ![0, 0, 0] S1x16x256.size hh) hs).squeeze S16x256 squeezes_S1x16x256_S16x256 = zslot 0 := zslot_congr (by decide) _ _
@[sl_canon] theorem zblkL0 (hh hs) : zM.slice (Rect.unit (s := S16x32000) ![0, 31744] S16x256.size hh) hs = zblk 124 := zblk_congr (by decide) _ _
@[sl_canon] theorem semK (k : Fin k0_t4_loop.trips) (hh) : (cc0_scratch4.slice (Rect.unit (s := S14) (k0_off6 k) S1.size hh)).squeeze S_ squeezes_S1_S_ = csm (Ring.sl 14 k.val) := csm_congr (off6_eq k) _
@[sl_canon] theorem slotK (k : Fin k0_t4_loop.trips) (hh hs) : (ringM.slice (Rect.unit (s := S14x12288x256) (k0_off7 k) S1x12288x256.size hh) hs).squeeze S12288x256 squeezes_S1x12288x256_S12288x256 = rslot (Ring.sl 14 k.val) := rslot_congr (off7_eq k) _ _
@[sl_canon] theorem wK (k : Fin k0_t4_loop.trips) (hh hs) : wM.slice (Rect.unit (s := S12288x32000) (k0_off8 k) S12288x256.size hh) hs = wblk (Ring.bk 125 k.val) := wblk_congr (off8_eq k) _ _
@[sl_canon] theorem semN (k : Fin k0_t4_loop.trips) (hc : k0_cond1 k = 1#1) (hh) : (cc0_scratch4.slice (Rect.unit (s := S14) (k0_off11 k) S1.size hh)).squeeze S_ squeezes_S1_S_ = csm (Ring.sl 14 k.val) := csm_congr (off11_eq k hc) _
@[sl_canon] theorem slotN (k : Fin k0_t4_loop.trips) (hc : k0_cond1 k = 1#1) (hh hs) : (ringM.slice (Rect.unit (s := S14x12288x256) (k0_off12 k) S1x12288x256.size hh) hs).squeeze S12288x256 squeezes_S1x12288x256_S12288x256 = rslot (Ring.sl 14 k.val) := rslot_congr (off12_eq k hc) _ _
@[sl_canon] theorem wN (k : Fin k0_t4_loop.trips) (hc : k0_cond1 k = 1#1) (hh hs) : wM.slice (Rect.unit (s := S12288x32000) (k0_off13 k) S12288x256.size hh) hs = wblk (Ring.bk 125 (k.val + 14)) := wblk_congr (off13_eq k hc) _ _
@[sl_canon] theorem zsemW (k : Fin k0_t4_loop.trips) (hc : k0_cond2 k = 1#1) (hh) : (cc0_scratch5.slice (Rect.unit (s := S2) (k0_off14 k) S1.size hh)).squeeze S_ squeezes_S1_S_ = zsm (Ring.sl 2 k.val) := zsm_congr (off14_eq k hc) _
@[sl_canon] theorem zblkW (k : Fin k0_t4_loop.trips) (hc : k0_cond2 k = 1#1) (hh hs) : zM.slice (Rect.unit (s := S16x32000) (k0_off15 k) S16x256.size hh) hs = zblk (Ring.bk 125 (k.val - 2)) := zblk_congr (off15_eq k hc) _ _
@[sl_canon] theorem zslotW (k : Fin k0_t4_loop.trips) (hc : k0_cond2 k = 1#1) (hh hs) : (zbM.slice (Rect.unit (s := S2x16x256) (k0_off16 k) S1x16x256.size hh) hs).squeeze S16x256 squeezes_S1x16x256_S16x256 = zslot (Ring.sl 2 k.val) := zslot_congr (off16_eq k hc) _ _
@[sl_canon] theorem zsemK (k : Fin k0_t4_loop.trips) (hh) : (cc0_scratch5.slice (Rect.unit (s := S2) (k0_off21 k) S1.size hh)).squeeze S_ squeezes_S1_S_ = zsm (Ring.sl 2 k.val) := zsm_congr (off21_eq k) _
@[sl_canon] theorem zblkK (k : Fin k0_t4_loop.trips) (hh hs) : zM.slice (Rect.unit (s := S16x32000) (k0_off22 k) S16x256.size hh) hs = zblk (Ring.bk 125 k.val) := zblk_congr (off22_eq k) _ _
@[sl_canon] theorem zslotK (k : Fin k0_t4_loop.trips) (hh hs) : (zbM.slice (Rect.unit (s := S2x16x256) (k0_off23 k) S1x16x256.size hh) hs).squeeze S16x256 squeezes_S1x16x256_S16x256 = zslot (Ring.sl 2 k.val) := zslot_congr (off23_eq k) _ _

end Cert.KernelIdeal.Hand

end
-- ==== Proof.ICounts.lean ====
module

public import proofs.«01_k».proof.Proof.INames

/-!
  The counting of the history: per request, the rows of ids its range meets, one product of one-hot matrices each,
  summed into the request's counts; the counts of the sixteen requests fill the counts buffer, interleaved.
-/

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UU (nD : Nat) (τ : Topo) : Type := UR sig nD τ × Counters
local notation "𝕄" => MT nD τ sig Unit (Elt F) ℕ (UU nD τ) ℕ

abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

section
variable (c : Dev nD)
  (arg0 : Memref sig .tc .smem S17 .i32) (harg0 : arg0.IsWhole)
  (arg1 : Memref sig .tc .smem S16 .f32) (harg1 : arg1.IsWhole)
  (arg2 : Memref sig .tc .smem S16 .f32) (harg2 : arg2.IsWhole)
  (arg3 : Memref sig .tc .smem S16 .f32) (harg3 : arg3.IsWhole)
  (arg4 : Memref sig .tc .smem S16 .f32) (harg4 : arg4.IsWhole)
  (arg5 : Memref sig .tc .vmem S16x12288 .fp8e4m3) (harg5 : arg5.IsWhole)
  (arg6 : Memref sig .tc .vmem S250x128 .f32) (harg6 : arg6.IsWhole)
  (arg7 : Memref sig .tc .vmem S128x128 .i32) (harg7 : arg7.IsWhole)
  (arg8 : Memref sig .tc .vmem S16x20 .i32) (harg8 : arg8.IsWhole)
  (arg10 : Memref sig .tc .vmem S1x16 .f32) (harg10 : arg10.IsWhole)
  (arg11 : Memref sig .tc .vmem S16x20 .f32) (harg11 : arg11.IsWhole)

/-- The counts of the request whose range is `[v, v']`, after `k` rows of ids. -/
def cntAcc (v v' : BitVec 32) (ids : S128x128.Idx → Elt F .i32) (hw : k0_chk1 v v') : ℕ → FVec F S256x128 .f32
  | 0 => k0_pay14 (F := F)
  | k + 1 => if h : k < (k0_t2_loop v v').trips then
      k0_pay15 v v' ⟨k, h⟩ (cntAcc v v' ids hw k) (fun j => ids ((Rect.unit (s := S128x128) (k0_off3 v v' ⟨k, h⟩) S1x128.size (k0_off3_inb v v' hw ⟨k, h⟩)).toLoadRect.idx j))
    else cntAcc v v' ids hw k

abbrev t2G (v v' : BitVec 32) (hw : k0_chk1 v v') (k : Fin (k0_t2_loop v v').trips) (acc : FVec F S256x128 .f32) : Prog (TpuEff nD τ sig (Elt F) Λ₀ .tc) (FVec F S256x128 .f32) :=
  k0_t2_body (F := F) arg0 harg0 arg1 harg1 arg2 harg2 arg3 harg3 arg4 harg4 arg5 harg5 arg6 harg6 arg7 harg7 arg8 harg8 wM (Memref.isWhole_whole _) arg10 harg10 arg11 harg11 zM (Memref.isWhole_whole _) ringM (Memref.isWhole_whole _) cntM (Memref.isWhole_whole _) accM (Memref.isWhole_whole _) zbM (Memref.isWhole_whole _) cc0_scratch4 cc0_scratch5 v v' hw k acc

set_option warn.classDefReducibility false in
@[sl_loop] def loopInv2 (v v' : BitVec 32) (hw : k0_chk1 v v') (g7 : Buf (Elt F) (arg7.view.loc (c : Thread nD τ))) :
    LoopInvTy_k0_t2 (F := F) Unit ℕ (UU nD τ) ℕ 𝒱₀ c none Set.univ arg0 harg0 arg1 harg1 arg2 harg2 arg3 harg3 arg4 harg4 arg5 harg5 arg6 harg6 arg7 harg7 arg8 harg8 wM (Memref.isWhole_whole _) arg10 harg10 arg11 harg11 zM (Memref.isWhole_whole _) ringM (Memref.isWhole_whole _) cntM (Memref.isWhole_whole _) accM (Memref.isWhole_whole _) zbM (Memref.isWhole_whole _) cc0_scratch4 cc0_scratch5 v v' hw (k0_pay14 (F := F)) where
  inv k acc := iprop((arg7.view.loc (c : Thread nD τ) ↦[arg7.view.set]{fullShare} g7) ∗ ⌜acc = cntAcc v v' (arg7.view.read (Elt F) g7) hw k⌝)
  step k acc := by
    iintro ⟨H7, %hacc⟩
    subst hacc
    sl_unfold [k0_t2_body]
    sl_exec
    sl_step
    isplitl [H7]; · iexact H7
    ipureintro
    rw [cntAcc, dif_pos k.isLt]
    rfl

omit [FloatOps F] in
theorem toInt_of_isInt {x : BitVec 32} {e : Int} (h : Affine.IsInt x e) : x.toInt = e := by
  delta Affine.IsInt at h; exact h

omit [FloatOps F] in
theorem trips3 (v v' : BitVec 32) : (k0_t3_loop v v').trips = 0 := by
  have key : ∀ x y : BitVec 32, Scf.trips (Scalar.addi x (Scalar.muli (Scalar.divsi y 1#32) 1#32)) (Scalar.addi x y) 1#32 = 0 := by
    intro x y
    have e1 : Scalar.divsi y 1#32 = y := by
      apply BitVec.eq_of_toInt_eq
      exact toInt_of_isInt (Affine.divsi_one (Affine.word y) (Affine.ofNat (e := 1) 1 ⟨rfl, by decide⟩) ⟨rfl, rfl⟩)
    have e2 : Scalar.muli y 1#32 = y := by simp [Scalar.muli, IntOp.muli]
    rw [e1, e2]
    unfold Scf.trips; simp
  exact key _ _

set_option warn.classDefReducibility false in
@[sl_loop] def loopInv3 (v v' : BitVec 32) (hw : k0_chk1 v v') (init : FVec F S256x128 .f32) :
    LoopInvTy_k0_t3 (F := F) Unit ℕ (UU nD τ) ℕ 𝒱₀ c none Set.univ arg0 harg0 arg1 harg1 arg2 harg2 arg3 harg3 arg4 harg4 arg5 harg5 arg6 harg6 arg7 harg7 arg8 harg8 wM (Memref.isWhole_whole _) arg10 harg10 arg11 harg11 zM (Memref.isWhole_whole _) ringM (Memref.isWhole_whole _) cntM (Memref.isWhole_whole _) accM (Memref.isWhole_whole _) zbM (Memref.isWhole_whole _) cc0_scratch4 cc0_scratch5 v v' hw init where
  inv _ acc := iprop(⌜acc = init⌝)
  step k _ := (Nat.not_lt_zero _ (Nat.lt_of_lt_of_eq k.isLt (trips3 v v'))).elim

/-- Word `n` of the offsets. -/
def ix17 (n : Fin 17) : S17.Idx := fun a => match a with
  | ⟨0, _⟩ => n
abbrev wd (r : S17.Idx → BitVec 32) (n : Fin 17) : BitVec 32 := r (ix17 n)
/-- The offsets the body can run on: each pair of neighbours passes the check it makes of them. -/
def ChkOK (r : S17.Idx → BitVec 32) : Prop := ∀ b : Fin 16, k0_chk1 (wd r b.castSucc) (wd r b.succ)

/-- The counts of request `b`, one per id below 32000, as 250 rows of 128. -/
def rowVal (r : S17.Idx → BitVec 32) (hr : ChkOK r) (ids : S128x128.Idx → Elt F .i32) (b : Fin 16) : FVec F S250x128 .f32 :=
  k0_pay17 (cntAcc (wd r b.castSucc) (wd r b.succ) ids (hr b) (k0_t2_loop (wd r b.castSucc) (wd r b.succ)).trips)

/-- Row `16 j + b` of the counts buffer. -/
def cIdx (b : Fin 16) (j : S250x128.Idx) : S4000x128.Idx := fun a => match a with
  | ⟨0, _⟩ => (⟨16 * (j 0).val + b.val, by have h0 : (j 0).val < 250 := (j 0).isLt; have := b.isLt; omega⟩ : Fin 4000)
  | ⟨1, _⟩ => (j 1 : Fin 128)

/-- The counts buffer once requests below `k` are counted. -/
def CntOK (r : S17.Idx → BitVec 32) (hr : ChkOK r) (ids : S128x128.Idx → Elt F .i32) (k : ℕ) (f : S4000x128.Idx → Elt F .f32) : Prop :=
  ∀ b : Fin 16, b.val < k → ∀ j, f (cIdx b j) = rowVal r hr ids b j

theorem off5_eq : ∀ k : Fin k0_t1_loop.trips, k0_off5 k = ![k.val, 0] := by decide +kernel
/-- The request of a trip. -/
def kb (k : Fin k0_t1_loop.trips) : Fin 16 := ⟨k.val, Nat.lt_of_lt_of_eq k.isLt trips1⟩

theorem off1_eq : ∀ k : Fin k0_t1_loop.trips, k0_off1 k = ![k.val] := by decide +kernel
theorem off2_eq : ∀ k : Fin k0_t1_loop.trips, k0_off2 k = ![k.val + 1] := by decide +kernel

/-- The rows of one request. -/
abbrev cRect (k : Fin k0_t1_loop.trips) : Rect S4000x128 := ⟨⟨k0_off5 k, S250x128.size, ![16, 1], k0_off5_inb k⟩, spos_16_1⟩

omit [FloatOps F] in
theorem cRect_hit (k : Fin k0_t1_loop.trips) (f : S4000x128.Idx → Elt F .f32) (w : S250x128.Idx → Elt F .f32) (j : S250x128.Idx) :
    cntM.view.read (Elt F) (cntM.view.writes (Elt F) f [⟨cRect k, w⟩]) (cIdx (kb k) j) = w j := by
  refine View.read_writes_cons_hit_of_coords cntM.view f (cRect k) w [] j _ ?_
  intro a
  have e5 := congrFun (off5_eq k) a
  match a with
  | ⟨0, _⟩ =>
    have e5 : k0_off5 k 0 = k.val := e5
    show 16 * (j 0).val + k.val = k0_off5 k 0 + 16 * (j 0).val
    rw [e5]; omega
  | ⟨1, _⟩ =>
    have e5 : k0_off5 k 1 = 0 := e5
    show (j 1).val = k0_off5 k 1 + 1 * (j 1).val
    rw [e5]; omega

omit [FloatOps F] in
theorem cRect_miss (k : Fin k0_t1_loop.trips) (f : S4000x128.Idx → Elt F .f32) (w : S250x128.Idx → Elt F .f32) (b : Fin 16) (hb : b.val ≠ k.val) (j : S250x128.Idx) :
    cntM.view.read (Elt F) (cntM.view.writes (Elt F) f [⟨cRect k, w⟩]) (cIdx b j) = f (cIdx b j) := by
  rw [View.read_writes_cons_miss cntM.view f _ [] _ ?_]
  · rfl
  · intro hm
    obtain ⟨x, hx, ex⟩ := (LoadRect.mem_set _).mp hm 0
    have e5 : k0_off5 k 0 = k.val := congrFun (off5_eq k) 0
    have ex : 16 * (j 0).val + b.val = k0_off5 k 0 + 16 * x := ex
    rw [e5] at ex
    have := b.isLt; have := Nat.lt_of_lt_of_eq k.isLt trips1
    omega

/-- One more request counted: its rows hold its counts, the other requests' rows are kept. -/
theorem cntOK_step (r : S17.Idx → BitVec 32) (hr : ChkOK r) (ids : S128x128.Idx → Elt F .i32) (k : Fin k0_t1_loop.trips)
    (f : S4000x128.Idx → Elt F .f32) (hf : CntOK r hr ids k.val f) (w : S250x128.Idx → Elt F .f32) (hw : w = rowVal r hr ids (kb k)) :
    CntOK r hr ids (k.val + 1) (cntM.view.writes (Elt F) f [⟨cRect k, w⟩]) := by
  intro b hb j
  by_cases e : b = kb k
  · rw [e, ← hw]; exact cRect_hit k f w j
  · have hne : b.val ≠ k.val := fun h => e (Fin.ext h)
    exact (cRect_miss k f w b hne j).trans (hf b (by omega) j)

theorem rowVal_of (r : S17.Idx → BitVec 32) (hr : ChkOK r) (ids : S128x128.Idx → Elt F .i32) (b : Fin 16) (v v' : BitVec 32)
    (e : v = wd r b.castSucc) (e' : v' = wd r b.succ) (hw : k0_chk1 v v') :
    k0_pay17 (F := F) (cntAcc v v' ids hw (k0_t2_loop v v').trips) = rowVal r hr ids b := by
  subst e; subst e'; rfl

abbrev cntP (f : Buf (Elt F) (cntM.view.loc (c : Thread nD τ))) : sProp 𝕄 := cntM.view.loc (c : Thread nD τ) ↦[cntM.view.set]{fullShare} f

set_option warn.classDefReducibility false in
@[sl_loop] def loopInv1 (g0 : Buf (Elt F) (arg0.view.loc (c : Thread nD τ))) (g7 : Buf (Elt F) (arg7.view.loc (c : Thread nD τ)))
    (hr : ChkOK (arg0.view.read (Elt F) g0)) :
    LoopInvTy_k0_t1 (F := F) Unit ℕ (UU nD τ) ℕ 𝒱₀ c none Set.univ arg0 harg0 arg1 harg1 arg2 harg2 arg3 harg3 arg4 harg4 arg5 harg5 arg6 harg6 arg7 harg7 arg8 harg8 wM (Memref.isWhole_whole _) arg10 harg10 arg11 harg11 zM (Memref.isWhole_whole _) ringM (Memref.isWhole_whole _) cntM (Memref.isWhole_whole _) accM (Memref.isWhole_whole _) zbM (Memref.isWhole_whole _) cc0_scratch4 cc0_scratch5 where
  inv k _ := iprop((arg0.view.loc (c : Thread nD τ) ↦[arg0.view.set]{fullShare} g0) ∗ (arg7.view.loc (c : Thread nD τ) ↦[arg7.view.set]{fullShare} g7)
    ∗ ∃ f, cntP c f ∗ ⌜CntOK (F := F) (arg0.view.read (Elt F) g0) hr (arg7.view.read (Elt F) g7) k f⌝)
  step k acc := by
    iintro ⟨H0, H7, ⟨%f, HC, %hf⟩⟩
    sl_unfold [k0_t1_body]
    sl_exec
    have e0 : loopInv1.sl.r c arg0 g0 k = wd (arg0.view.read (Elt F) g0) (kb k).castSucc := by
      unfold loopInv1.sl.r
      rw [View.readAt_apply]
      congr 1
      funext a; apply Fin.ext
      match a with
      | ⟨0, _⟩ => exact congrFun (off1_eq k) 0
    have e1 : loopInv1.sl.r_1 c arg0 g0 k = wd (arg0.view.read (Elt F) g0) (kb k).succ := by
      unfold loopInv1.sl.r_1
      rw [View.readAt_apply]
      congr 1
      funext a; apply Fin.ext
      match a with
      | ⟨0, _⟩ => exact congrFun (off2_eq k) 0
    have hchk : k0_chk1 (loopInv1.sl.r c arg0 g0 k) (loopInv1.sl.r_1 c arg0 g0 k) := by rw [e0, e1]; exact hr _
    sl_exec
    sl_step
    isplitl [H0]; · iexact H0
    isplitl [H7]; · iexact H7
    iexists _
    isplitl [HC]; · iexact HC
    ipureintro
    exact cntOK_step _ hr _ k f hf _ (rowVal_of _ hr _ (kb k) _ _ e0 e1 hchk)
end

end Cert.KernelIdeal.Hand

end
-- ==== Proof.IVals.lean ====
module

public import proofs.«01_k».proof.Proof.ICounts
public import Idealize.ShloMosaic.Lib.Pointwise

/-!
  The values of one trip of the column loop, as functions of the arrays it reads; and what the body's loads read, in those terms.
-/

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

theorem shapeCasts_back : S12288x256.ShapeCasts S1x12288x256 := by decide

/-! ## The values of one trip -/

section Vals
variable (X : Vec F S16x12288 .fp8e4m3) (Wt : Vec F S12288x32000 .fp8e4m3) (WS : Vec F S250x128 .f32) (C : Vec F S4000x128 .f32)
  (v151 v229 v307 rep : FVec F S16x128 .f32) (v386 : Vec F S16x20 .i32)

abbrev kOf (b : Fin 125) : Fin k0_t4_loop.trips := ⟨b.val, Nat.lt_of_lt_of_eq b.isLt trips4.symm⟩
/-- Column block `b` of the weights. -/
def wCols (b : Fin 125) : Vec F S12288x256 .fp8e4m3 := fun j =>
  Wt (ix2 (n0 := 12288) (n1 := 32000) (j 0) ⟨256 * b.val + (j 1).val, by have h1 : (j 1).val < 256 := (j 1).isLt; have := b.isLt; omega⟩)
/-- The product of the activations with column block `b`. -/
def dotB (b : Fin 125) : FVec F S16x256 .f32 :=
  k0_pay3 (k0_pay2 (F := F)) X (shapeCast S1x12288x256 (wCols Wt b) shapeCasts_back)
/-- Columns `128 g …` of a block. -/
def half (g : Fin 2) (d : Vec F S16x256 .f32) : Vec F S16x128 .f32 := fun j =>
  d (ix2 (n0 := 16) (n1 := 256) (j 0) ⟨128 * g.val + (j 1).val, by have h1 : (j 1).val < 128 := (j 1).isLt; have := g.isLt; omega⟩)
/-- Row `2 b + g` of the column scales. -/
def wsRow (b : Fin 125) (g : Fin 2) : Vec F S1x128 .f32 := fun j =>
  WS (ix2 (n0 := 250) (n1 := 128) ⟨2 * b.val + g.val, by have := b.isLt; have := g.isLt; omega⟩ (j 1))
/-- Rows `16 (2 b + g) …` of the counts. -/
def cRows (b : Fin 125) (g : Fin 2) : Vec F S16x128 .f32 := fun j =>
  C (ix2 (n0 := 4000) (n1 := 128) ⟨16 * (2 * b.val + g.val) + (j 0).val, by have h0 : (j 0).val < 16 := (j 0).isLt; have := b.isLt; have := g.isLt; omega⟩ (j 1))
/-- The first 128 logits of block `b`. -/
def z0 (b : Fin 125) : FVec F S16x128 .f32 := k0_pay4 v151 v229 v307 rep (half 0 (dotB X Wt b)) (wsRow WS b 0) (cRows C b 0)
/-- The last 128 before the penalties. -/
def y1 (b : Fin 125) : FVec F S16x128 .f32 := k0_pay8 v151 (half 1 (dotB X Wt b)) (wsRow WS b 1)
/-- The word of group `g` of trip `b`. -/
def gw (b : Fin 125) (g : BitVec 32) : BitVec 32 := Scalar.addi (Scalar.muli (Scf.iv 0#32 1#32 b.val) 2#32) g
/-- The block of logits that trip `b` stages. -/
def zst (b : Fin 125) : Vec F S16x256 .f32 := fun j =>
  if h : (j 1).val < 128 then k0_pay5 (z0 X Wt WS C v151 v229 v307 rep b) (ix3 (n0 := 1) (n1 := 16) (n2 := 128) 0 (j 0) ⟨(j 1).val, h⟩)
  else k0_pay10 v229 v307 rep (y1 X Wt WS v151 b) (cRows C b 1) (ix3 (n0 := 1) (n1 := 16) (n2 := 128) 0 (j 0) ⟨(j 1).val - 128, by have h1 : (j 1).val < 256 := (j 1).isLt; omega⟩)
/-- The running maxima, sums and picked logits after trip `b`, from those before it. -/
def stepB (b : Fin 125) (a : FVec F S16x128 .f32 × FVec F S16x128 .f32 × FVec F S16x128 .f32) : FVec F S16x128 .f32 × FVec F S16x128 .f32 × FVec F S16x128 .f32 :=
  (k0_pay12 v229 v307 rep (k0_pay7 a.1 (z0 X Wt WS C v151 v229 v307 rep b)) (y1 X Wt WS v151 b) (cRows C b 1),
   k0_pay39 (k0_pay9 v229 v307 rep (y1 X Wt WS v151 b) (cRows C b 1))
     (k0_pay12 v229 v307 rep (k0_pay7 a.1 (z0 X Wt WS C v151 v229 v307 rep b)) (y1 X Wt WS v151 b) (cRows C b 1))
     (k0_pay13 v229 v307 rep a.1 a.2.1 (z0 X Wt WS C v151 v229 v307 rep b) (k0_pay7 a.1 (z0 X Wt WS C v151 v229 v307 rep b)) (y1 X Wt WS v151 b) (cRows C b 1)),
   k0_pay11 v229 v307 rep (k0_pay34 v386) (k0_pay35 v386)
     (k0_pay6 (k0_pay34 v386) (k0_pay35 v386) a.2.2 (gw b 0#32) (z0 X Wt WS C v151 v229 v307 rep b)) (gw b 1#32) (y1 X Wt WS v151 b) (cRows C b 1))
/-- Those before trip `k`. -/
def carry : ℕ → FVec F S16x128 .f32 × FVec F S16x128 .f32 × FVec F S16x128 .f32
  | 0 => (k0_pay36 (F := F), k0_pay37 (F := F), k0_pay38 (F := F))
  | k + 1 => if h : k < 125 then stepB X Wt WS C v151 v229 v307 rep v386 ⟨k, h⟩ (carry k) else carry k
/-- The logits: block `b` as trip `b` stages it. -/
def zAll : Vec F S16x32000 .f32 := fun j =>
  zst X Wt WS C v151 v229 v307 rep ⟨(j 1).val / 256, by have h1 : (j 1).val < 32000 := (j 1).isLt; omega⟩
    (ix2 (n0 := 16) (n1 := 256) (j 0) ⟨(j 1).val % 256, Nat.mod_lt _ (by decide)⟩)
end Vals

/-! ## What the loads read -/

section Reads
variable (c : Dev nD)

omit [FloatOps F] in
theorem read_wblk (XA : Buf (Elt F) (wM.view.loc (c : Thread nD τ))) (b : Fin 125) : (wblk b).view.read (Elt F) XA = wCols (F := F) (wM.view.read (Elt F) XA) b := by
  funext j
  show wM.view.read (Elt F) XA _ = wM.view.read (Elt F) XA _
  refine congrArg (wM.view.read (Elt F) XA) (funext fun a => Fin.ext ?_)
  match a with
  | ⟨0, _⟩ => show 0 + 1 * (j 0).val = (j 0).val; omega
  | ⟨1, _⟩ => show 256 * b.val + 1 * (j 1).val = 256 * b.val + (j 1).val; omega

omit [FloatOps F] in
theorem read_rslot (s : Fin 14) (G : Buf (Elt F) (ringM.view.loc (c : Thread nD τ))) :
    (rslot s).view.read (Elt F) G
      = shapeCast S12288x256 (View.readAt (Elt F) ringM.view (Rect.unit (s := S14x12288x256) (slotOff s) S1x12288x256.size (slotOff_inb s)).toLoadRect G) shapeCasts_S1x12288x256_S12288x256 :=
  Memref.read_squeeze_slice ringM (Rect.unit (s := S14x12288x256) (slotOff s) S1x12288x256.size (slotOff_inb s)) (fun _ => rfl) squeezes_S1x12288x256_S12288x256 shapeCasts_S1x12288x256_S12288x256 G

omit [FloatOps F] in
theorem read_landed {κ : Kind} {sp : Space} (v : View sig κ sp S12288x256 .fp8e4m3) (f : v.ty.Contents (Elt F)) (w : Vec F S12288x256 .fp8e4m3) :
    v.read (Elt F) (v.writes (Elt F) f [⟨Rect.whole S12288x256, w⟩]) = w := by
  funext y
  refine View.read_writes_cons_hit_of_coords v f (Rect.whole S12288x256) w [] y y ?_
  intro a
  show (y a).val = 0 + 1 * (y a).val
  omega

omit [FloatOps F] in
/-- The slot read through the ring, just after block `b` landed in it. -/
theorem read_slot (s : Fin 14) (off : Fin 3 → ℕ) (ho : off = slotOff s) (hi) (f : Buf (Elt F) (ringM.view.loc (c : Thread nD τ))) (w : Vec F S12288x256 .fp8e4m3) :
    View.readAt (Elt F) ringM.view (Rect.unit (s := S14x12288x256) off S1x12288x256.size hi).toLoadRect
      ((rslot s).view.writes (Elt F) f [⟨Rect.whole S12288x256, w⟩]) = shapeCast S1x12288x256 w shapeCasts_back := by
  subst ho
  have e := (read_rslot c s _).symm.trans (read_landed (rslot s).view f w)
  exact (shapeCast_shapeCast _ shapeCasts_S1x12288x256_S12288x256 shapeCasts_back).symm.trans (congrArg (fun x => shapeCast S1x12288x256 x shapeCasts_back) e)

omit [FloatOps F] in
theorem read_whole2 {m n : ℕ} {κ : Kind} {sp : Space} {e : EltTy} (v : View sig κ sp ⟨2, ![m, n]⟩ e) (off : Fin 2 → ℕ) (h0 : off 0 = 0) (h1 : off 1 = 0) (hi) (f : v.ty.Contents (Elt F)) :
    View.readAt (Elt F) v (Rect.unit (s := ⟨2, ![m, n]⟩) off ![m, n] hi).toLoadRect f = v.read (Elt F) f := by
  funext j
  rw [View.readAt_apply]
  refine congrArg (v.read (Elt F) f) (funext fun a => Fin.ext ?_)
  match a with
  | ⟨0, _⟩ => show off 0 + 1 * (j 0).val = (j 0).val; omega
  | ⟨1, _⟩ => show off 1 + 1 * (j 1).val = (j 1).val; omega

theorem off18_eq : ∀ k : Fin k0_t4_loop.trips, ∀ r : Fin 2, k0_off18 k (BitVec.ofNat 32 r.val) = ![2 * k.val + r.val, 0] := by decide +kernel
theorem off19_eq : ∀ k : Fin k0_t4_loop.trips, ∀ r : Fin 2, k0_off19 k (BitVec.ofNat 32 r.val) = ![16 * (2 * k.val + r.val), 0] := by decide +kernel
theorem off9_eq : k0_off9 = ![0, 0] := by decide +kernel

omit [FloatOps F] in
theorem read_ws {κ : Kind} {sp : Space} (v : View sig κ sp S250x128 .f32) (k : Fin k0_t4_loop.trips) (r : Fin 2) (hi) (f : v.ty.Contents (Elt F)) :
    View.readAt (Elt F) v (Rect.unit (s := S250x128) (k0_off18 k (BitVec.ofNat 32 r.val)) S1x128.size hi).toLoadRect f = wsRow (F := F) (v.read (Elt F) f) (Ring.bk 125 k.val) r := by
  have hk : k.val < 125 := Nat.lt_of_lt_of_eq k.isLt trips4
  funext j
  rw [View.readAt_apply]
  refine congrArg (v.read (Elt F) f) (funext fun a => Fin.ext ?_)
  have e := congrFun (off18_eq k r) a
  match a with
  | ⟨0, _⟩ =>
    have e : k0_off18 k (BitVec.ofNat 32 r.val) 0 = 2 * k.val + r.val := e
    have hj : (j 0).val < 1 := (j 0).isLt
    show k0_off18 k (BitVec.ofNat 32 r.val) 0 + 1 * (j 0).val = 2 * (Ring.bk 125 k.val).val + r.val
    rw [e, Ring.bk_val hk]; omega
  | ⟨1, _⟩ =>
    have e : k0_off18 k (BitVec.ofNat 32 r.val) 1 = 0 := e
    show k0_off18 k (BitVec.ofNat 32 r.val) 1 + 1 * (j 1).val = (j 1).val
    rw [e]; omega

omit [FloatOps F] in
theorem read_c {κ : Kind} {sp : Space} (v : View sig κ sp S4000x128 .f32) (k : Fin k0_t4_loop.trips) (r : Fin 2) (hi) (f : v.ty.Contents (Elt F)) :
    View.readAt (Elt F) v (Rect.unit (s := S4000x128) (k0_off19 k (BitVec.ofNat 32 r.val)) S16x128.size hi).toLoadRect f = cRows (F := F) (v.read (Elt F) f) (Ring.bk 125 k.val) r := by
  have hk : k.val < 125 := Nat.lt_of_lt_of_eq k.isLt trips4
  funext j
  rw [View.readAt_apply]
  refine congrArg (v.read (Elt F) f) (funext fun a => Fin.ext ?_)
  have e := congrFun (off19_eq k r) a
  match a with
  | ⟨0, _⟩ =>
    have e : k0_off19 k (BitVec.ofNat 32 r.val) 0 = 16 * (2 * k.val + r.val) := e
    show k0_off19 k (BitVec.ofNat 32 r.val) 0 + 1 * (j 0).val = 16 * (2 * (Ring.bk 125 k.val).val + r.val) + (j 0).val
    rw [e, Ring.bk_val hk]; omega
  | ⟨1, _⟩ =>
    have e : k0_off19 k (BitVec.ofNat 32 r.val) 1 = 0 := e
    show k0_off19 k (BitVec.ofNat 32 r.val) 1 + 1 * (j 1).val = (j 1).val
    rw [e]; omega

/-- The accumulator read whole after it was written whole. -/
theorem readCov_all {κ : Kind} {sp : Space} (v : View sig κ sp S16x256 .f32) (d : Vec F S16x256 .f32) (L : List (View.Piece (Elt F) S16x256 .f32)) (hi hi') :
    View.readCov v (⟨Rect.unit (s := S16x256) ![0, 0] S16x256.size hi, d⟩ :: L) (Rect.unit (s := S16x256) ![0, 0] S16x256.size hi').toLoadRect = d :=
  View.readCov_cons_toLoadRect v (Rect.unit (s := S16x256) ![0, 0] S16x256.size hi) d L

/-- Half of the accumulator, read back after its whole was stored. -/
theorem readCov_half {κ : Kind} {sp : Space} (v : View sig κ sp S16x256 .f32) (g : Fin 2) (d : Vec F S16x256 .f32) (L : List (View.Piece (Elt F) S16x256 .f32)) (hi) (off : Fin 2 → ℕ) (ho : off = ![0, 128 * g.val]) (hi') :
    View.readCov v (⟨Rect.unit (s := S16x256) ![0, 0] S16x256.size hi, d⟩ :: L) (Rect.unit (s := S16x256) off S16x128.size hi').toLoadRect = half (F := F) g d := by
  subst ho
  rw [View.readCov_eq_canon']
  funext j
  have ex : (Rect.unit (s := S16x256) ![0, 0] S16x256.size hi).emb (ix2 (n0 := 16) (n1 := 256) (j 0) ⟨128 * g.val + (j 1).val, by have h1 : (j 1).val < 128 := (j 1).isLt; have := g.isLt; omega⟩)
      = (Rect.unit (s := S16x256) ![0, 128 * g.val] S16x128.size hi').toLoadRect.idx j := by
    refine funext fun a => Fin.ext ?_
    match a with
    | ⟨0, _⟩ => show 0 + 1 * (j 0).val = 0 + 1 * (j 0).val; rfl
    | ⟨1, _⟩ => show 0 + 1 * (128 * g.val + (j 1).val) = 128 * g.val + 1 * (j 1).val; omega
  rw [← ex]
  exact View.canon_cons_emb (Rect.unit (s := S16x256) ![0, 0] S16x256.size hi) d L _

omit [FloatOps F] in
theorem shapeCast_zs (v : Vec F S1x16x256 .f32) (j : S16x256.Idx) (h) : shapeCast S16x256 v h j = v (ix3 (n0 := 1) (n1 := 16) (n2 := 256) 0 (j 0) (j 1)) := by
  pointwise

/-- The staging slot read after its two halves were stored. -/
theorem read_zslot (k : Fin k0_t4_loop.trips) (f : Buf (Elt F) (zbM.view.loc (c : Thread nD τ))) (p0 p1 : Vec F S1x16x128 .f32) (hi0) (hi1) :
    (zslot (Ring.sl 2 k.val)).view.read (Elt F) (zbM.view.writes (Elt F) f
      [⟨Rect.unit (s := S2x16x256) (k0_off20 k 1#32) S1x16x128.size hi1, p1⟩, ⟨Rect.unit (s := S2x16x256) (k0_off20 k 0#32) S1x16x128.size hi0, p0⟩])
    = fun j => if h : (j 1).val < 128 then p0 (ix3 (n0 := 1) (n1 := 16) (n2 := 128) 0 (j 0) ⟨(j 1).val, h⟩)
      else p1 (ix3 (n0 := 1) (n1 := 16) (n2 := 128) 0 (j 0) ⟨(j 1).val - 128, by have h1 : (j 1).val < 256 := (j 1).isLt; omega⟩) := by
  funext j
  refine (congrFun (Memref.read_squeeze_slice zbM (Rect.unit (s := S2x16x256) (zslotOff (Ring.sl 2 k.val)) S1x16x256.size (zslotOff_inb _)) (fun _ => rfl) squeezes_S1x16x256_S16x256 (show S1x16x256.ShapeCasts S16x256 by decide) _) j).trans ?_
  rw [shapeCast_zs]
  rw [View.readAt_apply]
  have e0 : k0_off20 k 0#32 = ![(Ring.sl 2 k.val).val, 0, 0] := off20_eq k 0
  have e1 : k0_off20 k 1#32 = ![(Ring.sl 2 k.val).val, 0, 128] := off20_eq k 1
  have e00 : k0_off20 k 0#32 0 = (Ring.sl 2 k.val).val := congrFun e0 0
  have e01 : k0_off20 k 0#32 1 = 0 := congrFun e0 1
  have e02 : k0_off20 k 0#32 2 = 0 := congrFun e0 2
  have e10 : k0_off20 k 1#32 0 = (Ring.sl 2 k.val).val := congrFun e1 0
  have e11 : k0_off20 k 1#32 1 = 0 := congrFun e1 1
  have e12 : k0_off20 k 1#32 2 = 128 := congrFun e1 2
  by_cases h : (j 1).val < 128
  · rw [dif_pos h]
    refine (View.read_writes_cons_miss zbM.view f ⟨Rect.unit (s := S2x16x256) (k0_off20 k 1#32) S1x16x128.size hi1, p1⟩ _ _ ?_).trans
      (View.read_writes_cons_hit_of_coords zbM.view f (Rect.unit (s := S2x16x256) (k0_off20 k 0#32) S1x16x128.size hi0) p0 [] (ix3 (n0 := 1) (n1 := 16) (n2 := 128) 0 (j 0) ⟨(j 1).val, h⟩) _ ?_)
    · refine Rect.not_mem_set_of_axis _ _ 2 128 128 e12 rfl rfl (Or.inl ?_)
      show 0 + 1 * (j 1).val < 128
      omega
    · intro a
      match a with
      | ⟨0, _⟩ => show (Ring.sl 2 k.val).val + 1 * 0 = k0_off20 k 0#32 0 + 1 * 0; rw [e00]
      | ⟨1, _⟩ => show 0 + 1 * (j 0).val = k0_off20 k 0#32 1 + 1 * (j 0).val; rw [e01]
      | ⟨2, _⟩ => show 0 + 1 * (j 1).val = k0_off20 k 0#32 2 + 1 * (j 1).val; rw [e02]
  · rw [dif_neg h]
    refine View.read_writes_cons_hit_of_coords zbM.view f (Rect.unit (s := S2x16x256) (k0_off20 k 1#32) S1x16x128.size hi1) p1 _
      (ix3 (n0 := 1) (n1 := 16) (n2 := 128) 0 (j 0) ⟨(j 1).val - 128, by have h1 : (j 1).val < 256 := (j 1).isLt; omega⟩) _ ?_
    intro a
    match a with
    | ⟨0, _⟩ => show (Ring.sl 2 k.val).val + 1 * 0 = k0_off20 k 1#32 0 + 1 * 0; rw [e10]
    | ⟨1, _⟩ => show 0 + 1 * (j 0).val = k0_off20 k 1#32 1 + 1 * (j 0).val; rw [e11]
    | ⟨2, _⟩ => show 0 + 1 * (j 1).val = k0_off20 k 1#32 2 + 1 * ((j 1).val - 128); rw [e12]; omega
end Reads

end Cert.KernelIdeal.Hand

end
-- ==== Proof.ITrip.lean ====
module

public import proofs.«01_k».proof.Proof.IVals

/-!
  One trip of the column loop: a block of weights waited for, multiplied, penalised, staged and copied out.
-/

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## The pieces: blocks at home, slots, cells, copies in flight -/

section Pieces
variable (c : Dev nD) (XA : Buf (Elt F) (wM.view.loc (c : Thread nD τ)))

abbrev cellP (s : Fin 14) : sProp 𝕄 := semVal ((c : Thread nD τ), SemLoc.dma (csm s).sem) 0
abbrev slotP (s : Fin 14) (f : Buf (Elt F) ((rslot s).view.loc (c : Thread nD τ))) : sProp 𝕄 :=
  (rslot s).view.loc (c : Thread nD τ) ↦[(rslot s).view.set]{fullShare} f
/-- Weight block `b` at home. -/
abbrev homeP (b : Fin 125) : sProp 𝕄 := (wblk b).view.loc (c : Thread nD τ) ↦[(wblk b).view.set]{fullShare} XA
abbrev payload (b : Fin 125) : S12288x256.Idx → Elt F .fp8e4m3 := ReadAs.same.apply ((wblk b).view.read (Elt F) XA)
/-- What weight block `b`'s copy leaves in slot `s`. -/
abbrev landed (s : Fin 14) (b : Fin 125) (f : Buf (Elt F) ((rslot s).view.loc (c : Thread nD τ))) : Buf (Elt F) ((rslot s).view.loc (c : Thread nD τ)) :=
  (rslot s).view.writes (Elt F) f [⟨Rect.whole S12288x256, payload c XA b⟩]
abbrev NN : ℕ := 98304
/-- Weight block `b` on its way into slot `s`. -/
abbrev flightP (s : Fin 14) (b : Fin 125) (f : Buf (Elt F) ((rslot s).view.loc (c : Thread nD τ))) : sProp 𝕄 :=
  Transfers.Flight countersEmb (c : Thread nD τ) (SemLoc.dma (csm s).sem) () NN iprop(slotP c s (landed c XA s b f) ∗ homeP c XA b)

abbrev zcellP (s : Fin 2) : sProp 𝕄 := semVal ((c : Thread nD τ), SemLoc.dma (zsm s).sem) 0
abbrev zslotP (s : Fin 2) (f : Buf (Elt F) ((zslot s).view.loc (c : Thread nD τ))) : sProp 𝕄 :=
  (zslot s).view.loc (c : Thread nD τ) ↦[(zslot s).view.set]{fullShare} f
/-- Block `b` of the logits held. -/
abbrev zblkP (b : Fin 125) (f : Buf (Elt F) ((zblk b).view.loc (c : Thread nD τ))) : sProp 𝕄 :=
  (zblk b).view.loc (c : Thread nD τ) ↦[(zblk b).view.set]{fullShare} f
abbrev NZ : ℕ := 512
/-- Logit block `b` on its way out of slot `s`. -/
abbrev zflightP (s : Fin 2) (b : Fin 125) (fs : Buf (Elt F) ((zslot s).view.loc (c : Thread nD τ))) (f0 : Buf (Elt F) ((zblk b).view.loc (c : Thread nD τ))) : sProp 𝕄 :=
  Transfers.Flight countersEmb (c : Thread nD τ) (SemLoc.dma (zsm s).sem) () NZ
    iprop(zblkP c b ((zblk b).view.writes (Elt F) f0 [⟨Rect.whole S16x256, ReadAs.same.apply ((zslot s).view.read (Elt F) fs)⟩]) ∗ zslotP c s fs)

theorem flightP_after (s : Fin 14) (b b' : Fin 125) :
    flightP c XA s b' ((rslot s).view.writes (Elt F) (rslot s).view.junk [⟨Rect.whole S12288x256, payload c XA b⟩])
      = Transfers.Flight countersEmb (c : Thread nD τ) (SemLoc.dma (csm s).sem) () 98304
          iprop(((rslot s).view.loc (c : Thread nD τ) ↦[(rslot s).view.set]{fullShare}
                  (rslot s).view.writes (Elt F) (rslot s).view.junk [⟨Rect.whole S12288x256, payload c XA b'⟩, ⟨Rect.whole S12288x256, payload c XA b⟩])
                ∗ homeP c XA b') := by
  simp only [flightP, landed, slotP, NN, View.writes]

end Pieces

section Trip
variable (c : Dev nD) (XA : Buf (Elt F) (wM.view.loc (c : Thread nD τ)))
  (arg0 : Memref sig .tc .smem S17 .i32) (harg0 : arg0.IsWhole)
  (arg1 : Memref sig .tc .smem S16 .f32) (harg1 : arg1.IsWhole)
  (arg2 : Memref sig .tc .smem S16 .f32) (harg2 : arg2.IsWhole)
  (arg3 : Memref sig .tc .smem S16 .f32) (harg3 : arg3.IsWhole)
  (arg4 : Memref sig .tc .smem S16 .f32) (harg4 : arg4.IsWhole)
  (arg5 : Memref sig .tc .vmem S16x12288 .fp8e4m3) (harg5 : arg5.IsWhole)
  (arg6 : Memref sig .tc .vmem S250x128 .f32) (harg6 : arg6.IsWhole)
  (arg7 : Memref sig .tc .vmem S128x128 .i32) (harg7 : arg7.IsWhole)
  (arg8 : Memref sig .tc .vmem S16x20 .i32) (harg8 : arg8.IsWhole)
  (arg10 : Memref sig .tc .vmem S1x16 .f32) (harg10 : arg10.IsWhole)
  (arg11 : Memref sig .tc .vmem S16x20 .f32) (harg11 : arg11.IsWhole)
  (v151 : FVec F S16x128 .f32) (v229 : FVec F S16x128 .f32) (v307 : FVec F S16x128 .f32) (v308 : IVec S16x128 32) (v375 : FVec F S16x128 .f32) (c14_i32_162 : BitVec 32) (v378 : Elt F .f32) (v383 : Elt F .f32) (v386 : Vec F S16x20 .i32)

abbrev tripG (k : Fin k0_t4_loop.trips) (a : FVec F S16x128 .f32 × FVec F S16x128 .f32 × FVec F S16x128 .f32) :
    Prog (TpuEff nD τ sig (Elt F) Λ₀ .tc) (FVec F S16x128 .f32 × FVec F S16x128 .f32 × FVec F S16x128 .f32) :=
  k0_t4_body (F := F) arg0 harg0 arg1 harg1 arg2 harg2 arg3 harg3 arg4 harg4 arg5 harg5 arg6 harg6 arg7 harg7 arg8 harg8 wM (Memref.isWhole_whole _) arg10 harg10 arg11 harg11 zM (Memref.isWhole_whole _) ringM (Memref.isWhole_whole _) cntM (Memref.isWhole_whole _) accM (Memref.isWhole_whole _) zbM (Memref.isWhole_whole _) cc0_scratch4 cc0_scratch5 v151 v229 v307 v308 v375 c14_i32_162 v378 v383 v386 k a

abbrev accP (f : Buf (Elt F) (accM.view.loc (c : Thread nD τ))) : sProp 𝕄 := accM.view.loc (c : Thread nD τ) ↦[accM.view.set]{fullShare} f
abbrev xP (f : Buf (Elt F) (arg5.view.loc (c : Thread nD τ))) : sProp 𝕄 := arg5.view.loc (c : Thread nD τ) ↦[arg5.view.set]{fullShare} f
abbrev wsP (f : Buf (Elt F) (arg6.view.loc (c : Thread nD τ))) : sProp 𝕄 := arg6.view.loc (c : Thread nD τ) ↦[arg6.view.set]{fullShare} f

/-- The staged block on its way out: slot `k % 2` holds trip `k`'s logits. -/
abbrev zoutP (X : Vec F S16x12288 .fp8e4m3) (Wt : Vec F S12288x32000 .fp8e4m3) (WS : Vec F S250x128 .f32) (C : Vec F S4000x128 .f32)
    (v151 v229 v307 rep : FVec F S16x128 .f32) (k : Fin k0_t4_loop.trips) (fz : Buf (Elt F) ((zblk (Ring.bk 125 k.val)).view.loc (c : Thread nD τ))) : sProp 𝕄 :=
  iprop(∃ fs, ⌜(zslot (Ring.sl 2 k.val)).view.read (Elt F) fs = zst (F := F) X Wt WS C v151 v229 v307 rep (Ring.bk 125 k.val)⌝ ∗ zflightP c (Ring.sl 2 k.val) (Ring.bk 125 k.val) fs fz)

set_option maxHeartbeats 1600000 in
theorem tripMid (k : Fin k0_t4_loop.trips) (h1 : k0_cond1 k = 1#1) (h2 : k0_cond2 k = 1#1) (a : FVec F S16x128 .f32 × FVec F S16x128 .f32 × FVec F S16x128 .f32)
   fa g5 g6 fC W f fs f0 fz :
   iprop(accP c fa ∗ xP c arg5 g5 ∗ wsP c arg6 g6 ∗ cntP c fC ∗ owes (c : Thread nD τ) 0 W
     ∗ flightP c XA (Ring.sl 14 k.val) (Ring.bk 125 k.val) f ∗ homeP c XA (Ring.bk 125 (k.val + 14)) ∗ zflightP c (Ring.sl 2 k.val) (Ring.bk 125 (k.val - 2)) fs f0 ∗ zblkP c (Ring.bk 125 k.val) fz)
   ⊢ wp frame (wpE (defs₀ (F := F)) 𝒱₀ (c : Thread nD τ) none) Set.univ (tripG arg0 harg0 arg1 harg1 arg2 harg2 arg3 harg3 arg4 harg4 arg5 harg5 arg6 harg6 arg7 harg7 arg8 harg8 arg10 harg10 arg11 harg11 v151 v229 v307 v308 v375 c14_i32_162 v378 v383 v386 k a)
        (fun r => iprop(⌜r = stepB (F := F) (arg5.view.read (Elt F) g5) (wM.view.read (Elt F) XA) (arg6.view.read (Elt F) g6) (cntM.view.read (Elt F) fC) v151 v229 v307 (k0_pay32 v308 v375 c14_i32_162 v378 v383) v386 (Ring.bk 125 k.val) a⌝ ∗ (∃ fa, accP c fa) ∗ xP c arg5 g5 ∗ wsP c arg6 g6 ∗ cntP c fC ∗ (∃ W, owes (c : Thread nD τ) 0 W)
     ∗ homeP c XA (Ring.bk 125 k.val) ∗ zoutP c (arg5.view.read (Elt F) g5) (wM.view.read (Elt F) XA) (arg6.view.read (Elt F) g6) (cntM.view.read (Elt F) fC) v151 v229 v307 (k0_pay32 v308 v375 c14_i32_162 v378 v383) k fz ∗ (∃ f, flightP c XA (Ring.sl 14 k.val) (Ring.bk 125 (k.val + 14)) f) ∗ zblkP c (Ring.bk 125 (k.val - 2)) ((zblk (Ring.bk 125 (k.val - 2))).view.writes (Elt F) f0 [⟨Rect.whole S16x256, ReadAs.same.apply ((zslot (Ring.sl 2 k.val)).view.read (Elt F) fs)⟩]))) := by
  iintro ⟨HA, H5, H6, HC, HW, HF, HH, HZ, HB⟩
  dsimp only [tripG]
  sl_unfold [k0_t4_body]
  sl_exec

  have hv499 : tripMid.sl.v499 c XA k = shapeCast S1x12288x256 (wCols (F := F) (wM.view.read (Elt F) XA) (Ring.bk 125 k.val)) shapeCasts_back := by
    unfold tripMid.sl.v499
    rw [← read_wblk c XA (Ring.bk 125 k.val)]
    exact read_slot c (Ring.sl 14 k.val) _ (off10_eq k) _ _ _
  have hv483 : tripMid.sl.v483 (F := F) = k0_pay2 (F := F) := by
    unfold tripMid.sl.v483 tripMid.sl.HA_1
    exact readCov_all accM.view _ _ _ _
  have hx (hi) : View.readAt (Elt F) arg5.view (Rect.unit (s := S16x12288) k0_off9 S16x12288.size hi).toLoadRect g5 = arg5.view.read (Elt F) g5 := read_whole2 arg5.view k0_off9 (congrFun off9_eq 0) (congrFun off9_eq 1) hi g5
  have hHA : tripMid.sl.HA_2 c XA arg5 k g5 = ⟨Rect.unit (s := S16x256) ![0, 0] S16x256.size inb_S16x256_S16x256_0_0, dotB (F := F) (arg5.view.read (Elt F) g5) (wM.view.read (Elt F) XA) (Ring.bk 125 k.val)⟩ :: tripMid.sl.HA_1 (F := F) := by
    unfold tripMid.sl.HA_2 dotB
    rw [hv499, hv483, hx]
  have hv520 : tripMid.sl.v520 c XA arg5 k g5 = half (F := F) 0 (dotB (F := F) (arg5.view.read (Elt F) g5) (wM.view.read (Elt F) XA) (Ring.bk 125 k.val)) := by
    unfold tripMid.sl.v520
    rw [hHA]
    exact readCov_half accM.view 0 _ _ _ _ rfl _
  have hv578 : tripMid.sl.v578 c XA arg5 k g5 = half (F := F) 1 (dotB (F := F) (arg5.view.read (Elt F) g5) (wM.view.read (Elt F) XA) (Ring.bk 125 k.val)) := by
    unfold tripMid.sl.v578
    rw [hHA]
    exact readCov_half accM.view 1 _ _ _ _ rfl _
  have hw0 (hi) : View.readAt (Elt F) arg6.view (Rect.unit (s := S250x128) (k0_off18 k 0#32) S1x128.size hi).toLoadRect g6 = wsRow (F := F) (arg6.view.read (Elt F) g6) (Ring.bk 125 k.val) 0 := read_ws arg6.view k 0 hi g6
  have hw1 (hi) : View.readAt (Elt F) arg6.view (Rect.unit (s := S250x128) (k0_off18 k 1#32) S1x128.size hi).toLoadRect g6 = wsRow (F := F) (arg6.view.read (Elt F) g6) (Ring.bk 125 k.val) 1 := read_ws arg6.view k 1 hi g6
  have hc0 (hi) : View.readAt (Elt F) cntM.view (Rect.unit (s := S4000x128) (k0_off19 k 0#32) S16x128.size hi).toLoadRect fC = cRows (F := F) (cntM.view.read (Elt F) fC) (Ring.bk 125 k.val) 0 := read_c cntM.view k 0 hi fC
  have hc1 (hi) : View.readAt (Elt F) cntM.view (Rect.unit (s := S4000x128) (k0_off19 k 1#32) S16x128.size hi).toLoadRect fC = cRows (F := F) (cntM.view.read (Elt F) fC) (Ring.bk 125 k.val) 1 := read_c cntM.view k 1 hi fC
  have hr : tripMid.sl.r c XA arg5 arg6 v151 v229 v307 v308 v375 c14_i32_162 v378 v383 k g5 g6 fC = z0 (F := F) (arg5.view.read (Elt F) g5) (wM.view.read (Elt F) XA) (arg6.view.read (Elt F) g6) (cntM.view.read (Elt F) fC) v151 v229 v307 (k0_pay32 v308 v375 c14_i32_162 v378 v383) (Ring.bk 125 k.val) := by
    unfold tripMid.sl.r z0
    rw [hv520, hw0, hc0]
  have hr3 : tripMid.sl.r_3 c XA arg5 arg6 v151 k g5 g6 = y1 (F := F) (arg5.view.read (Elt F) g5) (wM.view.read (Elt F) XA) (arg6.view.read (Elt F) g6) v151 (Ring.bk 125 k.val) := by
    unfold tripMid.sl.r_3 y1
    rw [hv578, hw1]
  have hg0 : tripMid.sl.v516 k = gw (Ring.bk 125 k.val) 0#32 := by
    unfold tripMid.sl.v516 tripMid.sl.v515 tripMid.sl.arg19 gw
    rw [Ring.bk_val (Nat.lt_of_lt_of_eq k.isLt trips4)]
  have hg1 : tripMid.sl.v574 k = gw (Ring.bk 125 k.val) 1#32 := by
    unfold tripMid.sl.v574 tripMid.sl.v515 tripMid.sl.arg19 gw
    rw [Ring.bk_val (Nat.lt_of_lt_of_eq k.isLt trips4)]
  have hret : (tripMid.sl.r_6 c XA arg5 arg6 v151 v229 v307 v308 v375 c14_i32_162 v378 v383 k a g5 g6 fC,
          k0_pay39 (tripMid.sl.r_4 c XA arg5 arg6 v151 v229 v307 v308 v375 c14_i32_162 v378 v383 k g5 g6 fC)
            (tripMid.sl.r_6 c XA arg5 arg6 v151 v229 v307 v308 v375 c14_i32_162 v378 v383 k a g5 g6 fC)
            (tripMid.sl.r_7 c XA arg5 arg6 v151 v229 v307 v308 v375 c14_i32_162 v378 v383 k a g5 g6 fC),
          tripMid.sl.r_5 c XA arg5 arg6 v151 v229 v307 v308 v375 c14_i32_162 v378 v383 v386 k a g5 g6 fC) = stepB (F := F) (arg5.view.read (Elt F) g5) (wM.view.read (Elt F) XA) (arg6.view.read (Elt F) g6) (cntM.view.read (Elt F) fC) v151 v229 v307 (k0_pay32 v308 v375 c14_i32_162 v378 v383) v386 (Ring.bk 125 k.val) a := by
    unfold tripMid.sl.r_6 tripMid.sl.r_4 tripMid.sl.r_7 tripMid.sl.r_5 tripMid.sl.r_2 tripMid.sl.r_1 stepB
    rw [hr, hr3, hc1, hg0, hg1]

  have hzs : (zslot (Ring.sl 2 k.val)).view.read (Elt F) (tripMid.sl.HZ_src_w2 c XA arg5 arg6 v151 v229 v307 v308 v375 c14_i32_162 v378 v383 k g5 g6 fC fs) = zst (F := F) (arg5.view.read (Elt F) g5) (wM.view.read (Elt F) XA) (arg6.view.read (Elt F) g6) (cntM.view.read (Elt F) fC) v151 v229 v307 (k0_pay32 v308 v375 c14_i32_162 v378 v383) (Ring.bk 125 k.val) := by
    unfold tripMid.sl.HZ_src_w2 tripMid.sl.HZ_src_w1
    rw [hr, hr3, hc1]
    exact read_zslot c k fs _ _ (k0_off20_inb k 0) (k0_off20_inb k 1)

  rw [hret]
  sl_step
  isplitr; · ipureintro; rfl
  isplitl [HA]; · iexists _; iexact HA
  isplitl [H5]; · iexact H5
  isplitl [H6]; · iexact H6
  isplitl [HC]; · iexact HC
  isplitl [HW]; · iexists _; iexact HW
  isplitl [HF_src]; · iexact HF_src
  isplitl [HZ]
  · iexists _
    isplitr; · ipureintro; exact hzs
    iexact HZ
  isplitl [HF]
  · iexists ((rslot (Ring.sl 14 k.val)).view.writes (Elt F) (rslot (Ring.sl 14 k.val)).view.junk [⟨Rect.whole S12288x256, payload c XA (Ring.bk 125 k.val)⟩])
    irw [flightP_after]
    iexact HF
  iexact HZ_dst

set_option maxHeartbeats 1600000 in
theorem tripLo (k : Fin k0_t4_loop.trips) (h1 : k0_cond1 k = 1#1) (h2 : ¬ k0_cond2 k = 1#1) (a : FVec F S16x128 .f32 × FVec F S16x128 .f32 × FVec F S16x128 .f32)
   fa g5 g6 fC W f fs  fz :
   iprop(accP c fa ∗ xP c arg5 g5 ∗ wsP c arg6 g6 ∗ cntP c fC ∗ owes (c : Thread nD τ) 0 W
     ∗ flightP c XA (Ring.sl 14 k.val) (Ring.bk 125 k.val) f ∗ homeP c XA (Ring.bk 125 (k.val + 14)) ∗ zslotP c (Ring.sl 2 k.val) fs ∗ zcellP c (Ring.sl 2 k.val) ∗ zblkP c (Ring.bk 125 k.val) fz)
   ⊢ wp frame (wpE (defs₀ (F := F)) 𝒱₀ (c : Thread nD τ) none) Set.univ (tripG arg0 harg0 arg1 harg1 arg2 harg2 arg3 harg3 arg4 harg4 arg5 harg5 arg6 harg6 arg7 harg7 arg8 harg8 arg10 harg10 arg11 harg11 v151 v229 v307 v308 v375 c14_i32_162 v378 v383 v386 k a)
        (fun r => iprop(⌜r = stepB (F := F) (arg5.view.read (Elt F) g5) (wM.view.read (Elt F) XA) (arg6.view.read (Elt F) g6) (cntM.view.read (Elt F) fC) v151 v229 v307 (k0_pay32 v308 v375 c14_i32_162 v378 v383) v386 (Ring.bk 125 k.val) a⌝ ∗ (∃ fa, accP c fa) ∗ xP c arg5 g5 ∗ wsP c arg6 g6 ∗ cntP c fC ∗ (∃ W, owes (c : Thread nD τ) 0 W)
     ∗ homeP c XA (Ring.bk 125 k.val) ∗ zoutP c (arg5.view.read (Elt F) g5) (wM.view.read (Elt F) XA) (arg6.view.read (Elt F) g6) (cntM.view.read (Elt F) fC) v151 v229 v307 (k0_pay32 v308 v375 c14_i32_162 v378 v383) k fz ∗ (∃ f, flightP c XA (Ring.sl 14 k.val) (Ring.bk 125 (k.val + 14)) f))) := by
  iintro ⟨HA, H5, H6, HC, HW, HF, HH, HZS, HZ, HB⟩
  dsimp only [tripG]
  sl_unfold [k0_t4_body]
  sl_exec

  have hv499 : tripLo.sl.v499 c XA k = shapeCast S1x12288x256 (wCols (F := F) (wM.view.read (Elt F) XA) (Ring.bk 125 k.val)) shapeCasts_back := by
    unfold tripLo.sl.v499
    rw [← read_wblk c XA (Ring.bk 125 k.val)]
    exact read_slot c (Ring.sl 14 k.val) _ (off10_eq k) _ _ _
  have hv483 : tripLo.sl.v483 (F := F) = k0_pay2 (F := F) := by
    unfold tripLo.sl.v483 tripLo.sl.HA_1
    exact readCov_all accM.view _ _ _ _
  have hx (hi) : View.readAt (Elt F) arg5.view (Rect.unit (s := S16x12288) k0_off9 S16x12288.size hi).toLoadRect g5 = arg5.view.read (Elt F) g5 := read_whole2 arg5.view k0_off9 (congrFun off9_eq 0) (congrFun off9_eq 1) hi g5
  have hHA : tripLo.sl.HA_2 c XA arg5 k g5 = ⟨Rect.unit (s := S16x256) ![0, 0] S16x256.size inb_S16x256_S16x256_0_0, dotB (F := F) (arg5.view.read (Elt F) g5) (wM.view.read (Elt F) XA) (Ring.bk 125 k.val)⟩ :: tripLo.sl.HA_1 (F := F) := by
    unfold tripLo.sl.HA_2 dotB
    rw [hv499, hv483, hx]
  have hv520 : tripLo.sl.v520 c XA arg5 k g5 = half (F := F) 0 (dotB (F := F) (arg5.view.read (Elt F) g5) (wM.view.read (Elt F) XA) (Ring.bk 125 k.val)) := by
    unfold tripLo.sl.v520
    rw [hHA]
    exact readCov_half accM.view 0 _ _ _ _ rfl _
  have hv578 : tripLo.sl.v578 c XA arg5 k g5 = half (F := F) 1 (dotB (F := F) (arg5.view.read (Elt F) g5) (wM.view.read (Elt F) XA) (Ring.bk 125 k.val)) := by
    unfold tripLo.sl.v578
    rw [hHA]
    exact readCov_half accM.view 1 _ _ _ _ rfl _
  have hw0 (hi) : View.readAt (Elt F) arg6.view (Rect.unit (s := S250x128) (k0_off18 k 0#32) S1x128.size hi).toLoadRect g6 = wsRow (F := F) (arg6.view.read (Elt F) g6) (Ring.bk 125 k.val) 0 := read_ws arg6.view k 0 hi g6
  have hw1 (hi) : View.readAt (Elt F) arg6.view (Rect.unit (s := S250x128) (k0_off18 k 1#32) S1x128.size hi).toLoadRect g6 = wsRow (F := F) (arg6.view.read (Elt F) g6) (Ring.bk 125 k.val) 1 := read_ws arg6.view k 1 hi g6
  have hc0 (hi) : View.readAt (Elt F) cntM.view (Rect.unit (s := S4000x128) (k0_off19 k 0#32) S16x128.size hi).toLoadRect fC = cRows (F := F) (cntM.view.read (Elt F) fC) (Ring.bk 125 k.val) 0 := read_c cntM.view k 0 hi fC
  have hc1 (hi) : View.readAt (Elt F) cntM.view (Rect.unit (s := S4000x128) (k0_off19 k 1#32) S16x128.size hi).toLoadRect fC = cRows (F := F) (cntM.view.read (Elt F) fC) (Ring.bk 125 k.val) 1 := read_c cntM.view k 1 hi fC
  have hr : tripLo.sl.r c XA arg5 arg6 v151 v229 v307 v308 v375 c14_i32_162 v378 v383 k g5 g6 fC = z0 (F := F) (arg5.view.read (Elt F) g5) (wM.view.read (Elt F) XA) (arg6.view.read (Elt F) g6) (cntM.view.read (Elt F) fC) v151 v229 v307 (k0_pay32 v308 v375 c14_i32_162 v378 v383) (Ring.bk 125 k.val) := by
    unfold tripLo.sl.r z0
    rw [hv520, hw0, hc0]
  have hr3 : tripLo.sl.r_3 c XA arg5 arg6 v151 k g5 g6 = y1 (F := F) (arg5.view.read (Elt F) g5) (wM.view.read (Elt F) XA) (arg6.view.read (Elt F) g6) v151 (Ring.bk 125 k.val) := by
    unfold tripLo.sl.r_3 y1
    rw [hv578, hw1]
  have hg0 : tripLo.sl.v516 k = gw (Ring.bk 125 k.val) 0#32 := by
    unfold tripLo.sl.v516 tripLo.sl.v515 tripLo.sl.arg19 gw
    rw [Ring.bk_val (Nat.lt_of_lt_of_eq k.isLt trips4)]
  have hg1 : tripLo.sl.v574 k = gw (Ring.bk 125 k.val) 1#32 := by
    unfold tripLo.sl.v574 tripLo.sl.v515 tripLo.sl.arg19 gw
    rw [Ring.bk_val (Nat.lt_of_lt_of_eq k.isLt trips4)]
  have hret : (tripLo.sl.r_6 c XA arg5 arg6 v151 v229 v307 v308 v375 c14_i32_162 v378 v383 k a g5 g6 fC,
          k0_pay39 (tripLo.sl.r_4 c XA arg5 arg6 v151 v229 v307 v308 v375 c14_i32_162 v378 v383 k g5 g6 fC)
            (tripLo.sl.r_6 c XA arg5 arg6 v151 v229 v307 v308 v375 c14_i32_162 v378 v383 k a g5 g6 fC)
            (tripLo.sl.r_7 c XA arg5 arg6 v151 v229 v307 v308 v375 c14_i32_162 v378 v383 k a g5 g6 fC),
          tripLo.sl.r_5 c XA arg5 arg6 v151 v229 v307 v308 v375 c14_i32_162 v378 v383 v386 k a g5 g6 fC) = stepB (F := F) (arg5.view.read (Elt F) g5) (wM.view.read (Elt F) XA) (arg6.view.read (Elt F) g6) (cntM.view.read (Elt F) fC) v151 v229 v307 (k0_pay32 v308 v375 c14_i32_162 v378 v383) v386 (Ring.bk 125 k.val) a := by
    unfold tripLo.sl.r_6 tripLo.sl.r_4 tripLo.sl.r_7 tripLo.sl.r_5 tripLo.sl.r_2 tripLo.sl.r_1 stepB
    rw [hr, hr3, hc1, hg0, hg1]

  have hzs : (zslot (Ring.sl 2 k.val)).view.read (Elt F) (tripLo.sl.HZS_w2 c XA arg5 arg6 v151 v229 v307 v308 v375 c14_i32_162 v378 v383 k g5 g6 fC fs) = zst (F := F) (arg5.view.read (Elt F) g5) (wM.view.read (Elt F) XA) (arg6.view.read (Elt F) g6) (cntM.view.read (Elt F) fC) v151 v229 v307 (k0_pay32 v308 v375 c14_i32_162 v378 v383) (Ring.bk 125 k.val) := by
    unfold tripLo.sl.HZS_w2 tripLo.sl.HZS_w1
    rw [hr, hr3, hc1]
    exact read_zslot c k fs _ _ (k0_off20_inb k 0) (k0_off20_inb k 1)

  rw [hret]
  sl_step
  isplitr; · ipureintro; rfl
  isplitl [HA]; · iexists _; iexact HA
  isplitl [H5]; · iexact H5
  isplitl [H6]; · iexact H6
  isplitl [HC]; · iexact HC
  isplitl [HW]; · iexists _; iexact HW
  isplitl [HF_src]; · iexact HF_src
  isplitl [HZ]
  · iexists _
    isplitr; · ipureintro; exact hzs
    iexact HZ
  iexists ((rslot (Ring.sl 14 k.val)).view.writes (Elt F) (rslot (Ring.sl 14 k.val)).view.junk [⟨Rect.whole S12288x256, payload c XA (Ring.bk 125 k.val)⟩])
  irw [flightP_after]
  iexact HF

set_option maxHeartbeats 1600000 in
theorem tripHi (k : Fin k0_t4_loop.trips) (h1 : ¬ k0_cond1 k = 1#1) (h2 : k0_cond2 k = 1#1) (a : FVec F S16x128 .f32 × FVec F S16x128 .f32 × FVec F S16x128 .f32)
   fa g5 g6 fC W f fs f0 fz :
   iprop(accP c fa ∗ xP c arg5 g5 ∗ wsP c arg6 g6 ∗ cntP c fC ∗ owes (c : Thread nD τ) 0 W
     ∗ flightP c XA (Ring.sl 14 k.val) (Ring.bk 125 k.val) f ∗ zflightP c (Ring.sl 2 k.val) (Ring.bk 125 (k.val - 2)) fs f0 ∗ zblkP c (Ring.bk 125 k.val) fz)
   ⊢ wp frame (wpE (defs₀ (F := F)) 𝒱₀ (c : Thread nD τ) none) Set.univ (tripG arg0 harg0 arg1 harg1 arg2 harg2 arg3 harg3 arg4 harg4 arg5 harg5 arg6 harg6 arg7 harg7 arg8 harg8 arg10 harg10 arg11 harg11 v151 v229 v307 v308 v375 c14_i32_162 v378 v383 v386 k a)
        (fun r => iprop(⌜r = stepB (F := F) (arg5.view.read (Elt F) g5) (wM.view.read (Elt F) XA) (arg6.view.read (Elt F) g6) (cntM.view.read (Elt F) fC) v151 v229 v307 (k0_pay32 v308 v375 c14_i32_162 v378 v383) v386 (Ring.bk 125 k.val) a⌝ ∗ (∃ fa, accP c fa) ∗ xP c arg5 g5 ∗ wsP c arg6 g6 ∗ cntP c fC ∗ (∃ W, owes (c : Thread nD τ) 0 W)
     ∗ homeP c XA (Ring.bk 125 k.val) ∗ zoutP c (arg5.view.read (Elt F) g5) (wM.view.read (Elt F) XA) (arg6.view.read (Elt F) g6) (cntM.view.read (Elt F) fC) v151 v229 v307 (k0_pay32 v308 v375 c14_i32_162 v378 v383) k fz ∗ (∃ f, slotP c (Ring.sl 14 k.val) f) ∗ cellP c (Ring.sl 14 k.val) ∗ zblkP c (Ring.bk 125 (k.val - 2)) ((zblk (Ring.bk 125 (k.val - 2))).view.writes (Elt F) f0 [⟨Rect.whole S16x256, ReadAs.same.apply ((zslot (Ring.sl 2 k.val)).view.read (Elt F) fs)⟩]))) := by
  iintro ⟨HA, H5, H6, HC, HW, HF, HZ, HB⟩
  dsimp only [tripG]
  sl_unfold [k0_t4_body]
  sl_exec

  have hv499 : tripHi.sl.v499 c XA k = shapeCast S1x12288x256 (wCols (F := F) (wM.view.read (Elt F) XA) (Ring.bk 125 k.val)) shapeCasts_back := by
    unfold tripHi.sl.v499
    rw [← read_wblk c XA (Ring.bk 125 k.val)]
    exact read_slot c (Ring.sl 14 k.val) _ (off10_eq k) _ _ _
  have hv483 : tripHi.sl.v483 (F := F) = k0_pay2 (F := F) := by
    unfold tripHi.sl.v483 tripHi.sl.HA_1
    exact readCov_all accM.view _ _ _ _
  have hx (hi) : View.readAt (Elt F) arg5.view (Rect.unit (s := S16x12288) k0_off9 S16x12288.size hi).toLoadRect g5 = arg5.view.read (Elt F) g5 := read_whole2 arg5.view k0_off9 (congrFun off9_eq 0) (congrFun off9_eq 1) hi g5
  have hHA : tripHi.sl.HA_2 c XA arg5 k g5 = ⟨Rect.unit (s := S16x256) ![0, 0] S16x256.size inb_S16x256_S16x256_0_0, dotB (F := F) (arg5.view.read (Elt F) g5) (wM.view.read (Elt F) XA) (Ring.bk 125 k.val)⟩ :: tripHi.sl.HA_1 (F := F) := by
    unfold tripHi.sl.HA_2 dotB
    rw [hv499, hv483, hx]
  have hv520 : tripHi.sl.v520 c XA arg5 k g5 = half (F := F) 0 (dotB (F := F) (arg5.view.read (Elt F) g5) (wM.view.read (Elt F) XA) (Ring.bk 125 k.val)) := by
    unfold tripHi.sl.v520
    rw [hHA]
    exact readCov_half accM.view 0 _ _ _ _ rfl _
  have hv578 : tripHi.sl.v578 c XA arg5 k g5 = half (F := F) 1 (dotB (F := F) (arg5.view.read (Elt F) g5) (wM.view.read (Elt F) XA) (Ring.bk 125 k.val)) := by
    unfold tripHi.sl.v578
    rw [hHA]
    exact readCov_half accM.view 1 _ _ _ _ rfl _
  have hw0 (hi) : View.readAt (Elt F) arg6.view (Rect.unit (s := S250x128) (k0_off18 k 0#32) S1x128.size hi).toLoadRect g6 = wsRow (F := F) (arg6.view.read (Elt F) g6) (Ring.bk 125 k.val) 0 := read_ws arg6.view k 0 hi g6
  have hw1 (hi) : View.readAt (Elt F) arg6.view (Rect.unit (s := S250x128) (k0_off18 k 1#32) S1x128.size hi).toLoadRect g6 = wsRow (F := F) (arg6.view.read (Elt F) g6) (Ring.bk 125 k.val) 1 := read_ws arg6.view k 1 hi g6
  have hc0 (hi) : View.readAt (Elt F) cntM.view (Rect.unit (s := S4000x128) (k0_off19 k 0#32) S16x128.size hi).toLoadRect fC = cRows (F := F) (cntM.view.read (Elt F) fC) (Ring.bk 125 k.val) 0 := read_c cntM.view k 0 hi fC
  have hc1 (hi) : View.readAt (Elt F) cntM.view (Rect.unit (s := S4000x128) (k0_off19 k 1#32) S16x128.size hi).toLoadRect fC = cRows (F := F) (cntM.view.read (Elt F) fC) (Ring.bk 125 k.val) 1 := read_c cntM.view k 1 hi fC
  have hr : tripHi.sl.r c XA arg5 arg6 v151 v229 v307 v308 v375 c14_i32_162 v378 v383 k g5 g6 fC = z0 (F := F) (arg5.view.read (Elt F) g5) (wM.view.read (Elt F) XA) (arg6.view.read (Elt F) g6) (cntM.view.read (Elt F) fC) v151 v229 v307 (k0_pay32 v308 v375 c14_i32_162 v378 v383) (Ring.bk 125 k.val) := by
    unfold tripHi.sl.r z0
    rw [hv520, hw0, hc0]
  have hr3 : tripHi.sl.r_3 c XA arg5 arg6 v151 k g5 g6 = y1 (F := F) (arg5.view.read (Elt F) g5) (wM.view.read (Elt F) XA) (arg6.view.read (Elt F) g6) v151 (Ring.bk 125 k.val) := by
    unfold tripHi.sl.r_3 y1
    rw [hv578, hw1]
  have hg0 : tripHi.sl.v516 k = gw (Ring.bk 125 k.val) 0#32 := by
    unfold tripHi.sl.v516 tripHi.sl.v515 tripHi.sl.arg19 gw
    rw [Ring.bk_val (Nat.lt_of_lt_of_eq k.isLt trips4)]
  have hg1 : tripHi.sl.v574 k = gw (Ring.bk 125 k.val) 1#32 := by
    unfold tripHi.sl.v574 tripHi.sl.v515 tripHi.sl.arg19 gw
    rw [Ring.bk_val (Nat.lt_of_lt_of_eq k.isLt trips4)]
  have hret : (tripHi.sl.r_6 c XA arg5 arg6 v151 v229 v307 v308 v375 c14_i32_162 v378 v383 k a g5 g6 fC,
          k0_pay39 (tripHi.sl.r_4 c XA arg5 arg6 v151 v229 v307 v308 v375 c14_i32_162 v378 v383 k g5 g6 fC)
            (tripHi.sl.r_6 c XA arg5 arg6 v151 v229 v307 v308 v375 c14_i32_162 v378 v383 k a g5 g6 fC)
            (tripHi.sl.r_7 c XA arg5 arg6 v151 v229 v307 v308 v375 c14_i32_162 v378 v383 k a g5 g6 fC),
          tripHi.sl.r_5 c XA arg5 arg6 v151 v229 v307 v308 v375 c14_i32_162 v378 v383 v386 k a g5 g6 fC) = stepB (F := F) (arg5.view.read (Elt F) g5) (wM.view.read (Elt F) XA) (arg6.view.read (Elt F) g6) (cntM.view.read (Elt F) fC) v151 v229 v307 (k0_pay32 v308 v375 c14_i32_162 v378 v383) v386 (Ring.bk 125 k.val) a := by
    unfold tripHi.sl.r_6 tripHi.sl.r_4 tripHi.sl.r_7 tripHi.sl.r_5 tripHi.sl.r_2 tripHi.sl.r_1 stepB
    rw [hr, hr3, hc1, hg0, hg1]

  have hzs : (zslot (Ring.sl 2 k.val)).view.read (Elt F) (tripHi.sl.HZ_src_w2 c XA arg5 arg6 v151 v229 v307 v308 v375 c14_i32_162 v378 v383 k g5 g6 fC fs) = zst (F := F) (arg5.view.read (Elt F) g5) (wM.view.read (Elt F) XA) (arg6.view.read (Elt F) g6) (cntM.view.read (Elt F) fC) v151 v229 v307 (k0_pay32 v308 v375 c14_i32_162 v378 v383) (Ring.bk 125 k.val) := by
    unfold tripHi.sl.HZ_src_w2 tripHi.sl.HZ_src_w1
    rw [hr, hr3, hc1]
    exact read_zslot c k fs _ _ (k0_off20_inb k 0) (k0_off20_inb k 1)

  rw [hret]
  sl_step
  isplitr; · ipureintro; rfl
  isplitl [HA]; · iexists _; iexact HA
  isplitl [H5]; · iexact H5
  isplitl [H6]; · iexact H6
  isplitl [HC]; · iexact HC
  isplitl [HW]; · iexists _; iexact HW
  isplitl [HF_src]; · iexact HF_src
  isplitl [HZ]
  · iexists _
    isplitr; · ipureintro; exact hzs
    iexact HZ
  isplitl [HF_dst]; · iexists _; iexact HF_dst
  isplitl [HF]; · iexact HF
  iexact HZ_dst
end Trip

end Cert.KernelIdeal.Hand

end
-- ==== Proof.ILoop.lean ====
module

public import proofs.«01_k».proof.Proof.ITrip

/-!
  The column loop: what is held before each trip, and that a trip carries it on.
-/

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Ring
variable (c : Dev nD) (XA : Buf (Elt F) (wM.view.loc (c : Thread nD τ)))

/-- The number of the copy that slot `s` holds or waits for before trip `k`. -/
def nb (k : ℕ) (s : Fin 14) : ℕ := k + (s.val + 14 - k % 14) % 14
/-- Slot `s` with copy `b`: in flight while there are blocks left, else free. -/
def slotRes (b : ℕ) (s : Fin 14) : sProp 𝕄 :=
  if b < 125 then iprop(∃ f, flightP c XA s (Ring.bk 125 b) f) else iprop((∃ f, slotP c s f) ∗ cellP c s)
/-- The ring before trip `k`. -/
def RingAt (k : ℕ) : sProp 𝕄 := bigSep Finset.univ fun s : Fin 14 => slotRes c XA (nb k s) s

omit [FloatOps F] in
theorem nb_here (k : ℕ) : nb k (Ring.sl 14 k) = k := by
  unfold nb; simp only [Ring.sl, Fin.val_ofNat]; omega
omit [FloatOps F] in
theorem nb_next (k : ℕ) : nb (k + 1) (Ring.sl 14 k) = k + 14 := by
  unfold nb; simp only [Ring.sl, Fin.val_ofNat]; omega
omit [FloatOps F] in
theorem nb_other (k : ℕ) (s : Fin 14) (h : s ≠ Ring.sl 14 k) : nb (k + 1) s = nb k s := by
  have hs := s.isLt
  have h' : s.val ≠ k % 14 := fun e => h (Fin.ext (by simp only [Ring.sl, Fin.val_ofNat]; exact e))
  unfold nb; omega

/-- Trip `k` finds copy `k` in its slot; -/
theorem ring_here (k : ℕ) : RingAt c XA k = iprop(slotRes c XA k (Ring.sl 14 k) ∗ bigSep (Finset.univ.erase (Ring.sl 14 k)) fun s => slotRes c XA (nb k s) s) := by
  unfold RingAt
  rw [BI.bigSep_univ_at _ (Ring.sl 14 k), nb_here]
/-- and leaves it with copy `k + 14`. -/
theorem ring_next (k : ℕ) : RingAt c XA (k + 1) = iprop(slotRes c XA (k + 14) (Ring.sl 14 k) ∗ bigSep (Finset.univ.erase (Ring.sl 14 k)) fun s => slotRes c XA (nb k s) s) := by
  unfold RingAt
  rw [BI.bigSep_univ_at _ (Ring.sl 14 k), nb_next]
  congr 1
  exact bigSep_congr fun s hs => by rw [nb_other k s (Finset.ne_of_mem_erase hs)]
theorem slotRes_lt (b : ℕ) (s : Fin 14) (h : b < 125) : slotRes c XA b s = iprop(∃ f, flightP c XA s (Ring.bk 125 b) f) := if_pos h
theorem slotRes_ge (b : ℕ) (s : Fin 14) (h : ¬ b < 125) : slotRes c XA b s = iprop((∃ f, slotP c s f) ∗ cellP c s) := if_neg h

theorem homes_here (k : ℕ) (hk : k + 14 < 125) :
    bigSep (Ring.homeSet 14 k) (homeP c XA) = iprop(homeP c XA (Ring.bk 125 (k + 14)) ∗ bigSep ((Ring.homeSet 14 k).erase (Ring.bk 125 (k + 14))) (homeP c XA)) := by
  conv_lhs => rw [Ring.homeSet_out 14 k hk, bigSep_insert (Ring.bkL_not_mem_erase 14 k)]
  rfl
theorem homes_next (k : ℕ) (hk : k + 14 < 125) :
    bigSep (Ring.homeSet 14 (k + 1)) (homeP c XA) = iprop(homeP c XA (Ring.bk 125 k) ∗ bigSep ((Ring.homeSet 14 k).erase (Ring.bk 125 (k + 14))) (homeP c XA)) := by
  conv_lhs => rw [Ring.homeSet_succ 14 k hk, bigSep_insert (Ring.bk_not_mem_erase 14 k (by omega) (by decide))]
  rfl
theorem homes_tail (k : ℕ) (h : 125 ≤ k + 14) (hk : k < 125) :
    bigSep (Ring.homeSet 14 (k + 1)) (homeP c XA) = iprop(homeP c XA (Ring.bk 125 k) ∗ bigSep (Ring.homeSet 14 k) (homeP c XA)) := by
  conv_lhs => rw [Ring.homeSet_succ_tail 14 k h hk, bigSep_insert (Ring.bk_not_mem_homeSet 14 k hk (by decide))]
  rfl
end Ring

section Stage
variable (c : Dev nD) (zv : Fin 125 → Vec F S16x256 .f32)

/-- Block `b` of the logits, arrived. -/
def zdoneP (b : Fin 125) : sProp 𝕄 := iprop(∃ f, ⌜(zblk b).view.read (Elt F) f = zv b⌝ ∗ zblkP c b f)
/-- Staging slot `s` before its copy `p`: copy `p - 2` on its way, or nothing yet. -/
def zRes (p : ℕ) (s : Fin 2) : sProp 𝕄 :=
  if 2 ≤ p then iprop(∃ f0 fs, ⌜(zslot s).view.read (Elt F) fs = zv (Ring.bk 125 (p - 2))⌝ ∗ zflightP c s (Ring.bk 125 (p - 2)) fs f0)
  else iprop((∃ f, zslotP c s f) ∗ zcellP c s)
/-- The copy that staging slot `s` makes next, before trip `k`. -/
def zp (k : ℕ) (s : Fin 2) : ℕ := k + (s.val + 2 - k % 2) % 2
def ZSlots (k : ℕ) : sProp 𝕄 := bigSep Finset.univ fun s : Fin 2 => zRes c zv (zp k s) s
def ZDone (k : ℕ) : sProp 𝕄 := bigSep (Ring.rangeSet 125 0 (k - 2)) (zdoneP c zv)
def ZTodo (k : ℕ) : sProp 𝕄 := bigSep (Ring.rangeSet 125 k 125) fun b => iprop(∃ f, zblkP c b f)

omit [FloatOps F] in
theorem zp_here (k : ℕ) : zp k (Ring.sl 2 k) = k := by
  unfold zp; simp only [Ring.sl, Fin.val_ofNat]; omega
omit [FloatOps F] in
theorem zp_next (k : ℕ) : zp (k + 1) (Ring.sl 2 k) = k + 2 := by
  unfold zp; simp only [Ring.sl, Fin.val_ofNat]; omega
omit [FloatOps F] in
theorem zp_other (k : ℕ) (s : Fin 2) (h : s ≠ Ring.sl 2 k) : zp (k + 1) s = zp k s := by
  have hs := s.isLt
  have h' : s.val ≠ k % 2 := fun e => h (Fin.ext (by simp only [Ring.sl, Fin.val_ofNat]; exact e))
  unfold zp; omega
theorem zslots_here (k : ℕ) : ZSlots c zv k = iprop(zRes c zv k (Ring.sl 2 k) ∗ bigSep (Finset.univ.erase (Ring.sl 2 k)) fun s => zRes c zv (zp k s) s) := by
  unfold ZSlots
  rw [BI.bigSep_univ_at _ (Ring.sl 2 k), zp_here]
theorem zslots_next (k : ℕ) : ZSlots c zv (k + 1) = iprop(zRes c zv (k + 2) (Ring.sl 2 k) ∗ bigSep (Finset.univ.erase (Ring.sl 2 k)) fun s => zRes c zv (zp k s) s) := by
  unfold ZSlots
  rw [BI.bigSep_univ_at _ (Ring.sl 2 k), zp_next]
  congr 1
  exact bigSep_congr fun s hs => by rw [zp_other k s (Finset.ne_of_mem_erase hs)]
theorem zRes_ge (p : ℕ) (s : Fin 2) (h : 2 ≤ p) : zRes c zv p s = iprop(∃ f0 fs, ⌜(zslot s).view.read (Elt F) fs = zv (Ring.bk 125 (p - 2))⌝ ∗ zflightP c s (Ring.bk 125 (p - 2)) fs f0) := if_pos h
theorem zRes_add (k : ℕ) (s : Fin 2) : zRes c zv (k + 2) s = iprop(∃ f0 fs, ⌜(zslot s).view.read (Elt F) fs = zv (Ring.bk 125 k)⌝ ∗ zflightP c s (Ring.bk 125 k) fs f0) := if_pos (Nat.le_add_left 2 k)
theorem zRes_lt (p : ℕ) (s : Fin 2) (h : ¬ 2 ≤ p) : zRes c zv p s = iprop((∃ f, zslotP c s f) ∗ zcellP c s) := if_neg h
omit [FloatOps F] in
theorem bk_eq (k : ℕ) (h : k < 125) : (⟨k, h⟩ : Fin 125) = Ring.bk 125 k := Fin.ext (Ring.bk_val h).symm
theorem zdone_next (k : ℕ) (h : 2 ≤ k) (hk : k < 125) : ZDone c zv (k + 1) = iprop(zdoneP c zv (Ring.bk 125 (k - 2)) ∗ ZDone c zv k) := by
  unfold ZDone
  rw [Ring.bigSep_rangeSet_last (show 0 < k + 1 - 2 by omega) (show k + 1 - 2 ≤ 125 by omega), ← bk_eq (k - 2) (by omega)]
  have e : k + 1 - 2 - 1 = k - 2 := by omega
  simp only [e]
theorem zdone_lo (k : ℕ) (h : ¬ 2 ≤ k) : ZDone c zv (k + 1) = ZDone c zv k := by
  unfold ZDone
  rw [show k + 1 - 2 = 0 by omega, show k - 2 = 0 by omega]
theorem ztodo_here (k : ℕ) (hk : k < 125) : ZTodo (F := F) c k = iprop((∃ f, zblkP c (Ring.bk 125 k) f) ∗ ZTodo c (k + 1)) := by
  unfold ZTodo
  rw [Ring.bigSep_rangeSet_head (NB := 125) (show k < 125 from hk) hk, ← bk_eq k hk]
omit [FloatOps F] in
theorem read_zlanded {κ : Kind} {sp : Space} (v : View sig κ sp S16x256 .f32) (f : v.ty.Contents (Elt F)) (w : Vec F S16x256 .f32) :
    v.read (Elt F) (v.writes (Elt F) f [⟨Rect.whole S16x256, w⟩]) = w := by
  funext y
  refine View.read_writes_cons_hit_of_coords v f (Rect.whole S16x256) w [] y y ?_
  intro a
  show (y a).val = 0 + 1 * (y a).val
  omega
theorem zdone_of (b : Fin 125) (w : Vec F S16x256 .f32) (h : w = zv b) (f0 : Buf (Elt F) ((zblk b).view.loc (c : Thread nD τ))) :
    zblkP c b ((zblk b).view.writes (Elt F) f0 [⟨Rect.whole S16x256, w⟩]) ⊢ zdoneP c zv b := by
  unfold zdoneP
  iintro H
  iexists ((zblk b).view.writes (Elt F) f0 [⟨Rect.whole S16x256, w⟩])
  isplitr; · ipureintro; exact (read_zlanded (zblk b).view f0 w).trans h
  iexact H
end Stage

section Loop
variable (c : Dev nD) (XA : Buf (Elt F) (wM.view.loc (c : Thread nD τ)))
  (arg0 : Memref sig .tc .smem S17 .i32) (harg0 : arg0.IsWhole)
  (arg1 : Memref sig .tc .smem S16 .f32) (harg1 : arg1.IsWhole)
  (arg2 : Memref sig .tc .smem S16 .f32) (harg2 : arg2.IsWhole)
  (arg3 : Memref sig .tc .smem S16 .f32) (harg3 : arg3.IsWhole)
  (arg4 : Memref sig .tc .smem S16 .f32) (harg4 : arg4.IsWhole)
  (arg5 : Memref sig .tc .vmem S16x12288 .fp8e4m3) (harg5 : arg5.IsWhole)
  (arg6 : Memref sig .tc .vmem S250x128 .f32) (harg6 : arg6.IsWhole)
  (arg7 : Memref sig .tc .vmem S128x128 .i32) (harg7 : arg7.IsWhole)
  (arg8 : Memref sig .tc .vmem S16x20 .i32) (harg8 : arg8.IsWhole)
  (arg10 : Memref sig .tc .vmem S1x16 .f32) (harg10 : arg10.IsWhole)
  (arg11 : Memref sig .tc .vmem S16x20 .f32) (harg11 : arg11.IsWhole)
  (v151 : FVec F S16x128 .f32) (v229 : FVec F S16x128 .f32) (v307 : FVec F S16x128 .f32) (v308 : IVec S16x128 32) (v375 : FVec F S16x128 .f32) (c14_i32_162 : BitVec 32) (v378 : Elt F .f32) (v383 : Elt F .f32) (v386 : Vec F S16x20 .i32)
  (g5 : Buf (Elt F) (arg5.view.loc (c : Thread nD τ))) (g6 : Buf (Elt F) (arg6.view.loc (c : Thread nD τ))) (fC : Buf (Elt F) (cntM.view.loc (c : Thread nD τ)))

/-- What is held before trip `k`, the staged blocks being `zv`. -/
def InvAt (zv : Fin 125 → Vec F S16x256 .f32) (k : ℕ) : sProp 𝕄 :=
  iprop((∃ fa, accP c fa) ∗ xP c arg5 g5 ∗ wsP c arg6 g6 ∗ cntP c fC ∗ (∃ W, owes (c : Thread nD τ) 0 W)
    ∗ bigSep (Ring.homeSet 14 k) (homeP c XA) ∗ RingAt c XA k ∗ ZSlots c zv k ∗ ZDone c zv k ∗ ZTodo c k)

/-- The blocks the loop stages. -/
abbrev zvOf (rep : FVec F S16x128 .f32) : Fin 125 → Vec F S16x256 .f32 :=
  zst (F := F) (arg5.view.read (Elt F) g5) (wM.view.read (Elt F) XA) (arg6.view.read (Elt F) g6) (cntM.view.read (Elt F) fC) v151 v229 v307 rep

theorem carry_succ (k : ℕ) (hk : k < 125) (X : Vec F S16x12288 .fp8e4m3) (Wt : Vec F S12288x32000 .fp8e4m3) (WS : Vec F S250x128 .f32) (C : Vec F S4000x128 .f32) (rep : FVec F S16x128 .f32) :
    carry X Wt WS C v151 v229 v307 rep v386 (k + 1) = stepB X Wt WS C v151 v229 v307 rep v386 (Ring.bk 125 k) (carry X Wt WS C v151 v229 v307 rep v386 k) := by
  rw [← bk_eq k hk, carry, dif_pos hk]

set_option maxHeartbeats 1600000 in
set_option warn.classDefReducibility false in
/-- Each trip carries the invariant on, the carried value being `carry`. -/
@[sl_loop] def loopInv4 :
    LoopInvTy_k0_t4 (F := F) Unit ℕ (UU nD τ) ℕ 𝒱₀ c none Set.univ arg0 harg0 arg1 harg1 arg2 harg2 arg3 harg3 arg4 harg4 arg5 harg5 arg6 harg6 arg7 harg7 arg8 harg8 wM (Memref.isWhole_whole _) arg10 harg10 arg11 harg11 zM (Memref.isWhole_whole _) ringM (Memref.isWhole_whole _) cntM (Memref.isWhole_whole _) accM (Memref.isWhole_whole _) zbM (Memref.isWhole_whole _) cc0_scratch4 cc0_scratch5 v151 v229 v307 v308 v375 c14_i32_162 v378 v383 v386 (k0_pay36 (F := F), k0_pay37 (F := F), k0_pay38 (F := F)) where
  inv k a := iprop(⌜a = carry (F := F) (arg5.view.read (Elt F) g5) (wM.view.read (Elt F) XA) (arg6.view.read (Elt F) g6) (cntM.view.read (Elt F) fC) v151 v229 v307 (k0_pay32 v308 v375 c14_i32_162 v378 v383) v386 k⌝ ∗ InvAt c XA arg5 arg6 g5 g6 fC (zvOf c XA arg5 arg6 v151 v229 v307 g5 g6 fC (k0_pay32 v308 v375 c14_i32_162 v378 v383)) k)
  step k a := by
    have hk : k.val < 125 := Nat.lt_of_lt_of_eq k.isLt trips4
    unfold InvAt
    rw [carry_succ v151 v229 v307 v386 k.val hk]
    iintro ⟨%ha, ⟨%fa, HA⟩, H5, H6, HC, ⟨%W, HW⟩, Hh, HR, HZS, HZD, HZT⟩
    rw [← ha]
    ihave HR' := (entails_of_eq (ring_here c XA k.val)) $$ HR
    icases HR' with ⟨HR0, HR⟩
    ihave HZS' := (entails_of_eq (zslots_here c (zvOf c XA arg5 arg6 v151 v229 v307 g5 g6 fC (k0_pay32 v308 v375 c14_i32_162 v378 v383)) k.val)) $$ HZS
    icases HZS' with ⟨HZ0, HZS⟩
    ihave HZT' := (entails_of_eq (ztodo_here c k.val hk)) $$ HZT
    icases HZT' with ⟨⟨%fz, HB⟩, HZT⟩
    ihave HR0' := (entails_of_eq (slotRes_lt c XA k.val (Ring.sl 14 k.val) hk)) $$ HR0
    icases HR0' with ⟨%f, HF⟩
    irw [ring_next, zslots_next]
    by_cases h2 : 2 ≤ k.val
    · ihave HZ0' := (entails_of_eq (zRes_ge c (zvOf c XA arg5 arg6 v151 v229 v307 g5 g6 fC (k0_pay32 v308 v375 c14_i32_162 v378 v383)) k.val (Ring.sl 2 k.val) h2)) $$ HZ0
      icases HZ0' with ⟨%f0, %fs, %hfs, HZ⟩
      irw [zdone_next c _ k.val h2 hk]
      by_cases h1 : k.val + 14 < 125
      · ihave Hh' := (entails_of_eq (homes_here c XA k.val h1)) $$ Hh
        icases Hh' with ⟨HH, Hh⟩
        irw [homes_next c XA k.val h1, slotRes_lt c XA (k.val + 14) _ h1]
        iapply (wp_wand_r Idealize.ShloMosaic.frame (wpE (defs₀ (F := F)) 𝒱₀ (c : Thread nD τ) none) Set.univ)
        isplitl [HA H5 H6 HC HW HF HH HZ HB]
        · iapply (tripMid c XA arg0 harg0 arg1 harg1 arg2 harg2 arg3 harg3 arg4 harg4 arg5 harg5 arg6 harg6 arg7 harg7 arg8 harg8 arg10 harg10 arg11 harg11 v151 v229 v307 v308 v375 c14_i32_162 v378 v383 v386 k ((cond1_iff k).mpr h1) ((cond2_iff k).mpr h2) a fa g5 g6 fC W f fs f0 fz)
          isplitl [HA]; · iexact HA
          isplitl [H5]; · iexact H5
          isplitl [H6]; · iexact H6
          isplitl [HC]; · iexact HC
          isplitl [HW]; · iexact HW
          isplitl [HF]; · iexact HF
          isplitl [HH]; · iexact HH
          isplitl [HZ]; · iexact HZ
          iexact HB
        · iintro %r ⟨%hr, HA, H5, H6, HC, HW, Hhb, ⟨%fs', %hfs', HZ⟩, HF, HD⟩
          isplitr; · ipureintro; exact hr
          isplitl [HA]; · iexact HA
          isplitl [H5]; · iexact H5
          isplitl [H6]; · iexact H6
          isplitl [HC]; · iexact HC
          isplitl [HW]; · iexact HW
          isplitl [Hhb Hh]
          · isplitl [Hhb]; · iexact Hhb
            iexact Hh
          isplitl [HF HR]
          · isplitl [HF]; · iexact HF
            iexact HR
          isplitl [HZ HZS]
          · isplitl [HZ]
            · irw [zRes_add]; iexists _; iexists _
              isplitr; · ipureintro; exact hfs'
              iexact HZ
            iexact HZS
          isplitl [HD HZD]
          · isplitl [HD]
            · iapply (zdone_of c (zvOf c XA arg5 arg6 v151 v229 v307 g5 g6 fC (k0_pay32 v308 v375 c14_i32_162 v378 v383)) (Ring.bk 125 (k.val - 2)) ((zslot (Ring.sl 2 k.val)).view.read (Elt F) fs) hfs f0); iexact HD
            iexact HZD
          iexact HZT
      · irw [homes_tail c XA k.val (by omega) hk, slotRes_ge c XA (k.val + 14) _ h1]
        iapply (wp_wand_r Idealize.ShloMosaic.frame (wpE (defs₀ (F := F)) 𝒱₀ (c : Thread nD τ) none) Set.univ)
        isplitl [HA H5 H6 HC HW HF HZ HB]
        · iapply (tripHi c XA arg0 harg0 arg1 harg1 arg2 harg2 arg3 harg3 arg4 harg4 arg5 harg5 arg6 harg6 arg7 harg7 arg8 harg8 arg10 harg10 arg11 harg11 v151 v229 v307 v308 v375 c14_i32_162 v378 v383 v386 k (fun e => h1 ((cond1_iff k).mp e)) ((cond2_iff k).mpr h2) a fa g5 g6 fC W f fs f0 fz)
          isplitl [HA]; · iexact HA
          isplitl [H5]; · iexact H5
          isplitl [H6]; · iexact H6
          isplitl [HC]; · iexact HC
          isplitl [HW]; · iexact HW
          isplitl [HF]; · iexact HF
          isplitl [HZ]; · iexact HZ
          iexact HB
        · iintro %r ⟨%hr, HA, H5, H6, HC, HW, Hhb, ⟨%fs', %hfs', HZ⟩, HS, HCell, HD⟩
          isplitr; · ipureintro; exact hr
          isplitl [HA]; · iexact HA
          isplitl [H5]; · iexact H5
          isplitl [H6]; · iexact H6
          isplitl [HC]; · iexact HC
          isplitl [HW]; · iexact HW
          isplitl [Hhb Hh]
          · isplitl [Hhb]; · iexact Hhb
            iexact Hh
          isplitl [HS HCell HR]
          · isplitl [HS HCell]
            · isplitl [HS]; · iexact HS
              iexact HCell
            iexact HR
          isplitl [HZ HZS]
          · isplitl [HZ]
            · irw [zRes_add]; iexists _; iexists _
              isplitr; · ipureintro; exact hfs'
              iexact HZ
            iexact HZS
          isplitl [HD HZD]
          · isplitl [HD]
            · iapply (zdone_of c (zvOf c XA arg5 arg6 v151 v229 v307 g5 g6 fC (k0_pay32 v308 v375 c14_i32_162 v378 v383)) (Ring.bk 125 (k.val - 2)) ((zslot (Ring.sl 2 k.val)).view.read (Elt F) fs) hfs f0); iexact HD
            iexact HZD
          iexact HZT
    · ihave HZ0' := (entails_of_eq (zRes_lt c (zvOf c XA arg5 arg6 v151 v229 v307 g5 g6 fC (k0_pay32 v308 v375 c14_i32_162 v378 v383)) k.val (Ring.sl 2 k.val) h2)) $$ HZ0
      icases HZ0' with ⟨⟨%fs, HZs⟩, HZ⟩
      have h1 : k.val + 14 < 125 := by omega
      ihave Hh' := (entails_of_eq (homes_here c XA k.val h1)) $$ Hh
      icases Hh' with ⟨HH, Hh⟩
      irw [zdone_lo c _ k.val h2, homes_next c XA k.val h1, slotRes_lt c XA (k.val + 14) _ h1]
      iapply (wp_wand_r Idealize.ShloMosaic.frame (wpE (defs₀ (F := F)) 𝒱₀ (c : Thread nD τ) none) Set.univ)
      isplitl [HA H5 H6 HC HW HF HH HZs HZ HB]
      · iapply (tripLo c XA arg0 harg0 arg1 harg1 arg2 harg2 arg3 harg3 arg4 harg4 arg5 harg5 arg6 harg6 arg7 harg7 arg8 harg8 arg10 harg10 arg11 harg11 v151 v229 v307 v308 v375 c14_i32_162 v378 v383 v386 k ((cond1_iff k).mpr h1) (fun e => h2 ((cond2_iff k).mp e)) a fa g5 g6 fC W f fs fz)
        isplitl [HA]; · iexact HA
        isplitl [H5]; · iexact H5
        isplitl [H6]; · iexact H6
        isplitl [HC]; · iexact HC
        isplitl [HW]; · iexact HW
        isplitl [HF]; · iexact HF
        isplitl [HH]; · iexact HH
        isplitl [HZs]; · iexact HZs
        isplitl [HZ]; · iexact HZ
        iexact HB
      · iintro %r ⟨%hr, HA, H5, H6, HC, HW, Hhb, ⟨%fs', %hfs', HZ⟩, HF⟩
        isplitr; · ipureintro; exact hr
        isplitl [HA]; · iexact HA
        isplitl [H5]; · iexact H5
        isplitl [H6]; · iexact H6
        isplitl [HC]; · iexact HC
        isplitl [HW]; · iexact HW
        isplitl [Hhb Hh]
        · isplitl [Hhb]; · iexact Hhb
          iexact Hh
        isplitl [HF HR]
        · isplitl [HF]; · iexact HF
          iexact HR
        isplitl [HZ HZS]
        · isplitl [HZ]
          · irw [zRes_add]; iexists _; iexists _
            isplitr; · ipureintro; exact hfs'
            iexact HZ
          iexact HZS
        isplitl [HZD]; · iexact HZD
        iexact HZT
end Loop

end Cert.KernelIdeal.Hand

end
-- ==== Proof.IPart.lean ====
module

public import proofs.«01_k».proof.Proof.ILoop

/-!
  The column loop run whole, from fourteen blocks on their way to the last two blocks of logits on theirs.
-/

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-- A whole two-axis buffer reads what was stored over the whole of it. -/
theorem read_store2 {m n : ℕ} {κ : Kind} {sp : Space} {e : EltTy} (v : View sig κ sp ⟨2, ![m, n]⟩ e) (f : v.ty.Contents (Elt F)) (off : Fin 2 → ℕ) (h0 : off 0 = 0) (h1 : off 1 = 0) (hi) (w : Vec F ⟨2, ![m, n]⟩ e) :
    v.read (Elt F) (v.writes (Elt F) f [⟨Rect.unit (s := ⟨2, ![m, n]⟩) off ![m, n] hi, w⟩]) = w := by
  funext j
  refine View.read_writes_cons_hit_of_coords v f (Rect.unit (s := ⟨2, ![m, n]⟩) off ![m, n] hi) w [] j j (fun a => ?_)
  match a with
  | ⟨0, _⟩ => show (j 0).val = off 0 + 1 * (j 0).val; omega
  | ⟨1, _⟩ => show (j 1).val = off 1 + 1 * (j 1).val; omega

section Ends
variable (c : Dev nD) (XA : Buf (Elt F) (wM.view.loc (c : Thread nD τ))) (zv : Fin 125 → Vec F S16x256 .f32)

/-- Every slot of the ring free. -/
def RingFree : sProp 𝕄 := bigSep Finset.univ fun s : Fin 14 => iprop((∃ f, slotP c s f) ∗ cellP c s)
/-- Both staging slots free. -/
def ZFree : sProp 𝕄 := bigSep Finset.univ fun s : Fin 2 => iprop((∃ f, zslotP c s f) ∗ zcellP c s)

theorem ring_zero : RingAt c XA 0 = iprop((∃ f, flightP c XA 0 0 f) ∗ (∃ f, flightP c XA 1 1 f) ∗ (∃ f, flightP c XA 2 2 f) ∗ (∃ f, flightP c XA 3 3 f) ∗ (∃ f, flightP c XA 4 4 f) ∗ (∃ f, flightP c XA 5 5 f) ∗ (∃ f, flightP c XA 6 6 f) ∗ (∃ f, flightP c XA 7 7 f) ∗ (∃ f, flightP c XA 8 8 f) ∗ (∃ f, flightP c XA 9 9 f) ∗ (∃ f, flightP c XA 10 10 f) ∗ (∃ f, flightP c XA 11 11 f) ∗ (∃ f, flightP c XA 12 12 f) ∗ (∃ f, flightP c XA 13 13 f)) := by
  unfold RingAt
  rw [bigSep_univ_eq_bigSepL [(0 : Fin 14), (1 : Fin 14), (2 : Fin 14), (3 : Fin 14), (4 : Fin 14), (5 : Fin 14), (6 : Fin 14), (7 : Fin 14), (8 : Fin 14), (9 : Fin 14), (10 : Fin 14), (11 : Fin 14), (12 : Fin 14), (13 : Fin 14)] (by decide) (by decide)]
  have e : (fun s : Fin 14 => slotRes c XA (nb 0 s) s) = fun s : Fin 14 => iprop(∃ f, flightP c XA s (Ring.bk 125 (nb 0 s)) f) :=
    funext fun s => slotRes_lt c XA (nb 0 s) s (by have := s.isLt; unfold nb; omega)
  rw [e]
  rfl
theorem ring_end : RingAt c XA 125 = RingFree c := by
  unfold RingAt RingFree
  exact bigSep_congr fun s _ => slotRes_ge c XA (nb 125 s) s (by unfold nb; omega)
theorem zslots_zero : ZSlots c zv 0 = ZFree c := by
  unfold ZSlots ZFree
  exact bigSep_congr fun s _ => zRes_lt c zv (zp 0 s) s (by have := s.isLt; unfold zp; omega)
theorem zslots_end : ZSlots c zv 125
    = iprop((∃ f0 fs, ⌜(zslot 0).view.read (Elt F) fs = zv 124⌝ ∗ zflightP c 0 124 fs f0) ∗ (∃ f0 fs, ⌜(zslot 1).view.read (Elt F) fs = zv 123⌝ ∗ zflightP c 1 123 fs f0)) := by
  unfold ZSlots
  rw [bigSep_univ_eq_bigSepL [(0 : Fin 2), (1 : Fin 2)] (by decide) (by decide)]
  have e : (fun s : Fin 2 => zRes c zv (zp 125 s) s) = fun s : Fin 2 => iprop(∃ f0 fs, ⌜(zslot s).view.read (Elt F) fs = zv (Ring.bk 125 (zp 125 s - 2))⌝ ∗ zflightP c s (Ring.bk 125 (zp 125 s - 2)) fs f0) :=
    funext fun s => zRes_ge c zv (zp 125 s) s (by unfold zp; omega)
  rw [e]
  rfl
theorem zdone_zero : ZDone c zv 0 = (BI.emp : sProp 𝕄) := Ring.bigSep_rangeSet_empty (NB := 125) (Nat.le_refl _)
theorem ztodo_end : ZTodo (F := F) c 125 = (BI.emp : sProp 𝕄) := Ring.bigSep_rangeSet_empty (NB := 125) (Nat.le_refl _)
/-- The blocks of logits, the last two beside the rest. -/
theorem zdone_all : bigSep Finset.univ (zdoneP c zv) = iprop(zdoneP c zv 124 ∗ zdoneP c zv 123 ∗ ZDone c zv 125) := by
  unfold ZDone
  rw [← Ring.rangeSet_univ (NB := 125), Ring.bigSep_rangeSet_last (NB := 125) (show 0 < 125 by decide) (show 125 ≤ 125 by decide),
    Ring.bigSep_rangeSet_last (NB := 125) (show 0 < 125 - 1 by decide) (show 125 - 1 ≤ 125 by decide)]
  rfl
theorem zfree_eq : (ZFree (F := F) c) = iprop(((∃ f, zslotP c 0 f) ∗ zcellP c 0) ∗ ((∃ f, zslotP c 1 f) ∗ zcellP c 1)) := by
  unfold ZFree
  rw [bigSep_univ_eq_bigSepL [(0 : Fin 2), (1 : Fin 2)] (by decide) (by decide)]
  rfl
theorem ringfree_eq : (RingFree (F := F) c) = iprop(((∃ f, slotP c 0 f) ∗ cellP c 0) ∗ ((∃ f, slotP c 1 f) ∗ cellP c 1) ∗ ((∃ f, slotP c 2 f) ∗ cellP c 2) ∗ ((∃ f, slotP c 3 f) ∗ cellP c 3) ∗ ((∃ f, slotP c 4 f) ∗ cellP c 4) ∗ ((∃ f, slotP c 5 f) ∗ cellP c 5) ∗ ((∃ f, slotP c 6 f) ∗ cellP c 6) ∗ ((∃ f, slotP c 7 f) ∗ cellP c 7) ∗ ((∃ f, slotP c 8 f) ∗ cellP c 8) ∗ ((∃ f, slotP c 9 f) ∗ cellP c 9) ∗ ((∃ f, slotP c 10 f) ∗ cellP c 10) ∗ ((∃ f, slotP c 11 f) ∗ cellP c 11) ∗ ((∃ f, slotP c 12 f) ∗ cellP c 12) ∗ ((∃ f, slotP c 13 f) ∗ cellP c 13)) := by
  unfold RingFree
  rw [bigSep_univ_eq_bigSepL [(0 : Fin 14), (1 : Fin 14), (2 : Fin 14), (3 : Fin 14), (4 : Fin 14), (5 : Fin 14), (6 : Fin 14), (7 : Fin 14), (8 : Fin 14), (9 : Fin 14), (10 : Fin 14), (11 : Fin 14), (12 : Fin 14), (13 : Fin 14)] (by decide) (by decide)]
  rfl
theorem homes_end : bigSep (Ring.homeSet 14 125) (homeP c XA) = bigSep Finset.univ (homeP c XA) := by
  rw [Ring.homeSet_last 14 125 (by decide)]
end Ends

section Part
variable (c : Dev nD) (XA : Buf (Elt F) (wM.view.loc (c : Thread nD τ)))
  (arg0 : Memref sig .tc .smem S17 .i32) (harg0 : arg0.IsWhole)
  (arg1 : Memref sig .tc .smem S16 .f32) (harg1 : arg1.IsWhole)
  (arg2 : Memref sig .tc .smem S16 .f32) (harg2 : arg2.IsWhole)
  (arg3 : Memref sig .tc .smem S16 .f32) (harg3 : arg3.IsWhole)
  (arg4 : Memref sig .tc .smem S16 .f32) (harg4 : arg4.IsWhole)
  (arg5 : Memref sig .tc .vmem S16x12288 .fp8e4m3) (harg5 : arg5.IsWhole)
  (arg6 : Memref sig .tc .vmem S250x128 .f32) (harg6 : arg6.IsWhole)
  (arg7 : Memref sig .tc .vmem S128x128 .i32) (harg7 : arg7.IsWhole)
  (arg8 : Memref sig .tc .vmem S16x20 .i32) (harg8 : arg8.IsWhole)
  (arg10 : Memref sig .tc .vmem S1x16 .f32) (harg10 : arg10.IsWhole)
  (arg11 : Memref sig .tc .vmem S16x20 .f32) (harg11 : arg11.IsWhole)
  (g4 : Buf (Elt F) (arg4.view.loc (c : Thread nD τ))) (g5 : Buf (Elt F) (arg5.view.loc (c : Thread nD τ))) (g6 : Buf (Elt F) (arg6.view.loc (c : Thread nD τ)))
  (g8 : Buf (Elt F) (arg8.view.loc (c : Thread nD τ))) (g11 : Buf (Elt F) (arg11.view.loc (c : Thread nD τ))) (fC : Buf (Elt F) (cntM.view.loc (c : Thread nD τ)))
  (v151 : FVec F S16x128 .f32) (v229 : FVec F S16x128 .f32) (v307 : FVec F S16x128 .f32) (v308 : IVec S16x128 32) (v375 : FVec F S16x128 .f32) (c14_i32_162 : BitVec 32)

abbrev repP (f : Buf (Elt F) (arg4.view.loc (c : Thread nD τ))) : sProp 𝕄 := arg4.view.loc (c : Thread nD τ) ↦[arg4.view.set]{fullShare} f
abbrev candP (f : Buf (Elt F) (arg8.view.loc (c : Thread nD τ))) : sProp 𝕄 := arg8.view.loc (c : Thread nD τ) ↦[arg8.view.set]{fullShare} f
abbrev lpP (f : Buf (Elt F) (arg11.view.loc (c : Thread nD τ))) : sProp 𝕄 := arg11.view.loc (c : Thread nD τ) ↦[arg11.view.set]{fullShare} f
/-- The repetition penalties, one row for each request. -/
abbrev repOf : FVec F S16x128 .f32 := k0_pay32 v308 v375 c14_i32_162
  (arg4.view.readAt (Elt F) (Rect.unit (s := S16) ![14] S1.size inb_S16_S1_14).toLoadRect g4 (Shape.Idx.first (by decide)))
  (arg4.view.readAt (Elt F) (Rect.unit (s := S16) ![15] S1.size inb_S16_S1_15).toLoadRect g4 (Shape.Idx.first (by decide)))
/-- The carried values at the loop's end. -/
abbrev lastC (rep : FVec F S16x128 .f32) : FVec F S16x128 .f32 × FVec F S16x128 .f32 × FVec F S16x128 .f32 :=
  carry (F := F) (arg5.view.read (Elt F) g5) (wM.view.read (Elt F) XA) (arg6.view.read (Elt F) g6) (cntM.view.read (Elt F) fC) v151 v229 v307 rep (arg8.view.read (Elt F) g8) 125

set_option maxHeartbeats 1600000 in
theorem part17_run :
    iprop(repP c arg4 g4 ∗ candP c arg8 g8 ∗ lpP c arg11 g11 ∗ (∃ fa, accP c fa) ∗ xP c arg5 g5 ∗ wsP c arg6 g6 ∗ cntP c fC ∗ (∃ W, owes (c : Thread nD τ) 0 W)
      ∗ bigSep (Ring.homeSet 14 0) (homeP c XA) ∗ RingAt c XA 0 ∗ ZFree c ∗ ZTodo c 0)
    ⊢ wp Idealize.ShloMosaic.frame (wpE (defs₀ (F := F)) 𝒱₀ (c : Thread nD τ) none) Set.univ
        (k0_part17 (F := F) arg0 harg0 arg1 harg1 arg2 harg2 arg3 harg3 arg4 harg4 arg5 harg5 arg6 harg6 arg7 harg7 arg8 harg8 wM (Memref.isWhole_whole _) arg10 harg10 arg11 harg11 zM (Memref.isWhole_whole _) ringM (Memref.isWhole_whole _) cntM (Memref.isWhole_whole _) accM (Memref.isWhole_whole _) zbM (Memref.isWhole_whole _) cc0_scratch4 cc0_scratch5 v151 v229 v307 v308 v375 c14_i32_162)
        (fun r => iprop(⌜r = ⟨k0_pay40 ((lastC c XA arg5 arg6 arg8 g5 g6 g8 fC v151 v229 v307 (repOf c arg4 g4 v308 v375 c14_i32_162))).1 ((lastC c XA arg5 arg6 arg8 g5 g6 g8 fC v151 v229 v307 (repOf c arg4 g4 v308 v375 c14_i32_162))).2.1, k0_pay42, Scalar.ofBits .f32 0x00000000#32⟩⌝
          ∗ repP c arg4 g4 ∗ candP c arg8 g8 ∗ (∃ f, ⌜arg11.view.read (Elt F) f = k0_pay41 ((lastC c XA arg5 arg6 arg8 g5 g6 g8 fC v151 v229 v307 (repOf c arg4 g4 v308 v375 c14_i32_162))).1 ((lastC c XA arg5 arg6 arg8 g5 g6 g8 fC v151 v229 v307 (repOf c arg4 g4 v308 v375 c14_i32_162))).2.1 ((lastC c XA arg5 arg6 arg8 g5 g6 g8 fC v151 v229 v307 (repOf c arg4 g4 v308 v375 c14_i32_162))).2.2⌝ ∗ lpP c arg11 f)
          ∗ (∃ fa, accP c fa) ∗ xP c arg5 g5 ∗ wsP c arg6 g6 ∗ cntP c fC ∗ (∃ W, owes (c : Thread nD τ) 0 W)
          ∗ bigSep Finset.univ (homeP c XA) ∗ RingFree c
          ∗ (∃ f0 fs, ⌜(zslot 0).view.read (Elt F) fs = (zvOf c XA arg5 arg6 v151 v229 v307 g5 g6 fC (repOf c arg4 g4 v308 v375 c14_i32_162)) 124⌝ ∗ zflightP c 0 124 fs f0) ∗ (∃ f0 fs, ⌜(zslot 1).view.read (Elt F) fs = (zvOf c XA arg5 arg6 v151 v229 v307 g5 g6 fC (repOf c arg4 g4 v308 v375 c14_i32_162)) 123⌝ ∗ zflightP c 1 123 fs f0)
          ∗ ZDone c ((zvOf c XA arg5 arg6 v151 v229 v307 g5 g6 fC (repOf c arg4 g4 v308 v375 c14_i32_162))) 125)) := by
  iintro ⟨H4, H8, H11, ⟨%fa, HA⟩, H5, H6, HC, ⟨%W, HW⟩, Hh, HR, HZ, HT⟩
  sl_unfold [k0_part17]
  sl_exec
  ihave HR' := (entails_of_eq (show RingAt c XA 0 = bigSep Finset.univ (fun s : Fin 14 => slotRes c XA (nb 0 s) s) from rfl)) $$ HR
  ihave HZ' := (entails_of_eq (zslots_zero c ((zvOf c XA arg5 arg6 v151 v229 v307 g5 g6 fC (k0_pay32 v308 v375 c14_i32_162 (part17_run.sl.r c arg4 g4) (part17_run.sl.r_1 c arg4 g4))))).symm) $$ HZ
  ihave HZ2 := (entails_of_eq (show ZSlots c ((zvOf c XA arg5 arg6 v151 v229 v307 g5 g6 fC (k0_pay32 v308 v375 c14_i32_162 (part17_run.sl.r c arg4 g4) (part17_run.sl.r_1 c arg4 g4)))) 0 = bigSep Finset.univ (fun s : Fin 2 => zRes c ((zvOf c XA arg5 arg6 v151 v229 v307 g5 g6 fC (k0_pay32 v308 v375 c14_i32_162 (part17_run.sl.r c arg4 g4) (part17_run.sl.r_1 c arg4 g4)))) (zp 0 s) s) from rfl)) $$ HZ'
  ihave HT' := (entails_of_eq (show ZTodo c 0 = bigSep (Ring.rangeSet 125 0 125) (fun b => iprop(∃ f, zblkP c b f)) from rfl)) $$ HT
  ihave HD : bigSep (Ring.rangeSet 125 0 (0 - 2)) (zdoneP c ((zvOf c XA arg5 arg6 v151 v229 v307 g5 g6 fC (k0_pay32 v308 v375 c14_i32_162 (part17_run.sl.r c arg4 g4) (part17_run.sl.r_1 c arg4 g4))))) $$ []
  · irw [Ring.bigSep_rangeSet_empty (NB := 125) (Nat.le_refl _)]
    iempintro
  sl_exec
  sl_step
  have ht : Scf.trips k0_t4_loop.lb k0_t4_loop.ub k0_t4_loop.st = 125 := trips4
  have e8 : View.readAt (Elt F) arg8.view (Rect.unit ![0, 0] S16x20.size inb_S16x20_S16x20_0_0).toLoadRect g8 = arg8.view.read (Elt F) g8 :=
    read_whole2 arg8.view ![0, 0] rfl rfl inb_S16x20_S16x20_0_0 g8
  rw [ht, e8]
  isplitr; · ipureintro; rfl
  isplitl [H4]; · iexact H4
  isplitl [H8]; · iexact H8
  isplitl [H11]
  · iexists _
    isplitr
    · ipureintro; exact read_store2 arg11.view g11 ![0, 0] rfl rfl inb_S16x20_S16x20_0_0 _
    iexact H11
  isplitl [HA]; · iexists _; iexact HA
  isplitl [H5]; · iexact H5
  isplitl [H6]; · iexact H6
  isplitl [HC]; · iexact HC
  isplitl [HW]; · iexists _; iexact HW
  isplitl [Hh]
  · irw [← homes_end c XA]; iexact Hh
  isplitl [HR']
  · iapply (entails_of_eq (show bigSep Finset.univ (fun s : Fin 14 => slotRes c XA (nb 125 s) s) = RingFree c from ring_end c XA))
    iexact HR'
  ihave HZ3 := (entails_of_eq (show bigSep Finset.univ (fun s : Fin 2 => zRes c ((zvOf c XA arg5 arg6 v151 v229 v307 g5 g6 fC (k0_pay32 v308 v375 c14_i32_162 (part17_run.sl.r c arg4 g4) (part17_run.sl.r_1 c arg4 g4)))) (zp 125 s) s) = iprop((∃ f0 fs, ⌜(zslot 0).view.read (Elt F) fs = (zvOf c XA arg5 arg6 v151 v229 v307 g5 g6 fC (repOf c arg4 g4 v308 v375 c14_i32_162)) 124⌝ ∗ zflightP c 0 124 fs f0) ∗ (∃ f0 fs, ⌜(zslot 1).view.read (Elt F) fs = (zvOf c XA arg5 arg6 v151 v229 v307 g5 g6 fC (repOf c arg4 g4 v308 v375 c14_i32_162)) 123⌝ ∗ zflightP c 1 123 fs f0)) from zslots_end c ((zvOf c XA arg5 arg6 v151 v229 v307 g5 g6 fC (repOf c arg4 g4 v308 v375 c14_i32_162))))) $$ HZ2
  icases HZ3 with ⟨HZa, HZb⟩
  isplitl [HZa]; · iexact HZa
  isplitl [HZb]; · iexact HZb
  iapply (entails_of_eq (show bigSep (Ring.rangeSet 125 0 (125 - 2)) (zdoneP c ((zvOf c XA arg5 arg6 v151 v229 v307 g5 g6 fC (k0_pay32 v308 v375 c14_i32_162 (part17_run.sl.r c arg4 g4) (part17_run.sl.r_1 c arg4 g4))))) = ZDone c ((zvOf c XA arg5 arg6 v151 v229 v307 g5 g6 fC (repOf c arg4 g4 v308 v375 c14_i32_162))) 125 from rfl))
  iexact HD
end Part

end Cert.KernelIdeal.Hand

end
-- ==== Proof.IBody.lean ====
module

public import proofs.«01_k».proof.Proof.IPart
public import Idealize.ShloMosaic.Lib.WordCmp

/-!
  The kernel's body run whole.
-/

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## One number for each request, along its row -/

/-- Row 0's number everywhere, then row `k`'s put over row `k`, up to row `n`. -/
def selRows (s : Fin 16 → F .f32) : ℕ → FVec F S16x128 .f32
  | 0 => broadcast S16x128 (s 0)
  | k + 1 => select (cmpi .eq (iota .tc S16x128 32 [0] iota_S16x128_d0_w32) (broadcast S16x128 (BitVec.ofNat 32 (k + 1)))) (broadcast S16x128 (s (Fin.ofNat 16 (k + 1)))) (selRows s k)

omit [FloatOps F] in
theorem selRows_apply (s : Fin 16 → F .f32) (j : S16x128.Idx) : ∀ k, k < 16 → selRows s k j = if (j 0).val ≤ k then s (j 0) else s 0
  | 0, _ => by
    by_cases h : (j 0).val ≤ 0
    · rw [if_pos h, show (j 0) = (0 : Fin 16) from Fin.ext (by show (j 0).val = 0; omega)]; rfl
    · rw [if_neg h]; rfl
  | k + 1, hk => by
    have hj : (j 0).val < 16 := (j 0).isLt
    have e : selRows s (k + 1) j = if (j 0).val = k + 1 then s (Fin.ofNat 16 (k + 1)) else selRows s k j := by
      show Scalar.select (IntOp.cmpi .eq (BitVec.ofNat 32 (0 * 16 + (j 0).val)) (BitVec.ofNat 32 (k + 1))) _ _ = _
      rw [Nat.zero_mul, Nat.zero_add]
      by_cases h : (j 0).val = k + 1
      · rw [if_pos h, WordCmp.select_of_eq_one ((WordCmp.cmpi_eq_ofNat_eq_one_iff (by omega) (by omega)).mpr h)]; rfl
      · rw [if_neg h, WordCmp.select_of_eq_zero ((WordCmp.cmpi_eq_ofNat_eq_zero_iff (by omega) (by omega)).mpr h)]
    rw [e, selRows_apply s j k (by omega)]
    by_cases h : (j 0).val = k + 1
    · rw [if_pos h, if_pos (by omega)]
      congr 1
      apply Fin.ext
      show (k + 1) % 16 = (j 0).val
      omega
    · rw [if_neg h]
      by_cases h2 : (j 0).val ≤ k
      · rw [if_pos h2, if_pos (by omega)]
      · rw [if_neg h2, if_neg (by omega)]

/-- A list of sixteen numbers, number `b` along row `b`. -/
def rowsOf (r : S16.Idx → Elt F .f32) : FVec F S16x128 .f32 := fun j => r (ix1 (j 0 : Fin 16))

theorem inbS (b : Fin 16) : ∀ a, (![b.val] : Fin 1 → ℕ) a + S1.size a ≤ S16.size a := by
  intro a
  match a with
  | ⟨0, _⟩ => show b.val + 1 ≤ 16; have := b.isLt; omega

omit [FloatOps F] in
theorem selRows_read {κ : Kind} {sp : Space} (v : View sig κ sp S16 .f32) (f : v.ty.Contents (Elt F)) :
    selRows (fun b => v.readAt (Elt F) (Rect.unit (s := S16) ![b.val] S1.size (inbS b)).toLoadRect f (Shape.Idx.first (show 0 < S1.numel by decide))) 15 = rowsOf (v.read (Elt F) f) := by
  funext j
  rw [selRows_apply _ j 15 (by decide), if_pos (by have := (j 0).isLt; show (j 0).val ≤ 15; have h : (j 0).val < 16 := (j 0).isLt; omega), View.readAt_apply]
  refine congrArg (v.read (Elt F) f) (funext fun a => Fin.ext ?_)
  match a with
  | ⟨0, _⟩ => show (j 0).val + 1 * 0 = (j 0).val; omega

/-! ## The results -/

/-- The counts buffer filled: row `16 j + b` is row `j` of request `b`'s counts. -/
def cntFull (r : S17.Idx → BitVec 32) (hr : ChkOK r) (ids : S128x128.Idx → Elt F .i32) : Vec F S4000x128 .f32 := fun i =>
  rowVal r hr ids ⟨(i 0).val % 16, Nat.mod_lt _ (by decide)⟩ (ix2 (n0 := 250) (n1 := 128) ⟨(i 0).val / 16, by have h : (i 0).val < 4000 := (i 0).isLt; omega⟩ (i 1))

omit [FloatOps F] in
theorem cIdx_full (i : S4000x128.Idx) : cIdx ⟨(i 0).val % 16, Nat.mod_lt _ (by decide)⟩ (ix2 (n0 := 250) (n1 := 128) ⟨(i 0).val / 16, by have h : (i 0).val < 4000 := (i 0).isLt; omega⟩ (i 1)) = i := by
  funext a; apply Fin.ext
  match a with
  | ⟨0, _⟩ => show 16 * ((i 0).val / 16) + (i 0).val % 16 = (i 0).val; omega
  | ⟨1, _⟩ => rfl

theorem cnt_full (r : S17.Idx → BitVec 32) (hr : ChkOK r) (ids : S128x128.Idx → Elt F .i32) (f : Vec F S4000x128 .f32) (k : ℕ) (hk : 16 ≤ k) (h : CntOK (F := F) r hr ids k f) :
    f = cntFull r hr ids := by
  funext i
  have e := h ⟨(i 0).val % 16, Nat.mod_lt _ (by decide)⟩ (by show (i 0).val % 16 < k; have := Nat.mod_lt (i 0).val (show 16 > 0 by decide); omega) (ix2 (n0 := 250) (n1 := 128) ⟨(i 0).val / 16, by have h : (i 0).val < 4000 := (i 0).isLt; omega⟩ (i 1))
  rw [cIdx_full] at e
  exact e

section Body
variable (c : Dev nD) (XA : Buf (Elt F) (wM.view.loc (c : Thread nD τ)))
  (arg0 : Memref sig .tc .smem S17 .i32) (harg0 : arg0.IsWhole)
  (arg1 : Memref sig .tc .smem S16 .f32) (harg1 : arg1.IsWhole)
  (arg2 : Memref sig .tc .smem S16 .f32) (harg2 : arg2.IsWhole)
  (arg3 : Memref sig .tc .smem S16 .f32) (harg3 : arg3.IsWhole)
  (arg4 : Memref sig .tc .smem S16 .f32) (harg4 : arg4.IsWhole)
  (arg5 : Memref sig .tc .vmem S16x12288 .fp8e4m3) (harg5 : arg5.IsWhole)
  (arg6 : Memref sig .tc .vmem S250x128 .f32) (harg6 : arg6.IsWhole)
  (arg7 : Memref sig .tc .vmem S128x128 .i32) (harg7 : arg7.IsWhole)
  (arg8 : Memref sig .tc .vmem S16x20 .i32) (harg8 : arg8.IsWhole)
  (arg10 : Memref sig .tc .vmem S1x16 .f32) (harg10 : arg10.IsWhole)
  (arg11 : Memref sig .tc .vmem S16x20 .f32) (harg11 : arg11.IsWhole)
  (g0 : Buf (Elt F) (arg0.view.loc (c : Thread nD τ))) (g1 : Buf (Elt F) (arg1.view.loc (c : Thread nD τ))) (g2 : Buf (Elt F) (arg2.view.loc (c : Thread nD τ))) (g3 : Buf (Elt F) (arg3.view.loc (c : Thread nD τ)))
  (g4 : Buf (Elt F) (arg4.view.loc (c : Thread nD τ))) (g5 : Buf (Elt F) (arg5.view.loc (c : Thread nD τ))) (g6 : Buf (Elt F) (arg6.view.loc (c : Thread nD τ))) (g7 : Buf (Elt F) (arg7.view.loc (c : Thread nD τ)))
  (g8 : Buf (Elt F) (arg8.view.loc (c : Thread nD τ))) (g10 : Buf (Elt F) (arg10.view.loc (c : Thread nD τ))) (g11 : Buf (Elt F) (arg11.view.loc (c : Thread nD τ)))

/-- The windows read. -/
def InsP : sProp 𝕄 := iprop((arg0.view.loc (c : Thread nD τ) ↦[arg0.view.set]{fullShare} g0) ∗ (arg1.view.loc (c : Thread nD τ) ↦[arg1.view.set]{fullShare} g1) ∗ (arg2.view.loc (c : Thread nD τ) ↦[arg2.view.set]{fullShare} g2) ∗ (arg3.view.loc (c : Thread nD τ) ↦[arg3.view.set]{fullShare} g3) ∗ (arg4.view.loc (c : Thread nD τ) ↦[arg4.view.set]{fullShare} g4) ∗ (arg5.view.loc (c : Thread nD τ) ↦[arg5.view.set]{fullShare} g5) ∗ (arg6.view.loc (c : Thread nD τ) ↦[arg6.view.set]{fullShare} g6) ∗ (arg7.view.loc (c : Thread nD τ) ↦[arg7.view.set]{fullShare} g7) ∗ (arg8.view.loc (c : Thread nD τ) ↦[arg8.view.set]{fullShare} g8))

/-- What the body is entered with. -/
def PRE (W : Waits sig Unit) : sProp 𝕄 := iprop(InsP c arg0 arg1 arg2 arg3 arg4 arg5 arg6 arg7 arg8 g0 g1 g2 g3 g4 g5 g6 g7 g8
  ∗ (arg10.view.loc (c : Thread nD τ) ↦[arg10.view.set]{fullShare} g10) ∗ lpP c arg11 g11
  ∗ (∃ f, cntP c f) ∗ (∃ fa, accP c fa) ∗ bigSep Finset.univ (homeP c XA) ∗ RingFree c ∗ ZFree c ∗ ZTodo c 0 ∗ owes (c : Thread nD τ) 0 W)

/-- What the body leaves, the carried values ending at `m, s, p` and the blocks of logits being `zv`. -/
def POST (m s p : FVec F S16x128 .f32) (zv : Fin 125 → Vec F S16x256 .f32) : sProp 𝕄 := iprop(InsP c arg0 arg1 arg2 arg3 arg4 arg5 arg6 arg7 arg8 g0 g1 g2 g3 g4 g5 g6 g7 g8
  ∗ (∃ f, ⌜arg10.view.read (Elt F) f = k0_pay1 (k0_pay40 m s) k0_pay42 (Scalar.ofBits .f32 0x00000000#32)⌝ ∗ (arg10.view.loc (c : Thread nD τ) ↦[arg10.view.set]{fullShare} f))
  ∗ (∃ f, ⌜arg11.view.read (Elt F) f = k0_pay41 m s p⌝ ∗ lpP c arg11 f)
  ∗ (∃ f, cntP c f) ∗ (∃ fa, accP c fa) ∗ bigSep Finset.univ (homeP c XA) ∗ RingFree c ∗ ZFree c ∗ bigSep Finset.univ (zdoneP c zv) ∗ (∃ W, owes (c : Thread nD τ) 0 W))

theorem homes_begin : bigSep Finset.univ (homeP c XA) = iprop(homeP c XA 0 ∗ homeP c XA 1 ∗ homeP c XA 2 ∗ homeP c XA 3 ∗ homeP c XA 4 ∗ homeP c XA 5 ∗ homeP c XA 6 ∗ homeP c XA 7 ∗ homeP c XA 8 ∗ homeP c XA 9 ∗ homeP c XA 10 ∗ homeP c XA 11 ∗ homeP c XA 12 ∗ homeP c XA 13 ∗ bigSep (Ring.homeSet 14 0) (homeP c XA)) := by
  have e : (Finset.univ : Finset (Fin 125)) = insert 0 (insert 1 (insert 2 (insert 3 (insert 4 (insert 5 (insert 6 (insert 7 (insert 8 (insert 9 (insert 10 (insert 11 (insert 12 (insert 13 (Ring.homeSet (NB := 125) 14 0)))))))))))))) := by
    ext b; simp only [Finset.mem_univ, Finset.mem_insert, Ring.mem_homeSet, true_iff, Fin.ext_iff]
    have := b.isLt
    show b.val = 0 ∨ b.val = 1 ∨ b.val = 2 ∨ b.val = 3 ∨ b.val = 4 ∨ b.val = 5 ∨ b.val = 6 ∨ b.val = 7 ∨ b.val = 8 ∨ b.val = 9 ∨ b.val = 10 ∨ b.val = 11 ∨ b.val = 12 ∨ b.val = 13 ∨ (b.val < 0 ∨ 0 + 14 ≤ b.val)
    omega
  rw [e, bigSep_insert (by simp [Ring.mem_homeSet, Fin.ext_iff]), bigSep_insert (by simp [Ring.mem_homeSet, Fin.ext_iff]), bigSep_insert (by simp [Ring.mem_homeSet, Fin.ext_iff]), bigSep_insert (by simp [Ring.mem_homeSet, Fin.ext_iff]), bigSep_insert (by simp [Ring.mem_homeSet, Fin.ext_iff]), bigSep_insert (by simp [Ring.mem_homeSet, Fin.ext_iff]), bigSep_insert (by simp [Ring.mem_homeSet, Fin.ext_iff]), bigSep_insert (by simp [Ring.mem_homeSet, Fin.ext_iff]), bigSep_insert (by simp [Ring.mem_homeSet, Fin.ext_iff]), bigSep_insert (by simp [Ring.mem_homeSet, Fin.ext_iff]), bigSep_insert (by simp [Ring.mem_homeSet, Fin.ext_iff]), bigSep_insert (by simp [Ring.mem_homeSet, Fin.ext_iff]), bigSep_insert (by simp [Ring.mem_homeSet, Fin.ext_iff]), bigSep_insert (by simp [Ring.mem_homeSet, Fin.ext_iff])]
  rfl

set_option maxHeartbeats 1000000 in
/-- The body run: the carried values end as `carry` says at the counts of the whole history, and every block of
    logits is the block that `zst` gives. -/
theorem bodyRun (hr : ChkOK (arg0.view.read (Elt F) g0)) (W : Waits sig Unit) (Q : PUnit → sProp 𝕄) :
    iprop(PRE c XA arg0 arg1 arg2 arg3 arg4 arg5 arg6 arg7 arg8 arg10 arg11 g0 g1 g2 g3 g4 g5 g6 g7 g8 g10 g11 W ∗ (POST c XA arg0 arg1 arg2 arg3 arg4 arg5 arg6 arg7 arg8 arg10 arg11 g0 g1 g2 g3 g4 g5 g6 g7 g8 ((carry (F := F) (arg5.view.read (Elt F) g5) (wM.view.read (Elt F) XA) (arg6.view.read (Elt F) g6) (cntFull (arg0.view.read (Elt F) g0) hr (arg7.view.read (Elt F) g7)) (rowsOf (arg1.view.read (Elt F) g1)) (rowsOf (arg2.view.read (Elt F) g2)) (rowsOf (arg3.view.read (Elt F) g3)) (rowsOf (arg4.view.read (Elt F) g4)) (arg8.view.read (Elt F) g8) 125)).1 ((carry (F := F) (arg5.view.read (Elt F) g5) (wM.view.read (Elt F) XA) (arg6.view.read (Elt F) g6) (cntFull (arg0.view.read (Elt F) g0) hr (arg7.view.read (Elt F) g7)) (rowsOf (arg1.view.read (Elt F) g1)) (rowsOf (arg2.view.read (Elt F) g2)) (rowsOf (arg3.view.read (Elt F) g3)) (rowsOf (arg4.view.read (Elt F) g4)) (arg8.view.read (Elt F) g8) 125)).2.1 ((carry (F := F) (arg5.view.read (Elt F) g5) (wM.view.read (Elt F) XA) (arg6.view.read (Elt F) g6) (cntFull (arg0.view.read (Elt F) g0) hr (arg7.view.read (Elt F) g7)) (rowsOf (arg1.view.read (Elt F) g1)) (rowsOf (arg2.view.read (Elt F) g2)) (rowsOf (arg3.view.read (Elt F) g3)) (rowsOf (arg4.view.read (Elt F) g4)) (arg8.view.read (Elt F) g8) 125)).2.2 ((zst (F := F) (arg5.view.read (Elt F) g5) (wM.view.read (Elt F) XA) (arg6.view.read (Elt F) g6) (cntFull (arg0.view.read (Elt F) g0) hr (arg7.view.read (Elt F) g7)) (rowsOf (arg1.view.read (Elt F) g1)) (rowsOf (arg2.view.read (Elt F) g2)) (rowsOf (arg3.view.read (Elt F) g3)) (rowsOf (arg4.view.read (Elt F) g4)))) -∗ Q ⟨⟩))
    ⊢ wp Idealize.ShloMosaic.frame (wpE (defs₀ (F := F)) 𝒱₀ (c : Thread nD τ) none) Set.univ
        (cc0_fp8_head_logprobs (F := F) arg0 harg0 arg1 harg1 arg2 harg2 arg3 harg3 arg4 harg4 arg5 harg5 arg6 harg6 arg7 harg7 arg8 harg8 wM (Memref.isWhole_whole _) arg10 harg10 arg11 harg11 zM (Memref.isWhole_whole _) ringM (Memref.isWhole_whole _) cntM (Memref.isWhole_whole _) accM (Memref.isWhole_whole _) zbM (Memref.isWhole_whole _) cc0_scratch4 cc0_scratch5) Q := by
  unfold PRE InsP
  rw [homes_begin, ringfree_eq]
  iintro ⟨⟨⟨H0, H1, H2, H3, H4, H5, H6, H7, H8⟩, H10, H11, ⟨%fC0, HC⟩, ⟨%fa, HA⟩, ⟨Hh0, Hh1, Hh2, Hh3, Hh4, Hh5, Hh6, Hh7, Hh8, Hh9, Hh10, Hh11, Hh12, Hh13, Hh⟩, ⟨⟨⟨%fs0, HS0⟩, HD0⟩, ⟨⟨%fs1, HS1⟩, HD1⟩, ⟨⟨%fs2, HS2⟩, HD2⟩, ⟨⟨%fs3, HS3⟩, HD3⟩, ⟨⟨%fs4, HS4⟩, HD4⟩, ⟨⟨%fs5, HS5⟩, HD5⟩, ⟨⟨%fs6, HS6⟩, HD6⟩, ⟨⟨%fs7, HS7⟩, HD7⟩, ⟨⟨%fs8, HS8⟩, HD8⟩, ⟨⟨%fs9, HS9⟩, HD9⟩, ⟨⟨%fs10, HS10⟩, HD10⟩, ⟨⟨%fs11, HS11⟩, HD11⟩, ⟨⟨%fs12, HS12⟩, HD12⟩, ⟨⟨%fs13, HS13⟩, HD13⟩⟩, HZ, HT, HW⟩, Hk⟩
  have hC0 : CntOK (F := F) (arg0.view.read (Elt F) g0) hr (arg7.view.read (Elt F) g7) 0 fC0 := fun b h => absurd h (Nat.not_lt_zero _)
  rw [cc0_fp8_head_logprobs_eq_skeleton]
  set_option sl_exec.stopBefore "k0_part17" in sl_exec
  ihave HR : RingAt c XA 0 $$ [HD0 HD1 HD2 HD3 HD4 HD5 HD6 HD7 HD8 HD9 HD10 HD11 HD12 HD13]
  · irw [ring_zero]
    isplitl [HD0]; · iexists _; iexact HD0
    isplitl [HD1]; · iexists _; iexact HD1
    isplitl [HD2]; · iexists _; iexact HD2
    isplitl [HD3]; · iexists _; iexact HD3
    isplitl [HD4]; · iexists _; iexact HD4
    isplitl [HD5]; · iexists _; iexact HD5
    isplitl [HD6]; · iexists _; iexact HD6
    isplitl [HD7]; · iexists _; iexact HD7
    isplitl [HD8]; · iexists _; iexact HD8
    isplitl [HD9]; · iexists _; iexact HD9
    isplitl [HD10]; · iexists _; iexact HD10
    isplitl [HD11]; · iexists _; iexact HD11
    isplitl [HD12]; · iexists _; iexact HD12
    iexists _; iexact HD13
  have eC : cntM.view.read (Elt F) fL0 = cntFull (arg0.view.read (Elt F) g0) hr (arg7.view.read (Elt F) g7) :=
    cnt_full _ hr _ fL0 _ (Nat.le_of_eq trips1.symm) (by assumption)
  have hcut := part17_run (F := F) c XA arg0 harg0 arg1 harg1 arg2 harg2 arg3 harg3 arg4 harg4 arg5 harg5 arg6 harg6 arg7 harg7 arg8 harg8 arg10 harg10 arg11 harg11 g4 g5 g6 g8 g11 fL0
  sl_exec
  cases hk0_part17_0
  have e1 : bodyRun.sl.v151 c arg1 g1 = rowsOf (arg1.view.read (Elt F) g1) :=
    (show _ = selRows (fun b => arg1.view.readAt (Elt F) (Rect.unit (s := S16) ![b.val] S1.size (inbS b)).toLoadRect g1 (Shape.Idx.first (show 0 < S1.numel by decide))) 15 from rfl).trans (selRows_read arg1.view g1)
  have e2 : bodyRun.sl.v229 c arg2 g2 = rowsOf (arg2.view.read (Elt F) g2) :=
    (show _ = selRows (fun b => arg2.view.readAt (Elt F) (Rect.unit (s := S16) ![b.val] S1.size (inbS b)).toLoadRect g2 (Shape.Idx.first (show 0 < S1.numel by decide))) 15 from rfl).trans (selRows_read arg2.view g2)
  have e3 : bodyRun.sl.v307 c arg3 g3 = rowsOf (arg3.view.read (Elt F) g3) :=
    (show _ = selRows (fun b => arg3.view.readAt (Elt F) (Rect.unit (s := S16) ![b.val] S1.size (inbS b)).toLoadRect g3 (Shape.Idx.first (show 0 < S1.numel by decide))) 15 from rfl).trans (selRows_read arg3.view g3)
  have e4 : repOf c arg4 g4 bodyRun.sl.v152 (bodyRun.sl.v375 c arg4 g4) 14#32 = rowsOf (arg4.view.read (Elt F) g4) :=
    (show _ = selRows (fun b => arg4.view.readAt (Elt F) (Rect.unit (s := S16) ![b.val] S1.size (inbS b)).toLoadRect g4 (Shape.Idx.first (show 0 < S1.numel by decide))) 15 from rfl).trans (selRows_read arg4.view g4)
  have eL : (lastC c XA arg5 arg6 arg8 g5 g6 g8 fL0 (bodyRun.sl.v151 c arg1 g1) (bodyRun.sl.v229 c arg2 g2) (bodyRun.sl.v307 c arg3 g3) (repOf c arg4 g4 bodyRun.sl.v152 (bodyRun.sl.v375 c arg4 g4) 14#32)) = (carry (F := F) (arg5.view.read (Elt F) g5) (wM.view.read (Elt F) XA) (arg6.view.read (Elt F) g6) (cntFull (arg0.view.read (Elt F) g0) hr (arg7.view.read (Elt F) g7)) (rowsOf (arg1.view.read (Elt F) g1)) (rowsOf (arg2.view.read (Elt F) g2)) (rowsOf (arg3.view.read (Elt F) g3)) (rowsOf (arg4.view.read (Elt F) g4)) (arg8.view.read (Elt F) g8) 125) := by unfold lastC; rw [e1, e2, e3, e4, eC]
  have eZ : (zvOf c XA arg5 arg6 (bodyRun.sl.v151 c arg1 g1) (bodyRun.sl.v229 c arg2 g2) (bodyRun.sl.v307 c arg3 g3) g5 g6 fL0 (repOf c arg4 g4 bodyRun.sl.v152 (bodyRun.sl.v375 c arg4 g4) 14#32)) = (zst (F := F) (arg5.view.read (Elt F) g5) (wM.view.read (Elt F) XA) (arg6.view.read (Elt F) g6) (cntFull (arg0.view.read (Elt F) g0) hr (arg7.view.read (Elt F) g7)) (rowsOf (arg1.view.read (Elt F) g1)) (rowsOf (arg2.view.read (Elt F) g2)) (rowsOf (arg3.view.read (Elt F) g3)) (rowsOf (arg4.view.read (Elt F) g4))) := by unfold zvOf; rw [e1, e2, e3, e4, eC]
  rw [eL] at hk0_part17_3
  rw [eZ] at hk0_part17_12 hk0_part17_14
  rw [eL, eZ]
  clear hcut eL eZ e1 e2 e3 e4
  generalize (carry (F := F) (arg5.view.read (Elt F) g5) (wM.view.read (Elt F) XA) (arg6.view.read (Elt F) g6) (cntFull (arg0.view.read (Elt F) g0) hr (arg7.view.read (Elt F) g7)) (rowsOf (arg1.view.read (Elt F) g1)) (rowsOf (arg2.view.read (Elt F) g2)) (rowsOf (arg3.view.read (Elt F) g3)) (rowsOf (arg4.view.read (Elt F) g4)) (arg8.view.read (Elt F) g8) 125) = T at *
  generalize (zst (F := F) (arg5.view.read (Elt F) g5) (wM.view.read (Elt F) XA) (arg6.view.read (Elt F) g6) (cntFull (arg0.view.read (Elt F) g0) hr (arg7.view.read (Elt F) g7)) (rowsOf (arg1.view.read (Elt F) g1)) (rowsOf (arg2.view.read (Elt F) g2)) (rowsOf (arg3.view.read (Elt F) g3)) (rowsOf (arg4.view.read (Elt F) g4))) = zv at *
  sl_step
  iapply Hk
  unfold POST InsP
  isplitl [H0 H1 H2 H3 Hk0_part17_1 Hk0_part17_6 Hk0_part17_7 H7 Hk0_part17_2]
  · isplitl [H0]; · iexact H0
    isplitl [H1]; · iexact H1
    isplitl [H2]; · iexact H2
    isplitl [H3]; · iexact H3
    isplitl [Hk0_part17_1]; · iexact Hk0_part17_1
    isplitl [Hk0_part17_6]; · iexact Hk0_part17_6
    isplitl [Hk0_part17_7]; · iexact Hk0_part17_7
    isplitl [H7]; · iexact H7
    iexact Hk0_part17_2
  isplitl [H10]
  · iexists _
    isplitr
    · ipureintro; exact read_store2 arg10.view g10 ![0, 0] rfl rfl inb_S1x16_S1x16_0_0 _
    iexact H10
  isplitl [Hk0_part17_4]
  · iexists fk0_part17_0
    isplitr
    · ipureintro; exact hk0_part17_3
    iexact Hk0_part17_4
  isplitl [Hk0_part17_8]; · iexists _; iexact Hk0_part17_8
  isplitl [Hk0_part17_5]; · iexists _; iexact Hk0_part17_5
  isplitl [Hk0_part17_10]; · iexact Hk0_part17_10
  isplitl [Hk0_part17_11]
  · iapply (entails_of_eq (show bigSep Finset.univ (fun s : Fin 14 => iprop((∃ f, slotP (F := F) c s f) ∗ cellP c s)) = RingFree c from rfl))
    iexact Hk0_part17_11
  isplitl [Hk0_part17_15_src Hk0_part17_15 Hk0_part17_13_src Hk0_part17_13]
  · irw [zfree_eq]
    isplitl [Hk0_part17_13_src Hk0_part17_13]
    · isplitl [Hk0_part17_13_src]; · iexists _; iexact Hk0_part17_13_src
      iexact Hk0_part17_13
    isplitl [Hk0_part17_15_src]; · iexists _; iexact Hk0_part17_15_src
    iexact Hk0_part17_15
  isplitl [Hk0_part17_15_dst Hk0_part17_13_dst Hk0_part17_16]
  · irw [zdone_all]
    isplitl [Hk0_part17_13_dst]
    · iapply (zdone_of c zv 124 (ReadAs.same.apply ((zslot 0).view.read (Elt F) fsk0_part17_4)) hk0_part17_12 f0k0_part17_3); iexact Hk0_part17_13_dst
    isplitl [Hk0_part17_15_dst]
    · iapply (zdone_of c zv 123 (ReadAs.same.apply ((zslot 1).view.read (Elt F) fsk0_part17_6)) hk0_part17_14 f0k0_part17_5); iexact Hk0_part17_15_dst
    iapply (entails_of_eq (show bigSep (Ring.rangeSet 125 0 (125 - 2)) (zdoneP c zv) = ZDone c zv 125 from rfl))
    iexact Hk0_part17_16
  iexists _; iexact Hk0_part17_9
end Body

end Cert.KernelIdeal.Hand

end
-- ==== Proof.IOffs.lean ====
module

public import proofs.«01_k».proof.Proof.INames

/-!
  The side condition the body assumes of two consecutive offsets: it holds when neither is negative.
-/

@[expose] public section

noncomputable section

namespace Cert.KernelIdeal.Hand

open Cert.KernelIdeal Cert.KernelIdeal.Gen
open Idealize.ShloMosaic
open Idealize.ShloMosaic.Affine (IsInt word word_range ofNat)

section
variable (v v' : BitVec 32)

theorem toIntOf {x : BitVec 32} {e : Int} (h : IsInt x e) : x.toInt = e := by
  delta Affine.IsInt at h; exact h
theorem isIntOf {x : BitVec 32} {e : Int} (h : x.toInt = e) : IsInt x e := by
  delta Affine.IsInt; exact h

theorem toNat_eq {x : BitVec 32} {e : Int} (h : IsInt x e) (h0 : 0 ≤ e) : (x.toNat : Int) = e := by
  have := toIntOf h
  rw [BitVec.toInt_eq_toNat_cond] at this
  have := x.isLt
  split at * <;> omega

theorem divsi_one (x : BitVec 32) : Scalar.divsi x 1#32 = x := by
  apply BitVec.eq_of_toInt_eq
  show (IntOp.divsi _ x 1#32).toInt = _
  unfold IntOp.divsi
  rw [if_neg (by rintro (h | ⟨_, h⟩) <;> exact absurd h (by decide))]
  simp
theorem muli_one (x : BitVec 32) : Scalar.muli x 1#32 = x := by
  show x * 1#32 = x
  simp

/-- The first row of ids of a request; -/
theorem isInt_lo (h : 0 ≤ v.toInt) : IsInt (Scalar.shrsi v 7#32) (v.toInt / 128) :=
  Affine.shrsi (word v) (ofNat (e := 7) 7 ⟨rfl, by decide⟩) 7 128 (by decide) ⟨rfl, rfl, by decide⟩
/-- one past the last. -/
theorem isInt_hi (h' : 0 ≤ v'.toInt) :
    IsInt (Scalar.shrsi (Scalar.subi (Scalar.addi (Scalar.minsi v' 16384#32) 128#32) 1#32) 7#32) ((min v'.toInt 16384 + 127) / 128) :=
  Affine.shrsi (ea := min v'.toInt 16384 + 127)
    (Affine.subi (ea := min v'.toInt 16384 + 128) (eb := 1)
      (Affine.addi (ea := min v'.toInt 16384) (eb := 128) (Affine.minsi (eb := 16384) (word v') (ofNat (e := 16384) 16384 ⟨rfl, by decide⟩) rfl) (ofNat (e := 128) 128 ⟨rfl, by decide⟩)
        ⟨rfl, by omega, by omega⟩)
      (ofNat (e := 1) 1 ⟨rfl, by decide⟩) ⟨by omega, by omega, by omega⟩)
    (ofNat (e := 7) 7 ⟨rfl, by decide⟩) 7 128 (by decide) ⟨rfl, rfl, by decide⟩

theorem isInt_diff (h : 0 ≤ v.toInt) (h' : 0 ≤ v'.toInt) :
    IsInt (Scalar.subi (Scalar.shrsi (Scalar.subi (Scalar.addi (Scalar.minsi v' 16384#32) 128#32) 1#32) 7#32) (Scalar.shrsi v 7#32)) ((min v'.toInt 16384 + 127) / 128 - v.toInt / 128) := by
  have := (word_range v).2
  exact Affine.subi (isInt_hi v' h') (isInt_lo v h) ⟨rfl, by omega, by omega⟩
theorem isInt_ub (h : 0 ≤ v.toInt) (h' : 0 ≤ v'.toInt) : IsInt (k0_t2_loop v v').ub ((min v'.toInt 16384 + 127) / 128) := by
  have := (word_range v).2
  show IsInt (Scalar.addi (Scalar.shrsi v 7#32) (Scalar.muli (Scalar.divsi (Scalar.subi (Scalar.shrsi (Scalar.subi (Scalar.addi (Scalar.minsi v' 16384#32) 128#32) 1#32) 7#32) (Scalar.shrsi v 7#32)) 1#32) 1#32)) _
  rw [divsi_one, muli_one]
  exact Affine.addi (isInt_lo v h) (isInt_diff v v' h h') ⟨by omega, by omega, by omega⟩

theorem trips2_eq (h : 0 ≤ v.toInt) (h' : 0 ≤ v'.toInt) : (k0_t2_loop v v').trips = ((min v'.toInt 16384 + 127) / 128 - v.toInt / 128).toNat := by
  unfold Scf.Loop.trips Scf.trips
  rw [toIntOf (isInt_ub v v' h h'), show (k0_t2_loop v v').lb.toInt = v.toInt / 128 from toIntOf (isInt_lo v h), show (k0_t2_loop v v').st.toInt = 1 from (by decide : (1#32 : BitVec 32).toInt = 1)]
  omega

theorem trips3_eq : (k0_t3_loop v v').trips = 0 := by
  unfold Scf.Loop.trips Scf.trips
  rw [show (k0_t3_loop v v').st.toInt = 1 from (by decide : (1#32 : BitVec 32).toInt = 1)]
  have e : (k0_t3_loop v v').ub = (k0_t3_loop v v').lb := by
    show Scalar.addi (Scalar.shrsi v 7#32) _ = Scalar.addi (Scalar.shrsi v 7#32) (Scalar.muli (Scalar.divsi _ 1#32) 1#32)
    rw [divsi_one, muli_one]
  rw [e]; omega

/-- Row `k` of the rows read is row `lo + k`. -/
theorem off3_eq (h : 0 ≤ v.toInt) (h' : 0 ≤ v'.toInt) (k : Fin (k0_t2_loop v v').trips) : k0_off3 v v' k = ![(v.toInt / 128).toNat + k.val, 0] := by
  have hk := Nat.lt_of_lt_of_eq k.isLt (trips2_eq v v' h h')
  have e : IsInt (Scf.iv (Scalar.shrsi v 7#32) 1#32 k.val) (v.toInt / 128 + k.val) :=
    Affine.iv (ea := v.toInt / 128) (eb := 1) (isInt_lo v h) (ofNat (e := 1) 1 ⟨rfl, by decide⟩) k.val ⟨by omega, by omega, by omega⟩
  show ![(Scalar.indexCast (Scf.iv (Scalar.shrsi v 7#32) 1#32 k.val)).toNat, 0] = _
  have e2 : (Scalar.indexCast (Scf.iv (Scalar.shrsi v 7#32) 1#32 k.val)).toNat = (v.toInt / 128).toNat + k.val := by
    have := toNat_eq (Affine.indexCast e) (by omega)
    omega
  rw [e2]

/-- The side condition. -/
theorem chk_of_nonneg (h : 0 ≤ v.toInt) (h' : 0 ≤ v'.toInt) : k0_chk1 v v' := by
  refine ⟨⟨(by decide : (0:Int) < (1#32 : BitVec 32).toInt), ?_⟩, ?_, ⟨(by decide : (0:Int) < (1#32 : BitVec 32).toInt), ?_⟩, ?_⟩
  · have := (word_range v).2
    show (k0_t2_loop v v').lb.toInt + (k0_t2_loop v v').trips * (1#32 : BitVec 32).toInt < 2 ^ 31
    rw [trips2_eq v v' h h', show (k0_t2_loop v v').lb.toInt = v.toInt / 128 from toIntOf (isInt_lo v h), show (1#32 : BitVec 32).toInt = 1 from by decide]
    omega
  · intro k a
    rw [off3_eq v v' h h' k]
    have hk := Nat.lt_of_lt_of_eq k.isLt (trips2_eq v v' h h')
    match a with
    | ⟨0, _⟩ => show (v.toInt / 128).toNat + k.val + 1 ≤ 128; omega
    | ⟨1, _⟩ => show 0 + 128 ≤ 128; omega
  · show (k0_t3_loop v v').lb.toInt + (k0_t3_loop v v').trips * (1#32 : BitVec 32).toInt < 2 ^ 31
    rw [trips3_eq, show (k0_t3_loop v v').lb.toInt = _ from toIntOf (isInt_ub v v' h h')]
    omega
  · intro k; have := Nat.lt_of_lt_of_eq k.isLt (trips3_eq v v'); omega
end

end Cert.KernelIdeal.Hand

end
-- ==== Proof.ILaunch.lean ====
module

public import proofs.«01_k».proof.Proof.IBody
public import proofs.«01_k».proof.Proof.IOffs
public import proofs.«01_k».proof.Proof.Gen.KernelIdeal.Frame
public import Idealize.ShloMosaic.Lib.Pipeline.FrameSuffixV

/-!
  The launch: the kernel's buffers cut into the blocks and slots the body works on, and the run of the whole program.
-/

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## The kernel's own semaphores -/

abbrev osem : Fin 14 ⊕ Fin 2 → SemLoc sig := Sum.elim (fun s => .dma (csm s).sem) (fun s => .dma (zsm s).sem)
theorem ownSemFacts : Pipeline.OwnSemFacts spec0 osem := by decide

/-! ## Element sets -/

abbrev WB (b : Fin 125) : Finset S12288x32000.Idx := (Rect.unit (s := S12288x32000) (wOff b) S12288x256.size (wOff_inb b)).set
abbrev ZB (b : Fin 125) : Finset S16x32000.Idx := (Rect.unit (s := S16x32000) (wOff b) S16x256.size (zOff_inb b)).set
abbrev RS (s : Fin 14) : Finset S14x12288x256.Idx := (Rect.unit (s := S14x12288x256) (slotOff s) S1x12288x256.size (slotOff_inb s)).set
abbrev ZS (s : Fin 2) : Finset S2x16x256.Idx := (Rect.unit (s := S2x16x256) (zslotOff s) S1x16x256.size (zslotOff_inb s)).set

theorem wblk_set (b : Fin 125) : (wblk b).view.set = WB b := View.set_slice_whole _ _
theorem zblk_set (b : Fin 125) : (zblk b).view.set = ZB b := View.set_slice_whole _ _
theorem rslot_set (s : Fin 14) : (rslot s).view.set = RS s := (View.set_reshape _ _).trans (View.set_slice_whole _ _)
theorem zslot_set (s : Fin 2) : (zslot s).view.set = ZS s := (View.set_reshape _ _).trans (View.set_slice_whole _ _)

theorem ax2 {a : Fin 2} (h : a ≠ 1) : a = 0 := by omega
theorem WB_disjoint : ∀ b b' : Fin 125, b ≠ b' → Disjoint (WB b) (WB b') :=
  Ring.lead_disjoint (s := S12288x32000) (1 : Fin 2) 256 wOff S12288x256.size wOff_inb (fun _ => rfl) rfl
theorem WB_cover : Finset.univ.biUnion WB = Finset.univ :=
  Ring.lead_cover (s := S12288x32000) (1 : Fin 2) 256 wOff S12288x256.size wOff_inb (fun _ => rfl) (fun b a h => by rw [ax2 h]; rfl) rfl (fun a h => by rw [ax2 h]; rfl) rfl
theorem ZB_disjoint : ∀ b b' : Fin 125, b ≠ b' → Disjoint (ZB b) (ZB b') :=
  Ring.lead_disjoint (s := S16x32000) (1 : Fin 2) 256 wOff S16x256.size zOff_inb (fun _ => rfl) rfl
theorem ZB_cover : Finset.univ.biUnion ZB = Finset.univ :=
  Ring.lead_cover (s := S16x32000) (1 : Fin 2) 256 wOff S16x256.size zOff_inb (fun _ => rfl) (fun b a h => by rw [ax2 h]; rfl) rfl (fun a h => by rw [ax2 h]; rfl) rfl
theorem RS_disjoint : ∀ b b' : Fin 14, b ≠ b' → Disjoint (RS b) (RS b') :=
  Ring.lead_disjoint (s := S14x12288x256) (0 : Fin 3) 1 slotOff S1x12288x256.size slotOff_inb (fun b => (Nat.one_mul b.val).symm) rfl
theorem RS_cover : Finset.univ.biUnion RS = Finset.univ :=
  Ring.lead_cover (s := S14x12288x256) (0 : Fin 3) 1 slotOff S1x12288x256.size slotOff_inb (fun b => (Nat.one_mul b.val).symm)
    (fun b a h => by fin_cases a <;> first | exact absurd rfl h | rfl) rfl (fun a h => by fin_cases a <;> first | exact absurd rfl h | rfl) rfl
theorem ZS_disjoint : ∀ b b' : Fin 2, b ≠ b' → Disjoint (ZS b) (ZS b') :=
  Ring.lead_disjoint (s := S2x16x256) (0 : Fin 3) 1 zslotOff S1x16x256.size zslotOff_inb (fun b => (Nat.one_mul b.val).symm) rfl
theorem ZS_cover : Finset.univ.biUnion ZS = Finset.univ :=
  Ring.lead_cover (s := S2x16x256) (0 : Fin 3) 1 zslotOff S1x16x256.size zslotOff_inb (fun b => (Nat.one_mul b.val).symm)
    (fun b a h => by fin_cases a <;> first | exact absurd rfl h | rfl) rfl (fun a h => by fin_cases a <;> first | exact absurd rfl h | rfl) rfl

/-! ## Buffers as blocks and slots -/

omit [FloatOps F] in
theorem bigSep_mono' {I : Type} {s : Finset I} {Φ Ψ : I → sProp 𝕄} (h : ∀ i, (Φ i : sProp 𝕄) ⊢ Ψ i) : (bigSep s Φ : sProp 𝕄) ⊢ bigSep s Ψ := bigSep_mono fun i _ => h i

section Split
variable (c : Dev nD)

theorem w_eq (XA : Buf (Elt F) (wM.view.loc (c : Thread nD τ))) :
    (((c : Thread nD τ).loc main_arg2) ↦{fullShare} XA : sProp 𝕄) = bigSep Finset.univ (homeP c XA) := by
  rw [Ring.pointsTo_blocks (ℓ := (c : Thread nD τ).loc main_arg2) WB WB_disjoint WB_cover]
  exact bigSep_congr fun b _ => by rw [← wblk_set]; rfl

theorem z_eq (f : Buf (Elt F) ((c : Thread nD τ).loc main_v2_2)) :
    (((c : Thread nD τ).loc main_v2_2) ↦{fullShare} f : sProp 𝕄) = bigSep Finset.univ (fun b => zblkP c b f) := by
  rw [Ring.pointsTo_blocks (ℓ := (c : Thread nD τ).loc main_v2_2) ZB ZB_disjoint ZB_cover]
  exact bigSep_congr fun b _ => by rw [← zblk_set]; rfl

theorem slotP_eq (s : Fin 14) (f) : slotP (F := F) c s f = (((c : Thread nD τ).loc cc0_scratch0) ↦[RS s]{fullShare} f : sProp 𝕄) :=
  congrArg (fun S => (_ ↦[S]{fullShare} f : sProp 𝕄)) (rslot_set s)
theorem zslotP_eq (s : Fin 2) (f) : zslotP (F := F) c s f = (((c : Thread nD τ).loc cc0_scratch3) ↦[ZS s]{fullShare} f : sProp 𝕄) :=
  congrArg (fun S => (_ ↦[S]{fullShare} f : sProp 𝕄)) (zslot_set s)

theorem ring_split : iprop(∃ f : Buf (Elt F) ((c : Thread nD τ).loc cc0_scratch0), ((c : Thread nD τ).loc cc0_scratch0) ↦{fullShare} f)
    ⊢ (bigSep Finset.univ (fun s => iprop(∃ f, slotP c s f)) : sProp 𝕄) := by
  iintro ⟨%f, H⟩
  ihave H2 := (entails_of_eq (Ring.pointsTo_blocks (Ix := Unit) (Name := ℕ) (U := UU nD τ) (Lvl := ℕ) (q := fullShare) (ℓ := (c : Thread nD τ).loc cc0_scratch0) RS RS_disjoint RS_cover f)) $$ H
  iapply (bigSep_mono' (s := Finset.univ) (fun s => show (((c : Thread nD τ).loc cc0_scratch0) ↦[RS s]{fullShare} f : sProp 𝕄) ⊢ iprop(∃ f, slotP c s f) from by
    iintro H; iexists f; iapply (entails_of_eq (slotP_eq c s f).symm); iexact H))
  iexact H2
theorem ring_join : (bigSep Finset.univ (fun s => iprop(∃ f, slotP c s f)) : sProp 𝕄)
    ⊢ iprop(∃ f : Buf (Elt F) ((c : Thread nD τ).loc cc0_scratch0), ((c : Thread nD τ).loc cc0_scratch0) ↦{fullShare} f) := by
  refine (entails_of_eq (bigSep_congr fun s _ => ?_)).trans (Ring.pointsTo_blocks_join_exists (ℓ := (c : Thread nD τ).loc cc0_scratch0) RS RS_disjoint RS_cover (fun _ => Classical.arbitrary _))
  exact congrArg _ (funext fun f => slotP_eq c s f)
theorem zb_split : iprop(∃ f : Buf (Elt F) ((c : Thread nD τ).loc cc0_scratch3), ((c : Thread nD τ).loc cc0_scratch3) ↦{fullShare} f)
    ⊢ (bigSep Finset.univ (fun s => iprop(∃ f, zslotP c s f)) : sProp 𝕄) := by
  iintro ⟨%f, H⟩
  ihave H2 := (entails_of_eq (Ring.pointsTo_blocks (Ix := Unit) (Name := ℕ) (U := UU nD τ) (Lvl := ℕ) (q := fullShare) (ℓ := (c : Thread nD τ).loc cc0_scratch3) ZS ZS_disjoint ZS_cover f)) $$ H
  iapply (bigSep_mono' (s := Finset.univ) (fun s => show (((c : Thread nD τ).loc cc0_scratch3) ↦[ZS s]{fullShare} f : sProp 𝕄) ⊢ iprop(∃ f, zslotP c s f) from by
    iintro H; iexists f; iapply (entails_of_eq (zslotP_eq c s f).symm); iexact H))
  iexact H2
theorem zb_join : (bigSep Finset.univ (fun s => iprop(∃ f, zslotP c s f)) : sProp 𝕄)
    ⊢ iprop(∃ f : Buf (Elt F) ((c : Thread nD τ).loc cc0_scratch3), ((c : Thread nD τ).loc cc0_scratch3) ↦{fullShare} f) := by
  refine (entails_of_eq (bigSep_congr fun s _ => ?_)).trans (Ring.pointsTo_blocks_join_exists (ℓ := (c : Thread nD τ).loc cc0_scratch3) ZS ZS_disjoint ZS_cover (fun _ => Classical.arbitrary _))
  exact congrArg _ (funext fun f => zslotP_eq c s f)

theorem cnt_eq (f) : cntP (F := F) c f = (((c : Thread nD τ).loc cc0_scratch1) ↦{fullShare} f : sProp 𝕄) :=
  congrArg (fun S => (_ ↦[S]{fullShare} f : sProp 𝕄)) (View.set_whole _)
theorem acc_eq (f) : accP (F := F) c f = (((c : Thread nD τ).loc cc0_scratch2) ↦{fullShare} f : sProp 𝕄) :=
  congrArg (fun S => (_ ↦[S]{fullShare} f : sProp 𝕄)) (View.set_whole _)

theorem cells_eq : (Pipeline.ownSems0 (Ix := Unit) (Name := ℕ) (U := UU nD τ) (Lvl := ℕ) (Val := Elt F) (τ := τ) osem c : sProp 𝕄)
    = iprop(bigSep Finset.univ (cellP c) ∗ bigSep Finset.univ (zcellP c)) := by
  unfold Pipeline.ownSems0; rw [bigSep_univ_sum]; rfl

theorem ringFree_eq2 : (RingFree c : sProp 𝕄) = iprop(bigSep Finset.univ (fun s => iprop(∃ f, slotP c s f)) ∗ bigSep Finset.univ (cellP c)) := by
  unfold RingFree; exact BI.bigSep_sep _ _ _
theorem zFree_eq2 : (ZFree c : sProp 𝕄) = iprop(bigSep Finset.univ (fun s => iprop(∃ f, zslotP c s f)) ∗ bigSep Finset.univ (zcellP c)) := by
  unfold ZFree; exact BI.bigSep_sep _ _ _

/-- The buffer of the logits, whole, is every block still to be written; -/
theorem zTodo_begin (f : Buf (Elt F) ((c : Thread nD τ).loc main_v2_2)) :
    (((c : Thread nD τ).loc main_v2_2) ↦{fullShare} f : sProp 𝕄) ⊢ ZTodo c 0 := by
  rw [z_eq]; unfold ZTodo
  rw [show Ring.rangeSet 125 0 125 = Finset.univ from by
    ext b; rw [Ring.mem_rangeSet]; simp only [Finset.mem_univ, iff_true]; exact ⟨Nat.zero_le _, b.isLt⟩]
  exact bigSep_mono' fun b => by iintro H; iexists f; iexact H

theorem zblk_emb (b : Fin 125) (j : S16x256.Idx) : (zblk b).view.emb j = ix2 (n0 := 16) (n1 := 32000) (j 0) ⟨256 * b.val + (j 1).val, by
    have h1 : (j 1).val < 256 := (j 1).isLt; have := b.isLt; omega⟩ := by
  funext a; apply Fin.ext
  match a with
  | ⟨0, _⟩ => show 0 + 1 * (j 0).val = (j 0).val; omega
  | ⟨1, _⟩ => show 256 * b.val + 1 * (j 1).val = 256 * b.val + (j 1).val; omega

variable (X : Vec F S16x12288 .fp8e4m3) (Wt : Vec F S12288x32000 .fp8e4m3) (WS : Vec F S250x128 .f32) (C : Vec F S4000x128 .f32) (v151 v229 v307 rep : FVec F S16x128 .f32)

theorem zAll_blk (b : Fin 125) : (zblk b).view.read (Elt F) (zAll X Wt WS C v151 v229 v307 rep) = zst X Wt WS C v151 v229 v307 rep b := by
  funext j
  have h1 : (j 1).val < 256 := (j 1).isLt
  have e0 : (zblk b).view.read (Elt F) (zAll X Wt WS C v151 v229 v307 rep) j = zAll X Wt WS C v151 v229 v307 rep ((zblk b).view.emb j) := rfl
  refine e0.trans ((congrArg (zAll X Wt WS C v151 v229 v307 rep) (zblk_emb b j)).trans ?_)
  have e1 : (256 * b.val + (j 1).val) / 256 = b.val := by omega
  have e2 : (256 * b.val + (j 1).val) % 256 = (j 1).val := by omega
  have e3 : ix2 (n0 := 16) (n1 := 256) (j 0) ⟨(256 * b.val + (j 1).val) % 256, Nat.mod_lt _ (by decide)⟩ = j := by
    funext a; apply Fin.ext
    match a with
    | ⟨0, _⟩ => rfl
    | ⟨1, _⟩ => exact e2
  show zst X Wt WS C v151 v229 v307 rep ⟨(256 * b.val + (j 1).val) / 256, _⟩ (ix2 (n0 := 16) (n1 := 256) (j 0) ⟨(256 * b.val + (j 1).val) % 256, Nat.mod_lt _ (by decide)⟩) = _
  rw [e3]
  congr 1
  exact Fin.ext e1

theorem eq_on_of_read {κ : Kind} {sp : Space} {s : Shape} {e : EltTy} (v : View sig κ sp s e) (f g : v.ty.Contents (Elt F))
    (h : v.read (Elt F) f = v.read (Elt F) g) : ∀ i ∈ v.set, f i = g i := by
  intro i hi
  obtain ⟨j, -, rfl⟩ := Finset.mem_map.mp hi
  have := congrFun h j
  rw [View.read_apply, View.read_apply] at this
  exact cast_inj _ |>.mp this

/-- and all blocks written are the buffer at the logits. -/
theorem zdone_end : bigSep Finset.univ (zdoneP c (zst X Wt WS C v151 v229 v307 rep))
    ⊢ (((c : Thread nD τ).loc main_v2_2) ↦{fullShare} (zAll X Wt WS C v151 v229 v307 rep : S16x32000.Idx → Elt F .f32) : sProp 𝕄) := by
  rw [z_eq]
  refine bigSep_mono' fun b => ?_
  unfold zdoneP
  iintro ⟨%f, %hf, H⟩
  iapply (entails_of_eq (pointsTo_congr (eq_on_of_read (zblk b).view f _ (hf.trans (zAll_blk X Wt WS C v151 v229 v307 rep b).symm))))
  iexact H

/-! ## The region's invariant, in and out -/

/-- The kernel's scratch, cells, the weights and the buffer of the logits. -/
def ΦK (XA : Buf (Elt F) ((c : Thread nD τ).loc main_arg2)) (Z : Buf (Elt F) ((c : Thread nD τ).loc main_v2_2)) : sProp 𝕄 :=
  iprop(((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f))
    ∗ (bigSep Finset.univ (cellP c) ∗ bigSep Finset.univ (zcellP c))
    ∗ (((c : Thread nD τ).loc main_arg2) ↦{fullShare} XA) ∗ (((c : Thread nD τ).loc main_v2_2) ↦{fullShare} Z))

/-- What of it the body takes. -/
def BodyIn (XA : Buf (Elt F) ((c : Thread nD τ).loc main_arg2)) : sProp 𝕄 :=
  iprop((∃ f, cntP c f) ∗ (∃ fa, accP c fa) ∗ bigSep Finset.univ (homeP c XA) ∗ RingFree c ∗ ZFree c ∗ ZTodo c 0)

theorem phi_in (XA Z) : ΦK (F := F) c XA Z ⊢ BodyIn c XA := by
  unfold ΦK BodyIn
  rw [ringFree_eq2, zFree_eq2, w_eq]
  iintro ⟨⟨H0, ⟨%f1, H1⟩, ⟨%f2, H2⟩, H3⟩, ⟨Hc, Hz⟩, HW, HZ⟩
  isplitl [H1]; · iexists f1; irw [cnt_eq]; iexact H1
  isplitl [H2]; · iexists f2; irw [acc_eq]; iexact H2
  isplitl [HW]; · iexact HW
  isplitl [H0 Hc]
  · isplitl [H0]; · iapply (ring_split c); iexact H0
    iexact Hc
  isplitl [H3 Hz]
  · isplitl [H3]; · iapply (zb_split c); iexact H3
    iexact Hz
  iapply (zTodo_begin c Z); iexact HZ

theorem phi_out (XA : Buf (Elt F) ((c : Thread nD τ).loc main_arg2)) :
    iprop((∃ f, cntP c f) ∗ (∃ fa, accP c fa) ∗ bigSep Finset.univ (homeP c XA) ∗ RingFree c ∗ ZFree c ∗ bigSep Finset.univ (zdoneP c (zst X Wt WS C v151 v229 v307 rep)))
      ⊢ ΦK (F := F) c XA (zAll X Wt WS C v151 v229 v307 rep : S16x32000.Idx → Elt F .f32) := by
  unfold ΦK
  rw [ringFree_eq2, zFree_eq2, w_eq]
  iintro ⟨⟨%f1, H1⟩, ⟨%f2, H2⟩, HW, ⟨H0, Hc⟩, ⟨H3, Hz⟩, HZ⟩
  isplitl [H0 H1 H2 H3]
  · isplitl [H0]; · iapply (ring_join c); iexact H0
    isplitl [H1]; · iexists f1; iapply (entails_of_eq (cnt_eq c f1)); iexact H1
    isplitl [H2]; · iexists f2; iapply (entails_of_eq (acc_eq c f2)); iexact H2
    iapply (zb_join c); iexact H3
  isplitl [Hc Hz]
  · isplitl [Hc]; · iexact Hc
    iexact Hz
  isplitl [HW]; · iexact HW
  iapply (zdone_end c X Wt WS C v151 v229 v307 rep); iexact HZ
end Split

end Cert.KernelIdeal.Hand

end
-- ==== Proof.IRun.lean ====
module

public import proofs.«01_k».proof.Proof.ILaunch

/-!
  The run of the whole program: from any memory whose offsets are not negative it ends, with each result at its value.
-/

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Body
variable (c : Dev nD) (XA : Buf (Elt F) ((c : Thread nD τ).loc main_arg2))
  (arg0 : Memref sig .tc .smem S17 .i32) (harg0 : arg0.IsWhole)
  (arg1 : Memref sig .tc .smem S16 .f32) (harg1 : arg1.IsWhole)
  (arg2 : Memref sig .tc .smem S16 .f32) (harg2 : arg2.IsWhole)
  (arg3 : Memref sig .tc .smem S16 .f32) (harg3 : arg3.IsWhole)
  (arg4 : Memref sig .tc .smem S16 .f32) (harg4 : arg4.IsWhole)
  (arg5 : Memref sig .tc .vmem S16x12288 .fp8e4m3) (harg5 : arg5.IsWhole)
  (arg6 : Memref sig .tc .vmem S250x128 .f32) (harg6 : arg6.IsWhole)
  (arg7 : Memref sig .tc .vmem S128x128 .i32) (harg7 : arg7.IsWhole)
  (arg8 : Memref sig .tc .vmem S16x20 .i32) (harg8 : arg8.IsWhole)
  (arg10 : Memref sig .tc .vmem S1x16 .f32) (harg10 : arg10.IsWhole)
  (arg11 : Memref sig .tc .vmem S16x20 .f32) (harg11 : arg11.IsWhole)
  (g0 : Buf (Elt F) (arg0.view.loc (c : Thread nD τ))) (g1 : Buf (Elt F) (arg1.view.loc (c : Thread nD τ))) (g2 : Buf (Elt F) (arg2.view.loc (c : Thread nD τ))) (g3 : Buf (Elt F) (arg3.view.loc (c : Thread nD τ)))
  (g4 : Buf (Elt F) (arg4.view.loc (c : Thread nD τ))) (g5 : Buf (Elt F) (arg5.view.loc (c : Thread nD τ))) (g6 : Buf (Elt F) (arg6.view.loc (c : Thread nD τ))) (g7 : Buf (Elt F) (arg7.view.loc (c : Thread nD τ)))
  (g8 : Buf (Elt F) (arg8.view.loc (c : Thread nD τ))) (g10 : Buf (Elt F) (arg10.view.loc (c : Thread nD τ))) (g11 : Buf (Elt F) (arg11.view.loc (c : Thread nD τ)))

section Fns
variable (off : S17.Idx → BitVec 32) (hr : ChkOK off) (xs pres freq rep : S16.Idx → F .f32)
  (X : Vec F S16x12288 .fp8e4m3) (Wt : Vec F S12288x32000 .fp8e4m3) (WS : Vec F S250x128 .f32) (ids : Vec F S128x128 .i32) (cand : Vec F S16x20 .i32)

/-- The running maxima, sums and picked logits at the end, as the windows' blocks give them. -/
def endC : FVec F S16x128 .f32 × FVec F S16x128 .f32 × FVec F S16x128 .f32 :=
  carry X Wt WS (cntFull (F := F) off hr ids) (rowsOf (F := F) xs) (rowsOf (F := F) pres) (rowsOf (F := F) freq) (rowsOf (F := F) rep) cand 125
/-- The logits; -/
def fnZ : Vec F S16x32000 .f32 := zAll X Wt WS (cntFull (F := F) off hr ids) (rowsOf (F := F) xs) (rowsOf (F := F) pres) (rowsOf (F := F) freq) (rowsOf (F := F) rep)
/-- each row's log-sum-exp; -/
def fnLse : Vec F S1x16 .f32 :=
  k0_pay1 (k0_pay40 (endC off hr xs pres freq rep X Wt WS ids cand).1 (endC off hr xs pres freq rep X Wt WS ids cand).2.1) k0_pay42 (Scalar.ofBits .f32 0x00000000#32)
/-- the candidates' log-probabilities. -/
def fnLp : Vec F S16x20 .f32 := k0_pay41 (endC off hr xs pres freq rep X Wt WS ids cand).1 (endC off hr xs pres freq rep X Wt WS ids cand).2.1 (endC off hr xs pres freq rep X Wt WS ids cand).2.2
end Fns

/-- The body run, its windows' contents named by what they read. -/
theorem bodyRunX (off : S17.Idx → BitVec 32) (hr : ChkOK off) (xs pres freq rep : S16.Idx → F .f32)
    (X : Vec F S16x12288 .fp8e4m3) (Wt : Vec F S12288x32000 .fp8e4m3) (WS : Vec F S250x128 .f32) (ids : Vec F S128x128 .i32) (cand : Vec F S16x20 .i32)
    (h0 : arg0.view.read (Elt F) g0 = off) (h1 : arg1.view.read (Elt F) g1 = xs) (h2 : arg2.view.read (Elt F) g2 = pres) (h3 : arg3.view.read (Elt F) g3 = freq) (h4 : arg4.view.read (Elt F) g4 = rep)
    (h5 : arg5.view.read (Elt F) g5 = X) (h6 : arg6.view.read (Elt F) g6 = WS) (h7 : arg7.view.read (Elt F) g7 = ids) (h8 : arg8.view.read (Elt F) g8 = cand) (h9 : wM.view.read (Elt F) XA = Wt)
    (W : Waits sig Unit) (Q : PUnit → sProp 𝕄) :
    iprop((InsP c arg0 arg1 arg2 arg3 arg4 arg5 arg6 arg7 arg8 g0 g1 g2 g3 g4 g5 g6 g7 g8 ∗ (arg10.view.loc (c : Thread nD τ) ↦[arg10.view.set]{fullShare} g10) ∗ (arg11.view.loc (c : Thread nD τ) ↦[arg11.view.set]{fullShare} g11)
          ∗ BodyIn c XA ∗ owes (c : Thread nD τ) 0 W)
        ∗ ((InsP c arg0 arg1 arg2 arg3 arg4 arg5 arg6 arg7 arg8 g0 g1 g2 g3 g4 g5 g6 g7 g8
          ∗ (∃ f, ⌜arg10.view.read (Elt F) f = fnLse off hr xs pres freq rep X Wt WS ids cand⌝ ∗ (arg10.view.loc (c : Thread nD τ) ↦[arg10.view.set]{fullShare} f))
          ∗ (∃ f, ⌜arg11.view.read (Elt F) f = fnLp off hr xs pres freq rep X Wt WS ids cand⌝ ∗ (arg11.view.loc (c : Thread nD τ) ↦[arg11.view.set]{fullShare} f))
          ∗ ΦK c XA (fnZ off hr xs pres freq rep X Wt WS ids : S16x32000.Idx → Elt F .f32) ∗ (∃ W, owes (c : Thread nD τ) 0 W)) -∗ Q ⟨⟩))
    ⊢ wp Idealize.ShloMosaic.frame (wpE (defs₀ (F := F)) 𝒱₀ (c : Thread nD τ) none) Set.univ
        (cc0_fp8_head_logprobs (F := F) arg0 harg0 arg1 harg1 arg2 harg2 arg3 harg3 arg4 harg4 arg5 harg5 arg6 harg6 arg7 harg7 arg8 harg8 wM (Memref.isWhole_whole _) arg10 harg10 arg11 harg11 zM (Memref.isWhole_whole _) ringM (Memref.isWhole_whole _) cntM (Memref.isWhole_whole _) accM (Memref.isWhole_whole _) zbM (Memref.isWhole_whole _) cc0_scratch4 cc0_scratch5) Q := by
  subst h0 h1 h2 h3 h4 h5 h6 h7 h8 h9
  unfold BodyIn
  iintro ⟨⟨HI, H10, H11, ⟨HC, HA, Hh, HR, HZ, HT⟩, HW⟩, Hk⟩
  iapply (bodyRun c XA arg0 harg0 arg1 harg1 arg2 harg2 arg3 harg3 arg4 harg4 arg5 harg5 arg6 harg6 arg7 harg7 arg8 harg8 arg10 harg10 arg11 harg11 g0 g1 g2 g3 g4 g5 g6 g7 g8 g10 g11 hr W)
  unfold PRE
  isplitl [HI H10 H11 HC HA Hh HR HZ HT HW]
  · isplitl [HI]; · iexact HI
    isplitl [H10]; · iexact H10
    isplitl [H11]; · iexact H11
    isplitl [HC]; · iexact HC
    isplitl [HA]; · iexact HA
    isplitl [Hh]; · iexact Hh
    isplitl [HR]; · iexact HR
    isplitl [HZ]; · iexact HZ
    isplitl [HT]; · iexact HT
    iexact HW
  unfold POST
  iintro ⟨HI, H10, H11, HC, HA, Hh, HR, HZ, HT, HW⟩
  iapply Hk
  isplitl [HI]; · iexact HI
  isplitl [H10]; · iexact H10
  isplitl [H11]; · iexact H11
  isplitl [HC HA Hh HR HZ HT]
  · iapply (phi_out c (arg5.view.read (Elt F) g5) (wM.view.read (Elt F) XA) (arg6.view.read (Elt F) g6) (cntFull (arg0.view.read (Elt F) g0) hr (arg7.view.read (Elt F) g7)) (rowsOf (arg1.view.read (Elt F) g1)) (rowsOf (arg2.view.read (Elt F) g2)) (rowsOf (arg3.view.read (Elt F) g3)) (rowsOf (arg4.view.read (Elt F) g4)) XA)
    isplitl [HC]; · iexact HC
    isplitl [HA]; · iexact HA
    isplitl [Hh]; · iexact Hh
    isplitl [HR]; · iexact HR
    isplitl [HZ]; · iexact HZ
    iexact HT
  iexact HW
end Body

/-! ## The pipeline's proof data -/

section Launch
variable (m : (ℓ : Loc nD τ sig) → Buf (Elt F) ℓ) (ρ : Dev nD → PrngReg)

/-- No offset is negative. -/
def OffOK : Prop := ∀ (c : Dev nD) (j : S17.Idx), 0 ≤ ((m ((c : Thread nD τ).loc main_arg5) : S17.Idx → BitVec 32) j).toInt

variable (c : Dev nD) (t : Fin cfg0.N)
def bOff : S17.Idx → BitVec 32 := iblk m c 0 t
def bXs : S16.Idx → F .f32 := iblk m c 1 t
def bPres : S16.Idx → F .f32 := iblk m c 2 t
def bFreq : S16.Idx → F .f32 := iblk m c 3 t
def bRep : S16.Idx → F .f32 := iblk m c 4 t
def bX : Vec F S16x12288 .fp8e4m3 := iblk m c 5 t
def bWS : Vec F S250x128 .f32 := iblk m c 6 t
def bIds : Vec F S128x128 .i32 := iblk m c 7 t
def bCand : Vec F S16x20 .i32 := iblk m c 8 t
def bW : Vec F S12288x32000 .fp8e4m3 := wM.view.read (Elt F) (V m c main_arg2)

variable {m} in
theorem chkOK (h : OffOK m) : ChkOK (bOff m c t) := fun b => by
  have h' : ∀ j, 0 ≤ (bOff m c t j).toInt := fun j => by
    unfold bOff iblk
    rw [V_main_arg5]
    exact h c _
  exact chk_of_nonneg _ _ (h' _) (h' _)

variable (h : OffOK m)
def zF : Vec F S16x32000 .f32 := fnZ (bOff m c t0_0) (chkOK c t0_0 h) (bXs m c t0_0) (bPres m c t0_0) (bFreq m c t0_0) (bRep m c t0_0) (bX m c t0_0) (bW m c) (bWS m c t0_0) (bIds m c t0_0)
def lseF (t : Fin cfg0.N) : Vec F S1x16 .f32 := fnLse (bOff m c t) (chkOK c t h) (bXs m c t) (bPres m c t) (bFreq m c t) (bRep m c t) (bX m c t) (bW m c) (bWS m c t) (bIds m c t) (bCand m c t)
def lpF (t : Fin cfg0.N) : Vec F S16x20 .f32 := fnLp (bOff m c t) (chkOK c t h) (bXs m c t) (bPres m c t) (bFreq m c t) (bRep m c t) (bX m c t) (bW m c) (bWS m c t) (bIds m c t) (bCand m c t)

/-- The buffers at the end: the logits' at the logits. -/
def GF (c : Dev nD) : (b : Ref sig .tc) → Buf (Elt F) ((c : Thread nD τ).loc b) := Function.update (V m c) main_v2_2 (zF m c h : S16x32000.Idx → Elt F .f32)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => lseF m c h t
    | ⟨10, _⟩ => lpF m c h t
  Φ t := if t.val = 0 then ΦK c (V m c main_arg2) (V m c main_v2_2) else ΦK c (V m c main_arg2) (zF m c h : S16x32000.Idx → Elt F .f32)
  q _ := fullShare
  owed _ := 0

theorem phi_first (t : Fin (cfg0.N + 1)) (ht : t.val = 0) : (dats m h 0 c).Φ t = ΦK c (V m c main_arg2) (V m c main_v2_2) :=
  (show (dats m h 0 c).Φ t = if t.val = 0 then ΦK c (V m c main_arg2) (V m c main_v2_2) else ΦK c (V m c main_arg2) (zF m c h : S16x32000.Idx → Elt F .f32) from rfl).trans (if_pos ht)
theorem phi_later (t : Fin (cfg0.N + 1)) (ht : t.val ≠ 0) : (dats m h 0 c).Φ t = ΦK c (V m c main_arg2) (zF m c h : S16x32000.Idx → Elt F .f32) :=
  (show (dats m h 0 c).Φ t = if t.val = 0 then ΦK c (V m c main_arg2) (V m c main_v2_2) else ΦK c (V m c main_arg2) (zF m c h : S16x32000.Idx → Elt F .f32) from rfl).trans (if_neg ht)

theorem before_w0 (d) : (dats m h 0 c).before 0 t d = iblk m c 0 t := by
  unfold Dat.before; rw [if_pos (fetch0_0 t)]; unfold Dat.fetched Dat.blockOf iblk; dsimp only [dats]; rfl
theorem before_w1 (d) : (dats m h 0 c).before 1 t d = iblk m c 1 t := by
  unfold Dat.before; rw [if_pos (fetch0_1 t)]; unfold Dat.fetched Dat.blockOf iblk; dsimp only [dats]; rfl
theorem before_w2 (d) : (dats m h 0 c).before 2 t d = iblk m c 2 t := by
  unfold Dat.before; rw [if_pos (fetch0_2 t)]; unfold Dat.fetched Dat.blockOf iblk; dsimp only [dats]; rfl
theorem before_w3 (d) : (dats m h 0 c).before 3 t d = iblk m c 3 t := by
  unfold Dat.before; rw [if_pos (fetch0_3 t)]; unfold Dat.fetched Dat.blockOf iblk; dsimp only [dats]; rfl
theorem before_w4 (d) : (dats m h 0 c).before 4 t d = iblk m c 4 t := by
  unfold Dat.before; rw [if_pos (fetch0_4 t)]; unfold Dat.fetched Dat.blockOf iblk; dsimp only [dats]; rfl
theorem before_w5 (d) : (dats m h 0 c).before 5 t d = iblk m c 5 t := by
  unfold Dat.before; rw [if_pos (fetch0_5 t)]; unfold Dat.fetched Dat.blockOf iblk; dsimp only [dats]; rfl
theorem before_w6 (d) : (dats m h 0 c).before 6 t d = iblk m c 6 t := by
  unfold Dat.before; rw [if_pos (fetch0_6 t)]; unfold Dat.fetched Dat.blockOf iblk; dsimp only [dats]; rfl
theorem before_w7 (d) : (dats m h 0 c).before 7 t d = iblk m c 7 t := by
  unfold Dat.before; rw [if_pos (fetch0_7 t)]; unfold Dat.fetched Dat.blockOf iblk; dsimp only [dats]; rfl
theorem before_w8 (d) : (dats m h 0 c).before 8 t d = iblk m c 8 t := by
  unfold Dat.before; rw [if_pos (fetch0_8 t)]; unfold Dat.fetched Dat.blockOf iblk; dsimp only [dats]; rfl
theorem after_in0 : (dats m h 0 c).after 0 t = iblk m c 0 t := by dsimp only [dats]
theorem after_in1 : (dats m h 0 c).after 1 t = iblk m c 1 t := by dsimp only [dats]
theorem after_in2 : (dats m h 0 c).after 2 t = iblk m c 2 t := by dsimp only [dats]
theorem after_in3 : (dats m h 0 c).after 3 t = iblk m c 3 t := by dsimp only [dats]
theorem after_in4 : (dats m h 0 c).after 4 t = iblk m c 4 t := by dsimp only [dats]
theorem after_in5 : (dats m h 0 c).after 5 t = iblk m c 5 t := by dsimp only [dats]
theorem after_in6 : (dats m h 0 c).after 6 t = iblk m c 6 t := by dsimp only [dats]
theorem after_in7 : (dats m h 0 c).after 7 t = iblk m c 7 t := by dsimp only [dats]
theorem after_in8 : (dats m h 0 c).after 8 t = iblk m c 8 t := by dsimp only [dats]
theorem after_lse : (dats m h 0 c).after 9 t = lseF m c h t := by dsimp only [dats]
theorem after_lp : (dats m h 0 c).after 10 t = lpF m c h t := by dsimp only [dats]

/-- The body's table at the kernel. -/
theorem defs_tc : (defs₀ (F := F)) .tc cfg0.body
    = fun a => cc0_fp8_head_logprobs (win0_0.stage (a.2 0)) (hstage0_0 0) (win0_1.stage (a.2 1)) (hstage0_1 0) (win0_2.stage (a.2 2)) (hstage0_2 0) (win0_3.stage (a.2 3)) (hstage0_3 0) (win0_4.stage (a.2 4)) (hstage0_4 0) (win0_5.stage (a.2 5)) (hstage0_5 0) (win0_6.stage (a.2 6)) (hstage0_6 0) (win0_7.stage (a.2 7)) (hstage0_7 0) (win0_8.stage (a.2 8)) (hstage0_8 0) wM (Memref.isWhole_whole _) (win0_9.stage (a.2 9)) (hstage0_9 0) (win0_10.stage (a.2 10)) (hstage0_10 0) zM (Memref.isWhole_whole _) ringM (Memref.isWhole_whole _) cntM (Memref.isWhole_whole _) accM (Memref.isWhole_whole _) zbM (Memref.isWhole_whole _) cc0_scratch4 cc0_scratch5 := rfl
theorem prog_eq : (defs₀ (F := F)) .tc cfg0.body (cfg0.bodyArgs t (cfg0.slots t))
    = cc0_fp8_head_logprobs (st0_0 t) (hstage0_0 0) (st0_1 t) (hstage0_1 0) (st0_2 t) (hstage0_2 0) (st0_3 t) (hstage0_3 0) (st0_4 t) (hstage0_4 0) (st0_5 t) (hstage0_5 0) (st0_6 t) (hstage0_6 0) (st0_7 t) (hstage0_7 0) (st0_8 t) (hstage0_8 0) wM (Memref.isWhole_whole _) (st0_9 t) (hstage0_9 0) (st0_10 t) (hstage0_10 0) zM (Memref.isWhole_whole _) ringM (Memref.isWhole_whole _) cntM (Memref.isWhole_whole _) accM (Memref.isWhole_whole _) zbM (Memref.isWhole_whole _) cc0_scratch4 cc0_scratch5 :=
  (congrFun defs_tc _).trans rfl

theorem zF_at : zF m c h = fnZ (bOff m c t) (chkOK c t h) (bXs m c t) (bPres m c t) (bFreq m c t) (bRep m c t) (bX m c t) (bW m c) (bWS m c t) (bIds m c t) := by
  have e := fin_N0 t
  subst e
  rfl

set_option backward.isDefEq.respectTransparency.types false in
theorem body_obligation : BodyObligation (dats (F := F) m h 0 c) (defs₀ (F := F)) 𝒱₀ () Set.univ := fun t => by
  rw [bigSep_W0, bigSep_W0]
  dsimp only
  simp only [before_w0, before_w1, before_w2, before_w3, before_w4, before_w5, before_w6, before_w7, before_w8, after_in0, after_in1, after_in2, after_in3, after_in4, after_in5, after_in6, after_in7, after_in8, after_lse, after_lp]
  have ht0 : t.val = 0 := congrArg Fin.val (fin_N0 t)
  rw [phi_first m c h t.castSucc ht0, phi_later m c h t.succ (Nat.succ_ne_zero t.val)]
  unfold Dat.owesAt Pipeline.owesWithin
  rw [show (dats m h 0 c).owed t.castSucc = 0 from rfl, show (dats m h 0 c).owed t.succ = 0 from rfl]
  unfold owns
  iintro ⟨HΦ, ⟨%W, -, HW⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩, ⟨%d6, %g6, %hg6, H6⟩, ⟨%d7, %g7, %hg7, H7⟩, ⟨%d8, %g8, %hg8, H8⟩, ⟨%d9, %g9, -, H9⟩, ⟨%d10, %g10, -, H10⟩⟩
  sl_rw [prog_eq t]
  iapply (bodyRunX c (V m c main_arg2) (st0_0 t) (hstage0_0 0) (st0_1 t) (hstage0_1 0) (st0_2 t) (hstage0_2 0) (st0_3 t) (hstage0_3 0) (st0_4 t) (hstage0_4 0) (st0_5 t) (hstage0_5 0) (st0_6 t) (hstage0_6 0) (st0_7 t) (hstage0_7 0) (st0_8 t) (hstage0_8 0) (st0_9 t) (hstage0_9 0) (st0_10 t) (hstage0_10 0)
    g0 g1 g2 g3 g4 g5 g6 g7 g8 g9 g10 (bOff m c t) (chkOK c t h) (bXs m c t) (bPres m c t) (bFreq m c t) (bRep m c t) (bX m c t) (bW m c) (bWS m c t) (bIds m c t) (bCand m c t) hg0 hg1 hg2 hg3 hg4 hg5 hg6 hg7 hg8 rfl W)
  unfold InsP
  isplitl [H0 H1 H2 H3 H4 H5 H6 H7 H8 H9 H10 HΦ HW]
  · isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9]; · iexact H9
    isplitl [H10]; · iexact H10
    isplitl [HΦ]; · iapply (phi_in c (V m c main_arg2) (V m c main_v2_2)); iexact HΦ
    iexact HW
  · iintro ⟨⟨H0, H1, H2, H3, H4, H5, H6, H7, H8⟩, ⟨%f9, %hf9, H9⟩, ⟨%f10, %hf10, H10⟩, HΦ, ⟨%W', HW⟩⟩
    isplitl [HΦ]
    · rw [zF_at m c t h]; iexact HΦ
    isplitl [HW]
    · iexists W'; isplitr; · ipureintro; exact fun _ _ => Or.inl trivial
      iexact HW
    isplitl [H0]; · iexists g0; isplitr; · ipureintro; exact hg0
                    iexact H0
    isplitl [H1]; · iexists g1; isplitr; · ipureintro; exact hg1
                    iexact H1
    isplitl [H2]; · iexists g2; isplitr; · ipureintro; exact hg2
                    iexact H2
    isplitl [H3]; · iexists g3; isplitr; · ipureintro; exact hg3
                    iexact H3
    isplitl [H4]; · iexists g4; isplitr; · ipureintro; exact hg4
                    iexact H4
    isplitl [H5]; · iexists g5; isplitr; · ipureintro; exact hg5
                    iexact H5
    isplitl [H6]; · iexists g6; isplitr; · ipureintro; exact hg6
                    iexact H6
    isplitl [H7]; · iexists g7; isplitr; · ipureintro; exact hg7
                    iexact H7
    isplitl [H8]; · iexists g8; isplitr; · ipureintro; exact hg8
                    iexact H8
    isplitl [H9]; · iexists f9; isplitr; · ipureintro; exact hf9
                    iexact H9
    iexists f10; isplitr; · ipureintro; exact hf10
    iexact H10

/-! ## The run -/

abbrev HH : Finset (Ref sig .tc) := {main_arg2}
abbrev RR : Finset (Ref sig .tc) := {main_v2_2}

theorem phi_eq (G : (c : Dev nD) → (b : Ref sig .tc) → Buf (Elt F) ((c : Thread nD τ).loc b)) :
    Pipeline.ΦDRV osem spec0 HH RR (V m) G c = ΦK c (V m c main_arg2) (G c main_v2_2) := by
  unfold Pipeline.ΦDRV ΦK
  rw [scopedRest0_eq, cells_eq, bigSep_singleton, bigSep_singleton]

theorem hmainU : Pipeline.HMainK (Ix := Unit) (Name := ℕ) (U := UU nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What the buffers outside the windows hold at the end. -/
abbrev Wfin (c : Dev nD) : Valuation τ sig (Elt F) := StableHlo.after [hostOps1].flatten (Pipeline.withArrays spec0 c (Pipeline.withR (V0 m c) RR c (GF m h c)) fun w => (dats m h 0 c).arrAt w cfg0.N)

set_option backward.isDefEq.respectTransparency.types false in
theorem run_main : θ_run defs (onTc (τ := τ) (main (F := F))) (s₀ m ρ) (fun r =>
    (∀ c : Dev nD, (∀ w, r.2.mem (((cfgs 0).spec w).arr.view.loc (c : Thread nD τ)) = (dats m h 0 c).arrAt w cfg0.N)
      ∧ ∀ b ∈ Pipeline.restRefs sig spec0, r.2.mem ((c : Thread nD τ).loc b) = Wfin m h c (Proc.devRef .tc b)) ∧ r.2.sem = fun _ => 0) :=
  Pipeline.θ_run_frame_dmaR_aroundV cfgs (dats m h) 0 launch0 osem defs₀ 𝒱₀ ownSemFacts HH RR (by decide) (by decide) m ρ main
    (hbody := fun c => (body_obligation m c h).loose) (hshare := fun c => (dats m h 0 c).share_full fun _ => rfl)
    (howed := fun _ _ => rfl) (V₀ := V0 m) (opss := [hostOps1]) sfx_sub sfx_fresh sfx_keeps (G := GF m h) (hmainU m) (hA := fun _ _ => rfl)
    (hin := fun c => entails_of_eq ((phi_eq m c _).trans (phi_first m c h 0 rfl).symm))
    (hout := fun c => entails_of_eq ((phi_later m c h (Fin.last cfg0.N) (by decide : cfg0.N ≠ 0)).trans
      (((congrArg (ΦK c (V m c main_arg2)) (show GF m h c main_v2_2 = (zF m c h : S16x32000.Idx → Elt F .f32) from Function.update_self ..)).symm).trans (phi_eq m c _).symm)))
    (Q' := fun r => (∀ c : Dev nD, (∀ w, r.2.mem (((cfgs 0).spec w).arr.view.loc (c : Thread nD τ)) = (dats m h 0 c).arrAt w cfg0.N)
      ∧ ∀ b ∈ Pipeline.restRefs sig spec0, r.2.mem ((c : Thread nD τ).loc b) = Wfin m h c (Proc.devRef .tc b)) ∧ r.2.sem = fun _ => 0)
    (hQ' := fun _ hh => hh)

end Launch

end Cert.KernelIdeal.Hand

end
-- ==== Proof.IFinal.lean ====
module

public import proofs.«01_k».proof.Proof.IRun

/-!
  The end of a run, array by array: the arguments as launched, each result at its value.
-/

@[expose] public section

set_option maxRecDepth 16384

noncomputable section

namespace Cert.KernelIdeal.Hand

open Cert.KernelIdeal Cert.KernelIdeal.Gen
open Idealize.ShloMosaic
open Idealize.ShloMosaic.TcCoe
open Idealize.SL.Sem
open Idealize.ShloMosaic.Pipeline (Dat)

variable {F : FTy → Type} [FloatOps F]
variable (m : (ℓ : Loc nD τ sig) → Buf (Elt F) ℓ) (ρ : Dev nD → PrngReg) (h : OffOK m) (c : Dev nD)

/-- A buffer the last host line does not write, that is neither a window's nor the logits', ends as the region found it. -/
theorem Wfin_keep (b : Ref sig .tc) (h3 : b ≠ main_v3) (hw : ∀ w, Pipeline.arrRef spec0 w ≠ b) (hr : b ∉ RR) :
    Wfin m h c (Proc.devRef .tc b) = V m c b := by
  unfold Wfin
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne h3)),
    Pipeline.withArrays_of_ne _ c _ _ b hw, Pipeline.withR_of_not_mem _ _ _ _ _ hr]

/-- The logits' buffer at the end. -/
theorem Wfin_z : Wfin m h c (Proc.devRef .tc main_v2_2) = (zF m c h : S16x32000.Idx → Elt F .f32) := by
  unfold Wfin
  rw [StableHlo.after_of_forall_not_mem (b := Proc.devRef .tc main_v2_2) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c _ _ main_v2_2 (by exact (by decide : ∀ w, Pipeline.arrRef spec0 w ≠ main_v2_2)), Pipeline.withR_of_mem _ _ _ _ _ (by decide)]
  exact Function.update_self ..

include h in
/-- Every run ends, the arguments as launched, the counters at zero. -/
theorem frame_of_ok : θ_run defs (onTc (τ := τ) (main (F := F))) ⟨m, fun _ => 0, ρ⟩ (fun r =>
      (∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run defs _ _).mono (fun _ hh => ⟨fun c : Dev nD =>
     ⟨((hh.1 c).1 5).trans (((dats m h 0 c).arrAt_in 5 rfl _).trans (V_main_arg0 m c)),
      ((hh.1 c).1 1).trans (((dats m h 0 c).arrAt_in 1 rfl _).trans (V_main_arg1 m c)),
      ((hh.1 c).2 main_arg2 (Pipeline.mem_restRefs_of main_arg2 (by decide) (by decide))).trans ((Wfin_keep m h c main_arg2 (by decide) (by exact (by decide : ∀ w, Pipeline.arrRef spec0 w ≠ main_arg2)) (by decide)).trans (V_main_arg2 m c)),
      ((hh.1 c).2 main_arg3 (Pipeline.mem_restRefs_of main_arg3 (by decide) (by decide))).trans ((Wfin_keep m h c main_arg3 (by decide) (by exact (by decide : ∀ w, Pipeline.arrRef spec0 w ≠ main_arg3)) (by decide)).trans (V_main_arg3 m c)),
      ((hh.1 c).2 main_arg4 (Pipeline.mem_restRefs_of main_arg4 (by decide) (by decide))).trans ((Wfin_keep m h c main_arg4 (by decide) (by exact (by decide : ∀ w, Pipeline.arrRef spec0 w ≠ main_arg4)) (by decide)).trans (V_main_arg4 m c)),
      ((hh.1 c).1 0).trans (((dats m h 0 c).arrAt_in 0 rfl _).trans (V_main_arg5 m c)),
      ((hh.1 c).1 2).trans (((dats m h 0 c).arrAt_in 2 rfl _).trans (V_main_arg6 m c)),
      ((hh.1 c).1 3).trans (((dats m h 0 c).arrAt_in 3 rfl _).trans (V_main_arg7 m c)),
      ((hh.1 c).1 4).trans (((dats m h 0 c).arrAt_in 4 rfl _).trans (V_main_arg8 m c)),
      ((hh.1 c).1 8).trans (((dats m h 0 c).arrAt_in 8 rfl _).trans (V_main_arg9 m c))⟩, hh.2⟩) (run_main m ρ h)

end Cert.KernelIdeal.Hand

end
-- ==== Proof.KNames.lean ====
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.KitQuiescent
public import Idealize.ShloMosaic.Lib.Pipeline.FrameSuffixV
public import Idealize.ShloMosaic.Lib.Ring
public import Idealize.ShloMosaic.Lib.Affine
public import Idealize.ShloMosaic.Lib.Tactic

/-!
  The names the body's transfers go by: slot `s` of the weight ring and its cell, column block `b` of the weights,
  slot `s` of the logit staging buffer and its cell, column block `b` of the logits; and the closed forms of the
  offsets the body computes, by which its slices are those names.
-/

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev wM : Memref sig .tc .hbm S12288x32000 .fp8e4m3 := Memref.whole main_arg2
abbrev zM : Memref sig .tc .hbm S16x32000 .f32 := Memref.whole main_v2_2
abbrev ringM : Memref sig .tc .vmem S14x12288x256 .fp8e4m3 := Memref.whole cc0_scratch0
abbrev cntM : Memref sig .tc .vmem S4000x128 .f32 := Memref.whole cc0_scratch1
abbrev accM : Memref sig .tc .vmem S16x256 .f32 := Memref.whole cc0_scratch2
abbrev zbM : Memref sig .tc .vmem S2x16x256 .f32 := Memref.whole cc0_scratch3

abbrev wOff (b : Fin 125) : Fin 2 → Nat := ![0, 256 * b.val]
theorem wOff_inb (b : Fin 125) : ∀ a, wOff b a + S12288x256.size a ≤ S12288x32000.size a := by
  have := b.isLt; intro a; fin_cases a
  · show 0 + 12288 ≤ 12288; omega
  · show 256 * b.val + 256 ≤ 32000; omega
theorem zOff_inb (b : Fin 125) : ∀ a, wOff b a + S16x256.size a ≤ S16x32000.size a := by
  have := b.isLt; intro a; fin_cases a
  · show 0 + 16 ≤ 16; omega
  · show 256 * b.val + 256 ≤ 32000; omega
abbrev slotOff (s : Fin 14) : Fin 3 → Nat := ![s.val, 0, 0]
theorem slotOff_inb (s : Fin 14) : ∀ a, slotOff s a + S1x12288x256.size a ≤ S14x12288x256.size a := by
  have := s.isLt; intro a; fin_cases a
  · show s.val + 1 ≤ 14; omega
  · show 0 + 12288 ≤ 12288; omega
  · show 0 + 256 ≤ 256; omega
abbrev zslotOff (s : Fin 2) : Fin 3 → Nat := ![s.val, 0, 0]
theorem zslotOff_inb (s : Fin 2) : ∀ a, zslotOff s a + S1x16x256.size a ≤ S2x16x256.size a := by
  have := s.isLt; intro a; fin_cases a
  · show s.val + 1 ≤ 2; omega
  · show 0 + 16 ≤ 16; omega
  · show 0 + 256 ≤ 256; omega
abbrev semOff (s : Fin 14) : Fin 1 → Nat := ![s.val]
theorem semOff_inb (s : Fin 14) : ∀ a, semOff s a + S1.size a ≤ S14.size a := by
  have := s.isLt; intro a; fin_cases a; show s.val + 1 ≤ 14; omega
abbrev zsemOff (s : Fin 2) : Fin 1 → Nat := ![s.val]
theorem zsemOff_inb (s : Fin 2) : ∀ a, zsemOff s a + S1.size a ≤ S2.size a := by
  have := s.isLt; intro a; fin_cases a; show s.val + 1 ≤ 2; omega

/-- Column block `b` of the weights. -/
def wblk (b : Fin 125) : Memref sig .tc .hbm S12288x256 .fp8e4m3 :=
  wM.slice (Rect.unit (s := S12288x32000) (wOff b) S12288x256.size (wOff_inb b)) (fun _ => rfl)
/-- Column block `b` of the logits. -/
def zblk (b : Fin 125) : Memref sig .tc .hbm S16x256 .f32 :=
  zM.slice (Rect.unit (s := S16x32000) (wOff b) S16x256.size (zOff_inb b)) (fun _ => rfl)
/-- Slot `s` of the weight ring. -/
def rslot (s : Fin 14) : Memref sig .tc .vmem S12288x256 .fp8e4m3 :=
  (ringM.slice (Rect.unit (s := S14x12288x256) (slotOff s) S1x12288x256.size (slotOff_inb s)) (fun _ => rfl)).squeeze S12288x256 squeezes_S1x12288x256_S12288x256
/-- Slot `s` of the logit staging buffer. -/
def zslot (s : Fin 2) : Memref sig .tc .vmem S16x256 .f32 :=
  (zbM.slice (Rect.unit (s := S2x16x256) (zslotOff s) S1x16x256.size (zslotOff_inb s)) (fun _ => rfl)).squeeze S16x256 squeezes_S1x16x256_S16x256
/-- The ring's cell `s`. -/
def csm (s : Fin 14) : DmaSems sig S_ := (cc0_scratch4.slice (Rect.unit (s := S14) (semOff s) S1.size (semOff_inb s))).squeeze S_ squeezes_S1_S_
/-- The logit staging buffer's cell `s`. -/
def zsm (s : Fin 2) : DmaSems sig S_ := (cc0_scratch5.slice (Rect.unit (s := S2) (zsemOff s) S1.size (zsemOff_inb s))).squeeze S_ squeezes_S1_S_

instance (b : Fin 125) : ClosedOff (wOff b) := ⟨wOff b, rfl⟩
instance (s : Fin 14) : ClosedOff (slotOff s) := ⟨slotOff s, rfl⟩
instance (s : Fin 2) : ClosedOff (zslotOff s) := ⟨zslotOff s, rfl⟩

/-! ## The offsets in closed form -/

theorem off6_eq : ∀ k : Fin k0_t4_loop.trips, k0_off6 k = semOff (Ring.sl 14 k.val) := by decide +kernel
theorem off7_eq : ∀ k : Fin k0_t4_loop.trips, k0_off7 k = slotOff (Ring.sl 14 k.val) := by decide +kernel
theorem off8_eq : ∀ k : Fin k0_t4_loop.trips, k0_off8 k = wOff (Ring.bk 125 k.val) := by decide +kernel
theorem off10_eq : ∀ k : Fin k0_t4_loop.trips, k0_off10 k = slotOff (Ring.sl 14 k.val) := by decide +kernel
theorem off11_eq : ∀ k : Fin k0_t4_loop.trips, k0_cond1 k = 1#1 → k0_off11 k = semOff (Ring.sl 14 k.val) := by decide +kernel
theorem off12_eq : ∀ k : Fin k0_t4_loop.trips, k0_cond1 k = 1#1 → k0_off12 k = slotOff (Ring.sl 14 k.val) := by decide +kernel
theorem off13_eq : ∀ k : Fin k0_t4_loop.trips, k0_cond1 k = 1#1 → k0_off13 k = wOff (Ring.bk 125 (k.val + 14)) := by decide +kernel
theorem off14_eq : ∀ k : Fin k0_t4_loop.trips, k0_cond2 k = 1#1 → k0_off14 k = zsemOff (Ring.sl 2 k.val) := by decide +kernel
theorem off15_eq : ∀ k : Fin k0_t4_loop.trips, k0_cond2 k = 1#1 → k0_off15 k = wOff (Ring.bk 125 (k.val - 2)) := by decide +kernel
theorem off16_eq : ∀ k : Fin k0_t4_loop.trips, k0_cond2 k = 1#1 → k0_off16 k = zslotOff (Ring.sl 2 k.val) := by decide +kernel
theorem off20_eq : ∀ k : Fin k0_t4_loop.trips, ∀ r : Fin 2, k0_off20 k (BitVec.ofNat 32 r.val) = ![(Ring.sl 2 k.val).val, 0, 128 * r.val] := by decide +kernel
theorem off21_eq : ∀ k : Fin k0_t4_loop.trips, k0_off21 k = zsemOff (Ring.sl 2 k.val) := by decide +kernel
theorem off22_eq : ∀ k : Fin k0_t4_loop.trips, k0_off22 k = wOff (Ring.bk 125 k.val) := by decide +kernel
theorem off23_eq : ∀ k : Fin k0_t4_loop.trips, k0_off23 k = zslotOff (Ring.sl 2 k.val) := by decide +kernel
theorem cond1_iff : ∀ k : Fin k0_t4_loop.trips, k0_cond1 k = 1#1 ↔ k.val + 14 < 125 := by decide +kernel
theorem cond2_iff : ∀ k : Fin k0_t4_loop.trips, k0_cond2 k = 1#1 ↔ 2 ≤ k.val := by decide +kernel
theorem trips4 : k0_t4_loop.trips = 125 := by decide +kernel
theorem trips1 : k0_t1_loop.trips = 16 := by decide +kernel

instance (k : Fin k0_t4_loop.trips) : ClosedOff (k0_off7 k) := ⟨slotOff (Ring.sl 14 k.val), off7_eq k⟩
instance (k : Fin k0_t4_loop.trips) : ClosedOff (k0_off10 k) := ⟨slotOff (Ring.sl 14 k.val), off10_eq k⟩
instance closedOff_off20_0 (k : Fin k0_t4_loop.trips) : ClosedOff (k0_off20 k (BitVec.ofNat 32 0)) := ⟨![(Ring.sl 2 k.val).val, 0, 128 * 0], off20_eq k ⟨0, by decide⟩⟩
instance closedOff_off20_1 (k : Fin k0_t4_loop.trips) : ClosedOff (k0_off20 k (BitVec.ofNat 32 1)) := ⟨![(Ring.sl 2 k.val).val, 0, 128 * 1], off20_eq k ⟨1, by decide⟩⟩
instance (k : Fin k0_t4_loop.trips) : ClosedOff (k0_off23 k) := ⟨zslotOff (Ring.sl 2 k.val), off23_eq k⟩

/-! ## The body's slices under those names -/

theorem csm_congr {off : Fin 1 → Nat} {s : Fin 14} (e : off = semOff s) (hh) :
    (cc0_scratch4.slice (Rect.unit (s := S14) off S1.size hh)).squeeze S_ squeezes_S1_S_ = csm s :=
  congrArg (fun A : DmaSems sig S1 => A.squeeze S_ squeezes_S1_S_) (SemArray.slice_unit_congr _ e _ _)
theorem zsm_congr {off : Fin 1 → Nat} {s : Fin 2} (e : off = zsemOff s) (hh) :
    (cc0_scratch5.slice (Rect.unit (s := S2) off S1.size hh)).squeeze S_ squeezes_S1_S_ = zsm s :=
  congrArg (fun A : DmaSems sig S1 => A.squeeze S_ squeezes_S1_S_) (SemArray.slice_unit_congr _ e _ _)
theorem rslot_congr {off : Fin 3 → Nat} {s : Fin 14} (e : off = slotOff s) (hh hs) :
    (ringM.slice (Rect.unit (s := S14x12288x256) off S1x12288x256.size hh) hs).squeeze S12288x256 squeezes_S1x12288x256_S12288x256 = rslot s :=
  congrArg (fun M : Memref sig .tc .vmem S1x12288x256 .fp8e4m3 => M.squeeze S12288x256 squeezes_S1x12288x256_S12288x256) (Memref.slice_unit_congr _ e _ _ _ _)
theorem zslot_congr {off : Fin 3 → Nat} {s : Fin 2} (e : off = zslotOff s) (hh hs) :
    (zbM.slice (Rect.unit (s := S2x16x256) off S1x16x256.size hh) hs).squeeze S16x256 squeezes_S1x16x256_S16x256 = zslot s :=
  congrArg (fun M : Memref sig .tc .vmem S1x16x256 .f32 => M.squeeze S16x256 squeezes_S1x16x256_S16x256) (Memref.slice_unit_congr _ e _ _ _ _)
theorem wblk_congr {off : Fin 2 → Nat} {b : Fin 125} (e : off = wOff b) (hh hs) :
    wM.slice (Rect.unit (s := S12288x32000) off S12288x256.size hh) hs = wblk b := Memref.slice_unit_congr _ e _ _ _ (fun _ => rfl)
theorem zblk_congr {off : Fin 2 → Nat} {b : Fin 125} (e : off = wOff b) (hh hs) :
    zM.slice (Rect.unit (s := S16x32000) off S16x256.size hh) hs = zblk b := Memref.slice_unit_congr _ e _ _ _ (fun _ => rfl)

@[sl_canon] theorem semL0 (hh) : (cc0_scratch4.slice (Rect.unit (s := S14) ![0] S1.size hh)).squeeze S_ squeezes_S1_S_ = csm 0 := csm_congr (by decide) _
@[sl_canon] theorem slotL0 (hh hs) : (ringM.slice (Rect.unit (s := S14x12288x256) ![0, 0, 0] S1x12288x256.size hh) hs).squeeze S12288x256 squeezes_S1x12288x256_S12288x256 = rslot 0 := rslot_congr (by decide) _ _
@[sl_canon] theorem wL0 (hh hs) : wM.slice (Rect.unit (s := S12288x32000) ![0, 0] S12288x256.size hh) hs = wblk 0 := wblk_congr (by decide) _ _
@[sl_canon] theorem semL1 (hh) : (cc0_scratch4.slice (Rect.unit (s := S14) ![1] S1.size hh)).squeeze S_ squeezes_S1_S_ = csm 1 := csm_congr (by decide) _
@[sl_canon] theorem slotL1 (hh hs) : (ringM.slice (Rect.unit (s := S14x12288x256) ![1, 0, 0] S1x12288x256.size hh) hs).squeeze S12288x256 squeezes_S1x12288x256_S12288x256 = rslot 1 := rslot_congr (by decide) _ _
@[sl_canon] theorem wL1 (hh hs) : wM.slice (Rect.unit (s := S12288x32000) ![0, 256] S12288x256.size hh) hs = wblk 1 := wblk_congr (by decide) _ _
@[sl_canon] theorem semL2 (hh) : (cc0_scratch4.slice (Rect.unit (s := S14) ![2] S1.size hh)).squeeze S_ squeezes_S1_S_ = csm 2 := csm_congr (by decide) _
@[sl_canon] theorem slotL2 (hh hs) : (ringM.slice (Rect.unit (s := S14x12288x256) ![2, 0, 0] S1x12288x256.size hh) hs).squeeze S12288x256 squeezes_S1x12288x256_S12288x256 = rslot 2 := rslot_congr (by decide) _ _
@[sl_canon] theorem wL2 (hh hs) : wM.slice (Rect.unit (s := S12288x32000) ![0, 512] S12288x256.size hh) hs = wblk 2 := wblk_congr (by decide) _ _
@[sl_canon] theorem semL3 (hh) : (cc0_scratch4.slice (Rect.unit (s := S14) ![3] S1.size hh)).squeeze S_ squeezes_S1_S_ = csm 3 := csm_congr (by decide) _
@[sl_canon] theorem slotL3 (hh hs) : (ringM.slice (Rect.unit (s := S14x12288x256) ![3, 0, 0] S1x12288x256.size hh) hs).squeeze S12288x256 squeezes_S1x12288x256_S12288x256 = rslot 3 := rslot_congr (by decide) _ _
@[sl_canon] theorem wL3 (hh hs) : wM.slice (Rect.unit (s := S12288x32000) ![0, 768] S12288x256.size hh) hs = wblk 3 := wblk_congr (by decide) _ _
@[sl_canon] theorem semL4 (hh) : (cc0_scratch4.slice (Rect.unit (s := S14) ![4] S1.size hh)).squeeze S_ squeezes_S1_S_ = csm 4 := csm_congr (by decide) _
@[sl_canon] theorem slotL4 (hh hs) : (ringM.slice (Rect.unit (s := S14x12288x256) ![4, 0, 0] S1x12288x256.size hh) hs).squeeze S12288x256 squeezes_S1x12288x256_S12288x256 = rslot 4 := rslot_congr (by decide) _ _
@[sl_canon] theorem wL4 (hh hs) : wM.slice (Rect.unit (s := S12288x32000) ![0, 1024] S12288x256.size hh) hs = wblk 4 := wblk_congr (by decide) _ _
@[sl_canon] theorem semL5 (hh) : (cc0_scratch4.slice (Rect.unit (s := S14) ![5] S1.size hh)).squeeze S_ squeezes_S1_S_ = csm 5 := csm_congr (by decide) _
@[sl_canon] theorem slotL5 (hh hs) : (ringM.slice (Rect.unit (s := S14x12288x256) ![5, 0, 0] S1x12288x256.size hh) hs).squeeze S12288x256 squeezes_S1x12288x256_S12288x256 = rslot 5 := rslot_congr (by decide) _ _
@[sl_canon] theorem wL5 (hh hs) : wM.slice (Rect.unit (s := S12288x32000) ![0, 1280] S12288x256.size hh) hs = wblk 5 := wblk_congr (by decide) _ _
@[sl_canon] theorem semL6 (hh) : (cc0_scratch4.slice (Rect.unit (s := S14) ![6] S1.size hh)).squeeze S_ squeezes_S1_S_ = csm 6 := csm_congr (by decide) _
@[sl_canon] theorem slotL6 (hh hs) : (ringM.slice (Rect.unit (s := S14x12288x256) ![6, 0, 0] S1x12288x256.size hh) hs).squeeze S12288x256 squeezes_S1x12288x256_S12288x256 = rslot 6 := rslot_congr (by decide) _ _
@[sl_canon] theorem wL6 (hh hs) : wM.slice (Rect.unit (s := S12288x32000) ![0, 1536] S12288x256.size hh) hs = wblk 6 := wblk_congr (by decide) _ _
@[sl_canon] theorem semL7 (hh) : (cc0_scratch4.slice (Rect.unit (s := S14) ![7] S1.size hh)).squeeze S_ squeezes_S1_S_ = csm 7 := csm_congr (by decide) _
@[sl_canon] theorem slotL7 (hh hs) : (ringM.slice (Rect.unit (s := S14x12288x256) ![7, 0, 0] S1x12288x256.size hh) hs).squeeze S12288x256 squeezes_S1x12288x256_S12288x256 = rslot 7 := rslot_congr (by decide) _ _
@[sl_canon] theorem wL7 (hh hs) : wM.slice (Rect.unit (s := S12288x32000) ![0, 1792] S12288x256.size hh) hs = wblk 7 := wblk_congr (by decide) _ _
@[sl_canon] theorem semL8 (hh) : (cc0_scratch4.slice (Rect.unit (s := S14) ![8] S1.size hh)).squeeze S_ squeezes_S1_S_ = csm 8 := csm_congr (by decide) _
@[sl_canon] theorem slotL8 (hh hs) : (ringM.slice (Rect.unit (s := S14x12288x256) ![8, 0, 0] S1x12288x256.size hh) hs).squeeze S12288x256 squeezes_S1x12288x256_S12288x256 = rslot 8 := rslot_congr (by decide) _ _
@[sl_canon] theorem wL8 (hh hs) : wM.slice (Rect.unit (s := S12288x32000) ![0, 2048] S12288x256.size hh) hs = wblk 8 := wblk_congr (by decide) _ _
@[sl_canon] theorem semL9 (hh) : (cc0_scratch4.slice (Rect.unit (s := S14) ![9] S1.size hh)).squeeze S_ squeezes_S1_S_ = csm 9 := csm_congr (by decide) _
@[sl_canon] theorem slotL9 (hh hs) : (ringM.slice (Rect.unit (s := S14x12288x256) ![9, 0, 0] S1x12288x256.size hh) hs).squeeze S12288x256 squeezes_S1x12288x256_S12288x256 = rslot 9 := rslot_congr (by decide) _ _
@[sl_canon] theorem wL9 (hh hs) : wM.slice (Rect.unit (s := S12288x32000) ![0, 2304] S12288x256.size hh) hs = wblk 9 := wblk_congr (by decide) _ _
@[sl_canon] theorem semL10 (hh) : (cc0_scratch4.slice (Rect.unit (s := S14) ![10] S1.size hh)).squeeze S_ squeezes_S1_S_ = csm 10 := csm_congr (by decide) _
@[sl_canon] theorem slotL10 (hh hs) : (ringM.slice (Rect.unit (s := S14x12288x256) ![10, 0, 0] S1x12288x256.size hh) hs).squeeze S12288x256 squeezes_S1x12288x256_S12288x256 = rslot 10 := rslot_congr (by decide) _ _
@[sl_canon] theorem wL10 (hh hs) : wM.slice (Rect.unit (s := S12288x32000) ![0, 2560] S12288x256.size hh) hs = wblk 10 := wblk_congr (by decide) _ _
@[sl_canon] theorem semL11 (hh) : (cc0_scratch4.slice (Rect.unit (s := S14) ![11] S1.size hh)).squeeze S_ squeezes_S1_S_ = csm 11 := csm_congr (by decide) _
@[sl_canon] theorem slotL11 (hh hs) : (ringM.slice (Rect.unit (s := S14x12288x256) ![11, 0, 0] S1x12288x256.size hh) hs).squeeze S12288x256 squeezes_S1x12288x256_S12288x256 = rslot 11 := rslot_congr (by decide) _ _
@[sl_canon] theorem wL11 (hh hs) : wM.slice (Rect.unit (s := S12288x32000) ![0, 2816] S12288x256.size hh) hs = wblk 11 := wblk_congr (by decide) _ _
@[sl_canon] theorem semL12 (hh) : (cc0_scratch4.slice (Rect.unit (s := S14) ![12] S1.size hh)).squeeze S_ squeezes_S1_S_ = csm 12 := csm_congr (by decide) _
@[sl_canon] theorem slotL12 (hh hs) : (ringM.slice (Rect.unit (s := S14x12288x256) ![12, 0, 0] S1x12288x256.size hh) hs).squeeze S12288x256 squeezes_S1x12288x256_S12288x256 = rslot 12 := rslot_congr (by decide) _ _
@[sl_canon] theorem wL12 (hh hs) : wM.slice (Rect.unit (s := S12288x32000) ![0, 3072] S12288x256.size hh) hs = wblk 12 := wblk_congr (by decide) _ _
@[sl_canon] theorem semL13 (hh) : (cc0_scratch4.slice (Rect.unit (s := S14) ![13] S1.size hh)).squeeze S_ squeezes_S1_S_ = csm 13 := csm_congr (by decide) _
@[sl_canon] theorem slotL13 (hh hs) : (ringM.slice (Rect.unit (s := S14x12288x256) ![13, 0, 0] S1x12288x256.size hh) hs).squeeze S12288x256 squeezes_S1x12288x256_S12288x256 = rslot 13 := rslot_congr (by decide) _ _
@[sl_canon] theorem wL13 (hh hs) : wM.slice (Rect.unit (s := S12288x32000) ![0, 3328] S12288x256.size hh) hs = wblk 13 := wblk_congr (by decide) _ _
@[sl_canon] theorem zsemL1 (hh) : (cc0_scratch5.slice (Rect.unit (s := S2) ![1] S1.size hh)).squeeze S_ squeezes_S1_S_ = zsm 1 := zsm_congr (by decide) _
@[sl_canon] theorem zslotL1 (hh hs) : (zbM.slice (Rect.unit (s := S2x16x256) ![1, 0, 0] S1x16x256.size hh) hs).squeeze S16x256 squeezes_S1x16x256_S16x256 = zslot 1 := zslot_congr (by decide) _ _
@[sl_canon] theorem zblkL1 (hh hs) : zM.slice (Rect.unit (s := S16x32000) ![0, 31488] S16x256.size hh) hs = zblk 123 := zblk_congr (by decide) _ _
@[sl_canon] theorem zsemL0 (hh) : (cc0_scratch5.slice (Rect.unit (s := S2) ![0] S1.size hh)).squeeze S_ squeezes_S1_S_ = zsm 0 := zsm_congr (by decide) _
@[sl_canon] theorem zslotL0 (hh hs) : (zbM.slice (Rect.unit (s := S2x16x256) ![0, 0, 0] S1x16x256.size hh) hs).squeeze S16x256 squeezes_S1x16x256_S16x256 = zslot 0 := zslot_congr (by decide) _ _
@[sl_canon] theorem zblkL0 (hh hs) : zM.slice (Rect.unit (s := S16x32000) ![0, 31744] S16x256.size hh) hs = zblk 124 := zblk_congr (by decide) _ _
@[sl_canon] theorem semK (k : Fin k0_t4_loop.trips) (hh) : (cc0_scratch4.slice (Rect.unit (s := S14) (k0_off6 k) S1.size hh)).squeeze S_ squeezes_S1_S_ = csm (Ring.sl 14 k.val) := csm_congr (off6_eq k) _
@[sl_canon] theorem slotK (k : Fin k0_t4_loop.trips) (hh hs) : (ringM.slice (Rect.unit (s := S14x12288x256) (k0_off7 k) S1x12288x256.size hh) hs).squeeze S12288x256 squeezes_S1x12288x256_S12288x256 = rslot (Ring.sl 14 k.val) := rslot_congr (off7_eq k) _ _
@[sl_canon] theorem wK (k : Fin k0_t4_loop.trips) (hh hs) : wM.slice (Rect.unit (s := S12288x32000) (k0_off8 k) S12288x256.size hh) hs = wblk (Ring.bk 125 k.val) := wblk_congr (off8_eq k) _ _
@[sl_canon] theorem semN (k : Fin k0_t4_loop.trips) (hc : k0_cond1 k = 1#1) (hh) : (cc0_scratch4.slice (Rect.unit (s := S14) (k0_off11 k) S1.size hh)).squeeze S_ squeezes_S1_S_ = csm (Ring.sl 14 k.val) := csm_congr (off11_eq k hc) _
@[sl_canon] theorem slotN (k : Fin k0_t4_loop.trips) (hc : k0_cond1 k = 1#1) (hh hs) : (ringM.slice (Rect.unit (s := S14x12288x256) (k0_off12 k) S1x12288x256.size hh) hs).squeeze S12288x256 squeezes_S1x12288x256_S12288x256 = rslot (Ring.sl 14 k.val) := rslot_congr (off12_eq k hc) _ _
@[sl_canon] theorem wN (k : Fin k0_t4_loop.trips) (hc : k0_cond1 k = 1#1) (hh hs) : wM.slice (Rect.unit (s := S12288x32000) (k0_off13 k) S12288x256.size hh) hs = wblk (Ring.bk 125 (k.val + 14)) := wblk_congr (off13_eq k hc) _ _
@[sl_canon] theorem zsemW (k : Fin k0_t4_loop.trips) (hc : k0_cond2 k = 1#1) (hh) : (cc0_scratch5.slice (Rect.unit (s := S2) (k0_off14 k) S1.size hh)).squeeze S_ squeezes_S1_S_ = zsm (Ring.sl 2 k.val) := zsm_congr (off14_eq k hc) _
@[sl_canon] theorem zblkW (k : Fin k0_t4_loop.trips) (hc : k0_cond2 k = 1#1) (hh hs) : zM.slice (Rect.unit (s := S16x32000) (k0_off15 k) S16x256.size hh) hs = zblk (Ring.bk 125 (k.val - 2)) := zblk_congr (off15_eq k hc) _ _
@[sl_canon] theorem zslotW (k : Fin k0_t4_loop.trips) (hc : k0_cond2 k = 1#1) (hh hs) : (zbM.slice (Rect.unit (s := S2x16x256) (k0_off16 k) S1x16x256.size hh) hs).squeeze S16x256 squeezes_S1x16x256_S16x256 = zslot (Ring.sl 2 k.val) := zslot_congr (off16_eq k hc) _ _
@[sl_canon] theorem zsemK (k : Fin k0_t4_loop.trips) (hh) : (cc0_scratch5.slice (Rect.unit (s := S2) (k0_off21 k) S1.size hh)).squeeze S_ squeezes_S1_S_ = zsm (Ring.sl 2 k.val) := zsm_congr (off21_eq k) _
@[sl_canon] theorem zblkK (k : Fin k0_t4_loop.trips) (hh hs) : zM.slice (Rect.unit (s := S16x32000) (k0_off22 k) S16x256.size hh) hs = zblk (Ring.bk 125 k.val) := zblk_congr (off22_eq k) _ _
@[sl_canon] theorem zslotK (k : Fin k0_t4_loop.trips) (hh hs) : (zbM.slice (Rect.unit (s := S2x16x256) (k0_off23 k) S1x16x256.size hh) hs).squeeze S16x256 squeezes_S1x16x256_S16x256 = zslot (Ring.sl 2 k.val) := zslot_congr (off23_eq k) _ _

end Cert.Kernel.Hand

end
-- ==== Proof.KCounts.lean ====
module

public import proofs.«01_k».proof.Proof.KNames

/-!
  The counting of the history: per request, the rows of ids its range meets, one product of one-hot matrices each,
  summed into the request's counts; the counts of the sixteen requests fill the counts buffer, interleaved.
-/

@[expose] public section

set_option maxRecDepth 16384

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UU (nD : Nat) (τ : Topo) : Type := UR sig nD τ × Counters
local notation "𝕄" => MT nD τ sig Unit (Elt F) ℕ (UU nD τ) ℕ

abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

section
variable (c : Dev nD)
  (arg0 : Memref sig .tc .smem S17 .i32) (harg0 : arg0.IsWhole)
  (arg1 : Memref sig .tc .smem S16 .f32) (harg1 : arg1.IsWhole)
  (arg2 : Memref sig .tc .smem S16 .f32) (harg2 : arg2.IsWhole)
  (arg3 : Memref sig .tc .smem S16 .f32) (harg3 : arg3.IsWhole)
  (arg4 : Memref sig .tc .smem S16 .f32) (harg4 : arg4.IsWhole)
  (arg5 : Memref sig .tc .vmem S16x12288 .fp8e4m3) (harg5 : arg5.IsWhole)
  (arg6 : Memref sig .tc .vmem S250x128 .f32) (harg6 : arg6.IsWhole)
  (arg7 : Memref sig .tc .vmem S128x128 .i32) (harg7 : arg7.IsWhole)
  (arg8 : Memref sig .tc .vmem S16x20 .i32) (harg8 : arg8.IsWhole)
  (arg10 : Memref sig .tc .vmem S1x16 .f32) (harg10 : arg10.IsWhole)
  (arg11 : Memref sig .tc .vmem S16x20 .f32) (harg11 : arg11.IsWhole)

/-- The counts of the request whose range is `[v, v']`, after `k` rows of ids. -/
def cntAcc (v v' : BitVec 32) (ids : S128x128.Idx → Elt F .i32) (hw : k0_chk1 v v') : ℕ → FVec F S256x128 .f32
  | 0 => k0_pay14 (F := F)
  | k + 1 => if h : k < (k0_t2_loop v v').trips then
      k0_pay15 v v' ⟨k, h⟩ (cntAcc v v' ids hw k) (fun j => ids ((Rect.unit (s := S128x128) (k0_off3 v v' ⟨k, h⟩) S1x128.size (k0_off3_inb v v' hw ⟨k, h⟩)).toLoadRect.idx j))
    else cntAcc v v' ids hw k

abbrev t2G (v v' : BitVec 32) (hw : k0_chk1 v v') (k : Fin (k0_t2_loop v v').trips) (acc : FVec F S256x128 .f32) : Prog (TpuEff nD τ sig (Elt F) Λ₀ .tc) (FVec F S256x128 .f32) :=
  k0_t2_body (F := F) arg0 harg0 arg1 harg1 arg2 harg2 arg3 harg3 arg4 harg4 arg5 harg5 arg6 harg6 arg7 harg7 arg8 harg8 wM (Memref.isWhole_whole _) arg10 harg10 arg11 harg11 zM (Memref.isWhole_whole _) ringM (Memref.isWhole_whole _) cntM (Memref.isWhole_whole _) accM (Memref.isWhole_whole _) zbM (Memref.isWhole_whole _) cc0_scratch4 cc0_scratch5 v v' hw k acc

set_option warn.classDefReducibility false in
@[sl_loop] def loopInv2 (v v' : BitVec 32) (hw : k0_chk1 v v') (g7 : Buf (Elt F) (arg7.view.loc (c : Thread nD τ))) :
    LoopInvTy_k0_t2 (F := F) Unit ℕ (UU nD τ) ℕ 𝒱₀ c none Set.univ arg0 harg0 arg1 harg1 arg2 harg2 arg3 harg3 arg4 harg4 arg5 harg5 arg6 harg6 arg7 harg7 arg8 harg8 wM (Memref.isWhole_whole _) arg10 harg10 arg11 harg11 zM (Memref.isWhole_whole _) ringM (Memref.isWhole_whole _) cntM (Memref.isWhole_whole _) accM (Memref.isWhole_whole _) zbM (Memref.isWhole_whole _) cc0_scratch4 cc0_scratch5 v v' hw (k0_pay14 (F := F)) where
  inv k acc := iprop((arg7.view.loc (c : Thread nD τ) ↦[arg7.view.set]{fullShare} g7) ∗ ⌜acc = cntAcc v v' (arg7.view.read (Elt F) g7) hw k⌝)
  step k acc := by
    iintro ⟨H7, %hacc⟩
    subst hacc
    sl_unfold [k0_t2_body]
    sl_exec
    sl_step
    isplitl [H7]; · iexact H7
    ipureintro
    rw [cntAcc, dif_pos k.isLt]
    rfl

omit [FloatOps F] in
theorem toInt_of_isInt {x : BitVec 32} {e : Int} (h : Affine.IsInt x e) : x.toInt = e := by
  delta Affine.IsInt at h; exact h

omit [FloatOps F] in
theorem trips3 (v v' : BitVec 32) : (k0_t3_loop v v').trips = 0 := by
  have key : ∀ x y : BitVec 32, Scf.trips (Scalar.addi x (Scalar.muli (Scalar.divsi y 1#32) 1#32)) (Scalar.addi x y) 1#32 = 0 := by
    intro x y
    have e1 : Scalar.divsi y 1#32 = y := by
      apply BitVec.eq_of_toInt_eq
      exact toInt_of_isInt (Affine.divsi_one (Affine.word y) (Affine.ofNat (e := 1) 1 ⟨rfl, by decide⟩) ⟨rfl, rfl⟩)
    have e2 : Scalar.muli y 1#32 = y := by simp [Scalar.muli, IntOp.muli]
    rw [e1, e2]
    unfold Scf.trips; simp
  exact key _ _

set_option warn.classDefReducibility false in
@[sl_loop] def loopInv3 (v v' : BitVec 32) (hw : k0_chk1 v v') (init : FVec F S256x128 .f32) :
    LoopInvTy_k0_t3 (F := F) Unit ℕ (UU nD τ) ℕ 𝒱₀ c none Set.univ arg0 harg0 arg1 harg1 arg2 harg2 arg3 harg3 arg4 harg4 arg5 harg5 arg6 harg6 arg7 harg7 arg8 harg8 wM (Memref.isWhole_whole _) arg10 harg10 arg11 harg11 zM (Memref.isWhole_whole _) ringM (Memref.isWhole_whole _) cntM (Memref.isWhole_whole _) accM (Memref.isWhole_whole _) zbM (Memref.isWhole_whole _) cc0_scratch4 cc0_scratch5 v v' hw init where
  inv _ acc := iprop(⌜acc = init⌝)
  step k _ := (Nat.not_lt_zero _ (Nat.lt_of_lt_of_eq k.isLt (trips3 v v'))).elim

/-- Word `n` of the offsets. -/
def ix17 (n : Fin 17) : S17.Idx := fun a => match a with
  | ⟨0, _⟩ => n
abbrev wd (r : S17.Idx → BitVec 32) (n : Fin 17) : BitVec 32 := r (ix17 n)
/-- The offsets the body can run on: each pair of neighbours passes the check it makes of them. -/
def ChkOK (r : S17.Idx → BitVec 32) : Prop := ∀ b : Fin 16, k0_chk1 (wd r b.castSucc) (wd r b.succ)

/-- The counts of request `b`, one per id below 32000, as 250 rows of 128. -/
def rowVal (r : S17.Idx → BitVec 32) (hr : ChkOK r) (ids : S128x128.Idx → Elt F .i32) (b : Fin 16) : FVec F S250x128 .f32 :=
  k0_pay17 (cntAcc (wd r b.castSucc) (wd r b.succ) ids (hr b) (k0_t2_loop (wd r b.castSucc) (wd r b.succ)).trips)

/-- Row `16 j + b` of the counts buffer. -/
def cIdx (b : Fin 16) (j : S250x128.Idx) : S4000x128.Idx := fun a => match a with
  | ⟨0, _⟩ => (⟨16 * (j 0).val + b.val, by have h0 : (j 0).val < 250 := (j 0).isLt; have := b.isLt; omega⟩ : Fin 4000)
  | ⟨1, _⟩ => (j 1 : Fin 128)

/-- The counts buffer once requests below `k` are counted. -/
def CntOK (r : S17.Idx → BitVec 32) (hr : ChkOK r) (ids : S128x128.Idx → Elt F .i32) (k : ℕ) (f : S4000x128.Idx → Elt F .f32) : Prop :=
  ∀ b : Fin 16, b.val < k → ∀ j, f (cIdx b j) = rowVal r hr ids b j

theorem off5_eq : ∀ k : Fin k0_t1_loop.trips, k0_off5 k = ![k.val, 0] := by decide +kernel
/-- The request of a trip. -/
def kb (k : Fin k0_t1_loop.trips) : Fin 16 := ⟨k.val, Nat.lt_of_lt_of_eq k.isLt trips1⟩

theorem off1_eq : ∀ k : Fin k0_t1_loop.trips, k0_off1 k = ![k.val] := by decide +kernel
theorem off2_eq : ∀ k : Fin k0_t1_loop.trips, k0_off2 k = ![k.val + 1] := by decide +kernel

/-- The rows of one request. -/
abbrev cRect (k : Fin k0_t1_loop.trips) : Rect S4000x128 := ⟨⟨k0_off5 k, S250x128.size, ![16, 1], k0_off5_inb k⟩, spos_16_1⟩

omit [FloatOps F] in
theorem cRect_hit (k : Fin k0_t1_loop.trips) (f : S4000x128.Idx → Elt F .f32) (w : S250x128.Idx → Elt F .f32) (j : S250x128.Idx) :
    cntM.view.read (Elt F) (cntM.view.writes (Elt F) f [⟨cRect k, w⟩]) (cIdx (kb k) j) = w j := by
  refine View.read_writes_cons_hit_of_coords cntM.view f (cRect k) w [] j _ ?_
  intro a
  have e5 := congrFun (off5_eq k) a
  match a with
  | ⟨0, _⟩ =>
    have e5 : k0_off5 k 0 = k.val := e5
    show 16 * (j 0).val + k.val = k0_off5 k 0 + 16 * (j 0).val
    rw [e5]; omega
  | ⟨1, _⟩ =>
    have e5 : k0_off5 k 1 = 0 := e5
    show (j 1).val = k0_off5 k 1 + 1 * (j 1).val
    rw [e5]; omega

omit [FloatOps F] in
theorem cRect_miss (k : Fin k0_t1_loop.trips) (f : S4000x128.Idx → Elt F .f32) (w : S250x128.Idx → Elt F .f32) (b : Fin 16) (hb : b.val ≠ k.val) (j : S250x128.Idx) :
    cntM.view.read (Elt F) (cntM.view.writes (Elt F) f [⟨cRect k, w⟩]) (cIdx b j) = f (cIdx b j) := by
  rw [View.read_writes_cons_miss cntM.view f _ [] _ ?_]
  · rfl
  · intro hm
    obtain ⟨x, hx, ex⟩ := (LoadRect.mem_set _).mp hm 0
    have e5 : k0_off5 k 0 = k.val := congrFun (off5_eq k) 0
    have ex : 16 * (j 0).val + b.val = k0_off5 k 0 + 16 * x := ex
    rw [e5] at ex
    have := b.isLt; have := Nat.lt_of_lt_of_eq k.isLt trips1
    omega

/-- One more request counted: its rows hold its counts, the other requests' rows are kept. -/
theorem cntOK_step (r : S17.Idx → BitVec 32) (hr : ChkOK r) (ids : S128x128.Idx → Elt F .i32) (k : Fin k0_t1_loop.trips)
    (f : S4000x128.Idx → Elt F .f32) (hf : CntOK r hr ids k.val f) (w : S250x128.Idx → Elt F .f32) (hw : w = rowVal r hr ids (kb k)) :
    CntOK r hr ids (k.val + 1) (cntM.view.writes (Elt F) f [⟨cRect k, w⟩]) := by
  intro b hb j
  by_cases e : b = kb k
  · rw [e, ← hw]; exact cRect_hit k f w j
  · have hne : b.val ≠ k.val := fun h => e (Fin.ext h)
    exact (cRect_miss k f w b hne j).trans (hf b (by omega) j)

theorem rowVal_of (r : S17.Idx → BitVec 32) (hr : ChkOK r) (ids : S128x128.Idx → Elt F .i32) (b : Fin 16) (v v' : BitVec 32)
    (e : v = wd r b.castSucc) (e' : v' = wd r b.succ) (hw : k0_chk1 v v') :
    k0_pay17 (F := F) (cntAcc v v' ids hw (k0_t2_loop v v').trips) = rowVal r hr ids b := by
  subst e; subst e'; rfl

abbrev cntP (f : Buf (Elt F) (cntM.view.loc (c : Thread nD τ))) : sProp 𝕄 := cntM.view.loc (c : Thread nD τ) ↦[cntM.view.set]{fullShare} f

set_option warn.classDefReducibility false in
@[sl_loop] def loopInv1 (g0 : Buf (Elt F) (arg0.view.loc (c : Thread nD τ))) (g7 : Buf (Elt F) (arg7.view.loc (c : Thread nD τ)))
    (hr : ChkOK (arg0.view.read (Elt F) g0)) :
    LoopInvTy_k0_t1 (F := F) Unit ℕ (UU nD τ) ℕ 𝒱₀ c none Set.univ arg0 harg0 arg1 harg1 arg2 harg2 arg3 harg3 arg4 harg4 arg5 harg5 arg6 harg6 arg7 harg7 arg8 harg8 wM (Memref.isWhole_whole _) arg10 harg10 arg11 harg11 zM (Memref.isWhole_whole _) ringM (Memref.isWhole_whole _) cntM (Memref.isWhole_whole _) accM (Memref.isWhole_whole _) zbM (Memref.isWhole_whole _) cc0_scratch4 cc0_scratch5 where
  inv k _ := iprop((arg0.view.loc (c : Thread nD τ) ↦[arg0.view.set]{fullShare} g0) ∗ (arg7.view.loc (c : Thread nD τ) ↦[arg7.view.set]{fullShare} g7)
    ∗ ∃ f, cntP c f ∗ ⌜CntOK (F := F) (arg0.view.read (Elt F) g0) hr (arg7.view.read (Elt F) g7) k f⌝)
  step k acc := by
    iintro ⟨H0, H7, ⟨%f, HC, %hf⟩⟩
    sl_unfold [k0_t1_body]
    sl_exec
    have e0 : loopInv1.sl.r c arg0 g0 k = wd (arg0.view.read (Elt F) g0) (kb k).castSucc := by
      unfold loopInv1.sl.r
      rw [View.readAt_apply]
      congr 1
      funext a; apply Fin.ext
      match a with
      | ⟨0, _⟩ => exact congrFun (off1_eq k) 0
    have e1 : loopInv1.sl.r_1 c arg0 g0 k = wd (arg0.view.read (Elt F) g0) (kb k).succ := by
      unfold loopInv1.sl.r_1
      rw [View.readAt_apply]
      congr 1
      funext a; apply Fin.ext
      match a with
      | ⟨0, _⟩ => exact congrFun (off2_eq k) 0
    have hchk : k0_chk1 (loopInv1.sl.r c arg0 g0 k) (loopInv1.sl.r_1 c arg0 g0 k) := by rw [e0, e1]; exact hr _
    sl_exec
    sl_step
    isplitl [H0]; · iexact H0
    isplitl [H7]; · iexact H7
    iexists _
    isplitl [HC]; · iexact HC
    ipureintro
    exact cntOK_step _ hr _ k f hf _ (rowVal_of _ hr _ (kb k) _ _ e0 e1 hchk)
end

end Cert.Kernel.Hand

end
-- ==== Proof.KVals.lean ====
module

public import proofs.«01_k».proof.Proof.KCounts
public import Idealize.ShloMosaic.Lib.Pointwise

/-!
  The values of one trip of the column loop, as functions of the arrays it reads; and what the body's loads read, in those terms.
-/

@[expose] public section

set_option maxRecDepth 16384

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

theorem shapeCasts_back : S12288x256.ShapeCasts S1x12288x256 := by decide

/-! ## The values of one trip -/

section Vals
variable (X : Vec F S16x12288 .fp8e4m3) (Wt : Vec F S12288x32000 .fp8e4m3) (WS : Vec F S250x128 .f32) (C : Vec F S4000x128 .f32)
  (v151 v229 v307 rep : FVec F S16x128 .f32) (v386 : Vec F S16x20 .i32)

abbrev kOf (b : Fin 125) : Fin k0_t4_loop.trips := ⟨b.val, Nat.lt_of_lt_of_eq b.isLt trips4.symm⟩
/-- Column block `b` of the weights. -/
def wCols (b : Fin 125) : Vec F S12288x256 .fp8e4m3 := fun j =>
  Wt (ix2 (n0 := 12288) (n1 := 32000) (j 0) ⟨256 * b.val + (j 1).val, by have h1 : (j 1).val < 256 := (j 1).isLt; have := b.isLt; omega⟩)
/-- The product of the activations with column block `b`. -/
def dotB (b : Fin 125) : FVec F S16x256 .f32 :=
  k0_pay3 (k0_pay2 (F := F)) X (shapeCast S1x12288x256 (wCols Wt b) shapeCasts_back)
/-- Columns `128 g …` of a block. -/
def half (g : Fin 2) (d : Vec F S16x256 .f32) : Vec F S16x128 .f32 := fun j =>
  d (ix2 (n0 := 16) (n1 := 256) (j 0) ⟨128 * g.val + (j 1).val, by have h1 : (j 1).val < 128 := (j 1).isLt; have := g.isLt; omega⟩)
/-- Row `2 b + g` of the column scales. -/
def wsRow (b : Fin 125) (g : Fin 2) : Vec F S1x128 .f32 := fun j =>
  WS (ix2 (n0 := 250) (n1 := 128) ⟨2 * b.val + g.val, by have := b.isLt; have := g.isLt; omega⟩ (j 1))
/-- Rows `16 (2 b + g) …` of the counts. -/
def cRows (b : Fin 125) (g : Fin 2) : Vec F S16x128 .f32 := fun j =>
  C (ix2 (n0 := 4000) (n1 := 128) ⟨16 * (2 * b.val + g.val) + (j 0).val, by have h0 : (j 0).val < 16 := (j 0).isLt; have := b.isLt; have := g.isLt; omega⟩ (j 1))
/-- The first 128 logits of block `b`. -/
def z0 (b : Fin 125) : FVec F S16x128 .f32 := k0_pay4 v151 v229 v307 rep (half 0 (dotB X Wt b)) (wsRow WS b 0) (cRows C b 0)
/-- The last 128 before the penalties. -/
def y1 (b : Fin 125) : FVec F S16x128 .f32 := k0_pay8 v151 (half 1 (dotB X Wt b)) (wsRow WS b 1)
/-- The word of group `g` of trip `b`. -/
def gw (b : Fin 125) (g : BitVec 32) : BitVec 32 := Scalar.addi (Scalar.muli (Scf.iv 0#32 1#32 b.val) 2#32) g
/-- The block of logits that trip `b` stages. -/
def zst (b : Fin 125) : Vec F S16x256 .f32 := fun j =>
  if h : (j 1).val < 128 then k0_pay5 (z0 X Wt WS C v151 v229 v307 rep b) (ix3 (n0 := 1) (n1 := 16) (n2 := 128) 0 (j 0) ⟨(j 1).val, h⟩)
  else k0_pay10 v229 v307 rep (y1 X Wt WS v151 b) (cRows C b 1) (ix3 (n0 := 1) (n1 := 16) (n2 := 128) 0 (j 0) ⟨(j 1).val - 128, by have h1 : (j 1).val < 256 := (j 1).isLt; omega⟩)
/-- The running maxima, sums and picked logits after trip `b`, from those before it. -/
def stepB (b : Fin 125) (a : FVec F S16x128 .f32 × FVec F S16x128 .f32 × FVec F S16x128 .f32) : FVec F S16x128 .f32 × FVec F S16x128 .f32 × FVec F S16x128 .f32 :=
  (k0_pay12 v229 v307 rep (k0_pay7 a.1 (z0 X Wt WS C v151 v229 v307 rep b)) (y1 X Wt WS v151 b) (cRows C b 1),
   k0_pay39 (k0_pay9 v229 v307 rep (y1 X Wt WS v151 b) (cRows C b 1))
     (k0_pay12 v229 v307 rep (k0_pay7 a.1 (z0 X Wt WS C v151 v229 v307 rep b)) (y1 X Wt WS v151 b) (cRows C b 1))
     (k0_pay13 v229 v307 rep a.1 a.2.1 (z0 X Wt WS C v151 v229 v307 rep b) (k0_pay7 a.1 (z0 X Wt WS C v151 v229 v307 rep b)) (y1 X Wt WS v151 b) (cRows C b 1)),
   k0_pay11 v229 v307 rep (k0_pay34 v386) (k0_pay35 v386)
     (k0_pay6 (k0_pay34 v386) (k0_pay35 v386) a.2.2 (gw b 0#32) (z0 X Wt WS C v151 v229 v307 rep b)) (gw b 1#32) (y1 X Wt WS v151 b) (cRows C b 1))
/-- Those before trip `k`. -/
def carry : ℕ → FVec F S16x128 .f32 × FVec F S16x128 .f32 × FVec F S16x128 .f32
  | 0 => (k0_pay36 (F := F), k0_pay37 (F := F), k0_pay38 (F := F))
  | k + 1 => if h : k < 125 then stepB X Wt WS C v151 v229 v307 rep v386 ⟨k, h⟩ (carry k) else carry k
/-- The logits: block `b` as trip `b` stages it. -/
def zAll : Vec F S16x32000 .f32 := fun j =>
  zst X Wt WS C v151 v229 v307 rep ⟨(j 1).val / 256, by have h1 : (j 1).val < 32000 := (j 1).isLt; omega⟩
    (ix2 (n0 := 16) (n1 := 256) (j 0) ⟨(j 1).val % 256, Nat.mod_lt _ (by decide)⟩)
end Vals

/-! ## What the loads read -/

section Reads
variable (c : Dev nD)

omit [FloatOps F] in
theorem read_wblk (XA : Buf (Elt F) (wM.view.loc (c : Thread nD τ))) (b : Fin 125) : (wblk b).view.read (Elt F) XA = wCols (F := F) (wM.view.read (Elt F) XA) b := by
  funext j
  show wM.view.read (Elt F) XA _ = wM.view.read (Elt F) XA _
  refine congrArg (wM.view.read (Elt F) XA) (funext fun a => Fin.ext ?_)
  match a with
  | ⟨0, _⟩ => show 0 + 1 * (j 0).val = (j 0).val; omega
  | ⟨1, _⟩ => show 256 * b.val + 1 * (j 1).val = 256 * b.val + (j 1).val; omega

omit [FloatOps F] in
theorem read_rslot (s : Fin 14) (G : Buf (Elt F) (ringM.view.loc (c : Thread nD τ))) :
    (rslot s).view.read (Elt F) G
      = shapeCast S12288x256 (View.readAt (Elt F) ringM.view (Rect.unit (s := S14x12288x256) (slotOff s) S1x12288x256.size (slotOff_inb s)).toLoadRect G) shapeCasts_S1x12288x256_S12288x256 :=
  Memref.read_squeeze_slice ringM (Rect.unit (s := S14x12288x256) (slotOff s) S1x12288x256.size (slotOff_inb s)) (fun _ => rfl) squeezes_S1x12288x256_S12288x256 shapeCasts_S1x12288x256_S12288x256 G

omit [FloatOps F] in
theorem read_landed {κ : Kind} {sp : Space} (v : View sig κ sp S12288x256 .fp8e4m3) (f : v.ty.Contents (Elt F)) (w : Vec F S12288x256 .fp8e4m3) :
    v.read (Elt F) (v.writes (Elt F) f [⟨Rect.whole S12288x256, w⟩]) = w := by
  funext y
  refine View.read_writes_cons_hit_of_coords v f (Rect.whole S12288x256) w [] y y ?_
  intro a
  show (y a).val = 0 + 1 * (y a).val
  omega

omit [FloatOps F] in
/-- The slot read through the ring, just after block `b` landed in it. -/
theorem read_slot (s : Fin 14) (off : Fin 3 → ℕ) (ho : off = slotOff s) (hi) (f : Buf (Elt F) (ringM.view.loc (c : Thread nD τ))) (w : Vec F S12288x256 .fp8e4m3) :
    View.readAt (Elt F) ringM.view (Rect.unit (s := S14x12288x256) off S1x12288x256.size hi).toLoadRect
      ((rslot s).view.writes (Elt F) f [⟨Rect.whole S12288x256, w⟩]) = shapeCast S1x12288x256 w shapeCasts_back := by
  subst ho
  have e := (read_rslot c s _).symm.trans (read_landed (rslot s).view f w)
  exact (shapeCast_shapeCast _ shapeCasts_S1x12288x256_S12288x256 shapeCasts_back).symm.trans (congrArg (fun x => shapeCast S1x12288x256 x shapeCasts_back) e)

omit [FloatOps F] in
theorem read_whole2 {m n : ℕ} {κ : Kind} {sp : Space} {e : EltTy} (v : View sig κ sp ⟨2, ![m, n]⟩ e) (off : Fin 2 → ℕ) (h0 : off 0 = 0) (h1 : off 1 = 0) (hi) (f : v.ty.Contents (Elt F)) :
    View.readAt (Elt F) v (Rect.unit (s := ⟨2, ![m, n]⟩) off ![m, n] hi).toLoadRect f = v.read (Elt F) f := by
  funext j
  rw [View.readAt_apply]
  refine congrArg (v.read (Elt F) f) (funext fun a => Fin.ext ?_)
  match a with
  | ⟨0, _⟩ => show off 0 + 1 * (j 0).val = (j 0).val; omega
  | ⟨1, _⟩ => show off 1 + 1 * (j 1).val = (j 1).val; omega

theorem off18_eq : ∀ k : Fin k0_t4_loop.trips, ∀ r : Fin 2, k0_off18 k (BitVec.ofNat 32 r.val) = ![2 * k.val + r.val, 0] := by decide +kernel
theorem off19_eq : ∀ k : Fin k0_t4_loop.trips, ∀ r : Fin 2, k0_off19 k (BitVec.ofNat 32 r.val) = ![16 * (2 * k.val + r.val), 0] := by decide +kernel
theorem off9_eq : k0_off9 = ![0, 0] := by decide +kernel

omit [FloatOps F] in
theorem read_ws {κ : Kind} {sp : Space} (v : View sig κ sp S250x128 .f32) (k : Fin k0_t4_loop.trips) (r : Fin 2) (hi) (f : v.ty.Contents (Elt F)) :
    View.readAt (Elt F) v (Rect.unit (s := S250x128) (k0_off18 k (BitVec.ofNat 32 r.val)) S1x128.size hi).toLoadRect f = wsRow (F := F) (v.read (Elt F) f) (Ring.bk 125 k.val) r := by
  have hk : k.val < 125 := Nat.lt_of_lt_of_eq k.isLt trips4
  funext j
  rw [View.readAt_apply]
  refine congrArg (v.read (Elt F) f) (funext fun a => Fin.ext ?_)
  have e := congrFun (off18_eq k r) a
  match a with
  | ⟨0, _⟩ =>
    have e : k0_off18 k (BitVec.ofNat 32 r.val) 0 = 2 * k.val + r.val := e
    have hj : (j 0).val < 1 := (j 0).isLt
    show k0_off18 k (BitVec.ofNat 32 r.val) 0 + 1 * (j 0).val = 2 * (Ring.bk 125 k.val).val + r.val
    rw [e, Ring.bk_val hk]; omega
  | ⟨1, _⟩ =>
    have e : k0_off18 k (BitVec.ofNat 32 r.val) 1 = 0 := e
    show k0_off18 k (BitVec.ofNat 32 r.val) 1 + 1 * (j 1).val = (j 1).val
    rw [e]; omega

omit [FloatOps F] in
theorem read_c {κ : Kind} {sp : Space} (v : View sig κ sp S4000x128 .f32) (k : Fin k0_t4_loop.trips) (r : Fin 2) (hi) (f : v.ty.Contents (Elt F)) :
    View.readAt (Elt F) v (Rect.unit (s := S4000x128) (k0_off19 k (BitVec.ofNat 32 r.val)) S16x128.size hi).toLoadRect f = cRows (F := F) (v.read (Elt F) f) (Ring.bk 125 k.val) r := by
  have hk : k.val < 125 := Nat.lt_of_lt_of_eq k.isLt trips4
  funext j
  rw [View.readAt_apply]
  refine congrArg (v.read (Elt F) f) (funext fun a => Fin.ext ?_)
  have e := congrFun (off19_eq k r) a
  match a with
  | ⟨0, _⟩ =>
    have e : k0_off19 k (BitVec.ofNat 32 r.val) 0 = 16 * (2 * k.val + r.val) := e
    show k0_off19 k (BitVec.ofNat 32 r.val) 0 + 1 * (j 0).val = 16 * (2 * (Ring.bk 125 k.val).val + r.val) + (j 0).val
    rw [e, Ring.bk_val hk]; omega
  | ⟨1, _⟩ =>
    have e : k0_off19 k (BitVec.ofNat 32 r.val) 1 = 0 := e
    show k0_off19 k (BitVec.ofNat 32 r.val) 1 + 1 * (j 1).val = (j 1).val
    rw [e]; omega

/-- The accumulator read whole after it was written whole. -/
theorem readCov_all {κ : Kind} {sp : Space} (v : View sig κ sp S16x256 .f32) (d : Vec F S16x256 .f32) (L : List (View.Piece (Elt F) S16x256 .f32)) (hi hi') :
    View.readCov v (⟨Rect.unit (s := S16x256) ![0, 0] S16x256.size hi, d⟩ :: L) (Rect.unit (s := S16x256) ![0, 0] S16x256.size hi').toLoadRect = d :=
  View.readCov_cons_toLoadRect v (Rect.unit (s := S16x256) ![0, 0] S16x256.size hi) d L

/-- Half of the accumulator, read back after its whole was stored. -/
theorem readCov_half {κ : Kind} {sp : Space} (v : View sig κ sp S16x256 .f32) (g : Fin 2) (d : Vec F S16x256 .f32) (L : List (View.Piece (Elt F) S16x256 .f32)) (hi) (off : Fin 2 → ℕ) (ho : off = ![0, 128 * g.val]) (hi') :
    View.readCov v (⟨Rect.unit (s := S16x256) ![0, 0] S16x256.size hi, d⟩ :: L) (Rect.unit (s := S16x256) off S16x128.size hi').toLoadRect = half (F := F) g d := by
  subst ho
  rw [View.readCov_eq_canon']
  funext j
  have ex : (Rect.unit (s := S16x256) ![0, 0] S16x256.size hi).emb (ix2 (n0 := 16) (n1 := 256) (j 0) ⟨128 * g.val + (j 1).val, by have h1 : (j 1).val < 128 := (j 1).isLt; have := g.isLt; omega⟩)
      = (Rect.unit (s := S16x256) ![0, 128 * g.val] S16x128.size hi').toLoadRect.idx j := by
    refine funext fun a => Fin.ext ?_
    match a with
    | ⟨0, _⟩ => show 0 + 1 * (j 0).val = 0 + 1 * (j 0).val; rfl
    | ⟨1, _⟩ => show 0 + 1 * (128 * g.val + (j 1).val) = 128 * g.val + 1 * (j 1).val; omega
  rw [← ex]
  exact View.canon_cons_emb (Rect.unit (s := S16x256) ![0, 0] S16x256.size hi) d L _

omit [FloatOps F] in
theorem shapeCast_zs (v : Vec F S1x16x256 .f32) (j : S16x256.Idx) (h) : shapeCast S16x256 v h j = v (ix3 (n0 := 1) (n1 := 16) (n2 := 256) 0 (j 0) (j 1)) := by
  pointwise

/-- The staging slot read after its two halves were stored. -/
theorem read_zslot (k : Fin k0_t4_loop.trips) (f : Buf (Elt F) (zbM.view.loc (c : Thread nD τ))) (p0 p1 : Vec F S1x16x128 .f32) (hi0) (hi1) :
    (zslot (Ring.sl 2 k.val)).view.read (Elt F) (zbM.view.writes (Elt F) f
      [⟨Rect.unit (s := S2x16x256) (k0_off20 k 1#32) S1x16x128.size hi1, p1⟩, ⟨Rect.unit (s := S2x16x256) (k0_off20 k 0#32) S1x16x128.size hi0, p0⟩])
    = fun j => if h : (j 1).val < 128 then p0 (ix3 (n0 := 1) (n1 := 16) (n2 := 128) 0 (j 0) ⟨(j 1).val, h⟩)
      else p1 (ix3 (n0 := 1) (n1 := 16) (n2 := 128) 0 (j 0) ⟨(j 1).val - 128, by have h1 : (j 1).val < 256 := (j 1).isLt; omega⟩) := by
  funext j
  refine (congrFun (Memref.read_squeeze_slice zbM (Rect.unit (s := S2x16x256) (zslotOff (Ring.sl 2 k.val)) S1x16x256.size (zslotOff_inb _)) (fun _ => rfl) squeezes_S1x16x256_S16x256 (show S1x16x256.ShapeCasts S16x256 by decide) _) j).trans ?_
  rw [shapeCast_zs]
  rw [View.readAt_apply]
  have e0 : k0_off20 k 0#32 = ![(Ring.sl 2 k.val).val, 0, 0] := off20_eq k 0
  have e1 : k0_off20 k 1#32 = ![(Ring.sl 2 k.val).val, 0, 128] := off20_eq k 1
  have e00 : k0_off20 k 0#32 0 = (Ring.sl 2 k.val).val := congrFun e0 0
  have e01 : k0_off20 k 0#32 1 = 0 := congrFun e0 1
  have e02 : k0_off20 k 0#32 2 = 0 := congrFun e0 2
  have e10 : k0_off20 k 1#32 0 = (Ring.sl 2 k.val).val := congrFun e1 0
  have e11 : k0_off20 k 1#32 1 = 0 := congrFun e1 1
  have e12 : k0_off20 k 1#32 2 = 128 := congrFun e1 2
  by_cases h : (j 1).val < 128
  · rw [dif_pos h]
    refine (View.read_writes_cons_miss zbM.view f ⟨Rect.unit (s := S2x16x256) (k0_off20 k 1#32) S1x16x128.size hi1, p1⟩ _ _ ?_).trans
      (View.read_writes_cons_hit_of_coords zbM.view f (Rect.unit (s := S2x16x256) (k0_off20 k 0#32) S1x16x128.size hi0) p0 [] (ix3 (n0 := 1) (n1 := 16) (n2 := 128) 0 (j 0) ⟨(j 1).val, h⟩) _ ?_)
    · refine Rect.not_mem_set_of_axis _ _ 2 128 128 e12 rfl rfl (Or.inl ?_)
      show 0 + 1 * (j 1).val < 128
      omega
    · intro a
      match a with
      | ⟨0, _⟩ => show (Ring.sl 2 k.val).val + 1 * 0 = k0_off20 k 0#32 0 + 1 * 0; rw [e00]
      | ⟨1, _⟩ => show 0 + 1 * (j 0).val = k0_off20 k 0#32 1 + 1 * (j 0).val; rw [e01]
      | ⟨2, _⟩ => show 0 + 1 * (j 1).val = k0_off20 k 0#32 2 + 1 * (j 1).val; rw [e02]
  · rw [dif_neg h]
    refine View.read_writes_cons_hit_of_coords zbM.view f (Rect.unit (s := S2x16x256) (k0_off20 k 1#32) S1x16x128.size hi1) p1 _
      (ix3 (n0 := 1) (n1 := 16) (n2 := 128) 0 (j 0) ⟨(j 1).val - 128, by have h1 : (j 1).val < 256 := (j 1).isLt; omega⟩) _ ?_
    intro a
    match a with
    | ⟨0, _⟩ => show (Ring.sl 2 k.val).val + 1 * 0 = k0_off20 k 1#32 0 + 1 * 0; rw [e10]
    | ⟨1, _⟩ => show 0 + 1 * (j 0).val = k0_off20 k 1#32 1 + 1 * (j 0).val; rw [e11]
    | ⟨2, _⟩ => show 0 + 1 * (j 1).val = k0_off20 k 1#32 2 + 1 * ((j 1).val - 128); rw [e12]; omega
end Reads

end Cert.Kernel.Hand

end
-- ==== Proof.KTrip.lean ====
module

public import proofs.«01_k».proof.Proof.KVals

/-!
  One trip of the column loop: a block of weights waited for, multiplied, penalised, staged and copied out.
-/

@[expose] public section

set_option maxRecDepth 16384

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## The pieces: blocks at home, slots, cells, copies in flight -/

section Pieces
variable (c : Dev nD) (XA : Buf (Elt F) (wM.view.loc (c : Thread nD τ)))

abbrev cellP (s : Fin 14) : sProp 𝕄 := semVal ((c : Thread nD τ), SemLoc.dma (csm s).sem) 0
abbrev slotP (s : Fin 14) (f : Buf (Elt F) ((rslot s).view.loc (c : Thread nD τ))) : sProp 𝕄 :=
  (rslot s).view.loc (c : Thread nD τ) ↦[(rslot s).view.set]{fullShare} f
/-- Weight block `b` at home. -/
abbrev homeP (b : Fin 125) : sProp 𝕄 := (wblk b).view.loc (c : Thread nD τ) ↦[(wblk b).view.set]{fullShare} XA
abbrev payload (b : Fin 125) : S12288x256.Idx → Elt F .fp8e4m3 := ReadAs.same.apply ((wblk b).view.read (Elt F) XA)
/-- What weight block `b`'s copy leaves in slot `s`. -/
abbrev landed (s : Fin 14) (b : Fin 125) (f : Buf (Elt F) ((rslot s).view.loc (c : Thread nD τ))) : Buf (Elt F) ((rslot s).view.loc (c : Thread nD τ)) :=
  (rslot s).view.writes (Elt F) f [⟨Rect.whole S12288x256, payload c XA b⟩]
abbrev NN : ℕ := 98304
/-- Weight block `b` on its way into slot `s`. -/
abbrev flightP (s : Fin 14) (b : Fin 125) (f : Buf (Elt F) ((rslot s).view.loc (c : Thread nD τ))) : sProp 𝕄 :=
  Transfers.Flight countersEmb (c : Thread nD τ) (SemLoc.dma (csm s).sem) () NN iprop(slotP c s (landed c XA s b f) ∗ homeP c XA b)

abbrev zcellP (s : Fin 2) : sProp 𝕄 := semVal ((c : Thread nD τ), SemLoc.dma (zsm s).sem) 0
abbrev zslotP (s : Fin 2) (f : Buf (Elt F) ((zslot s).view.loc (c : Thread nD τ))) : sProp 𝕄 :=
  (zslot s).view.loc (c : Thread nD τ) ↦[(zslot s).view.set]{fullShare} f
/-- Block `b` of the logits held. -/
abbrev zblkP (b : Fin 125) (f : Buf (Elt F) ((zblk b).view.loc (c : Thread nD τ))) : sProp 𝕄 :=
  (zblk b).view.loc (c : Thread nD τ) ↦[(zblk b).view.set]{fullShare} f
abbrev NZ : ℕ := 512
/-- Logit block `b` on its way out of slot `s`. -/
abbrev zflightP (s : Fin 2) (b : Fin 125) (fs : Buf (Elt F) ((zslot s).view.loc (c : Thread nD τ))) (f0 : Buf (Elt F) ((zblk b).view.loc (c : Thread nD τ))) : sProp 𝕄 :=
  Transfers.Flight countersEmb (c : Thread nD τ) (SemLoc.dma (zsm s).sem) () NZ
    iprop(zblkP c b ((zblk b).view.writes (Elt F) f0 [⟨Rect.whole S16x256, ReadAs.same.apply ((zslot s).view.read (Elt F) fs)⟩]) ∗ zslotP c s fs)

theorem flightP_after (s : Fin 14) (b b' : Fin 125) :
    flightP c XA s b' ((rslot s).view.writes (Elt F) (rslot s).view.junk [⟨Rect.whole S12288x256, payload c XA b⟩])
      = Transfers.Flight countersEmb (c : Thread nD τ) (SemLoc.dma (csm s).sem) () 98304
          iprop(((rslot s).view.loc (c : Thread nD τ) ↦[(rslot s).view.set]{fullShare}
                  (rslot s).view.writes (Elt F) (rslot s).view.junk [⟨Rect.whole S12288x256, payload c XA b'⟩, ⟨Rect.whole S12288x256, payload c XA b⟩])
                ∗ homeP c XA b') := by
  simp only [flightP, landed, slotP, NN, View.writes]

end Pieces

section Trip
variable (c : Dev nD) (XA : Buf (Elt F) (wM.view.loc (c : Thread nD τ)))
  (arg0 : Memref sig .tc .smem S17 .i32) (harg0 : arg0.IsWhole)
  (arg1 : Memref sig .tc .smem S16 .f32) (harg1 : arg1.IsWhole)
  (arg2 : Memref sig .tc .smem S16 .f32) (harg2 : arg2.IsWhole)
  (arg3 : Memref sig .tc .smem S16 .f32) (harg3 : arg3.IsWhole)
  (arg4 : Memref sig .tc .smem S16 .f32) (harg4 : arg4.IsWhole)
  (arg5 : Memref sig .tc .vmem S16x12288 .fp8e4m3) (harg5 : arg5.IsWhole)
  (arg6 : Memref sig .tc .vmem S250x128 .f32) (harg6 : arg6.IsWhole)
  (arg7 : Memref sig .tc .vmem S128x128 .i32) (harg7 : arg7.IsWhole)
  (arg8 : Memref sig .tc .vmem S16x20 .i32) (harg8 : arg8.IsWhole)
  (arg10 : Memref sig .tc .vmem S1x16 .f32) (harg10 : arg10.IsWhole)
  (arg11 : Memref sig .tc .vmem S16x20 .f32) (harg11 : arg11.IsWhole)
  (v151 : FVec F S16x128 .f32) (v229 : FVec F S16x128 .f32) (v307 : FVec F S16x128 .f32) (v308 : IVec S16x128 32) (v375 : FVec F S16x128 .f32) (c14_i32_162 : BitVec 32) (v378 : Elt F .f32) (v383 : Elt F .f32) (v386 : Vec F S16x20 .i32)

abbrev tripG (k : Fin k0_t4_loop.trips) (a : FVec F S16x128 .f32 × FVec F S16x128 .f32 × FVec F S16x128 .f32) :
    Prog (TpuEff nD τ sig (Elt F) Λ₀ .tc) (FVec F S16x128 .f32 × FVec F S16x128 .f32 × FVec F S16x128 .f32) :=
  k0_t4_body (F := F) arg0 harg0 arg1 harg1 arg2 harg2 arg3 harg3 arg4 harg4 arg5 harg5 arg6 harg6 arg7 harg7 arg8 harg8 wM (Memref.isWhole_whole _) arg10 harg10 arg11 harg11 zM (Memref.isWhole_whole _) ringM (Memref.isWhole_whole _) cntM (Memref.isWhole_whole _) accM (Memref.isWhole_whole _) zbM (Memref.isWhole_whole _) cc0_scratch4 cc0_scratch5 v151 v229 v307 v308 v375 c14_i32_162 v378 v383 v386 k a

abbrev accP (f : Buf (Elt F) (accM.view.loc (c : Thread nD τ))) : sProp 𝕄 := accM.view.loc (c : Thread nD τ) ↦[accM.view.set]{fullShare} f
abbrev xP (f : Buf (Elt F) (arg5.view.loc (c : Thread nD τ))) : sProp 𝕄 := arg5.view.loc (c : Thread nD τ) ↦[arg5.view.set]{fullShare} f
abbrev wsP (f : Buf (Elt F) (arg6.view.loc (c : Thread nD τ))) : sProp 𝕄 := arg6.view.loc (c : Thread nD τ) ↦[arg6.view.set]{fullShare} f

/-- The staged block on its way out: slot `k % 2` holds trip `k`'s logits. -/
abbrev zoutP (X : Vec F S16x12288 .fp8e4m3) (Wt : Vec F S12288x32000 .fp8e4m3) (WS : Vec F S250x128 .f32) (C : Vec F S4000x128 .f32)
    (v151 v229 v307 rep : FVec F S16x128 .f32) (k : Fin k0_t4_loop.trips) (fz : Buf (Elt F) ((zblk (Ring.bk 125 k.val)).view.loc (c : Thread nD τ))) : sProp 𝕄 :=
  iprop(∃ fs, ⌜(zslot (Ring.sl 2 k.val)).view.read (Elt F) fs = zst (F := F) X Wt WS C v151 v229 v307 rep (Ring.bk 125 k.val)⌝ ∗ zflightP c (Ring.sl 2 k.val) (Ring.bk 125 k.val) fs fz)

set_option maxHeartbeats 1600000 in
theorem tripMid (k : Fin k0_t4_loop.trips) (h1 : k0_cond1 k = 1#1) (h2 : k0_cond2 k = 1#1) (a : FVec F S16x128 .f32 × FVec F S16x128 .f32 × FVec F S16x128 .f32)
   fa g5 g6 fC W f fs f0 fz :
   iprop(accP c fa ∗ xP c arg5 g5 ∗ wsP c arg6 g6 ∗ cntP c fC ∗ owes (c : Thread nD τ) 0 W
     ∗ flightP c XA (Ring.sl 14 k.val) (Ring.bk 125 k.val) f ∗ homeP c XA (Ring.bk 125 (k.val + 14)) ∗ zflightP c (Ring.sl 2 k.val) (Ring.bk 125 (k.val - 2)) fs f0 ∗ zblkP c (Ring.bk 125 k.val) fz)
   ⊢ wp frame (wpE (defs₀ (F := F)) 𝒱₀ (c : Thread nD τ) none) Set.univ (tripG arg0 harg0 arg1 harg1 arg2 harg2 arg3 harg3 arg4 harg4 arg5 harg5 arg6 harg6 arg7 harg7 arg8 harg8 arg10 harg10 arg11 harg11 v151 v229 v307 v308 v375 c14_i32_162 v378 v383 v386 k a)
        (fun r => iprop(⌜r = stepB (F := F) (arg5.view.read (Elt F) g5) (wM.view.read (Elt F) XA) (arg6.view.read (Elt F) g6) (cntM.view.read (Elt F) fC) v151 v229 v307 (k0_pay32 v308 v375 c14_i32_162 v378 v383) v386 (Ring.bk 125 k.val) a⌝ ∗ (∃ fa, accP c fa) ∗ xP c arg5 g5 ∗ wsP c arg6 g6 ∗ cntP c fC ∗ (∃ W, owes (c : Thread nD τ) 0 W)
     ∗ homeP c XA (Ring.bk 125 k.val) ∗ zoutP c (arg5.view.read (Elt F) g5) (wM.view.read (Elt F) XA) (arg6.view.read (Elt F) g6) (cntM.view.read (Elt F) fC) v151 v229 v307 (k0_pay32 v308 v375 c14_i32_162 v378 v383) k fz ∗ (∃ f, flightP c XA (Ring.sl 14 k.val) (Ring.bk 125 (k.val + 14)) f) ∗ zblkP c (Ring.bk 125 (k.val - 2)) ((zblk (Ring.bk 125 (k.val - 2))).view.writes (Elt F) f0 [⟨Rect.whole S16x256, ReadAs.same.apply ((zslot (Ring.sl 2 k.val)).view.read (Elt F) fs)⟩]))) := by
  iintro ⟨HA, H5, H6, HC, HW, HF, HH, HZ, HB⟩
  dsimp only [tripG]
  sl_unfold [k0_t4_body]
  sl_exec

  have hv499 : tripMid.sl.v499 c XA k = shapeCast S1x12288x256 (wCols (F := F) (wM.view.read (Elt F) XA) (Ring.bk 125 k.val)) shapeCasts_back := by
    unfold tripMid.sl.v499
    rw [← read_wblk c XA (Ring.bk 125 k.val)]
    exact read_slot c (Ring.sl 14 k.val) _ (off10_eq k) _ _ _
  have hv483 : tripMid.sl.v483 (F := F) = k0_pay2 (F := F) := by
    unfold tripMid.sl.v483 tripMid.sl.HA_1
    exact readCov_all accM.view _ _ _ _
  have hx (hi) : View.readAt (Elt F) arg5.view (Rect.unit (s := S16x12288) k0_off9 S16x12288.size hi).toLoadRect g5 = arg5.view.read (Elt F) g5 := read_whole2 arg5.view k0_off9 (congrFun off9_eq 0) (congrFun off9_eq 1) hi g5
  have hHA : tripMid.sl.HA_2 c XA arg5 k g5 = ⟨Rect.unit (s := S16x256) ![0, 0] S16x256.size inb_S16x256_S16x256_0_0, dotB (F := F) (arg5.view.read (Elt F) g5) (wM.view.read (Elt F) XA) (Ring.bk 125 k.val)⟩ :: tripMid.sl.HA_1 (F := F) := by
    unfold tripMid.sl.HA_2 dotB
    rw [hv499, hv483, hx]
  have hv520 : tripMid.sl.v520 c XA arg5 k g5 = half (F := F) 0 (dotB (F := F) (arg5.view.read (Elt F) g5) (wM.view.read (Elt F) XA) (Ring.bk 125 k.val)) := by
    unfold tripMid.sl.v520
    rw [hHA]
    exact readCov_half accM.view 0 _ _ _ _ rfl _
  have hv578 : tripMid.sl.v578 c XA arg5 k g5 = half (F := F) 1 (dotB (F := F) (arg5.view.read (Elt F) g5) (wM.view.read (Elt F) XA) (Ring.bk 125 k.val)) := by
    unfold tripMid.sl.v578
    rw [hHA]
    exact readCov_half accM.view 1 _ _ _ _ rfl _
  have hw0 (hi) : View.readAt (Elt F) arg6.view (Rect.unit (s := S250x128) (k0_off18 k 0#32) S1x128.size hi).toLoadRect g6 = wsRow (F := F) (arg6.view.read (Elt F) g6) (Ring.bk 125 k.val) 0 := read_ws arg6.view k 0 hi g6
  have hw1 (hi) : View.readAt (Elt F) arg6.view (Rect.unit (s := S250x128) (k0_off18 k 1#32) S1x128.size hi).toLoadRect g6 = wsRow (F := F) (arg6.view.read (Elt F) g6) (Ring.bk 125 k.val) 1 := read_ws arg6.view k 1 hi g6
  have hc0 (hi) : View.readAt (Elt F) cntM.view (Rect.unit (s := S4000x128) (k0_off19 k 0#32) S16x128.size hi).toLoadRect fC = cRows (F := F) (cntM.view.read (Elt F) fC) (Ring.bk 125 k.val) 0 := read_c cntM.view k 0 hi fC
  have hc1 (hi) : View.readAt (Elt F) cntM.view (Rect.unit (s := S4000x128) (k0_off19 k 1#32) S16x128.size hi).toLoadRect fC = cRows (F := F) (cntM.view.read (Elt F) fC) (Ring.bk 125 k.val) 1 := read_c cntM.view k 1 hi fC
  have hr : tripMid.sl.r c XA arg5 arg6 v151 v229 v307 v308 v375 c14_i32_162 v378 v383 k g5 g6 fC = z0 (F := F) (arg5.view.read (Elt F) g5) (wM.view.read (Elt F) XA) (arg6.view.read (Elt F) g6) (cntM.view.read (Elt F) fC) v151 v229 v307 (k0_pay32 v308 v375 c14_i32_162 v378 v383) (Ring.bk 125 k.val) := by
    unfold tripMid.sl.r z0
    rw [hv520, hw0, hc0]
  have hr3 : tripMid.sl.r_3 c XA arg5 arg6 v151 k g5 g6 = y1 (F := F) (arg5.view.read (Elt F) g5) (wM.view.read (Elt F) XA) (arg6.view.read (Elt F) g6) v151 (Ring.bk 125 k.val) := by
    unfold tripMid.sl.r_3 y1
    rw [hv578, hw1]
  have hg0 : tripMid.sl.v516 k = gw (Ring.bk 125 k.val) 0#32 := by
    unfold tripMid.sl.v516 tripMid.sl.v515 tripMid.sl.arg19 gw
    rw [Ring.bk_val (Nat.lt_of_lt_of_eq k.isLt trips4)]
  have hg1 : tripMid.sl.v574 k = gw (Ring.bk 125 k.val) 1#32 := by
    unfold tripMid.sl.v574 tripMid.sl.v515 tripMid.sl.arg19 gw
    rw [Ring.bk_val (Nat.lt_of_lt_of_eq k.isLt trips4)]
  have hret : (tripMid.sl.r_6 c XA arg5 arg6 v151 v229 v307 v308 v375 c14_i32_162 v378 v383 k a g5 g6 fC,
          k0_pay39 (tripMid.sl.r_4 c XA arg5 arg6 v151 v229 v307 v308 v375 c14_i32_162 v378 v383 k g5 g6 fC)
            (tripMid.sl.r_6 c XA arg5 arg6 v151 v229 v307 v308 v375 c14_i32_162 v378 v383 k a g5 g6 fC)
            (tripMid.sl.r_7 c XA arg5 arg6 v151 v229 v307 v308 v375 c14_i32_162 v378 v383 k a g5 g6 fC),
          tripMid.sl.r_5 c XA arg5 arg6 v151 v229 v307 v308 v375 c14_i32_162 v378 v383 v386 k a g5 g6 fC) = stepB (F := F) (arg5.view.read (Elt F) g5) (wM.view.read (Elt F) XA) (arg6.view.read (Elt F) g6) (cntM.view.read (Elt F) fC) v151 v229 v307 (k0_pay32 v308 v375 c14_i32_162 v378 v383) v386 (Ring.bk 125 k.val) a := by
    unfold tripMid.sl.r_6 tripMid.sl.r_4 tripMid.sl.r_7 tripMid.sl.r_5 tripMid.sl.r_2 tripMid.sl.r_1 stepB
    rw [hr, hr3, hc1, hg0, hg1]

  have hzs : (zslot (Ring.sl 2 k.val)).view.read (Elt F) (tripMid.sl.HZ_src_w2 c XA arg5 arg6 v151 v229 v307 v308 v375 c14_i32_162 v378 v383 k g5 g6 fC fs) = zst (F := F) (arg5.view.read (Elt F) g5) (wM.view.read (Elt F) XA) (arg6.view.read (Elt F) g6) (cntM.view.read (Elt F) fC) v151 v229 v307 (k0_pay32 v308 v375 c14_i32_162 v378 v383) (Ring.bk 125 k.val) := by
    unfold tripMid.sl.HZ_src_w2 tripMid.sl.HZ_src_w1
    rw [hr, hr3, hc1]
    exact read_zslot c k fs _ _ (k0_off20_inb k 0) (k0_off20_inb k 1)

  rw [hret]
  sl_step
  isplitr; · ipureintro; rfl
  isplitl [HA]; · iexists _; iexact HA
  isplitl [H5]; · iexact H5
  isplitl [H6]; · iexact H6
  isplitl [HC]; · iexact HC
  isplitl [HW]; · iexists _; iexact HW
  isplitl [HF_src]; · iexact HF_src
  isplitl [HZ]
  · iexists _
    isplitr; · ipureintro; exact hzs
    iexact HZ
  isplitl [HF]
  · iexists ((rslot (Ring.sl 14 k.val)).view.writes (Elt F) (rslot (Ring.sl 14 k.val)).view.junk [⟨Rect.whole S12288x256, payload c XA (Ring.bk 125 k.val)⟩])
    irw [flightP_after]
    iexact HF
  iexact HZ_dst

set_option maxHeartbeats 1600000 in
theorem tripLo (k : Fin k0_t4_loop.trips) (h1 : k0_cond1 k = 1#1) (h2 : ¬ k0_cond2 k = 1#1) (a : FVec F S16x128 .f32 × FVec F S16x128 .f32 × FVec F S16x128 .f32)
   fa g5 g6 fC W f fs  fz :
   iprop(accP c fa ∗ xP c arg5 g5 ∗ wsP c arg6 g6 ∗ cntP c fC ∗ owes (c : Thread nD τ) 0 W
     ∗ flightP c XA (Ring.sl 14 k.val) (Ring.bk 125 k.val) f ∗ homeP c XA (Ring.bk 125 (k.val + 14)) ∗ zslotP c (Ring.sl 2 k.val) fs ∗ zcellP c (Ring.sl 2 k.val) ∗ zblkP c (Ring.bk 125 k.val) fz)
   ⊢ wp frame (wpE (defs₀ (F := F)) 𝒱₀ (c : Thread nD τ) none) Set.univ (tripG arg0 harg0 arg1 harg1 arg2 harg2 arg3 harg3 arg4 harg4 arg5 harg5 arg6 harg6 arg7 harg7 arg8 harg8 arg10 harg10 arg11 harg11 v151 v229 v307 v308 v375 c14_i32_162 v378 v383 v386 k a)
        (fun r => iprop(⌜r = stepB (F := F) (arg5.view.read (Elt F) g5) (wM.view.read (Elt F) XA) (arg6.view.read (Elt F) g6) (cntM.view.read (Elt F) fC) v151 v229 v307 (k0_pay32 v308 v375 c14_i32_162 v378 v383) v386 (Ring.bk 125 k.val) a⌝ ∗ (∃ fa, accP c fa) ∗ xP c arg5 g5 ∗ wsP c arg6 g6 ∗ cntP c fC ∗ (∃ W, owes (c : Thread nD τ) 0 W)
     ∗ homeP c XA (Ring.bk 125 k.val) ∗ zoutP c (arg5.view.read (Elt F) g5) (wM.view.read (Elt F) XA) (arg6.view.read (Elt F) g6) (cntM.view.read (Elt F) fC) v151 v229 v307 (k0_pay32 v308 v375 c14_i32_162 v378 v383) k fz ∗ (∃ f, flightP c XA (Ring.sl 14 k.val) (Ring.bk 125 (k.val + 14)) f))) := by
  iintro ⟨HA, H5, H6, HC, HW, HF, HH, HZS, HZ, HB⟩
  dsimp only [tripG]
  sl_unfold [k0_t4_body]
  sl_exec

  have hv499 : tripLo.sl.v499 c XA k = shapeCast S1x12288x256 (wCols (F := F) (wM.view.read (Elt F) XA) (Ring.bk 125 k.val)) shapeCasts_back := by
    unfold tripLo.sl.v499
    rw [← read_wblk c XA (Ring.bk 125 k.val)]
    exact read_slot c (Ring.sl 14 k.val) _ (off10_eq k) _ _ _
  have hv483 : tripLo.sl.v483 (F := F) = k0_pay2 (F := F) := by
    unfold tripLo.sl.v483 tripLo.sl.HA_1
    exact readCov_all accM.view _ _ _ _
  have hx (hi) : View.readAt (Elt F) arg5.view (Rect.unit (s := S16x12288) k0_off9 S16x12288.size hi).toLoadRect g5 = arg5.view.read (Elt F) g5 := read_whole2 arg5.view k0_off9 (congrFun off9_eq 0) (congrFun off9_eq 1) hi g5
  have hHA : tripLo.sl.HA_2 c XA arg5 k g5 = ⟨Rect.unit (s := S16x256) ![0, 0] S16x256.size inb_S16x256_S16x256_0_0, dotB (F := F) (arg5.view.read (Elt F) g5) (wM.view.read (Elt F) XA) (Ring.bk 125 k.val)⟩ :: tripLo.sl.HA_1 (F := F) := by
    unfold tripLo.sl.HA_2 dotB
    rw [hv499, hv483, hx]
  have hv520 : tripLo.sl.v520 c XA arg5 k g5 = half (F := F) 0 (dotB (F := F) (arg5.view.read (Elt F) g5) (wM.view.read (Elt F) XA) (Ring.bk 125 k.val)) := by
    unfold tripLo.sl.v520
    rw [hHA]
    exact readCov_half accM.view 0 _ _ _ _ rfl _
  have hv578 : tripLo.sl.v578 c XA arg5 k g5 = half (F := F) 1 (dotB (F := F) (arg5.view.read (Elt F) g5) (wM.view.read (Elt F) XA) (Ring.bk 125 k.val)) := by
    unfold tripLo.sl.v578
    rw [hHA]
    exact readCov_half accM.view 1 _ _ _ _ rfl _
  have hw0 (hi) : View.readAt (Elt F) arg6.view (Rect.unit (s := S250x128) (k0_off18 k 0#32) S1x128.size hi).toLoadRect g6 = wsRow (F := F) (arg6.view.read (Elt F) g6) (Ring.bk 125 k.val) 0 := read_ws arg6.view k 0 hi g6
  have hw1 (hi) : View.readAt (Elt F) arg6.view (Rect.unit (s := S250x128) (k0_off18 k 1#32) S1x128.size hi).toLoadRect g6 = wsRow (F := F) (arg6.view.read (Elt F) g6) (Ring.bk 125 k.val) 1 := read_ws arg6.view k 1 hi g6
  have hc0 (hi) : View.readAt (Elt F) cntM.view (Rect.unit (s := S4000x128) (k0_off19 k 0#32) S16x128.size hi).toLoadRect fC = cRows (F := F) (cntM.view.read (Elt F) fC) (Ring.bk 125 k.val) 0 := read_c cntM.view k 0 hi fC
  have hc1 (hi) : View.readAt (Elt F) cntM.view (Rect.unit (s := S4000x128) (k0_off19 k 1#32) S16x128.size hi).toLoadRect fC = cRows (F := F) (cntM.view.read (Elt F) fC) (Ring.bk 125 k.val) 1 := read_c cntM.view k 1 hi fC
  have hr : tripLo.sl.r c XA arg5 arg6 v151 v229 v307 v308 v375 c14_i32_162 v378 v383 k g5 g6 fC = z0 (F := F) (arg5.view.read (Elt F) g5) (wM.view.read (Elt F) XA) (arg6.view.read (Elt F) g6) (cntM.view.read (Elt F) fC) v151 v229 v307 (k0_pay32 v308 v375 c14_i32_162 v378 v383) (Ring.bk 125 k.val) := by
    unfold tripLo.sl.r z0
    rw [hv520, hw0, hc0]
  have hr3 : tripLo.sl.r_3 c XA arg5 arg6 v151 k g5 g6 = y1 (F := F) (arg5.view.read (Elt F) g5) (wM.view.read (Elt F) XA) (arg6.view.read (Elt F) g6) v151 (Ring.bk 125 k.val) := by
    unfold tripLo.sl.r_3 y1
    rw [hv578, hw1]
  have hg0 : tripLo.sl.v516 k = gw (Ring.bk 125 k.val) 0#32 := by
    unfold tripLo.sl.v516 tripLo.sl.v515 tripLo.sl.arg19 gw
    rw [Ring.bk_val (Nat.lt_of_lt_of_eq k.isLt trips4)]
  have hg1 : tripLo.sl.v574 k = gw (Ring.bk 125 k.val) 1#32 := by
    unfold tripLo.sl.v574 tripLo.sl.v515 tripLo.sl.arg19 gw
    rw [Ring.bk_val (Nat.lt_of_lt_of_eq k.isLt trips4)]
  have hret : (tripLo.sl.r_6 c XA arg5 arg6 v151 v229 v307 v308 v375 c14_i32_162 v378 v383 k a g5 g6 fC,
          k0_pay39 (tripLo.sl.r_4 c XA arg5 arg6 v151 v229 v307 v308 v375 c14_i32_162 v378 v383 k g5 g6 fC)
            (tripLo.sl.r_6 c XA arg5 arg6 v151 v229 v307 v308 v375 c14_i32_162 v378 v383 k a g5 g6 fC)
            (tripLo.sl.r_7 c XA arg5 arg6 v151 v229 v307 v308 v375 c14_i32_162 v378 v383 k a g5 g6 fC),
          tripLo.sl.r_5 c XA arg5 arg6 v151 v229 v307 v308 v375 c14_i32_162 v378 v383 v386 k a g5 g6 fC) = stepB (F := F) (arg5.view.read (Elt F) g5) (wM.view.read (Elt F) XA) (arg6.view.read (Elt F) g6) (cntM.view.read (Elt F) fC) v151 v229 v307 (k0_pay32 v308 v375 c14_i32_162 v378 v383) v386 (Ring.bk 125 k.val) a := by
    unfold tripLo.sl.r_6 tripLo.sl.r_4 tripLo.sl.r_7 tripLo.sl.r_5 tripLo.sl.r_2 tripLo.sl.r_1 stepB
    rw [hr, hr3, hc1, hg0, hg1]

  have hzs : (zslot (Ring.sl 2 k.val)).view.read (Elt F) (tripLo.sl.HZS_w2 c XA arg5 arg6 v151 v229 v307 v308 v375 c14_i32_162 v378 v383 k g5 g6 fC fs) = zst (F := F) (arg5.view.read (Elt F) g5) (wM.view.read (Elt F) XA) (arg6.view.read (Elt F) g6) (cntM.view.read (Elt F) fC) v151 v229 v307 (k0_pay32 v308 v375 c14_i32_162 v378 v383) (Ring.bk 125 k.val) := by
    unfold tripLo.sl.HZS_w2 tripLo.sl.HZS_w1
    rw [hr, hr3, hc1]
    exact read_zslot c k fs _ _ (k0_off20_inb k 0) (k0_off20_inb k 1)

  rw [hret]
  sl_step
  isplitr; · ipureintro; rfl
  isplitl [HA]; · iexists _; iexact HA
  isplitl [H5]; · iexact H5
  isplitl [H6]; · iexact H6
  isplitl [HC]; · iexact HC
  isplitl [HW]; · iexists _; iexact HW
  isplitl [HF_src]; · iexact HF_src
  isplitl [HZ]
  · iexists _
    isplitr; · ipureintro; exact hzs
    iexact HZ
  iexists ((rslot (Ring.sl 14 k.val)).view.writes (Elt F) (rslot (Ring.sl 14 k.val)).view.junk [⟨Rect.whole S12288x256, payload c XA (Ring.bk 125 k.val)⟩])
  irw [flightP_after]
  iexact HF

set_option maxHeartbeats 1600000 in
theorem tripHi (k : Fin k0_t4_loop.trips) (h1 : ¬ k0_cond1 k = 1#1) (h2 : k0_cond2 k = 1#1) (a : FVec F S16x128 .f32 × FVec F S16x128 .f32 × FVec F S16x128 .f32)
   fa g5 g6 fC W f fs f0 fz :
   iprop(accP c fa ∗ xP c arg5 g5 ∗ wsP c arg6 g6 ∗ cntP c fC ∗ owes (c : Thread nD τ) 0 W
     ∗ flightP c XA (Ring.sl 14 k.val) (Ring.bk 125 k.val) f ∗ zflightP c (Ring.sl 2 k.val) (Ring.bk 125 (k.val - 2)) fs f0 ∗ zblkP c (Ring.bk 125 k.val) fz)
   ⊢ wp frame (wpE (defs₀ (F := F)) 𝒱₀ (c : Thread nD τ) none) Set.univ (tripG arg0 harg0 arg1 harg1 arg2 harg2 arg3 harg3 arg4 harg4 arg5 harg5 arg6 harg6 arg7 harg7 arg8 harg8 arg10 harg10 arg11 harg11 v151 v229 v307 v308 v375 c14_i32_162 v378 v383 v386 k a)
        (fun r => iprop(⌜r = stepB (F := F) (arg5.view.read (Elt F) g5) (wM.view.read (Elt F) XA) (arg6.view.read (Elt F) g6) (cntM.view.read (Elt F) fC) v151 v229 v307 (k0_pay32 v308 v375 c14_i32_162 v378 v383) v386 (Ring.bk 125 k.val) a⌝ ∗ (∃ fa, accP c fa) ∗ xP c arg5 g5 ∗ wsP c arg6 g6 ∗ cntP c fC ∗ (∃ W, owes (c : Thread nD τ) 0 W)
     ∗ homeP c XA (Ring.bk 125 k.val) ∗ zoutP c (arg5.view.read (Elt F) g5) (wM.view.read (Elt F) XA) (arg6.view.read (Elt F) g6) (cntM.view.read (Elt F) fC) v151 v229 v307 (k0_pay32 v308 v375 c14_i32_162 v378 v383) k fz ∗ (∃ f, slotP c (Ring.sl 14 k.val) f) ∗ cellP c (Ring.sl 14 k.val) ∗ zblkP c (Ring.bk 125 (k.val - 2)) ((zblk (Ring.bk 125 (k.val - 2))).view.writes (Elt F) f0 [⟨Rect.whole S16x256, ReadAs.same.apply ((zslot (Ring.sl 2 k.val)).view.read (Elt F) fs)⟩]))) := by
  iintro ⟨HA, H5, H6, HC, HW, HF, HZ, HB⟩
  dsimp only [tripG]
  sl_unfold [k0_t4_body]
  sl_exec

  have hv499 : tripHi.sl.v499 c XA k = shapeCast S1x12288x256 (wCols (F := F) (wM.view.read (Elt F) XA) (Ring.bk 125 k.val)) shapeCasts_back := by
    unfold tripHi.sl.v499
    rw [← read_wblk c XA (Ring.bk 125 k.val)]
    exact read_slot c (Ring.sl 14 k.val) _ (off10_eq k) _ _ _
  have hv483 : tripHi.sl.v483 (F := F) = k0_pay2 (F := F) := by
    unfold tripHi.sl.v483 tripHi.sl.HA_1
    exact readCov_all accM.view _ _ _ _
  have hx (hi) : View.readAt (Elt F) arg5.view (Rect.unit (s := S16x12288) k0_off9 S16x12288.size hi).toLoadRect g5 = arg5.view.read (Elt F) g5 := read_whole2 arg5.view k0_off9 (congrFun off9_eq 0) (congrFun off9_eq 1) hi g5
  have hHA : tripHi.sl.HA_2 c XA arg5 k g5 = ⟨Rect.unit (s := S16x256) ![0, 0] S16x256.size inb_S16x256_S16x256_0_0, dotB (F := F) (arg5.view.read (Elt F) g5) (wM.view.read (Elt F) XA) (Ring.bk 125 k.val)⟩ :: tripHi.sl.HA_1 (F := F) := by
    unfold tripHi.sl.HA_2 dotB
    rw [hv499, hv483, hx]
  have hv520 : tripHi.sl.v520 c XA arg5 k g5 = half (F := F) 0 (dotB (F := F) (arg5.view.read (Elt F) g5) (wM.view.read (Elt F) XA) (Ring.bk 125 k.val)) := by
    unfold tripHi.sl.v520
    rw [hHA]
    exact readCov_half accM.view 0 _ _ _ _ rfl _
  have hv578 : tripHi.sl.v578 c XA arg5 k g5 = half (F := F) 1 (dotB (F := F) (arg5.view.read (Elt F) g5) (wM.view.read (Elt F) XA) (Ring.bk 125 k.val)) := by
    unfold tripHi.sl.v578
    rw [hHA]
    exact readCov_half accM.view 1 _ _ _ _ rfl _
  have hw0 (hi) : View.readAt (Elt F) arg6.view (Rect.unit (s := S250x128) (k0_off18 k 0#32) S1x128.size hi).toLoadRect g6 = wsRow (F := F) (arg6.view.read (Elt F) g6) (Ring.bk 125 k.val) 0 := read_ws arg6.view k 0 hi g6
  have hw1 (hi) : View.readAt (Elt F) arg6.view (Rect.unit (s := S250x128) (k0_off18 k 1#32) S1x128.size hi).toLoadRect g6 = wsRow (F := F) (arg6.view.read (Elt F) g6) (Ring.bk 125 k.val) 1 := read_ws arg6.view k 1 hi g6
  have hc0 (hi) : View.readAt (Elt F) cntM.view (Rect.unit (s := S4000x128) (k0_off19 k 0#32) S16x128.size hi).toLoadRect fC = cRows (F := F) (cntM.view.read (Elt F) fC) (Ring.bk 125 k.val) 0 := read_c cntM.view k 0 hi fC
  have hc1 (hi) : View.readAt (Elt F) cntM.view (Rect.unit (s := S4000x128) (k0_off19 k 1#32) S16x128.size hi).toLoadRect fC = cRows (F := F) (cntM.view.read (Elt F) fC) (Ring.bk 125 k.val) 1 := read_c cntM.view k 1 hi fC
  have hr : tripHi.sl.r c XA arg5 arg6 v151 v229 v307 v308 v375 c14_i32_162 v378 v383 k g5 g6 fC = z0 (F := F) (arg5.view.read (Elt F) g5) (wM.view.read (Elt F) XA) (arg6.view.read (Elt F) g6) (cntM.view.read (Elt F) fC) v151 v229 v307 (k0_pay32 v308 v375 c14_i32_162 v378 v383) (Ring.bk 125 k.val) := by
    unfold tripHi.sl.r z0
    rw [hv520, hw0, hc0]
  have hr3 : tripHi.sl.r_3 c XA arg5 arg6 v151 k g5 g6 = y1 (F := F) (arg5.view.read (Elt F) g5) (wM.view.read (Elt F) XA) (arg6.view.read (Elt F) g6) v151 (Ring.bk 125 k.val) := by
    unfold tripHi.sl.r_3 y1
    rw [hv578, hw1]
  have hg0 : tripHi.sl.v516 k = gw (Ring.bk 125 k.val) 0#32 := by
    unfold tripHi.sl.v516 tripHi.sl.v515 tripHi.sl.arg19 gw
    rw [Ring.bk_val (Nat.lt_of_lt_of_eq k.isLt trips4)]
  have hg1 : tripHi.sl.v574 k = gw (Ring.bk 125 k.val) 1#32 := by
    unfold tripHi.sl.v574 tripHi.sl.v515 tripHi.sl.arg19 gw
    rw [Ring.bk_val (Nat.lt_of_lt_of_eq k.isLt trips4)]
  have hret : (tripHi.sl.r_6 c XA arg5 arg6 v151 v229 v307 v308 v375 c14_i32_162 v378 v383 k a g5 g6 fC,
          k0_pay39 (tripHi.sl.r_4 c XA arg5 arg6 v151 v229 v307 v308 v375 c14_i32_162 v378 v383 k g5 g6 fC)
            (tripHi.sl.r_6 c XA arg5 arg6 v151 v229 v307 v308 v375 c14_i32_162 v378 v383 k a g5 g6 fC)
            (tripHi.sl.r_7 c XA arg5 arg6 v151 v229 v307 v308 v375 c14_i32_162 v378 v383 k a g5 g6 fC),
          tripHi.sl.r_5 c XA arg5 arg6 v151 v229 v307 v308 v375 c14_i32_162 v378 v383 v386 k a g5 g6 fC) = stepB (F := F) (arg5.view.read (Elt F) g5) (wM.view.read (Elt F) XA) (arg6.view.read (Elt F) g6) (cntM.view.read (Elt F) fC) v151 v229 v307 (k0_pay32 v308 v375 c14_i32_162 v378 v383) v386 (Ring.bk 125 k.val) a := by
    unfold tripHi.sl.r_6 tripHi.sl.r_4 tripHi.sl.r_7 tripHi.sl.r_5 tripHi.sl.r_2 tripHi.sl.r_1 stepB
    rw [hr, hr3, hc1, hg0, hg1]

  have hzs : (zslot (Ring.sl 2 k.val)).view.read (Elt F) (tripHi.sl.HZ_src_w2 c XA arg5 arg6 v151 v229 v307 v308 v375 c14_i32_162 v378 v383 k g5 g6 fC fs) = zst (F := F) (arg5.view.read (Elt F) g5) (wM.view.read (Elt F) XA) (arg6.view.read (Elt F) g6) (cntM.view.read (Elt F) fC) v151 v229 v307 (k0_pay32 v308 v375 c14_i32_162 v378 v383) (Ring.bk 125 k.val) := by
    unfold tripHi.sl.HZ_src_w2 tripHi.sl.HZ_src_w1
    rw [hr, hr3, hc1]
    exact read_zslot c k fs _ _ (k0_off20_inb k 0) (k0_off20_inb k 1)

  rw [hret]
  sl_step
  isplitr; · ipureintro; rfl
  isplitl [HA]; · iexists _; iexact HA
  isplitl [H5]; · iexact H5
  isplitl [H6]; · iexact H6
  isplitl [HC]; · iexact HC
  isplitl [HW]; · iexists _; iexact HW
  isplitl [HF_src]; · iexact HF_src
  isplitl [HZ]
  · iexists _
    isplitr; · ipureintro; exact hzs
    iexact HZ
  isplitl [HF_dst]; · iexists _; iexact HF_dst
  isplitl [HF]; · iexact HF
  iexact HZ_dst
end Trip

end Cert.Kernel.Hand

end
-- ==== Proof.KLoop.lean ====
module

public import proofs.«01_k».proof.Proof.KTrip

/-!
  The column loop: what is held before each trip, and that a trip carries it on.
-/

@[expose] public section

set_option maxRecDepth 16384

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Ring
variable (c : Dev nD) (XA : Buf (Elt F) (wM.view.loc (c : Thread nD τ)))

/-- The number of the copy that slot `s` holds or waits for before trip `k`. -/
def nb (k : ℕ) (s : Fin 14) : ℕ := k + (s.val + 14 - k % 14) % 14
/-- Slot `s` with copy `b`: in flight while there are blocks left, else free. -/
def slotRes (b : ℕ) (s : Fin 14) : sProp 𝕄 :=
  if b < 125 then iprop(∃ f, flightP c XA s (Ring.bk 125 b) f) else iprop((∃ f, slotP c s f) ∗ cellP c s)
/-- The ring before trip `k`. -/
def RingAt (k : ℕ) : sProp 𝕄 := bigSep Finset.univ fun s : Fin 14 => slotRes c XA (nb k s) s

omit [FloatOps F] in
theorem nb_here (k : ℕ) : nb k (Ring.sl 14 k) = k := by
  unfold nb; simp only [Ring.sl, Fin.val_ofNat]; omega
omit [FloatOps F] in
theorem nb_next (k : ℕ) : nb (k + 1) (Ring.sl 14 k) = k + 14 := by
  unfold nb; simp only [Ring.sl, Fin.val_ofNat]; omega
omit [FloatOps F] in
theorem nb_other (k : ℕ) (s : Fin 14) (h : s ≠ Ring.sl 14 k) : nb (k + 1) s = nb k s := by
  have hs := s.isLt
  have h' : s.val ≠ k % 14 := fun e => h (Fin.ext (by simp only [Ring.sl, Fin.val_ofNat]; exact e))
  unfold nb; omega

/-- Trip `k` finds copy `k` in its slot; -/
theorem ring_here (k : ℕ) : RingAt c XA k = iprop(slotRes c XA k (Ring.sl 14 k) ∗ bigSep (Finset.univ.erase (Ring.sl 14 k)) fun s => slotRes c XA (nb k s) s) := by
  unfold RingAt
  rw [BI.bigSep_univ_at _ (Ring.sl 14 k), nb_here]
/-- and leaves it with copy `k + 14`. -/
theorem ring_next (k : ℕ) : RingAt c XA (k + 1) = iprop(slotRes c XA (k + 14) (Ring.sl 14 k) ∗ bigSep (Finset.univ.erase (Ring.sl 14 k)) fun s => slotRes c XA (nb k s) s) := by
  unfold RingAt
  rw [BI.bigSep_univ_at _ (Ring.sl 14 k), nb_next]
  congr 1
  exact bigSep_congr fun s hs => by rw [nb_other k s (Finset.ne_of_mem_erase hs)]
theorem slotRes_lt (b : ℕ) (s : Fin 14) (h : b < 125) : slotRes c XA b s = iprop(∃ f, flightP c XA s (Ring.bk 125 b) f) := if_pos h
theorem slotRes_ge (b : ℕ) (s : Fin 14) (h : ¬ b < 125) : slotRes c XA b s = iprop((∃ f, slotP c s f) ∗ cellP c s) := if_neg h

theorem homes_here (k : ℕ) (hk : k + 14 < 125) :
    bigSep (Ring.homeSet 14 k) (homeP c XA) = iprop(homeP c XA (Ring.bk 125 (k + 14)) ∗ bigSep ((Ring.homeSet 14 k).erase (Ring.bk 125 (k + 14))) (homeP c XA)) := by
  conv_lhs => rw [Ring.homeSet_out 14 k hk, bigSep_insert (Ring.bkL_not_mem_erase 14 k)]
  rfl
theorem homes_next (k : ℕ) (hk : k + 14 < 125) :
    bigSep (Ring.homeSet 14 (k + 1)) (homeP c XA) = iprop(homeP c XA (Ring.bk 125 k) ∗ bigSep ((Ring.homeSet 14 k).erase (Ring.bk 125 (k + 14))) (homeP c XA)) := by
  conv_lhs => rw [Ring.homeSet_succ 14 k hk, bigSep_insert (Ring.bk_not_mem_erase 14 k (by omega) (by decide))]
  rfl
theorem homes_tail (k : ℕ) (h : 125 ≤ k + 14) (hk : k < 125) :
    bigSep (Ring.homeSet 14 (k + 1)) (homeP c XA) = iprop(homeP c XA (Ring.bk 125 k) ∗ bigSep (Ring.homeSet 14 k) (homeP c XA)) := by
  conv_lhs => rw [Ring.homeSet_succ_tail 14 k h hk, bigSep_insert (Ring.bk_not_mem_homeSet 14 k hk (by decide))]
  rfl
end Ring

section Stage
variable (c : Dev nD) (zv : Fin 125 → Vec F S16x256 .f32)

/-- Block `b` of the logits, arrived. -/
def zdoneP (b : Fin 125) : sProp 𝕄 := iprop(∃ f, ⌜(zblk b).view.read (Elt F) f = zv b⌝ ∗ zblkP c b f)
/-- Staging slot `s` before its copy `p`: copy `p - 2` on its way, or nothing yet. -/
def zRes (p : ℕ) (s : Fin 2) : sProp 𝕄 :=
  if 2 ≤ p then iprop(∃ f0 fs, ⌜(zslot s).view.read (Elt F) fs = zv (Ring.bk 125 (p - 2))⌝ ∗ zflightP c s (Ring.bk 125 (p - 2)) fs f0)
  else iprop((∃ f, zslotP c s f) ∗ zcellP c s)
/-- The copy that staging slot `s` makes next, before trip `k`. -/
def zp (k : ℕ) (s : Fin 2) : ℕ := k + (s.val + 2 - k % 2) % 2
def ZSlots (k : ℕ) : sProp 𝕄 := bigSep Finset.univ fun s : Fin 2 => zRes c zv (zp k s) s
def ZDone (k : ℕ) : sProp 𝕄 := bigSep (Ring.rangeSet 125 0 (k - 2)) (zdoneP c zv)
def ZTodo (k : ℕ) : sProp 𝕄 := bigSep (Ring.rangeSet 125 k 125) fun b => iprop(∃ f, zblkP c b f)

omit [FloatOps F] in
theorem zp_here (k : ℕ) : zp k (Ring.sl 2 k) = k := by
  unfold zp; simp only [Ring.sl, Fin.val_ofNat]; omega
omit [FloatOps F] in
theorem zp_next (k : ℕ) : zp (k + 1) (Ring.sl 2 k) = k + 2 := by
  unfold zp; simp only [Ring.sl, Fin.val_ofNat]; omega
omit [FloatOps F] in
theorem zp_other (k : ℕ) (s : Fin 2) (h : s ≠ Ring.sl 2 k) : zp (k + 1) s = zp k s := by
  have hs := s.isLt
  have h' : s.val ≠ k % 2 := fun e => h (Fin.ext (by simp only [Ring.sl, Fin.val_ofNat]; exact e))
  unfold zp; omega
theorem zslots_here (k : ℕ) : ZSlots c zv k = iprop(zRes c zv k (Ring.sl 2 k) ∗ bigSep (Finset.univ.erase (Ring.sl 2 k)) fun s => zRes c zv (zp k s) s) := by
  unfold ZSlots
  rw [BI.bigSep_univ_at _ (Ring.sl 2 k), zp_here]
theorem zslots_next (k : ℕ) : ZSlots c zv (k + 1) = iprop(zRes c zv (k + 2) (Ring.sl 2 k) ∗ bigSep (Finset.univ.erase (Ring.sl 2 k)) fun s => zRes c zv (zp k s) s) := by
  unfold ZSlots
  rw [BI.bigSep_univ_at _ (Ring.sl 2 k), zp_next]
  congr 1
  exact bigSep_congr fun s hs => by rw [zp_other k s (Finset.ne_of_mem_erase hs)]
theorem zRes_ge (p : ℕ) (s : Fin 2) (h : 2 ≤ p) : zRes c zv p s = iprop(∃ f0 fs, ⌜(zslot s).view.read (Elt F) fs = zv (Ring.bk 125 (p - 2))⌝ ∗ zflightP c s (Ring.bk 125 (p - 2)) fs f0) := if_pos h
theorem zRes_add (k : ℕ) (s : Fin 2) : zRes c zv (k + 2) s = iprop(∃ f0 fs, ⌜(zslot s).view.read (Elt F) fs = zv (Ring.bk 125 k)⌝ ∗ zflightP c s (Ring.bk 125 k) fs f0) := if_pos (Nat.le_add_left 2 k)
theorem zRes_lt (p : ℕ) (s : Fin 2) (h : ¬ 2 ≤ p) : zRes c zv p s = iprop((∃ f, zslotP c s f) ∗ zcellP c s) := if_neg h
omit [FloatOps F] in
theorem bk_eq (k : ℕ) (h : k < 125) : (⟨k, h⟩ : Fin 125) = Ring.bk 125 k := Fin.ext (Ring.bk_val h).symm
theorem zdone_next (k : ℕ) (h : 2 ≤ k) (hk : k < 125) : ZDone c zv (k + 1) = iprop(zdoneP c zv (Ring.bk 125 (k - 2)) ∗ ZDone c zv k) := by
  unfold ZDone
  rw [Ring.bigSep_rangeSet_last (show 0 < k + 1 - 2 by omega) (show k + 1 - 2 ≤ 125 by omega), ← bk_eq (k - 2) (by omega)]
  have e : k + 1 - 2 - 1 = k - 2 := by omega
  simp only [e]
theorem zdone_lo (k : ℕ) (h : ¬ 2 ≤ k) : ZDone c zv (k + 1) = ZDone c zv k := by
  unfold ZDone
  rw [show k + 1 - 2 = 0 by omega, show k - 2 = 0 by omega]
theorem ztodo_here (k : ℕ) (hk : k < 125) : ZTodo (F := F) c k = iprop((∃ f, zblkP c (Ring.bk 125 k) f) ∗ ZTodo c (k + 1)) := by
  unfold ZTodo
  rw [Ring.bigSep_rangeSet_head (NB := 125) (show k < 125 from hk) hk, ← bk_eq k hk]
omit [FloatOps F] in
theorem read_zlanded {κ : Kind} {sp : Space} (v : View sig κ sp S16x256 .f32) (f : v.ty.Contents (Elt F)) (w : Vec F S16x256 .f32) :
    v.read (Elt F) (v.writes (Elt F) f [⟨Rect.whole S16x256, w⟩]) = w := by
  funext y
  refine View.read_writes_cons_hit_of_coords v f (Rect.whole S16x256) w [] y y ?_
  intro a
  show (y a).val = 0 + 1 * (y a).val
  omega
theorem zdone_of (b : Fin 125) (w : Vec F S16x256 .f32) (h : w = zv b) (f0 : Buf (Elt F) ((zblk b).view.loc (c : Thread nD τ))) :
    zblkP c b ((zblk b).view.writes (Elt F) f0 [⟨Rect.whole S16x256, w⟩]) ⊢ zdoneP c zv b := by
  unfold zdoneP
  iintro H
  iexists ((zblk b).view.writes (Elt F) f0 [⟨Rect.whole S16x256, w⟩])
  isplitr; · ipureintro; exact (read_zlanded (zblk b).view f0 w).trans h
  iexact H
end Stage

section Loop
variable (c : Dev nD) (XA : Buf (Elt F) (wM.view.loc (c : Thread nD τ)))
  (arg0 : Memref sig .tc .smem S17 .i32) (harg0 : arg0.IsWhole)
  (arg1 : Memref sig .tc .smem S16 .f32) (harg1 : arg1.IsWhole)
  (arg2 : Memref sig .tc .smem S16 .f32) (harg2 : arg2.IsWhole)
  (arg3 : Memref sig .tc .smem S16 .f32) (harg3 : arg3.IsWhole)
  (arg4 : Memref sig .tc .smem S16 .f32) (harg4 : arg4.IsWhole)
  (arg5 : Memref sig .tc .vmem S16x12288 .fp8e4m3) (harg5 : arg5.IsWhole)
  (arg6 : Memref sig .tc .vmem S250x128 .f32) (harg6 : arg6.IsWhole)
  (arg7 : Memref sig .tc .vmem S128x128 .i32) (harg7 : arg7.IsWhole)
  (arg8 : Memref sig .tc .vmem S16x20 .i32) (harg8 : arg8.IsWhole)
  (arg10 : Memref sig .tc .vmem S1x16 .f32) (harg10 : arg10.IsWhole)
  (arg11 : Memref sig .tc .vmem S16x20 .f32) (harg11 : arg11.IsWhole)
  (v151 : FVec F S16x128 .f32) (v229 : FVec F S16x128 .f32) (v307 : FVec F S16x128 .f32) (v308 : IVec S16x128 32) (v375 : FVec F S16x128 .f32) (c14_i32_162 : BitVec 32) (v378 : Elt F .f32) (v383 : Elt F .f32) (v386 : Vec F S16x20 .i32)
  (g5 : Buf (Elt F) (arg5.view.loc (c : Thread nD τ))) (g6 : Buf (Elt F) (arg6.view.loc (c : Thread nD τ))) (fC : Buf (Elt F) (cntM.view.loc (c : Thread nD τ)))

/-- What is held before trip `k`, the staged blocks being `zv`. -/
def InvAt (zv : Fin 125 → Vec F S16x256 .f32) (k : ℕ) : sProp 𝕄 :=
  iprop((∃ fa, accP c fa) ∗ xP c arg5 g5 ∗ wsP c arg6 g6 ∗ cntP c fC ∗ (∃ W, owes (c : Thread nD τ) 0 W)
    ∗ bigSep (Ring.homeSet 14 k) (homeP c XA) ∗ RingAt c XA k ∗ ZSlots c zv k ∗ ZDone c zv k ∗ ZTodo c k)

/-- The blocks the loop stages. -/
abbrev zvOf (rep : FVec F S16x128 .f32) : Fin 125 → Vec F S16x256 .f32 :=
  zst (F := F) (arg5.view.read (Elt F) g5) (wM.view.read (Elt F) XA) (arg6.view.read (Elt F) g6) (cntM.view.read (Elt F) fC) v151 v229 v307 rep

theorem carry_succ (k : ℕ) (hk : k < 125) (X : Vec F S16x12288 .fp8e4m3) (Wt : Vec F S12288x32000 .fp8e4m3) (WS : Vec F S250x128 .f32) (C : Vec F S4000x128 .f32) (rep : FVec F S16x128 .f32) :
    carry X Wt WS C v151 v229 v307 rep v386 (k + 1) = stepB X Wt WS C v151 v229 v307 rep v386 (Ring.bk 125 k) (carry X Wt WS C v151 v229 v307 rep v386 k) := by
  rw [← bk_eq k hk, carry, dif_pos hk]

set_option maxHeartbeats 1600000 in
set_option warn.classDefReducibility false in
/-- Each trip carries the invariant on, the carried value being `carry`. -/
@[sl_loop] def loopInv4 :
    LoopInvTy_k0_t4 (F := F) Unit ℕ (UU nD τ) ℕ 𝒱₀ c none Set.univ arg0 harg0 arg1 harg1 arg2 harg2 arg3 harg3 arg4 harg4 arg5 harg5 arg6 harg6 arg7 harg7 arg8 harg8 wM (Memref.isWhole_whole _) arg10 harg10 arg11 harg11 zM (Memref.isWhole_whole _) ringM (Memref.isWhole_whole _) cntM (Memref.isWhole_whole _) accM (Memref.isWhole_whole _) zbM (Memref.isWhole_whole _) cc0_scratch4 cc0_scratch5 v151 v229 v307 v308 v375 c14_i32_162 v378 v383 v386 (k0_pay36 (F := F), k0_pay37 (F := F), k0_pay38 (F := F)) where
  inv k a := iprop(⌜a = carry (F := F) (arg5.view.read (Elt F) g5) (wM.view.read (Elt F) XA) (arg6.view.read (Elt F) g6) (cntM.view.read (Elt F) fC) v151 v229 v307 (k0_pay32 v308 v375 c14_i32_162 v378 v383) v386 k⌝ ∗ InvAt c XA arg5 arg6 g5 g6 fC (zvOf c XA arg5 arg6 v151 v229 v307 g5 g6 fC (k0_pay32 v308 v375 c14_i32_162 v378 v383)) k)
  step k a := by
    have hk : k.val < 125 := Nat.lt_of_lt_of_eq k.isLt trips4
    unfold InvAt
    rw [carry_succ v151 v229 v307 v386 k.val hk]
    iintro ⟨%ha, ⟨%fa, HA⟩, H5, H6, HC, ⟨%W, HW⟩, Hh, HR, HZS, HZD, HZT⟩
    rw [← ha]
    ihave HR' := (entails_of_eq (ring_here c XA k.val)) $$ HR
    icases HR' with ⟨HR0, HR⟩
    ihave HZS' := (entails_of_eq (zslots_here c (zvOf c XA arg5 arg6 v151 v229 v307 g5 g6 fC (k0_pay32 v308 v375 c14_i32_162 v378 v383)) k.val)) $$ HZS
    icases HZS' with ⟨HZ0, HZS⟩
    ihave HZT' := (entails_of_eq (ztodo_here c k.val hk)) $$ HZT
    icases HZT' with ⟨⟨%fz, HB⟩, HZT⟩
    ihave HR0' := (entails_of_eq (slotRes_lt c XA k.val (Ring.sl 14 k.val) hk)) $$ HR0
    icases HR0' with ⟨%f, HF⟩
    irw [ring_next, zslots_next]
    by_cases h2 : 2 ≤ k.val
    · ihave HZ0' := (entails_of_eq (zRes_ge c (zvOf c XA arg5 arg6 v151 v229 v307 g5 g6 fC (k0_pay32 v308 v375 c14_i32_162 v378 v383)) k.val (Ring.sl 2 k.val) h2)) $$ HZ0
      icases HZ0' with ⟨%f0, %fs, %hfs, HZ⟩
      irw [zdone_next c _ k.val h2 hk]
      by_cases h1 : k.val + 14 < 125
      · ihave Hh' := (entails_of_eq (homes_here c XA k.val h1)) $$ Hh
        icases Hh' with ⟨HH, Hh⟩
        irw [homes_next c XA k.val h1, slotRes_lt c XA (k.val + 14) _ h1]
        iapply (wp_wand_r Idealize.ShloMosaic.frame (wpE (defs₀ (F := F)) 𝒱₀ (c : Thread nD τ) none) Set.univ)
        isplitl [HA H5 H6 HC HW HF HH HZ HB]
        · iapply (tripMid c XA arg0 harg0 arg1 harg1 arg2 harg2 arg3 harg3 arg4 harg4 arg5 harg5 arg6 harg6 arg7 harg7 arg8 harg8 arg10 harg10 arg11 harg11 v151 v229 v307 v308 v375 c14_i32_162 v378 v383 v386 k ((cond1_iff k).mpr h1) ((cond2_iff k).mpr h2) a fa g5 g6 fC W f fs f0 fz)
          isplitl [HA]; · iexact HA
          isplitl [H5]; · iexact H5
          isplitl [H6]; · iexact H6
          isplitl [HC]; · iexact HC
          isplitl [HW]; · iexact HW
          isplitl [HF]; · iexact HF
          isplitl [HH]; · iexact HH
          isplitl [HZ]; · iexact HZ
          iexact HB
        · iintro %r ⟨%hr, HA, H5, H6, HC, HW, Hhb, ⟨%fs', %hfs', HZ⟩, HF, HD⟩
          isplitr; · ipureintro; exact hr
          isplitl [HA]; · iexact HA
          isplitl [H5]; · iexact H5
          isplitl [H6]; · iexact H6
          isplitl [HC]; · iexact HC
          isplitl [HW]; · iexact HW
          isplitl [Hhb Hh]
          · isplitl [Hhb]; · iexact Hhb
            iexact Hh
          isplitl [HF HR]
          · isplitl [HF]; · iexact HF
            iexact HR
          isplitl [HZ HZS]
          · isplitl [HZ]
            · irw [zRes_add]; iexists _; iexists _
              isplitr; · ipureintro; exact hfs'
              iexact HZ
            iexact HZS
          isplitl [HD HZD]
          · isplitl [HD]
            · iapply (zdone_of c (zvOf c XA arg5 arg6 v151 v229 v307 g5 g6 fC (k0_pay32 v308 v375 c14_i32_162 v378 v383)) (Ring.bk 125 (k.val - 2)) ((zslot (Ring.sl 2 k.val)).view.read (Elt F) fs) hfs f0); iexact HD
            iexact HZD
          iexact HZT
      · irw [homes_tail c XA k.val (by omega) hk, slotRes_ge c XA (k.val + 14) _ h1]
        iapply (wp_wand_r Idealize.ShloMosaic.frame (wpE (defs₀ (F := F)) 𝒱₀ (c : Thread nD τ) none) Set.univ)
        isplitl [HA H5 H6 HC HW HF HZ HB]
        · iapply (tripHi c XA arg0 harg0 arg1 harg1 arg2 harg2 arg3 harg3 arg4 harg4 arg5 harg5 arg6 harg6 arg7 harg7 arg8 harg8 arg10 harg10 arg11 harg11 v151 v229 v307 v308 v375 c14_i32_162 v378 v383 v386 k (fun e => h1 ((cond1_iff k).mp e)) ((cond2_iff k).mpr h2) a fa g5 g6 fC W f fs f0 fz)
          isplitl [HA]; · iexact HA
          isplitl [H5]; · iexact H5
          isplitl [H6]; · iexact H6
          isplitl [HC]; · iexact HC
          isplitl [HW]; · iexact HW
          isplitl [HF]; · iexact HF
          isplitl [HZ]; · iexact HZ
          iexact HB
        · iintro %r ⟨%hr, HA, H5, H6, HC, HW, Hhb, ⟨%fs', %hfs', HZ⟩, HS, HCell, HD⟩
          isplitr; · ipureintro; exact hr
          isplitl [HA]; · iexact HA
          isplitl [H5]; · iexact H5
          isplitl [H6]; · iexact H6
          isplitl [HC]; · iexact HC
          isplitl [HW]; · iexact HW
          isplitl [Hhb Hh]
          · isplitl [Hhb]; · iexact Hhb
            iexact Hh
          isplitl [HS HCell HR]
          · isplitl [HS HCell]
            · isplitl [HS]; · iexact HS
              iexact HCell
            iexact HR
          isplitl [HZ HZS]
          · isplitl [HZ]
            · irw [zRes_add]; iexists _; iexists _
              isplitr; · ipureintro; exact hfs'
              iexact HZ
            iexact HZS
          isplitl [HD HZD]
          · isplitl [HD]
            · iapply (zdone_of c (zvOf c XA arg5 arg6 v151 v229 v307 g5 g6 fC (k0_pay32 v308 v375 c14_i32_162 v378 v383)) (Ring.bk 125 (k.val - 2)) ((zslot (Ring.sl 2 k.val)).view.read (Elt F) fs) hfs f0); iexact HD
            iexact HZD
          iexact HZT
    · ihave HZ0' := (entails_of_eq (zRes_lt c (zvOf c XA arg5 arg6 v151 v229 v307 g5 g6 fC (k0_pay32 v308 v375 c14_i32_162 v378 v383)) k.val (Ring.sl 2 k.val) h2)) $$ HZ0
      icases HZ0' with ⟨⟨%fs, HZs⟩, HZ⟩
      have h1 : k.val + 14 < 125 := by omega
      ihave Hh' := (entails_of_eq (homes_here c XA k.val h1)) $$ Hh
      icases Hh' with ⟨HH, Hh⟩
      irw [zdone_lo c _ k.val h2, homes_next c XA k.val h1, slotRes_lt c XA (k.val + 14) _ h1]
      iapply (wp_wand_r Idealize.ShloMosaic.frame (wpE (defs₀ (F := F)) 𝒱₀ (c : Thread nD τ) none) Set.univ)
      isplitl [HA H5 H6 HC HW HF HH HZs HZ HB]
      · iapply (tripLo c XA arg0 harg0 arg1 harg1 arg2 harg2 arg3 harg3 arg4 harg4 arg5 harg5 arg6 harg6 arg7 harg7 arg8 harg8 arg10 harg10 arg11 harg11 v151 v229 v307 v308 v375 c14_i32_162 v378 v383 v386 k ((cond1_iff k).mpr h1) (fun e => h2 ((cond2_iff k).mp e)) a fa g5 g6 fC W f fs fz)
        isplitl [HA]; · iexact HA
        isplitl [H5]; · iexact H5
        isplitl [H6]; · iexact H6
        isplitl [HC]; · iexact HC
        isplitl [HW]; · iexact HW
        isplitl [HF]; · iexact HF
        isplitl [HH]; · iexact HH
        isplitl [HZs]; · iexact HZs
        isplitl [HZ]; · iexact HZ
        iexact HB
      · iintro %r ⟨%hr, HA, H5, H6, HC, HW, Hhb, ⟨%fs', %hfs', HZ⟩, HF⟩
        isplitr; · ipureintro; exact hr
        isplitl [HA]; · iexact HA
        isplitl [H5]; · iexact H5
        isplitl [H6]; · iexact H6
        isplitl [HC]; · iexact HC
        isplitl [HW]; · iexact HW
        isplitl [Hhb Hh]
        · isplitl [Hhb]; · iexact Hhb
          iexact Hh
        isplitl [HF HR]
        · isplitl [HF]; · iexact HF
          iexact HR
        isplitl [HZ HZS]
        · isplitl [HZ]
          · irw [zRes_add]; iexists _; iexists _
            isplitr; · ipureintro; exact hfs'
            iexact HZ
          iexact HZS
        isplitl [HZD]; · iexact HZD
        iexact HZT
end Loop

end Cert.Kernel.Hand

end
-- ==== Proof.KPart.lean ====
module

public import proofs.«01_k».proof.Proof.KLoop

/-!
  The column loop run whole, from fourteen blocks on their way to the last two blocks of logits on theirs.
-/

@[expose] public section

set_option maxRecDepth 16384

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-- A whole two-axis buffer reads what was stored over the whole of it. -/
theorem read_store2 {m n : ℕ} {κ : Kind} {sp : Space} {e : EltTy} (v : View sig κ sp ⟨2, ![m, n]⟩ e) (f : v.ty.Contents (Elt F)) (off : Fin 2 → ℕ) (h0 : off 0 = 0) (h1 : off 1 = 0) (hi) (w : Vec F ⟨2, ![m, n]⟩ e) :
    v.read (Elt F) (v.writes (Elt F) f [⟨Rect.unit (s := ⟨2, ![m, n]⟩) off ![m, n] hi, w⟩]) = w := by
  funext j
  refine View.read_writes_cons_hit_of_coords v f (Rect.unit (s := ⟨2, ![m, n]⟩) off ![m, n] hi) w [] j j (fun a => ?_)
  match a with
  | ⟨0, _⟩ => show (j 0).val = off 0 + 1 * (j 0).val; omega
  | ⟨1, _⟩ => show (j 1).val = off 1 + 1 * (j 1).val; omega

section Ends
variable (c : Dev nD) (XA : Buf (Elt F) (wM.view.loc (c : Thread nD τ))) (zv : Fin 125 → Vec F S16x256 .f32)

/-- Every slot of the ring free. -/
def RingFree : sProp 𝕄 := bigSep Finset.univ fun s : Fin 14 => iprop((∃ f, slotP c s f) ∗ cellP c s)
/-- Both staging slots free. -/
def ZFree : sProp 𝕄 := bigSep Finset.univ fun s : Fin 2 => iprop((∃ f, zslotP c s f) ∗ zcellP c s)

theorem ring_zero : RingAt c XA 0 = iprop((∃ f, flightP c XA 0 0 f) ∗ (∃ f, flightP c XA 1 1 f) ∗ (∃ f, flightP c XA 2 2 f) ∗ (∃ f, flightP c XA 3 3 f) ∗ (∃ f, flightP c XA 4 4 f) ∗ (∃ f, flightP c XA 5 5 f) ∗ (∃ f, flightP c XA 6 6 f) ∗ (∃ f, flightP c XA 7 7 f) ∗ (∃ f, flightP c XA 8 8 f) ∗ (∃ f, flightP c XA 9 9 f) ∗ (∃ f, flightP c XA 10 10 f) ∗ (∃ f, flightP c XA 11 11 f) ∗ (∃ f, flightP c XA 12 12 f) ∗ (∃ f, flightP c XA 13 13 f)) := by
  unfold RingAt
  rw [bigSep_univ_eq_bigSepL [(0 : Fin 14), (1 : Fin 14), (2 : Fin 14), (3 : Fin 14), (4 : Fin 14), (5 : Fin 14), (6 : Fin 14), (7 : Fin 14), (8 : Fin 14), (9 : Fin 14), (10 : Fin 14), (11 : Fin 14), (12 : Fin 14), (13 : Fin 14)] (by decide) (by decide)]
  have e : (fun s : Fin 14 => slotRes c XA (nb 0 s) s) = fun s : Fin 14 => iprop(∃ f, flightP c XA s (Ring.bk 125 (nb 0 s)) f) :=
    funext fun s => slotRes_lt c XA (nb 0 s) s (by have := s.isLt; unfold nb; omega)
  rw [e]
  rfl
theorem ring_end : RingAt c XA 125 = RingFree c := by
  unfold RingAt RingFree
  exact bigSep_congr fun s _ => slotRes_ge c XA (nb 125 s) s (by unfold nb; omega)
theorem zslots_zero : ZSlots c zv 0 = ZFree c := by
  unfold ZSlots ZFree
  exact bigSep_congr fun s _ => zRes_lt c zv (zp 0 s) s (by have := s.isLt; unfold zp; omega)
theorem zslots_end : ZSlots c zv 125
    = iprop((∃ f0 fs, ⌜(zslot 0).view.read (Elt F) fs = zv 124⌝ ∗ zflightP c 0 124 fs f0) ∗ (∃ f0 fs, ⌜(zslot 1).view.read (Elt F) fs = zv 123⌝ ∗ zflightP c 1 123 fs f0)) := by
  unfold ZSlots
  rw [bigSep_univ_eq_bigSepL [(0 : Fin 2), (1 : Fin 2)] (by decide) (by decide)]
  have e : (fun s : Fin 2 => zRes c zv (zp 125 s) s) = fun s : Fin 2 => iprop(∃ f0 fs, ⌜(zslot s).view.read (Elt F) fs = zv (Ring.bk 125 (zp 125 s - 2))⌝ ∗ zflightP c s (Ring.bk 125 (zp 125 s - 2)) fs f0) :=
    funext fun s => zRes_ge c zv (zp 125 s) s (by unfold zp; omega)
  rw [e]
  rfl
theorem zdone_zero : ZDone c zv 0 = (BI.emp : sProp 𝕄) := Ring.bigSep_rangeSet_empty (NB := 125) (Nat.le_refl _)
theorem ztodo_end : ZTodo (F := F) c 125 = (BI.emp : sProp 𝕄) := Ring.bigSep_rangeSet_empty (NB := 125) (Nat.le_refl _)
/-- The blocks of logits, the last two beside the rest. -/
theorem zdone_all : bigSep Finset.univ (zdoneP c zv) = iprop(zdoneP c zv 124 ∗ zdoneP c zv 123 ∗ ZDone c zv 125) := by
  unfold ZDone
  rw [← Ring.rangeSet_univ (NB := 125), Ring.bigSep_rangeSet_last (NB := 125) (show 0 < 125 by decide) (show 125 ≤ 125 by decide),
    Ring.bigSep_rangeSet_last (NB := 125) (show 0 < 125 - 1 by decide) (show 125 - 1 ≤ 125 by decide)]
  rfl
theorem zfree_eq : (ZFree (F := F) c) = iprop(((∃ f, zslotP c 0 f) ∗ zcellP c 0) ∗ ((∃ f, zslotP c 1 f) ∗ zcellP c 1)) := by
  unfold ZFree
  rw [bigSep_univ_eq_bigSepL [(0 : Fin 2), (1 : Fin 2)] (by decide) (by decide)]
  rfl
theorem ringfree_eq : (RingFree (F := F) c) = iprop(((∃ f, slotP c 0 f) ∗ cellP c 0) ∗ ((∃ f, slotP c 1 f) ∗ cellP c 1) ∗ ((∃ f, slotP c 2 f) ∗ cellP c 2) ∗ ((∃ f, slotP c 3 f) ∗ cellP c 3) ∗ ((∃ f, slotP c 4 f) ∗ cellP c 4) ∗ ((∃ f, slotP c 5 f) ∗ cellP c 5) ∗ ((∃ f, slotP c 6 f) ∗ cellP c 6) ∗ ((∃ f, slotP c 7 f) ∗ cellP c 7) ∗ ((∃ f, slotP c 8 f) ∗ cellP c 8) ∗ ((∃ f, slotP c 9 f) ∗ cellP c 9) ∗ ((∃ f, slotP c 10 f) ∗ cellP c 10) ∗ ((∃ f, slotP c 11 f) ∗ cellP c 11) ∗ ((∃ f, slotP c 12 f) ∗ cellP c 12) ∗ ((∃ f, slotP c 13 f) ∗ cellP c 13)) := by
  unfold RingFree
  rw [bigSep_univ_eq_bigSepL [(0 : Fin 14), (1 : Fin 14), (2 : Fin 14), (3 : Fin 14), (4 : Fin 14), (5 : Fin 14), (6 : Fin 14), (7 : Fin 14), (8 : Fin 14), (9 : Fin 14), (10 : Fin 14), (11 : Fin 14), (12 : Fin 14), (13 : Fin 14)] (by decide) (by decide)]
  rfl
theorem homes_end : bigSep (Ring.homeSet 14 125) (homeP c XA) = bigSep Finset.univ (homeP c XA) := by
  rw [Ring.homeSet_last 14 125 (by decide)]
end Ends

section Part
variable (c : Dev nD) (XA : Buf (Elt F) (wM.view.loc (c : Thread nD τ)))
  (arg0 : Memref sig .tc .smem S17 .i32) (harg0 : arg0.IsWhole)
  (arg1 : Memref sig .tc .smem S16 .f32) (harg1 : arg1.IsWhole)
  (arg2 : Memref sig .tc .smem S16 .f32) (harg2 : arg2.IsWhole)
  (arg3 : Memref sig .tc .smem S16 .f32) (harg3 : arg3.IsWhole)
  (arg4 : Memref sig .tc .smem S16 .f32) (harg4 : arg4.IsWhole)
  (arg5 : Memref sig .tc .vmem S16x12288 .fp8e4m3) (harg5 : arg5.IsWhole)
  (arg6 : Memref sig .tc .vmem S250x128 .f32) (harg6 : arg6.IsWhole)
  (arg7 : Memref sig .tc .vmem S128x128 .i32) (harg7 : arg7.IsWhole)
  (arg8 : Memref sig .tc .vmem S16x20 .i32) (harg8 : arg8.IsWhole)
  (arg10 : Memref sig .tc .vmem S1x16 .f32) (harg10 : arg10.IsWhole)
  (arg11 : Memref sig .tc .vmem S16x20 .f32) (harg11 : arg11.IsWhole)
  (g4 : Buf (Elt F) (arg4.view.loc (c : Thread nD τ))) (g5 : Buf (Elt F) (arg5.view.loc (c : Thread nD τ))) (g6 : Buf (Elt F) (arg6.view.loc (c : Thread nD τ)))
  (g8 : Buf (Elt F) (arg8.view.loc (c : Thread nD τ))) (g11 : Buf (Elt F) (arg11.view.loc (c : Thread nD τ))) (fC : Buf (Elt F) (cntM.view.loc (c : Thread nD τ)))
  (v151 : FVec F S16x128 .f32) (v229 : FVec F S16x128 .f32) (v307 : FVec F S16x128 .f32) (v308 : IVec S16x128 32) (v375 : FVec F S16x128 .f32) (c14_i32_162 : BitVec 32)

abbrev repP (f : Buf (Elt F) (arg4.view.loc (c : Thread nD τ))) : sProp 𝕄 := arg4.view.loc (c : Thread nD τ) ↦[arg4.view.set]{fullShare} f
abbrev candP (f : Buf (Elt F) (arg8.view.loc (c : Thread nD τ))) : sProp 𝕄 := arg8.view.loc (c : Thread nD τ) ↦[arg8.view.set]{fullShare} f
abbrev lpP (f : Buf (Elt F) (arg11.view.loc (c : Thread nD τ))) : sProp 𝕄 := arg11.view.loc (c : Thread nD τ) ↦[arg11.view.set]{fullShare} f
/-- The repetition penalties, one row for each request. -/
abbrev repOf : FVec F S16x128 .f32 := k0_pay32 v308 v375 c14_i32_162
  (arg4.view.readAt (Elt F) (Rect.unit (s := S16) ![14] S1.size inb_S16_S1_14).toLoadRect g4 (Shape.Idx.first (by decide)))
  (arg4.view.readAt (Elt F) (Rect.unit (s := S16) ![15] S1.size inb_S16_S1_15).toLoadRect g4 (Shape.Idx.first (by decide)))
/-- The carried values at the loop's end. -/
abbrev lastC (rep : FVec F S16x128 .f32) : FVec F S16x128 .f32 × FVec F S16x128 .f32 × FVec F S16x128 .f32 :=
  carry (F := F) (arg5.view.read (Elt F) g5) (wM.view.read (Elt F) XA) (arg6.view.read (Elt F) g6) (cntM.view.read (Elt F) fC) v151 v229 v307 rep (arg8.view.read (Elt F) g8) 125

set_option maxHeartbeats 1600000 in
theorem part17_run :
    iprop(repP c arg4 g4 ∗ candP c arg8 g8 ∗ lpP c arg11 g11 ∗ (∃ fa, accP c fa) ∗ xP c arg5 g5 ∗ wsP c arg6 g6 ∗ cntP c fC ∗ (∃ W, owes (c : Thread nD τ) 0 W)
      ∗ bigSep (Ring.homeSet 14 0) (homeP c XA) ∗ RingAt c XA 0 ∗ ZFree c ∗ ZTodo c 0)
    ⊢ wp Idealize.ShloMosaic.frame (wpE (defs₀ (F := F)) 𝒱₀ (c : Thread nD τ) none) Set.univ
        (k0_part17 (F := F) arg0 harg0 arg1 harg1 arg2 harg2 arg3 harg3 arg4 harg4 arg5 harg5 arg6 harg6 arg7 harg7 arg8 harg8 wM (Memref.isWhole_whole _) arg10 harg10 arg11 harg11 zM (Memref.isWhole_whole _) ringM (Memref.isWhole_whole _) cntM (Memref.isWhole_whole _) accM (Memref.isWhole_whole _) zbM (Memref.isWhole_whole _) cc0_scratch4 cc0_scratch5 v151 v229 v307 v308 v375 c14_i32_162)
        (fun r => iprop(⌜r = ⟨k0_pay40 ((lastC c XA arg5 arg6 arg8 g5 g6 g8 fC v151 v229 v307 (repOf c arg4 g4 v308 v375 c14_i32_162))).1 ((lastC c XA arg5 arg6 arg8 g5 g6 g8 fC v151 v229 v307 (repOf c arg4 g4 v308 v375 c14_i32_162))).2.1, k0_pay42, Scalar.ofBits .f32 0x00000000#32⟩⌝
          ∗ repP c arg4 g4 ∗ candP c arg8 g8 ∗ (∃ f, ⌜arg11.view.read (Elt F) f = k0_pay41 ((lastC c XA arg5 arg6 arg8 g5 g6 g8 fC v151 v229 v307 (repOf c arg4 g4 v308 v375 c14_i32_162))).1 ((lastC c XA arg5 arg6 arg8 g5 g6 g8 fC v151 v229 v307 (repOf c arg4 g4 v308 v375 c14_i32_162))).2.1 ((lastC c XA arg5 arg6 arg8 g5 g6 g8 fC v151 v229 v307 (repOf c arg4 g4 v308 v375 c14_i32_162))).2.2⌝ ∗ lpP c arg11 f)
          ∗ (∃ fa, accP c fa) ∗ xP c arg5 g5 ∗ wsP c arg6 g6 ∗ cntP c fC ∗ (∃ W, owes (c : Thread nD τ) 0 W)
          ∗ bigSep Finset.univ (homeP c XA) ∗ RingFree c
          ∗ (∃ f0 fs, ⌜(zslot 0).view.read (Elt F) fs = (zvOf c XA arg5 arg6 v151 v229 v307 g5 g6 fC (repOf c arg4 g4 v308 v375 c14_i32_162)) 124⌝ ∗ zflightP c 0 124 fs f0) ∗ (∃ f0 fs, ⌜(zslot 1).view.read (Elt F) fs = (zvOf c XA arg5 arg6 v151 v229 v307 g5 g6 fC (repOf c arg4 g4 v308 v375 c14_i32_162)) 123⌝ ∗ zflightP c 1 123 fs f0)
          ∗ ZDone c ((zvOf c XA arg5 arg6 v151 v229 v307 g5 g6 fC (repOf c arg4 g4 v308 v375 c14_i32_162))) 125)) := by
  iintro ⟨H4, H8, H11, ⟨%fa, HA⟩, H5, H6, HC, ⟨%W, HW⟩, Hh, HR, HZ, HT⟩
  sl_unfold [k0_part17]
  sl_exec
  ihave HR' := (entails_of_eq (show RingAt c XA 0 = bigSep Finset.univ (fun s : Fin 14 => slotRes c XA (nb 0 s) s) from rfl)) $$ HR
  ihave HZ' := (entails_of_eq (zslots_zero c ((zvOf c XA arg5 arg6 v151 v229 v307 g5 g6 fC (k0_pay32 v308 v375 c14_i32_162 (part17_run.sl.r c arg4 g4) (part17_run.sl.r_1 c arg4 g4))))).symm) $$ HZ
  ihave HZ2 := (entails_of_eq (show ZSlots c ((zvOf c XA arg5 arg6 v151 v229 v307 g5 g6 fC (k0_pay32 v308 v375 c14_i32_162 (part17_run.sl.r c arg4 g4) (part17_run.sl.r_1 c arg4 g4)))) 0 = bigSep Finset.univ (fun s : Fin 2 => zRes c ((zvOf c XA arg5 arg6 v151 v229 v307 g5 g6 fC (k0_pay32 v308 v375 c14_i32_162 (part17_run.sl.r c arg4 g4) (part17_run.sl.r_1 c arg4 g4)))) (zp 0 s) s) from rfl)) $$ HZ'
  ihave HT' := (entails_of_eq (show ZTodo c 0 = bigSep (Ring.rangeSet 125 0 125) (fun b => iprop(∃ f, zblkP c b f)) from rfl)) $$ HT
  ihave HD : bigSep (Ring.rangeSet 125 0 (0 - 2)) (zdoneP c ((zvOf c XA arg5 arg6 v151 v229 v307 g5 g6 fC (k0_pay32 v308 v375 c14_i32_162 (part17_run.sl.r c arg4 g4) (part17_run.sl.r_1 c arg4 g4))))) $$ []
  · irw [Ring.bigSep_rangeSet_empty (NB := 125) (Nat.le_refl _)]
    iempintro
  sl_exec
  sl_step
  have ht : Scf.trips k0_t4_loop.lb k0_t4_loop.ub k0_t4_loop.st = 125 := trips4
  have e8 : View.readAt (Elt F) arg8.view (Rect.unit ![0, 0] S16x20.size inb_S16x20_S16x20_0_0).toLoadRect g8 = arg8.view.read (Elt F) g8 :=
    read_whole2 arg8.view ![0, 0] rfl rfl inb_S16x20_S16x20_0_0 g8
  rw [ht, e8]
  isplitr; · ipureintro; rfl
  isplitl [H4]; · iexact H4
  isplitl [H8]; · iexact H8
  isplitl [H11]
  · iexists _
    isplitr
    · ipureintro; exact read_store2 arg11.view g11 ![0, 0] rfl rfl inb_S16x20_S16x20_0_0 _
    iexact H11
  isplitl [HA]; · iexists _; iexact HA
  isplitl [H5]; · iexact H5
  isplitl [H6]; · iexact H6
  isplitl [HC]; · iexact HC
  isplitl [HW]; · iexists _; iexact HW
  isplitl [Hh]
  · irw [← homes_end c XA]; iexact Hh
  isplitl [HR']
  · iapply (entails_of_eq (show bigSep Finset.univ (fun s : Fin 14 => slotRes c XA (nb 125 s) s) = RingFree c from ring_end c XA))
    iexact HR'
  ihave HZ3 := (entails_of_eq (show bigSep Finset.univ (fun s : Fin 2 => zRes c ((zvOf c XA arg5 arg6 v151 v229 v307 g5 g6 fC (k0_pay32 v308 v375 c14_i32_162 (part17_run.sl.r c arg4 g4) (part17_run.sl.r_1 c arg4 g4)))) (zp 125 s) s) = iprop((∃ f0 fs, ⌜(zslot 0).view.read (Elt F) fs = (zvOf c XA arg5 arg6 v151 v229 v307 g5 g6 fC (repOf c arg4 g4 v308 v375 c14_i32_162)) 124⌝ ∗ zflightP c 0 124 fs f0) ∗ (∃ f0 fs, ⌜(zslot 1).view.read (Elt F) fs = (zvOf c XA arg5 arg6 v151 v229 v307 g5 g6 fC (repOf c arg4 g4 v308 v375 c14_i32_162)) 123⌝ ∗ zflightP c 1 123 fs f0)) from zslots_end c ((zvOf c XA arg5 arg6 v151 v229 v307 g5 g6 fC (repOf c arg4 g4 v308 v375 c14_i32_162))))) $$ HZ2
  icases HZ3 with ⟨HZa, HZb⟩
  isplitl [HZa]; · iexact HZa
  isplitl [HZb]; · iexact HZb
  iapply (entails_of_eq (show bigSep (Ring.rangeSet 125 0 (125 - 2)) (zdoneP c ((zvOf c XA arg5 arg6 v151 v229 v307 g5 g6 fC (k0_pay32 v308 v375 c14_i32_162 (part17_run.sl.r c arg4 g4) (part17_run.sl.r_1 c arg4 g4))))) = ZDone c ((zvOf c XA arg5 arg6 v151 v229 v307 g5 g6 fC (repOf c arg4 g4 v308 v375 c14_i32_162))) 125 from rfl))
  iexact HD
end Part

end Cert.Kernel.Hand

end
-- ==== Proof.KBody.lean ====
module

public import proofs.«01_k».proof.Proof.KPart
public import Idealize.ShloMosaic.Lib.WordCmp

/-!
  The kernel's body run whole.
-/

@[expose] public section

set_option maxRecDepth 16384

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## One number for each request, along its row -/

/-- Row 0's number everywhere, then row `k`'s put over row `k`, up to row `n`. -/
def selRows (s : Fin 16 → F .f32) : ℕ → FVec F S16x128 .f32
  | 0 => broadcast S16x128 (s 0)
  | k + 1 => select (cmpi .eq (iota .tc S16x128 32 [0] iota_S16x128_d0_w32) (broadcast S16x128 (BitVec.ofNat 32 (k + 1)))) (broadcast S16x128 (s (Fin.ofNat 16 (k + 1)))) (selRows s k)

omit [FloatOps F] in
theorem selRows_apply (s : Fin 16 → F .f32) (j : S16x128.Idx) : ∀ k, k < 16 → selRows s k j = if (j 0).val ≤ k then s (j 0) else s 0
  | 0, _ => by
    by_cases h : (j 0).val ≤ 0
    · rw [if_pos h, show (j 0) = (0 : Fin 16) from Fin.ext (by show (j 0).val = 0; omega)]; rfl
    · rw [if_neg h]; rfl
  | k + 1, hk => by
    have hj : (j 0).val < 16 := (j 0).isLt
    have e : selRows s (k + 1) j = if (j 0).val = k + 1 then s (Fin.ofNat 16 (k + 1)) else selRows s k j := by
      show Scalar.select (IntOp.cmpi .eq (BitVec.ofNat 32 (0 * 16 + (j 0).val)) (BitVec.ofNat 32 (k + 1))) _ _ = _
      rw [Nat.zero_mul, Nat.zero_add]
      by_cases h : (j 0).val = k + 1
      · rw [if_pos h, WordCmp.select_of_eq_one ((WordCmp.cmpi_eq_ofNat_eq_one_iff (by omega) (by omega)).mpr h)]; rfl
      · rw [if_neg h, WordCmp.select_of_eq_zero ((WordCmp.cmpi_eq_ofNat_eq_zero_iff (by omega) (by omega)).mpr h)]
    rw [e, selRows_apply s j k (by omega)]
    by_cases h : (j 0).val = k + 1
    · rw [if_pos h, if_pos (by omega)]
      congr 1
      apply Fin.ext
      show (k + 1) % 16 = (j 0).val
      omega
    · rw [if_neg h]
      by_cases h2 : (j 0).val ≤ k
      · rw [if_pos h2, if_pos (by omega)]
      · rw [if_neg h2, if_neg (by omega)]

/-- A list of sixteen numbers, number `b` along row `b`. -/
def rowsOf (r : S16.Idx → Elt F .f32) : FVec F S16x128 .f32 := fun j => r (ix1 (j 0 : Fin 16))

theorem inbS (b : Fin 16) : ∀ a, (![b.val] : Fin 1 → ℕ) a + S1.size a ≤ S16.size a := by
  intro a
  match a with
  | ⟨0, _⟩ => show b.val + 1 ≤ 16; have := b.isLt; omega

omit [FloatOps F] in
theorem selRows_read {κ : Kind} {sp : Space} (v : View sig κ sp S16 .f32) (f : v.ty.Contents (Elt F)) :
    selRows (fun b => v.readAt (Elt F) (Rect.unit (s := S16) ![b.val] S1.size (inbS b)).toLoadRect f (Shape.Idx.first (show 0 < S1.numel by decide))) 15 = rowsOf (v.read (Elt F) f) := by
  funext j
  rw [selRows_apply _ j 15 (by decide), if_pos (by have := (j 0).isLt; show (j 0).val ≤ 15; have h : (j 0).val < 16 := (j 0).isLt; omega), View.readAt_apply]
  refine congrArg (v.read (Elt F) f) (funext fun a => Fin.ext ?_)
  match a with
  | ⟨0, _⟩ => show (j 0).val + 1 * 0 = (j 0).val; omega

/-! ## The results -/

/-- The counts buffer filled: row `16 j + b` is row `j` of request `b`'s counts. -/
def cntFull (r : S17.Idx → BitVec 32) (hr : ChkOK r) (ids : S128x128.Idx → Elt F .i32) : Vec F S4000x128 .f32 := fun i =>
  rowVal r hr ids ⟨(i 0).val % 16, Nat.mod_lt _ (by decide)⟩ (ix2 (n0 := 250) (n1 := 128) ⟨(i 0).val / 16, by have h : (i 0).val < 4000 := (i 0).isLt; omega⟩ (i 1))

omit [FloatOps F] in
theorem cIdx_full (i : S4000x128.Idx) : cIdx ⟨(i 0).val % 16, Nat.mod_lt _ (by decide)⟩ (ix2 (n0 := 250) (n1 := 128) ⟨(i 0).val / 16, by have h : (i 0).val < 4000 := (i 0).isLt; omega⟩ (i 1)) = i := by
  funext a; apply Fin.ext
  match a with
  | ⟨0, _⟩ => show 16 * ((i 0).val / 16) + (i 0).val % 16 = (i 0).val; omega
  | ⟨1, _⟩ => rfl

theorem cnt_full (r : S17.Idx → BitVec 32) (hr : ChkOK r) (ids : S128x128.Idx → Elt F .i32) (f : Vec F S4000x128 .f32) (k : ℕ) (hk : 16 ≤ k) (h : CntOK (F := F) r hr ids k f) :
    f = cntFull r hr ids := by
  funext i
  have e := h ⟨(i 0).val % 16, Nat.mod_lt _ (by decide)⟩ (by show (i 0).val % 16 < k; have := Nat.mod_lt (i 0).val (show 16 > 0 by decide); omega) (ix2 (n0 := 250) (n1 := 128) ⟨(i 0).val / 16, by have h : (i 0).val < 4000 := (i 0).isLt; omega⟩ (i 1))
  rw [cIdx_full] at e
  exact e

section Body
variable (c : Dev nD) (XA : Buf (Elt F) (wM.view.loc (c : Thread nD τ)))
  (arg0 : Memref sig .tc .smem S17 .i32) (harg0 : arg0.IsWhole)
  (arg1 : Memref sig .tc .smem S16 .f32) (harg1 : arg1.IsWhole)
  (arg2 : Memref sig .tc .smem S16 .f32) (harg2 : arg2.IsWhole)
  (arg3 : Memref sig .tc .smem S16 .f32) (harg3 : arg3.IsWhole)
  (arg4 : Memref sig .tc .smem S16 .f32) (harg4 : arg4.IsWhole)
  (arg5 : Memref sig .tc .vmem S16x12288 .fp8e4m3) (harg5 : arg5.IsWhole)
  (arg6 : Memref sig .tc .vmem S250x128 .f32) (harg6 : arg6.IsWhole)
  (arg7 : Memref sig .tc .vmem S128x128 .i32) (harg7 : arg7.IsWhole)
  (arg8 : Memref sig .tc .vmem S16x20 .i32) (harg8 : arg8.IsWhole)
  (arg10 : Memref sig .tc .vmem S1x16 .f32) (harg10 : arg10.IsWhole)
  (arg11 : Memref sig .tc .vmem S16x20 .f32) (harg11 : arg11.IsWhole)
  (g0 : Buf (Elt F) (arg0.view.loc (c : Thread nD τ))) (g1 : Buf (Elt F) (arg1.view.loc (c : Thread nD τ))) (g2 : Buf (Elt F) (arg2.view.loc (c : Thread nD τ))) (g3 : Buf (Elt F) (arg3.view.loc (c : Thread nD τ)))
  (g4 : Buf (Elt F) (arg4.view.loc (c : Thread nD τ))) (g5 : Buf (Elt F) (arg5.view.loc (c : Thread nD τ))) (g6 : Buf (Elt F) (arg6.view.loc (c : Thread nD τ))) (g7 : Buf (Elt F) (arg7.view.loc (c : Thread nD τ)))
  (g8 : Buf (Elt F) (arg8.view.loc (c : Thread nD τ))) (g10 : Buf (Elt F) (arg10.view.loc (c : Thread nD τ))) (g11 : Buf (Elt F) (arg11.view.loc (c : Thread nD τ)))

/-- The windows read. -/
def InsP : sProp 𝕄 := iprop((arg0.view.loc (c : Thread nD τ) ↦[arg0.view.set]{fullShare} g0) ∗ (arg1.view.loc (c : Thread nD τ) ↦[arg1.view.set]{fullShare} g1) ∗ (arg2.view.loc (c : Thread nD τ) ↦[arg2.view.set]{fullShare} g2) ∗ (arg3.view.loc (c : Thread nD τ) ↦[arg3.view.set]{fullShare} g3) ∗ (arg4.view.loc (c : Thread nD τ) ↦[arg4.view.set]{fullShare} g4) ∗ (arg5.view.loc (c : Thread nD τ) ↦[arg5.view.set]{fullShare} g5) ∗ (arg6.view.loc (c : Thread nD τ) ↦[arg6.view.set]{fullShare} g6) ∗ (arg7.view.loc (c : Thread nD τ) ↦[arg7.view.set]{fullShare} g7) ∗ (arg8.view.loc (c : Thread nD τ) ↦[arg8.view.set]{fullShare} g8))

/-- What the body is entered with. -/
def PRE (W : Waits sig Unit) : sProp 𝕄 := iprop(InsP c arg0 arg1 arg2 arg3 arg4 arg5 arg6 arg7 arg8 g0 g1 g2 g3 g4 g5 g6 g7 g8
  ∗ (arg10.view.loc (c : Thread nD τ) ↦[arg10.view.set]{fullShare} g10) ∗ lpP c arg11 g11
  ∗ (∃ f, cntP c f) ∗ (∃ fa, accP c fa) ∗ bigSep Finset.univ (homeP c XA) ∗ RingFree c ∗ ZFree c ∗ ZTodo c 0 ∗ owes (c : Thread nD τ) 0 W)

/-- What the body leaves, the carried values ending at `m, s, p` and the blocks of logits being `zv`. -/
def POST (m s p : FVec F S16x128 .f32) (zv : Fin 125 → Vec F S16x256 .f32) : sProp 𝕄 := iprop(InsP c arg0 arg1 arg2 arg3 arg4 arg5 arg6 arg7 arg8 g0 g1 g2 g3 g4 g5 g6 g7 g8
  ∗ (∃ f, ⌜arg10.view.read (Elt F) f = k0_pay1 (k0_pay40 m s) k0_pay42 (Scalar.ofBits .f32 0x00000000#32)⌝ ∗ (arg10.view.loc (c : Thread nD τ) ↦[arg10.view.set]{fullShare} f))
  ∗ (∃ f, ⌜arg11.view.read (Elt F) f = k0_pay41 m s p⌝ ∗ lpP c arg11 f)
  ∗ (∃ f, cntP c f) ∗ (∃ fa, accP c fa) ∗ bigSep Finset.univ (homeP c XA) ∗ RingFree c ∗ ZFree c ∗ bigSep Finset.univ (zdoneP c zv) ∗ (∃ W, owes (c : Thread nD τ) 0 W))

theorem homes_begin : bigSep Finset.univ (homeP c XA) = iprop(homeP c XA 0 ∗ homeP c XA 1 ∗ homeP c XA 2 ∗ homeP c XA 3 ∗ homeP c XA 4 ∗ homeP c XA 5 ∗ homeP c XA 6 ∗ homeP c XA 7 ∗ homeP c XA 8 ∗ homeP c XA 9 ∗ homeP c XA 10 ∗ homeP c XA 11 ∗ homeP c XA 12 ∗ homeP c XA 13 ∗ bigSep (Ring.homeSet 14 0) (homeP c XA)) := by
  have e : (Finset.univ : Finset (Fin 125)) = insert 0 (insert 1 (insert 2 (insert 3 (insert 4 (insert 5 (insert 6 (insert 7 (insert 8 (insert 9 (insert 10 (insert 11 (insert 12 (insert 13 (Ring.homeSet (NB := 125) 14 0)))))))))))))) := by
    ext b; simp only [Finset.mem_univ, Finset.mem_insert, Ring.mem_homeSet, true_iff, Fin.ext_iff]
    have := b.isLt
    show b.val = 0 ∨ b.val = 1 ∨ b.val = 2 ∨ b.val = 3 ∨ b.val = 4 ∨ b.val = 5 ∨ b.val = 6 ∨ b.val = 7 ∨ b.val = 8 ∨ b.val = 9 ∨ b.val = 10 ∨ b.val = 11 ∨ b.val = 12 ∨ b.val = 13 ∨ (b.val < 0 ∨ 0 + 14 ≤ b.val)
    omega
  rw [e, bigSep_insert (by simp [Ring.mem_homeSet, Fin.ext_iff]), bigSep_insert (by simp [Ring.mem_homeSet, Fin.ext_iff]), bigSep_insert (by simp [Ring.mem_homeSet, Fin.ext_iff]), bigSep_insert (by simp [Ring.mem_homeSet, Fin.ext_iff]), bigSep_insert (by simp [Ring.mem_homeSet, Fin.ext_iff]), bigSep_insert (by simp [Ring.mem_homeSet, Fin.ext_iff]), bigSep_insert (by simp [Ring.mem_homeSet, Fin.ext_iff]), bigSep_insert (by simp [Ring.mem_homeSet, Fin.ext_iff]), bigSep_insert (by simp [Ring.mem_homeSet, Fin.ext_iff]), bigSep_insert (by simp [Ring.mem_homeSet, Fin.ext_iff]), bigSep_insert (by simp [Ring.mem_homeSet, Fin.ext_iff]), bigSep_insert (by simp [Ring.mem_homeSet, Fin.ext_iff]), bigSep_insert (by simp [Ring.mem_homeSet, Fin.ext_iff]), bigSep_insert (by simp [Ring.mem_homeSet, Fin.ext_iff])]
  rfl

set_option maxHeartbeats 1000000 in
/-- The body run: the carried values end as `carry` says at the counts of the whole history, and every block of
    logits is the block that `zst` gives. -/
theorem bodyRun (hr : ChkOK (arg0.view.read (Elt F) g0)) (W : Waits sig Unit) (Q : PUnit → sProp 𝕄) :
    iprop(PRE c XA arg0 arg1 arg2 arg3 arg4 arg5 arg6 arg7 arg8 arg10 arg11 g0 g1 g2 g3 g4 g5 g6 g7 g8 g10 g11 W ∗ (POST c XA arg0 arg1 arg2 arg3 arg4 arg5 arg6 arg7 arg8 arg10 arg11 g0 g1 g2 g3 g4 g5 g6 g7 g8 ((carry (F := F) (arg5.view.read (Elt F) g5) (wM.view.read (Elt F) XA) (arg6.view.read (Elt F) g6) (cntFull (arg0.view.read (Elt F) g0) hr (arg7.view.read (Elt F) g7)) (rowsOf (arg1.view.read (Elt F) g1)) (rowsOf (arg2.view.read (Elt F) g2)) (rowsOf (arg3.view.read (Elt F) g3)) (rowsOf (arg4.view.read (Elt F) g4)) (arg8.view.read (Elt F) g8) 125)).1 ((carry (F := F) (arg5.view.read (Elt F) g5) (wM.view.read (Elt F) XA) (arg6.view.read (Elt F) g6) (cntFull (arg0.view.read (Elt F) g0) hr (arg7.view.read (Elt F) g7)) (rowsOf (arg1.view.read (Elt F) g1)) (rowsOf (arg2.view.read (Elt F) g2)) (rowsOf (arg3.view.read (Elt F) g3)) (rowsOf (arg4.view.read (Elt F) g4)) (arg8.view.read (Elt F) g8) 125)).2.1 ((carry (F := F) (arg5.view.read (Elt F) g5) (wM.view.read (Elt F) XA) (arg6.view.read (Elt F) g6) (cntFull (arg0.view.read (Elt F) g0) hr (arg7.view.read (Elt F) g7)) (rowsOf (arg1.view.read (Elt F) g1)) (rowsOf (arg2.view.read (Elt F) g2)) (rowsOf (arg3.view.read (Elt F) g3)) (rowsOf (arg4.view.read (Elt F) g4)) (arg8.view.read (Elt F) g8) 125)).2.2 ((zst (F := F) (arg5.view.read (Elt F) g5) (wM.view.read (Elt F) XA) (arg6.view.read (Elt F) g6) (cntFull (arg0.view.read (Elt F) g0) hr (arg7.view.read (Elt F) g7)) (rowsOf (arg1.view.read (Elt F) g1)) (rowsOf (arg2.view.read (Elt F) g2)) (rowsOf (arg3.view.read (Elt F) g3)) (rowsOf (arg4.view.read (Elt F) g4)))) -∗ Q ⟨⟩))
    ⊢ wp Idealize.ShloMosaic.frame (wpE (defs₀ (F := F)) 𝒱₀ (c : Thread nD τ) none) Set.univ
        (cc0_fp8_head_logprobs (F := F) arg0 harg0 arg1 harg1 arg2 harg2 arg3 harg3 arg4 harg4 arg5 harg5 arg6 harg6 arg7 harg7 arg8 harg8 wM (Memref.isWhole_whole _) arg10 harg10 arg11 harg11 zM (Memref.isWhole_whole _) ringM (Memref.isWhole_whole _) cntM (Memref.isWhole_whole _) accM (Memref.isWhole_whole _) zbM (Memref.isWhole_whole _) cc0_scratch4 cc0_scratch5) Q := by
  unfold PRE InsP
  rw [homes_begin, ringfree_eq]
  iintro ⟨⟨⟨H0, H1, H2, H3, H4, H5, H6, H7, H8⟩, H10, H11, ⟨%fC0, HC⟩, ⟨%fa, HA⟩, ⟨Hh0, Hh1, Hh2, Hh3, Hh4, Hh5, Hh6, Hh7, Hh8, Hh9, Hh10, Hh11, Hh12, Hh13, Hh⟩, ⟨⟨⟨%fs0, HS0⟩, HD0⟩, ⟨⟨%fs1, HS1⟩, HD1⟩, ⟨⟨%fs2, HS2⟩, HD2⟩, ⟨⟨%fs3, HS3⟩, HD3⟩, ⟨⟨%fs4, HS4⟩, HD4⟩, ⟨⟨%fs5, HS5⟩, HD5⟩, ⟨⟨%fs6, HS6⟩, HD6⟩, ⟨⟨%fs7, HS7⟩, HD7⟩, ⟨⟨%fs8, HS8⟩, HD8⟩, ⟨⟨%fs9, HS9⟩, HD9⟩, ⟨⟨%fs10, HS10⟩, HD10⟩, ⟨⟨%fs11, HS11⟩, HD11⟩, ⟨⟨%fs12, HS12⟩, HD12⟩, ⟨⟨%fs13, HS13⟩, HD13⟩⟩, HZ, HT, HW⟩, Hk⟩
  have hC0 : CntOK (F := F) (arg0.view.read (Elt F) g0) hr (arg7.view.read (Elt F) g7) 0 fC0 := fun b h => absurd h (Nat.not_lt_zero _)
  rw [cc0_fp8_head_logprobs_eq_skeleton]
  set_option sl_exec.stopBefore "k0_part17" in sl_exec
  ihave HR : RingAt c XA 0 $$ [HD0 HD1 HD2 HD3 HD4 HD5 HD6 HD7 HD8 HD9 HD10 HD11 HD12 HD13]
  · irw [ring_zero]
    isplitl [HD0]; · iexists _; iexact HD0
    isplitl [HD1]; · iexists _; iexact HD1
    isplitl [HD2]; · iexists _; iexact HD2
    isplitl [HD3]; · iexists _; iexact HD3
    isplitl [HD4]; · iexists _; iexact HD4
    isplitl [HD5]; · iexists _; iexact HD5
    isplitl [HD6]; · iexists _; iexact HD6
    isplitl [HD7]; · iexists _; iexact HD7
    isplitl [HD8]; · iexists _; iexact HD8
    isplitl [HD9]; · iexists _; iexact HD9
    isplitl [HD10]; · iexists _; iexact HD10
    isplitl [HD11]; · iexists _; iexact HD11
    isplitl [HD12]; · iexists _; iexact HD12
    iexists _; iexact HD13
  have eC : cntM.view.read (Elt F) fL0 = cntFull (arg0.view.read (Elt F) g0) hr (arg7.view.read (Elt F) g7) :=
    cnt_full _ hr _ fL0 _ (Nat.le_of_eq trips1.symm) (by assumption)
  have hcut := part17_run (F := F) c XA arg0 harg0 arg1 harg1 arg2 harg2 arg3 harg3 arg4 harg4 arg5 harg5 arg6 harg6 arg7 harg7 arg8 harg8 arg10 harg10 arg11 harg11 g4 g5 g6 g8 g11 fL0
  sl_exec
  cases hk0_part17_0
  have e1 : bodyRun.sl.v151 c arg1 g1 = rowsOf (arg1.view.read (Elt F) g1) :=
    (show _ = selRows (fun b => arg1.view.readAt (Elt F) (Rect.unit (s := S16) ![b.val] S1.size (inbS b)).toLoadRect g1 (Shape.Idx.first (show 0 < S1.numel by decide))) 15 from rfl).trans (selRows_read arg1.view g1)
  have e2 : bodyRun.sl.v229 c arg2 g2 = rowsOf (arg2.view.read (Elt F) g2) :=
    (show _ = selRows (fun b => arg2.view.readAt (Elt F) (Rect.unit (s := S16) ![b.val] S1.size (inbS b)).toLoadRect g2 (Shape.Idx.first (show 0 < S1.numel by decide))) 15 from rfl).trans (selRows_read arg2.view g2)
  have e3 : bodyRun.sl.v307 c arg3 g3 = rowsOf (arg3.view.read (Elt F) g3) :=
    (show _ = selRows (fun b => arg3.view.readAt (Elt F) (Rect.unit (s := S16) ![b.val] S1.size (inbS b)).toLoadRect g3 (Shape.Idx.first (show 0 < S1.numel by decide))) 15 from rfl).trans (selRows_read arg3.view g3)
  have e4 : repOf c arg4 g4 bodyRun.sl.v152 (bodyRun.sl.v375 c arg4 g4) 14#32 = rowsOf (arg4.view.read (Elt F) g4) :=
    (show _ = selRows (fun b => arg4.view.readAt (Elt F) (Rect.unit (s := S16) ![b.val] S1.size (inbS b)).toLoadRect g4 (Shape.Idx.first (show 0 < S1.numel by decide))) 15 from rfl).trans (selRows_read arg4.view g4)
  have eL : (lastC c XA arg5 arg6 arg8 g5 g6 g8 fL0 (bodyRun.sl.v151 c arg1 g1) (bodyRun.sl.v229 c arg2 g2) (bodyRun.sl.v307 c arg3 g3) (repOf c arg4 g4 bodyRun.sl.v152 (bodyRun.sl.v375 c arg4 g4) 14#32)) = (carry (F := F) (arg5.view.read (Elt F) g5) (wM.view.read (Elt F) XA) (arg6.view.read (Elt F) g6) (cntFull (arg0.view.read (Elt F) g0) hr (arg7.view.read (Elt F) g7)) (rowsOf (arg1.view.read (Elt F) g1)) (rowsOf (arg2.view.read (Elt F) g2)) (rowsOf (arg3.view.read (Elt F) g3)) (rowsOf (arg4.view.read (Elt F) g4)) (arg8.view.read (Elt F) g8) 125) := by unfold lastC; rw [e1, e2, e3, e4, eC]
  have eZ : (zvOf c XA arg5 arg6 (bodyRun.sl.v151 c arg1 g1) (bodyRun.sl.v229 c arg2 g2) (bodyRun.sl.v307 c arg3 g3) g5 g6 fL0 (repOf c arg4 g4 bodyRun.sl.v152 (bodyRun.sl.v375 c arg4 g4) 14#32)) = (zst (F := F) (arg5.view.read (Elt F) g5) (wM.view.read (Elt F) XA) (arg6.view.read (Elt F) g6) (cntFull (arg0.view.read (Elt F) g0) hr (arg7.view.read (Elt F) g7)) (rowsOf (arg1.view.read (Elt F) g1)) (rowsOf (arg2.view.read (Elt F) g2)) (rowsOf (arg3.view.read (Elt F) g3)) (rowsOf (arg4.view.read (Elt F) g4))) := by unfold zvOf; rw [e1, e2, e3, e4, eC]
  rw [eL] at hk0_part17_3
  rw [eZ] at hk0_part17_12 hk0_part17_14
  rw [eL, eZ]
  clear hcut eL eZ e1 e2 e3 e4
  generalize (carry (F := F) (arg5.view.read (Elt F) g5) (wM.view.read (Elt F) XA) (arg6.view.read (Elt F) g6) (cntFull (arg0.view.read (Elt F) g0) hr (arg7.view.read (Elt F) g7)) (rowsOf (arg1.view.read (Elt F) g1)) (rowsOf (arg2.view.read (Elt F) g2)) (rowsOf (arg3.view.read (Elt F) g3)) (rowsOf (arg4.view.read (Elt F) g4)) (arg8.view.read (Elt F) g8) 125) = T at *
  generalize (zst (F := F) (arg5.view.read (Elt F) g5) (wM.view.read (Elt F) XA) (arg6.view.read (Elt F) g6) (cntFull (arg0.view.read (Elt F) g0) hr (arg7.view.read (Elt F) g7)) (rowsOf (arg1.view.read (Elt F) g1)) (rowsOf (arg2.view.read (Elt F) g2)) (rowsOf (arg3.view.read (Elt F) g3)) (rowsOf (arg4.view.read (Elt F) g4))) = zv at *
  sl_step
  iapply Hk
  unfold POST InsP
  isplitl [H0 H1 H2 H3 Hk0_part17_1 Hk0_part17_6 Hk0_part17_7 H7 Hk0_part17_2]
  · isplitl [H0]; · iexact H0
    isplitl [H1]; · iexact H1
    isplitl [H2]; · iexact H2
    isplitl [H3]; · iexact H3
    isplitl [Hk0_part17_1]; · iexact Hk0_part17_1
    isplitl [Hk0_part17_6]; · iexact Hk0_part17_6
    isplitl [Hk0_part17_7]; · iexact Hk0_part17_7
    isplitl [H7]; · iexact H7
    iexact Hk0_part17_2
  isplitl [H10]
  · iexists _
    isplitr
    · ipureintro; exact read_store2 arg10.view g10 ![0, 0] rfl rfl inb_S1x16_S1x16_0_0 _
    iexact H10
  isplitl [Hk0_part17_4]
  · iexists fk0_part17_0
    isplitr
    · ipureintro; exact hk0_part17_3
    iexact Hk0_part17_4
  isplitl [Hk0_part17_8]; · iexists _; iexact Hk0_part17_8
  isplitl [Hk0_part17_5]; · iexists _; iexact Hk0_part17_5
  isplitl [Hk0_part17_10]; · iexact Hk0_part17_10
  isplitl [Hk0_part17_11]
  · iapply (entails_of_eq (show bigSep Finset.univ (fun s : Fin 14 => iprop((∃ f, slotP (F := F) c s f) ∗ cellP c s)) = RingFree c from rfl))
    iexact Hk0_part17_11
  isplitl [Hk0_part17_15_src Hk0_part17_15 Hk0_part17_13_src Hk0_part17_13]
  · irw [zfree_eq]
    isplitl [Hk0_part17_13_src Hk0_part17_13]
    · isplitl [Hk0_part17_13_src]; · iexists _; iexact Hk0_part17_13_src
      iexact Hk0_part17_13
    isplitl [Hk0_part17_15_src]; · iexists _; iexact Hk0_part17_15_src
    iexact Hk0_part17_15
  isplitl [Hk0_part17_15_dst Hk0_part17_13_dst Hk0_part17_16]
  · irw [zdone_all]
    isplitl [Hk0_part17_13_dst]
    · iapply (zdone_of c zv 124 (ReadAs.same.apply ((zslot 0).view.read (Elt F) fsk0_part17_4)) hk0_part17_12 f0k0_part17_3); iexact Hk0_part17_13_dst
    isplitl [Hk0_part17_15_dst]
    · iapply (zdone_of c zv 123 (ReadAs.same.apply ((zslot 1).view.read (Elt F) fsk0_part17_6)) hk0_part17_14 f0k0_part17_5); iexact Hk0_part17_15_dst
    iapply (entails_of_eq (show bigSep (Ring.rangeSet 125 0 (125 - 2)) (zdoneP c zv) = ZDone c zv 125 from rfl))
    iexact Hk0_part17_16
  iexists _; iexact Hk0_part17_9
end Body

end Cert.Kernel.Hand

end
-- ==== Proof.KOffs.lean ====
module

public import proofs.«01_k».proof.Proof.KNames

/-!
  The side condition the body assumes of two consecutive offsets: it holds when neither is negative.
-/

@[expose] public section

noncomputable section

namespace Cert.Kernel.Hand

open Cert.Kernel Cert.Kernel.Gen
open Idealize.ShloMosaic
open Idealize.ShloMosaic.Affine (IsInt word word_range ofNat)

section
variable (v v' : BitVec 32)

theorem toIntOf {x : BitVec 32} {e : Int} (h : IsInt x e) : x.toInt = e := by
  delta Affine.IsInt at h; exact h
theorem isIntOf {x : BitVec 32} {e : Int} (h : x.toInt = e) : IsInt x e := by
  delta Affine.IsInt; exact h

theorem toNat_eq {x : BitVec 32} {e : Int} (h : IsInt x e) (h0 : 0 ≤ e) : (x.toNat : Int) = e := by
  have := toIntOf h
  rw [BitVec.toInt_eq_toNat_cond] at this
  have := x.isLt
  split at * <;> omega

theorem divsi_one (x : BitVec 32) : Scalar.divsi x 1#32 = x := by
  apply BitVec.eq_of_toInt_eq
  show (IntOp.divsi _ x 1#32).toInt = _
  unfold IntOp.divsi
  rw [if_neg (by rintro (h | ⟨_, h⟩) <;> exact absurd h (by decide))]
  simp
theorem muli_one (x : BitVec 32) : Scalar.muli x 1#32 = x := by
  show x * 1#32 = x
  simp

/-- The first row of ids of a request; -/
theorem isInt_lo (h : 0 ≤ v.toInt) : IsInt (Scalar.shrsi v 7#32) (v.toInt / 128) :=
  Affine.shrsi (word v) (ofNat (e := 7) 7 ⟨rfl, by decide⟩) 7 128 (by decide) ⟨rfl, rfl, by decide⟩
/-- one past the last. -/
theorem isInt_hi (h' : 0 ≤ v'.toInt) :
    IsInt (Scalar.shrsi (Scalar.subi (Scalar.addi (Scalar.minsi v' 16384#32) 128#32) 1#32) 7#32) ((min v'.toInt 16384 + 127) / 128) :=
  Affine.shrsi (ea := min v'.toInt 16384 + 127)
    (Affine.subi (ea := min v'.toInt 16384 + 128) (eb := 1)
      (Affine.addi (ea := min v'.toInt 16384) (eb := 128) (Affine.minsi (eb := 16384) (word v') (ofNat (e := 16384) 16384 ⟨rfl, by decide⟩) rfl) (ofNat (e := 128) 128 ⟨rfl, by decide⟩)
        ⟨rfl, by omega, by omega⟩)
      (ofNat (e := 1) 1 ⟨rfl, by decide⟩) ⟨by omega, by omega, by omega⟩)
    (ofNat (e := 7) 7 ⟨rfl, by decide⟩) 7 128 (by decide) ⟨rfl, rfl, by decide⟩

theorem isInt_diff (h : 0 ≤ v.toInt) (h' : 0 ≤ v'.toInt) :
    IsInt (Scalar.subi (Scalar.shrsi (Scalar.subi (Scalar.addi (Scalar.minsi v' 16384#32) 128#32) 1#32) 7#32) (Scalar.shrsi v 7#32)) ((min v'.toInt 16384 + 127) / 128 - v.toInt / 128) := by
  have := (word_range v).2
  exact Affine.subi (isInt_hi v' h') (isInt_lo v h) ⟨rfl, by omega, by omega⟩
theorem isInt_ub (h : 0 ≤ v.toInt) (h' : 0 ≤ v'.toInt) : IsInt (k0_t2_loop v v').ub ((min v'.toInt 16384 + 127) / 128) := by
  have := (word_range v).2
  show IsInt (Scalar.addi (Scalar.shrsi v 7#32) (Scalar.muli (Scalar.divsi (Scalar.subi (Scalar.shrsi (Scalar.subi (Scalar.addi (Scalar.minsi v' 16384#32) 128#32) 1#32) 7#32) (Scalar.shrsi v 7#32)) 1#32) 1#32)) _
  rw [divsi_one, muli_one]
  exact Affine.addi (isInt_lo v h) (isInt_diff v v' h h') ⟨by omega, by omega, by omega⟩

theorem trips2_eq (h : 0 ≤ v.toInt) (h' : 0 ≤ v'.toInt) : (k0_t2_loop v v').trips = ((min v'.toInt 16384 + 127) / 128 - v.toInt / 128).toNat := by
  unfold Scf.Loop.trips Scf.trips
  rw [toIntOf (isInt_ub v v' h h'), show (k0_t2_loop v v').lb.toInt = v.toInt / 128 from toIntOf (isInt_lo v h), show (k0_t2_loop v v').st.toInt = 1 from (by decide : (1#32 : BitVec 32).toInt = 1)]
  omega

theorem trips3_eq : (k0_t3_loop v v').trips = 0 := by
  unfold Scf.Loop.trips Scf.trips
  rw [show (k0_t3_loop v v').st.toInt = 1 from (by decide : (1#32 : BitVec 32).toInt = 1)]
  have e : (k0_t3_loop v v').ub = (k0_t3_loop v v').lb := by
    show Scalar.addi (Scalar.shrsi v 7#32) _ = Scalar.addi (Scalar.shrsi v 7#32) (Scalar.muli (Scalar.divsi _ 1#32) 1#32)
    rw [divsi_one, muli_one]
  rw [e]; omega

/-- Row `k` of the rows read is row `lo + k`. -/
theorem off3_eq (h : 0 ≤ v.toInt) (h' : 0 ≤ v'.toInt) (k : Fin (k0_t2_loop v v').trips) : k0_off3 v v' k = ![(v.toInt / 128).toNat + k.val, 0] := by
  have hk := Nat.lt_of_lt_of_eq k.isLt (trips2_eq v v' h h')
  have e : IsInt (Scf.iv (Scalar.shrsi v 7#32) 1#32 k.val) (v.toInt / 128 + k.val) :=
    Affine.iv (ea := v.toInt / 128) (eb := 1) (isInt_lo v h) (ofNat (e := 1) 1 ⟨rfl, by decide⟩) k.val ⟨by omega, by omega, by omega⟩
  show ![(Scalar.indexCast (Scf.iv (Scalar.shrsi v 7#32) 1#32 k.val)).toNat, 0] = _
  have e2 : (Scalar.indexCast (Scf.iv (Scalar.shrsi v 7#32) 1#32 k.val)).toNat = (v.toInt / 128).toNat + k.val := by
    have := toNat_eq (Affine.indexCast e) (by omega)
    omega
  rw [e2]

/-- The side condition. -/
theorem chk_of_nonneg (h : 0 ≤ v.toInt) (h' : 0 ≤ v'.toInt) : k0_chk1 v v' := by
  refine ⟨⟨(by decide : (0:Int) < (1#32 : BitVec 32).toInt), ?_⟩, ?_, ⟨(by decide : (0:Int) < (1#32 : BitVec 32).toInt), ?_⟩, ?_⟩
  · have := (word_range v).2
    show (k0_t2_loop v v').lb.toInt + (k0_t2_loop v v').trips * (1#32 : BitVec 32).toInt < 2 ^ 31
    rw [trips2_eq v v' h h', show (k0_t2_loop v v').lb.toInt = v.toInt / 128 from toIntOf (isInt_lo v h), show (1#32 : BitVec 32).toInt = 1 from by decide]
    omega
  · intro k a
    rw [off3_eq v v' h h' k]
    have hk := Nat.lt_of_lt_of_eq k.isLt (trips2_eq v v' h h')
    match a with
    | ⟨0, _⟩ => show (v.toInt / 128).toNat + k.val + 1 ≤ 128; omega
    | ⟨1, _⟩ => show 0 + 128 ≤ 128; omega
  · show (k0_t3_loop v v').lb.toInt + (k0_t3_loop v v').trips * (1#32 : BitVec 32).toInt < 2 ^ 31
    rw [trips3_eq, show (k0_t3_loop v v').lb.toInt = _ from toIntOf (isInt_ub v v' h h')]
    omega
  · intro k; have := Nat.lt_of_lt_of_eq k.isLt (trips3_eq v v'); omega
end

end Cert.Kernel.Hand

end
-- ==== Proof.KLaunch.lean ====
module

public import proofs.«01_k».proof.Proof.KBody
public import proofs.«01_k».proof.Proof.KOffs
public import proofs.«01_k».proof.Proof.Gen.Kernel.Frame
public import Idealize.ShloMosaic.Lib.Pipeline.FrameSuffixV

/-!
  The launch: the kernel's buffers cut into the blocks and slots the body works on, and the run of the whole program.
-/

@[expose] public section

set_option maxRecDepth 16384

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## The kernel's own semaphores -/

abbrev osem : Fin 14 ⊕ Fin 2 → SemLoc sig := Sum.elim (fun s => .dma (csm s).sem) (fun s => .dma (zsm s).sem)
theorem ownSemFacts : Pipeline.OwnSemFacts spec0 osem := by decide

/-! ## Element sets -/

abbrev WB (b : Fin 125) : Finset S12288x32000.Idx := (Rect.unit (s := S12288x32000) (wOff b) S12288x256.size (wOff_inb b)).set
abbrev ZB (b : Fin 125) : Finset S16x32000.Idx := (Rect.unit (s := S16x32000) (wOff b) S16x256.size (zOff_inb b)).set
abbrev RS (s : Fin 14) : Finset S14x12288x256.Idx := (Rect.unit (s := S14x12288x256) (slotOff s) S1x12288x256.size (slotOff_inb s)).set
abbrev ZS (s : Fin 2) : Finset S2x16x256.Idx := (Rect.unit (s := S2x16x256) (zslotOff s) S1x16x256.size (zslotOff_inb s)).set

theorem wblk_set (b : Fin 125) : (wblk b).view.set = WB b := View.set_slice_whole _ _
theorem zblk_set (b : Fin 125) : (zblk b).view.set = ZB b := View.set_slice_whole _ _
theorem rslot_set (s : Fin 14) : (rslot s).view.set = RS s := (View.set_reshape _ _).trans (View.set_slice_whole _ _)
theorem zslot_set (s : Fin 2) : (zslot s).view.set = ZS s := (View.set_reshape _ _).trans (View.set_slice_whole _ _)

theorem ax2 {a : Fin 2} (h : a ≠ 1) : a = 0 := by omega
theorem WB_disjoint : ∀ b b' : Fin 125, b ≠ b' → Disjoint (WB b) (WB b') :=
  Ring.lead_disjoint (s := S12288x32000) (1 : Fin 2) 256 wOff S12288x256.size wOff_inb (fun _ => rfl) rfl
theorem WB_cover : Finset.univ.biUnion WB = Finset.univ :=
  Ring.lead_cover (s := S12288x32000) (1 : Fin 2) 256 wOff S12288x256.size wOff_inb (fun _ => rfl) (fun b a h => by rw [ax2 h]; rfl) rfl (fun a h => by rw [ax2 h]; rfl) rfl
theorem ZB_disjoint : ∀ b b' : Fin 125, b ≠ b' → Disjoint (ZB b) (ZB b') :=
  Ring.lead_disjoint (s := S16x32000) (1 : Fin 2) 256 wOff S16x256.size zOff_inb (fun _ => rfl) rfl
theorem ZB_cover : Finset.univ.biUnion ZB = Finset.univ :=
  Ring.lead_cover (s := S16x32000) (1 : Fin 2) 256 wOff S16x256.size zOff_inb (fun _ => rfl) (fun b a h => by rw [ax2 h]; rfl) rfl (fun a h => by rw [ax2 h]; rfl) rfl
theorem RS_disjoint : ∀ b b' : Fin 14, b ≠ b' → Disjoint (RS b) (RS b') :=
  Ring.lead_disjoint (s := S14x12288x256) (0 : Fin 3) 1 slotOff S1x12288x256.size slotOff_inb (fun b => (Nat.one_mul b.val).symm) rfl
theorem RS_cover : Finset.univ.biUnion RS = Finset.univ :=
  Ring.lead_cover (s := S14x12288x256) (0 : Fin 3) 1 slotOff S1x12288x256.size slotOff_inb (fun b => (Nat.one_mul b.val).symm)
    (fun b a h => by fin_cases a <;> first | exact absurd rfl h | rfl) rfl (fun a h => by fin_cases a <;> first | exact absurd rfl h | rfl) rfl
theorem ZS_disjoint : ∀ b b' : Fin 2, b ≠ b' → Disjoint (ZS b) (ZS b') :=
  Ring.lead_disjoint (s := S2x16x256) (0 : Fin 3) 1 zslotOff S1x16x256.size zslotOff_inb (fun b => (Nat.one_mul b.val).symm) rfl
theorem ZS_cover : Finset.univ.biUnion ZS = Finset.univ :=
  Ring.lead_cover (s := S2x16x256) (0 : Fin 3) 1 zslotOff S1x16x256.size zslotOff_inb (fun b => (Nat.one_mul b.val).symm)
    (fun b a h => by fin_cases a <;> first | exact absurd rfl h | rfl) rfl (fun a h => by fin_cases a <;> first | exact absurd rfl h | rfl) rfl

/-! ## Buffers as blocks and slots -/

omit [FloatOps F] in
theorem bigSep_mono' {I : Type} {s : Finset I} {Φ Ψ : I → sProp 𝕄} (h : ∀ i, (Φ i : sProp 𝕄) ⊢ Ψ i) : (bigSep s Φ : sProp 𝕄) ⊢ bigSep s Ψ := bigSep_mono fun i _ => h i

section Split
variable (c : Dev nD)

theorem w_eq (XA : Buf (Elt F) (wM.view.loc (c : Thread nD τ))) :
    (((c : Thread nD τ).loc main_arg2) ↦{fullShare} XA : sProp 𝕄) = bigSep Finset.univ (homeP c XA) := by
  rw [Ring.pointsTo_blocks (ℓ := (c : Thread nD τ).loc main_arg2) WB WB_disjoint WB_cover]
  exact bigSep_congr fun b _ => by rw [← wblk_set]; rfl

theorem z_eq (f : Buf (Elt F) ((c : Thread nD τ).loc main_v2_2)) :
    (((c : Thread nD τ).loc main_v2_2) ↦{fullShare} f : sProp 𝕄) = bigSep Finset.univ (fun b => zblkP c b f) := by
  rw [Ring.pointsTo_blocks (ℓ := (c : Thread nD τ).loc main_v2_2) ZB ZB_disjoint ZB_cover]
  exact bigSep_congr fun b _ => by rw [← zblk_set]; rfl

theorem slotP_eq (s : Fin 14) (f) : slotP (F := F) c s f = (((c : Thread nD τ).loc cc0_scratch0) ↦[RS s]{fullShare} f : sProp 𝕄) :=
  congrArg (fun S => (_ ↦[S]{fullShare} f : sProp 𝕄)) (rslot_set s)
theorem zslotP_eq (s : Fin 2) (f) : zslotP (F := F) c s f = (((c : Thread nD τ).loc cc0_scratch3) ↦[ZS s]{fullShare} f : sProp 𝕄) :=
  congrArg (fun S => (_ ↦[S]{fullShare} f : sProp 𝕄)) (zslot_set s)

theorem ring_split : iprop(∃ f : Buf (Elt F) ((c : Thread nD τ).loc cc0_scratch0), ((c : Thread nD τ).loc cc0_scratch0) ↦{fullShare} f)
    ⊢ (bigSep Finset.univ (fun s => iprop(∃ f, slotP c s f)) : sProp 𝕄) := by
  iintro ⟨%f, H⟩
  ihave H2 := (entails_of_eq (Ring.pointsTo_blocks (Ix := Unit) (Name := ℕ) (U := UU nD τ) (Lvl := ℕ) (q := fullShare) (ℓ := (c : Thread nD τ).loc cc0_scratch0) RS RS_disjoint RS_cover f)) $$ H
  iapply (bigSep_mono' (s := Finset.univ) (fun s => show (((c : Thread nD τ).loc cc0_scratch0) ↦[RS s]{fullShare} f : sProp 𝕄) ⊢ iprop(∃ f, slotP c s f) from by
    iintro H; iexists f; iapply (entails_of_eq (slotP_eq c s f).symm); iexact H))
  iexact H2
theorem ring_join : (bigSep Finset.univ (fun s => iprop(∃ f, slotP c s f)) : sProp 𝕄)
    ⊢ iprop(∃ f : Buf (Elt F) ((c : Thread nD τ).loc cc0_scratch0), ((c : Thread nD τ).loc cc0_scratch0) ↦{fullShare} f) := by
  refine (entails_of_eq (bigSep_congr fun s _ => ?_)).trans (Ring.pointsTo_blocks_join_exists (ℓ := (c : Thread nD τ).loc cc0_scratch0) RS RS_disjoint RS_cover (fun _ => Classical.arbitrary _))
  exact congrArg _ (funext fun f => slotP_eq c s f)
theorem zb_split : iprop(∃ f : Buf (Elt F) ((c : Thread nD τ).loc cc0_scratch3), ((c : Thread nD τ).loc cc0_scratch3) ↦{fullShare} f)
    ⊢ (bigSep Finset.univ (fun s => iprop(∃ f, zslotP c s f)) : sProp 𝕄) := by
  iintro ⟨%f, H⟩
  ihave H2 := (entails_of_eq (Ring.pointsTo_blocks (Ix := Unit) (Name := ℕ) (U := UU nD τ) (Lvl := ℕ) (q := fullShare) (ℓ := (c : Thread nD τ).loc cc0_scratch3) ZS ZS_disjoint ZS_cover f)) $$ H
  iapply (bigSep_mono' (s := Finset.univ) (fun s => show (((c : Thread nD τ).loc cc0_scratch3) ↦[ZS s]{fullShare} f : sProp 𝕄) ⊢ iprop(∃ f, zslotP c s f) from by
    iintro H; iexists f; iapply (entails_of_eq (zslotP_eq c s f).symm); iexact H))
  iexact H2
theorem zb_join : (bigSep Finset.univ (fun s => iprop(∃ f, zslotP c s f)) : sProp 𝕄)
    ⊢ iprop(∃ f : Buf (Elt F) ((c : Thread nD τ).loc cc0_scratch3), ((c : Thread nD τ).loc cc0_scratch3) ↦{fullShare} f) := by
  refine (entails_of_eq (bigSep_congr fun s _ => ?_)).trans (Ring.pointsTo_blocks_join_exists (ℓ := (c : Thread nD τ).loc cc0_scratch3) ZS ZS_disjoint ZS_cover (fun _ => Classical.arbitrary _))
  exact congrArg _ (funext fun f => zslotP_eq c s f)

theorem cnt_eq (f) : cntP (F := F) c f = (((c : Thread nD τ).loc cc0_scratch1) ↦{fullShare} f : sProp 𝕄) :=
  congrArg (fun S => (_ ↦[S]{fullShare} f : sProp 𝕄)) (View.set_whole _)
theorem acc_eq (f) : accP (F := F) c f = (((c : Thread nD τ).loc cc0_scratch2) ↦{fullShare} f : sProp 𝕄) :=
  congrArg (fun S => (_ ↦[S]{fullShare} f : sProp 𝕄)) (View.set_whole _)

theorem cells_eq : (Pipeline.ownSems0 (Ix := Unit) (Name := ℕ) (U := UU nD τ) (Lvl := ℕ) (Val := Elt F) (τ := τ) osem c : sProp 𝕄)
    = iprop(bigSep Finset.univ (cellP c) ∗ bigSep Finset.univ (zcellP c)) := by
  unfold Pipeline.ownSems0; rw [bigSep_univ_sum]; rfl

theorem ringFree_eq2 : (RingFree c : sProp 𝕄) = iprop(bigSep Finset.univ (fun s => iprop(∃ f, slotP c s f)) ∗ bigSep Finset.univ (cellP c)) := by
  unfold RingFree; exact BI.bigSep_sep _ _ _
theorem zFree_eq2 : (ZFree c : sProp 𝕄) = iprop(bigSep Finset.univ (fun s => iprop(∃ f, zslotP c s f)) ∗ bigSep Finset.univ (zcellP c)) := by
  unfold ZFree; exact BI.bigSep_sep _ _ _

/-- The buffer of the logits, whole, is every block still to be written; -/
theorem zTodo_begin (f : Buf (Elt F) ((c : Thread nD τ).loc main_v2_2)) :
    (((c : Thread nD τ).loc main_v2_2) ↦{fullShare} f : sProp 𝕄) ⊢ ZTodo c 0 := by
  rw [z_eq]; unfold ZTodo
  rw [show Ring.rangeSet 125 0 125 = Finset.univ from by
    ext b; rw [Ring.mem_rangeSet]; simp only [Finset.mem_univ, iff_true]; exact ⟨Nat.zero_le _, b.isLt⟩]
  exact bigSep_mono' fun b => by iintro H; iexists f; iexact H

theorem zblk_emb (b : Fin 125) (j : S16x256.Idx) : (zblk b).view.emb j = ix2 (n0 := 16) (n1 := 32000) (j 0) ⟨256 * b.val + (j 1).val, by
    have h1 : (j 1).val < 256 := (j 1).isLt; have := b.isLt; omega⟩ := by
  funext a; apply Fin.ext
  match a with
  | ⟨0, _⟩ => show 0 + 1 * (j 0).val = (j 0).val; omega
  | ⟨1, _⟩ => show 256 * b.val + 1 * (j 1).val = 256 * b.val + (j 1).val; omega

variable (X : Vec F S16x12288 .fp8e4m3) (Wt : Vec F S12288x32000 .fp8e4m3) (WS : Vec F S250x128 .f32) (C : Vec F S4000x128 .f32) (v151 v229 v307 rep : FVec F S16x128 .f32)

theorem zAll_blk (b : Fin 125) : (zblk b).view.read (Elt F) (zAll X Wt WS C v151 v229 v307 rep) = zst X Wt WS C v151 v229 v307 rep b := by
  funext j
  have h1 : (j 1).val < 256 := (j 1).isLt
  have e0 : (zblk b).view.read (Elt F) (zAll X Wt WS C v151 v229 v307 rep) j = zAll X Wt WS C v151 v229 v307 rep ((zblk b).view.emb j) := rfl
  refine e0.trans ((congrArg (zAll X Wt WS C v151 v229 v307 rep) (zblk_emb b j)).trans ?_)
  have e1 : (256 * b.val + (j 1).val) / 256 = b.val := by omega
  have e2 : (256 * b.val + (j 1).val) % 256 = (j 1).val := by omega
  have e3 : ix2 (n0 := 16) (n1 := 256) (j 0) ⟨(256 * b.val + (j 1).val) % 256, Nat.mod_lt _ (by decide)⟩ = j := by
    funext a; apply Fin.ext
    match a with
    | ⟨0, _⟩ => rfl
    | ⟨1, _⟩ => exact e2
  show zst X Wt WS C v151 v229 v307 rep ⟨(256 * b.val + (j 1).val) / 256, _⟩ (ix2 (n0 := 16) (n1 := 256) (j 0) ⟨(256 * b.val + (j 1).val) % 256, Nat.mod_lt _ (by decide)⟩) = _
  rw [e3]
  congr 1
  exact Fin.ext e1

theorem eq_on_of_read {κ : Kind} {sp : Space} {s : Shape} {e : EltTy} (v : View sig κ sp s e) (f g : v.ty.Contents (Elt F))
    (h : v.read (Elt F) f = v.read (Elt F) g) : ∀ i ∈ v.set, f i = g i := by
  intro i hi
  obtain ⟨j, -, rfl⟩ := Finset.mem_map.mp hi
  have := congrFun h j
  rw [View.read_apply, View.read_apply] at this
  exact cast_inj _ |>.mp this

/-- and all blocks written are the buffer at the logits. -/
theorem zdone_end : bigSep Finset.univ (zdoneP c (zst X Wt WS C v151 v229 v307 rep))
    ⊢ (((c : Thread nD τ).loc main_v2_2) ↦{fullShare} (zAll X Wt WS C v151 v229 v307 rep : S16x32000.Idx → Elt F .f32) : sProp 𝕄) := by
  rw [z_eq]
  refine bigSep_mono' fun b => ?_
  unfold zdoneP
  iintro ⟨%f, %hf, H⟩
  iapply (entails_of_eq (pointsTo_congr (eq_on_of_read (zblk b).view f _ (hf.trans (zAll_blk X Wt WS C v151 v229 v307 rep b).symm))))
  iexact H

/-! ## The region's invariant, in and out -/

/-- The kernel's scratch, cells, the weights and the buffer of the logits. -/
def ΦK (XA : Buf (Elt F) ((c : Thread nD τ).loc main_arg2)) (Z : Buf (Elt F) ((c : Thread nD τ).loc main_v2_2)) : sProp 𝕄 :=
  iprop(((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f))
    ∗ (bigSep Finset.univ (cellP c) ∗ bigSep Finset.univ (zcellP c))
    ∗ (((c : Thread nD τ).loc main_arg2) ↦{fullShare} XA) ∗ (((c : Thread nD τ).loc main_v2_2) ↦{fullShare} Z))

/-- What of it the body takes. -/
def BodyIn (XA : Buf (Elt F) ((c : Thread nD τ).loc main_arg2)) : sProp 𝕄 :=
  iprop((∃ f, cntP c f) ∗ (∃ fa, accP c fa) ∗ bigSep Finset.univ (homeP c XA) ∗ RingFree c ∗ ZFree c ∗ ZTodo c 0)

theorem phi_in (XA Z) : ΦK (F := F) c XA Z ⊢ BodyIn c XA := by
  unfold ΦK BodyIn
  rw [ringFree_eq2, zFree_eq2, w_eq]
  iintro ⟨⟨H0, ⟨%f1, H1⟩, ⟨%f2, H2⟩, H3⟩, ⟨Hc, Hz⟩, HW, HZ⟩
  isplitl [H1]; · iexists f1; irw [cnt_eq]; iexact H1
  isplitl [H2]; · iexists f2; irw [acc_eq]; iexact H2
  isplitl [HW]; · iexact HW
  isplitl [H0 Hc]
  · isplitl [H0]; · iapply (ring_split c); iexact H0
    iexact Hc
  isplitl [H3 Hz]
  · isplitl [H3]; · iapply (zb_split c); iexact H3
    iexact Hz
  iapply (zTodo_begin c Z); iexact HZ

theorem phi_out (XA : Buf (Elt F) ((c : Thread nD τ).loc main_arg2)) :
    iprop((∃ f, cntP c f) ∗ (∃ fa, accP c fa) ∗ bigSep Finset.univ (homeP c XA) ∗ RingFree c ∗ ZFree c ∗ bigSep Finset.univ (zdoneP c (zst X Wt WS C v151 v229 v307 rep)))
      ⊢ ΦK (F := F) c XA (zAll X Wt WS C v151 v229 v307 rep : S16x32000.Idx → Elt F .f32) := by
  unfold ΦK
  rw [ringFree_eq2, zFree_eq2, w_eq]
  iintro ⟨⟨%f1, H1⟩, ⟨%f2, H2⟩, HW, ⟨H0, Hc⟩, ⟨H3, Hz⟩, HZ⟩
  isplitl [H0 H1 H2 H3]
  · isplitl [H0]; · iapply (ring_join c); iexact H0
    isplitl [H1]; · iexists f1; iapply (entails_of_eq (cnt_eq c f1)); iexact H1
    isplitl [H2]; · iexists f2; iapply (entails_of_eq (acc_eq c f2)); iexact H2
    iapply (zb_join c); iexact H3
  isplitl [Hc Hz]
  · isplitl [Hc]; · iexact Hc
    iexact Hz
  isplitl [HW]; · iexact HW
  iapply (zdone_end c X Wt WS C v151 v229 v307 rep); iexact HZ
end Split

end Cert.Kernel.Hand

end
-- ==== Proof.KRun.lean ====
module

public import proofs.«01_k».proof.Proof.KLaunch

/-!
  The run of the whole program: from any memory whose offsets are not negative it ends, with each result at its value.
-/

@[expose] public section

set_option maxRecDepth 16384

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Body
variable (c : Dev nD) (XA : Buf (Elt F) ((c : Thread nD τ).loc main_arg2))
  (arg0 : Memref sig .tc .smem S17 .i32) (harg0 : arg0.IsWhole)
  (arg1 : Memref sig .tc .smem S16 .f32) (harg1 : arg1.IsWhole)
  (arg2 : Memref sig .tc .smem S16 .f32) (harg2 : arg2.IsWhole)
  (arg3 : Memref sig .tc .smem S16 .f32) (harg3 : arg3.IsWhole)
  (arg4 : Memref sig .tc .smem S16 .f32) (harg4 : arg4.IsWhole)
  (arg5 : Memref sig .tc .vmem S16x12288 .fp8e4m3) (harg5 : arg5.IsWhole)
  (arg6 : Memref sig .tc .vmem S250x128 .f32) (harg6 : arg6.IsWhole)
  (arg7 : Memref sig .tc .vmem S128x128 .i32) (harg7 : arg7.IsWhole)
  (arg8 : Memref sig .tc .vmem S16x20 .i32) (harg8 : arg8.IsWhole)
  (arg10 : Memref sig .tc .vmem S1x16 .f32) (harg10 : arg10.IsWhole)
  (arg11 : Memref sig .tc .vmem S16x20 .f32) (harg11 : arg11.IsWhole)
  (g0 : Buf (Elt F) (arg0.view.loc (c : Thread nD τ))) (g1 : Buf (Elt F) (arg1.view.loc (c : Thread nD τ))) (g2 : Buf (Elt F) (arg2.view.loc (c : Thread nD τ))) (g3 : Buf (Elt F) (arg3.view.loc (c : Thread nD τ)))
  (g4 : Buf (Elt F) (arg4.view.loc (c : Thread nD τ))) (g5 : Buf (Elt F) (arg5.view.loc (c : Thread nD τ))) (g6 : Buf (Elt F) (arg6.view.loc (c : Thread nD τ))) (g7 : Buf (Elt F) (arg7.view.loc (c : Thread nD τ)))
  (g8 : Buf (Elt F) (arg8.view.loc (c : Thread nD τ))) (g10 : Buf (Elt F) (arg10.view.loc (c : Thread nD τ))) (g11 : Buf (Elt F) (arg11.view.loc (c : Thread nD τ)))

section Fns
variable (off : S17.Idx → BitVec 32) (hr : ChkOK off) (xs pres freq rep : S16.Idx → F .f32)
  (X : Vec F S16x12288 .fp8e4m3) (Wt : Vec F S12288x32000 .fp8e4m3) (WS : Vec F S250x128 .f32) (ids : Vec F S128x128 .i32) (cand : Vec F S16x20 .i32)

/-- The running maxima, sums and picked logits at the end, as the windows' blocks give them. -/
def endC : FVec F S16x128 .f32 × FVec F S16x128 .f32 × FVec F S16x128 .f32 :=
  carry X Wt WS (cntFull (F := F) off hr ids) (rowsOf (F := F) xs) (rowsOf (F := F) pres) (rowsOf (F := F) freq) (rowsOf (F := F) rep) cand 125
/-- The logits; -/
def fnZ : Vec F S16x32000 .f32 := zAll X Wt WS (cntFull (F := F) off hr ids) (rowsOf (F := F) xs) (rowsOf (F := F) pres) (rowsOf (F := F) freq) (rowsOf (F := F) rep)
/-- each row's log-sum-exp; -/
def fnLse : Vec F S1x16 .f32 :=
  k0_pay1 (k0_pay40 (endC off hr xs pres freq rep X Wt WS ids cand).1 (endC off hr xs pres freq rep X Wt WS ids cand).2.1) k0_pay42 (Scalar.ofBits .f32 0x00000000#32)
/-- the candidates' log-probabilities. -/
def fnLp : Vec F S16x20 .f32 := k0_pay41 (endC off hr xs pres freq rep X Wt WS ids cand).1 (endC off hr xs pres freq rep X Wt WS ids cand).2.1 (endC off hr xs pres freq rep X Wt WS ids cand).2.2
end Fns

/-- The body run, its windows' contents named by what they read. -/
theorem bodyRunX (off : S17.Idx → BitVec 32) (hr : ChkOK off) (xs pres freq rep : S16.Idx → F .f32)
    (X : Vec F S16x12288 .fp8e4m3) (Wt : Vec F S12288x32000 .fp8e4m3) (WS : Vec F S250x128 .f32) (ids : Vec F S128x128 .i32) (cand : Vec F S16x20 .i32)
    (h0 : arg0.view.read (Elt F) g0 = off) (h1 : arg1.view.read (Elt F) g1 = xs) (h2 : arg2.view.read (Elt F) g2 = pres) (h3 : arg3.view.read (Elt F) g3 = freq) (h4 : arg4.view.read (Elt F) g4 = rep)
    (h5 : arg5.view.read (Elt F) g5 = X) (h6 : arg6.view.read (Elt F) g6 = WS) (h7 : arg7.view.read (Elt F) g7 = ids) (h8 : arg8.view.read (Elt F) g8 = cand) (h9 : wM.view.read (Elt F) XA = Wt)
    (W : Waits sig Unit) (Q : PUnit → sProp 𝕄) :
    iprop((InsP c arg0 arg1 arg2 arg3 arg4 arg5 arg6 arg7 arg8 g0 g1 g2 g3 g4 g5 g6 g7 g8 ∗ (arg10.view.loc (c : Thread nD τ) ↦[arg10.view.set]{fullShare} g10) ∗ (arg11.view.loc (c : Thread nD τ) ↦[arg11.view.set]{fullShare} g11)
          ∗ BodyIn c XA ∗ owes (c : Thread nD τ) 0 W)
        ∗ ((InsP c arg0 arg1 arg2 arg3 arg4 arg5 arg6 arg7 arg8 g0 g1 g2 g3 g4 g5 g6 g7 g8
          ∗ (∃ f, ⌜arg10.view.read (Elt F) f = fnLse off hr xs pres freq rep X Wt WS ids cand⌝ ∗ (arg10.view.loc (c : Thread nD τ) ↦[arg10.view.set]{fullShare} f))
          ∗ (∃ f, ⌜arg11.view.read (Elt F) f = fnLp off hr xs pres freq rep X Wt WS ids cand⌝ ∗ (arg11.view.loc (c : Thread nD τ) ↦[arg11.view.set]{fullShare} f))
          ∗ ΦK c XA (fnZ off hr xs pres freq rep X Wt WS ids : S16x32000.Idx → Elt F .f32) ∗ (∃ W, owes (c : Thread nD τ) 0 W)) -∗ Q ⟨⟩))
    ⊢ wp Idealize.ShloMosaic.frame (wpE (defs₀ (F := F)) 𝒱₀ (c : Thread nD τ) none) Set.univ
        (cc0_fp8_head_logprobs (F := F) arg0 harg0 arg1 harg1 arg2 harg2 arg3 harg3 arg4 harg4 arg5 harg5 arg6 harg6 arg7 harg7 arg8 harg8 wM (Memref.isWhole_whole _) arg10 harg10 arg11 harg11 zM (Memref.isWhole_whole _) ringM (Memref.isWhole_whole _) cntM (Memref.isWhole_whole _) accM (Memref.isWhole_whole _) zbM (Memref.isWhole_whole _) cc0_scratch4 cc0_scratch5) Q := by
  subst h0 h1 h2 h3 h4 h5 h6 h7 h8 h9
  unfold BodyIn
  iintro ⟨⟨HI, H10, H11, ⟨HC, HA, Hh, HR, HZ, HT⟩, HW⟩, Hk⟩
  iapply (bodyRun c XA arg0 harg0 arg1 harg1 arg2 harg2 arg3 harg3 arg4 harg4 arg5 harg5 arg6 harg6 arg7 harg7 arg8 harg8 arg10 harg10 arg11 harg11 g0 g1 g2 g3 g4 g5 g6 g7 g8 g10 g11 hr W)
  unfold PRE
  isplitl [HI H10 H11 HC HA Hh HR HZ HT HW]
  · isplitl [HI]; · iexact HI
    isplitl [H10]; · iexact H10
    isplitl [H11]; · iexact H11
    isplitl [HC]; · iexact HC
    isplitl [HA]; · iexact HA
    isplitl [Hh]; · iexact Hh
    isplitl [HR]; · iexact HR
    isplitl [HZ]; · iexact HZ
    isplitl [HT]; · iexact HT
    iexact HW
  unfold POST
  iintro ⟨HI, H10, H11, HC, HA, Hh, HR, HZ, HT, HW⟩
  iapply Hk
  isplitl [HI]; · iexact HI
  isplitl [H10]; · iexact H10
  isplitl [H11]; · iexact H11
  isplitl [HC HA Hh HR HZ HT]
  · iapply (phi_out c (arg5.view.read (Elt F) g5) (wM.view.read (Elt F) XA) (arg6.view.read (Elt F) g6) (cntFull (arg0.view.read (Elt F) g0) hr (arg7.view.read (Elt F) g7)) (rowsOf (arg1.view.read (Elt F) g1)) (rowsOf (arg2.view.read (Elt F) g2)) (rowsOf (arg3.view.read (Elt F) g3)) (rowsOf (arg4.view.read (Elt F) g4)) XA)
    isplitl [HC]; · iexact HC
    isplitl [HA]; · iexact HA
    isplitl [Hh]; · iexact Hh
    isplitl [HR]; · iexact HR
    isplitl [HZ]; · iexact HZ
    iexact HT
  iexact HW
end Body

/-! ## The pipeline's proof data -/

section Launch
variable (m : (ℓ : Loc nD τ sig) → Buf (Elt F) ℓ) (ρ : Dev nD → PrngReg)

/-- No offset is negative. -/
def OffOK : Prop := ∀ (c : Dev nD) (j : S17.Idx), 0 ≤ ((m ((c : Thread nD τ).loc main_arg5) : S17.Idx → BitVec 32) j).toInt

variable (c : Dev nD) (t : Fin cfg0.N)
def bOff : S17.Idx → BitVec 32 := iblk m c 0 t
def bXs : S16.Idx → F .f32 := iblk m c 1 t
def bPres : S16.Idx → F .f32 := iblk m c 2 t
def bFreq : S16.Idx → F .f32 := iblk m c 3 t
def bRep : S16.Idx → F .f32 := iblk m c 4 t
def bX : Vec F S16x12288 .fp8e4m3 := iblk m c 5 t
def bWS : Vec F S250x128 .f32 := iblk m c 6 t
def bIds : Vec F S128x128 .i32 := iblk m c 7 t
def bCand : Vec F S16x20 .i32 := iblk m c 8 t
def bW : Vec F S12288x32000 .fp8e4m3 := wM.view.read (Elt F) (V m c main_arg2)

variable {m} in
theorem chkOK (h : OffOK m) : ChkOK (bOff m c t) := fun b => by
  have h' : ∀ j, 0 ≤ (bOff m c t j).toInt := fun j => by
    unfold bOff iblk
    rw [V_main_arg5]
    exact h c _
  exact chk_of_nonneg _ _ (h' _) (h' _)

variable (h : OffOK m)
def zF : Vec F S16x32000 .f32 := fnZ (bOff m c t0_0) (chkOK c t0_0 h) (bXs m c t0_0) (bPres m c t0_0) (bFreq m c t0_0) (bRep m c t0_0) (bX m c t0_0) (bW m c) (bWS m c t0_0) (bIds m c t0_0)
def lseF (t : Fin cfg0.N) : Vec F S1x16 .f32 := fnLse (bOff m c t) (chkOK c t h) (bXs m c t) (bPres m c t) (bFreq m c t) (bRep m c t) (bX m c t) (bW m c) (bWS m c t) (bIds m c t) (bCand m c t)
def lpF (t : Fin cfg0.N) : Vec F S16x20 .f32 := fnLp (bOff m c t) (chkOK c t h) (bXs m c t) (bPres m c t) (bFreq m c t) (bRep m c t) (bX m c t) (bW m c) (bWS m c t) (bIds m c t) (bCand m c t)

/-- The buffers at the end: the logits' at the logits. -/
def GF (c : Dev nD) : (b : Ref sig .tc) → Buf (Elt F) ((c : Thread nD τ).loc b) := Function.update (V m c) main_v2_2 (zF m c h : S16x32000.Idx → Elt F .f32)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => lseF m c h t
    | ⟨10, _⟩ => lpF m c h t
  Φ t := if t.val = 0 then ΦK c (V m c main_arg2) (V m c main_v2_2) else ΦK c (V m c main_arg2) (zF m c h : S16x32000.Idx → Elt F .f32)
  q _ := fullShare
  owed _ := 0

theorem phi_first (t : Fin (cfg0.N + 1)) (ht : t.val = 0) : (dats m h 0 c).Φ t = ΦK c (V m c main_arg2) (V m c main_v2_2) :=
  (show (dats m h 0 c).Φ t = if t.val = 0 then ΦK c (V m c main_arg2) (V m c main_v2_2) else ΦK c (V m c main_arg2) (zF m c h : S16x32000.Idx → Elt F .f32) from rfl).trans (if_pos ht)
theorem phi_later (t : Fin (cfg0.N + 1)) (ht : t.val ≠ 0) : (dats m h 0 c).Φ t = ΦK c (V m c main_arg2) (zF m c h : S16x32000.Idx → Elt F .f32) :=
  (show (dats m h 0 c).Φ t = if t.val = 0 then ΦK c (V m c main_arg2) (V m c main_v2_2) else ΦK c (V m c main_arg2) (zF m c h : S16x32000.Idx → Elt F .f32) from rfl).trans (if_neg ht)

theorem before_w0 (d) : (dats m h 0 c).before 0 t d = iblk m c 0 t := by
  unfold Dat.before; rw [if_pos (fetch0_0 t)]; unfold Dat.fetched Dat.blockOf iblk; dsimp only [dats]; rfl
theorem before_w1 (d) : (dats m h 0 c).before 1 t d = iblk m c 1 t := by
  unfold Dat.before; rw [if_pos (fetch0_1 t)]; unfold Dat.fetched Dat.blockOf iblk; dsimp only [dats]; rfl
theorem before_w2 (d) : (dats m h 0 c).before 2 t d = iblk m c 2 t := by
  unfold Dat.before; rw [if_pos (fetch0_2 t)]; unfold Dat.fetched Dat.blockOf iblk; dsimp only [dats]; rfl
theorem before_w3 (d) : (dats m h 0 c).before 3 t d = iblk m c 3 t := by
  unfold Dat.before; rw [if_pos (fetch0_3 t)]; unfold Dat.fetched Dat.blockOf iblk; dsimp only [dats]; rfl
theorem before_w4 (d) : (dats m h 0 c).before 4 t d = iblk m c 4 t := by
  unfold Dat.before; rw [if_pos (fetch0_4 t)]; unfold Dat.fetched Dat.blockOf iblk; dsimp only [dats]; rfl
theorem before_w5 (d) : (dats m h 0 c).before 5 t d = iblk m c 5 t := by
  unfold Dat.before; rw [if_pos (fetch0_5 t)]; unfold Dat.fetched Dat.blockOf iblk; dsimp only [dats]; rfl
theorem before_w6 (d) : (dats m h 0 c).before 6 t d = iblk m c 6 t := by
  unfold Dat.before; rw [if_pos (fetch0_6 t)]; unfold Dat.fetched Dat.blockOf iblk; dsimp only [dats]; rfl
theorem before_w7 (d) : (dats m h 0 c).before 7 t d = iblk m c 7 t := by
  unfold Dat.before; rw [if_pos (fetch0_7 t)]; unfold Dat.fetched Dat.blockOf iblk; dsimp only [dats]; rfl
theorem before_w8 (d) : (dats m h 0 c).before 8 t d = iblk m c 8 t := by
  unfold Dat.before; rw [if_pos (fetch0_8 t)]; unfold Dat.fetched Dat.blockOf iblk; dsimp only [dats]; rfl
theorem after_in0 : (dats m h 0 c).after 0 t = iblk m c 0 t := by dsimp only [dats]
theorem after_in1 : (dats m h 0 c).after 1 t = iblk m c 1 t := by dsimp only [dats]
theorem after_in2 : (dats m h 0 c).after 2 t = iblk m c 2 t := by dsimp only [dats]
theorem after_in3 : (dats m h 0 c).after 3 t = iblk m c 3 t := by dsimp only [dats]
theorem after_in4 : (dats m h 0 c).after 4 t = iblk m c 4 t := by dsimp only [dats]
theorem after_in5 : (dats m h 0 c).after 5 t = iblk m c 5 t := by dsimp only [dats]
theorem after_in6 : (dats m h 0 c).after 6 t = iblk m c 6 t := by dsimp only [dats]
theorem after_in7 : (dats m h 0 c).after 7 t = iblk m c 7 t := by dsimp only [dats]
theorem after_in8 : (dats m h 0 c).after 8 t = iblk m c 8 t := by dsimp only [dats]
theorem after_lse : (dats m h 0 c).after 9 t = lseF m c h t := by dsimp only [dats]
theorem after_lp : (dats m h 0 c).after 10 t = lpF m c h t := by dsimp only [dats]

/-- The body's table at the kernel. -/
theorem defs_tc : (defs₀ (F := F)) .tc cfg0.body
    = fun a => cc0_fp8_head_logprobs (win0_0.stage (a.2 0)) (hstage0_0 0) (win0_1.stage (a.2 1)) (hstage0_1 0) (win0_2.stage (a.2 2)) (hstage0_2 0) (win0_3.stage (a.2 3)) (hstage0_3 0) (win0_4.stage (a.2 4)) (hstage0_4 0) (win0_5.stage (a.2 5)) (hstage0_5 0) (win0_6.stage (a.2 6)) (hstage0_6 0) (win0_7.stage (a.2 7)) (hstage0_7 0) (win0_8.stage (a.2 8)) (hstage0_8 0) wM (Memref.isWhole_whole _) (win0_9.stage (a.2 9)) (hstage0_9 0) (win0_10.stage (a.2 10)) (hstage0_10 0) zM (Memref.isWhole_whole _) ringM (Memref.isWhole_whole _) cntM (Memref.isWhole_whole _) accM (Memref.isWhole_whole _) zbM (Memref.isWhole_whole _) cc0_scratch4 cc0_scratch5 := rfl
theorem prog_eq : (defs₀ (F := F)) .tc cfg0.body (cfg0.bodyArgs t (cfg0.slots t))
    = cc0_fp8_head_logprobs (st0_0 t) (hstage0_0 0) (st0_1 t) (hstage0_1 0) (st0_2 t) (hstage0_2 0) (st0_3 t) (hstage0_3 0) (st0_4 t) (hstage0_4 0) (st0_5 t) (hstage0_5 0) (st0_6 t) (hstage0_6 0) (st0_7 t) (hstage0_7 0) (st0_8 t) (hstage0_8 0) wM (Memref.isWhole_whole _) (st0_9 t) (hstage0_9 0) (st0_10 t) (hstage0_10 0) zM (Memref.isWhole_whole _) ringM (Memref.isWhole_whole _) cntM (Memref.isWhole_whole _) accM (Memref.isWhole_whole _) zbM (Memref.isWhole_whole _) cc0_scratch4 cc0_scratch5 :=
  (congrFun defs_tc _).trans rfl

theorem zF_at : zF m c h = fnZ (bOff m c t) (chkOK c t h) (bXs m c t) (bPres m c t) (bFreq m c t) (bRep m c t) (bX m c t) (bW m c) (bWS m c t) (bIds m c t) := by
  have e := fin_N0 t
  subst e
  rfl

set_option backward.isDefEq.respectTransparency.types false in
theorem body_obligation : BodyObligation (dats (F := F) m h 0 c) (defs₀ (F := F)) 𝒱₀ () Set.univ := fun t => by
  rw [bigSep_W0, bigSep_W0]
  dsimp only
  simp only [before_w0, before_w1, before_w2, before_w3, before_w4, before_w5, before_w6, before_w7, before_w8, after_in0, after_in1, after_in2, after_in3, after_in4, after_in5, after_in6, after_in7, after_in8, after_lse, after_lp]
  have ht0 : t.val = 0 := congrArg Fin.val (fin_N0 t)
  rw [phi_first m c h t.castSucc ht0, phi_later m c h t.succ (Nat.succ_ne_zero t.val)]
  unfold Dat.owesAt Pipeline.owesWithin
  rw [show (dats m h 0 c).owed t.castSucc = 0 from rfl, show (dats m h 0 c).owed t.succ = 0 from rfl]
  unfold owns
  iintro ⟨HΦ, ⟨%W, -, HW⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩, ⟨%d6, %g6, %hg6, H6⟩, ⟨%d7, %g7, %hg7, H7⟩, ⟨%d8, %g8, %hg8, H8⟩, ⟨%d9, %g9, -, H9⟩, ⟨%d10, %g10, -, H10⟩⟩
  sl_rw [prog_eq t]
  iapply (bodyRunX c (V m c main_arg2) (st0_0 t) (hstage0_0 0) (st0_1 t) (hstage0_1 0) (st0_2 t) (hstage0_2 0) (st0_3 t) (hstage0_3 0) (st0_4 t) (hstage0_4 0) (st0_5 t) (hstage0_5 0) (st0_6 t) (hstage0_6 0) (st0_7 t) (hstage0_7 0) (st0_8 t) (hstage0_8 0) (st0_9 t) (hstage0_9 0) (st0_10 t) (hstage0_10 0)
    g0 g1 g2 g3 g4 g5 g6 g7 g8 g9 g10 (bOff m c t) (chkOK c t h) (bXs m c t) (bPres m c t) (bFreq m c t) (bRep m c t) (bX m c t) (bW m c) (bWS m c t) (bIds m c t) (bCand m c t) hg0 hg1 hg2 hg3 hg4 hg5 hg6 hg7 hg8 rfl W)
  unfold InsP
  isplitl [H0 H1 H2 H3 H4 H5 H6 H7 H8 H9 H10 HΦ HW]
  · isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9]; · iexact H9
    isplitl [H10]; · iexact H10
    isplitl [HΦ]; · iapply (phi_in c (V m c main_arg2) (V m c main_v2_2)); iexact HΦ
    iexact HW
  · iintro ⟨⟨H0, H1, H2, H3, H4, H5, H6, H7, H8⟩, ⟨%f9, %hf9, H9⟩, ⟨%f10, %hf10, H10⟩, HΦ, ⟨%W', HW⟩⟩
    isplitl [HΦ]
    · rw [zF_at m c t h]; iexact HΦ
    isplitl [HW]
    · iexists W'; isplitr; · ipureintro; exact fun _ _ => Or.inl trivial
      iexact HW
    isplitl [H0]; · iexists g0; isplitr; · ipureintro; exact hg0
                    iexact H0
    isplitl [H1]; · iexists g1; isplitr; · ipureintro; exact hg1
                    iexact H1
    isplitl [H2]; · iexists g2; isplitr; · ipureintro; exact hg2
                    iexact H2
    isplitl [H3]; · iexists g3; isplitr; · ipureintro; exact hg3
                    iexact H3
    isplitl [H4]; · iexists g4; isplitr; · ipureintro; exact hg4
                    iexact H4
    isplitl [H5]; · iexists g5; isplitr; · ipureintro; exact hg5
                    iexact H5
    isplitl [H6]; · iexists g6; isplitr; · ipureintro; exact hg6
                    iexact H6
    isplitl [H7]; · iexists g7; isplitr; · ipureintro; exact hg7
                    iexact H7
    isplitl [H8]; · iexists g8; isplitr; · ipureintro; exact hg8
                    iexact H8
    isplitl [H9]; · iexists f9; isplitr; · ipureintro; exact hf9
                    iexact H9
    iexists f10; isplitr; · ipureintro; exact hf10
    iexact H10

/-! ## The run -/

abbrev HH : Finset (Ref sig .tc) := {main_arg2}
abbrev RR : Finset (Ref sig .tc) := {main_v2_2}

theorem phi_eq (G : (c : Dev nD) → (b : Ref sig .tc) → Buf (Elt F) ((c : Thread nD τ).loc b)) :
    Pipeline.ΦDRV osem spec0 HH RR (V m) G c = ΦK c (V m c main_arg2) (G c main_v2_2) := by
  unfold Pipeline.ΦDRV ΦK
  rw [scopedRest0_eq, cells_eq, bigSep_singleton, bigSep_singleton]

theorem hmainU : Pipeline.HMainK (Ix := Unit) (Name := ℕ) (U := UU nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What the buffers outside the windows hold at the end. -/
abbrev Wfin (c : Dev nD) : Valuation τ sig (Elt F) := StableHlo.after [hostOps1].flatten (Pipeline.withArrays spec0 c (Pipeline.withR (V0 m c) RR c (GF m h c)) fun w => (dats m h 0 c).arrAt w cfg0.N)

set_option backward.isDefEq.respectTransparency.types false in
theorem run_main : θ_run defs (onTc (τ := τ) (main (F := F))) (s₀ m ρ) (fun r =>
    (∀ c : Dev nD, (∀ w, r.2.mem (((cfgs 0).spec w).arr.view.loc (c : Thread nD τ)) = (dats m h 0 c).arrAt w cfg0.N)
      ∧ ∀ b ∈ Pipeline.restRefs sig spec0, r.2.mem ((c : Thread nD τ).loc b) = Wfin m h c (Proc.devRef .tc b)) ∧ r.2.sem = fun _ => 0) :=
  Pipeline.θ_run_frame_dmaR_aroundV cfgs (dats m h) 0 launch0 osem defs₀ 𝒱₀ ownSemFacts HH RR (by decide) (by decide) m ρ main
    (hbody := fun c => (body_obligation m c h).loose) (hshare := fun c => (dats m h 0 c).share_full fun _ => rfl)
    (howed := fun _ _ => rfl) (V₀ := V0 m) (opss := [hostOps1]) sfx_sub sfx_fresh sfx_keeps (G := GF m h) (hmainU m) (hA := fun _ _ => rfl)
    (hin := fun c => entails_of_eq ((phi_eq m c _).trans (phi_first m c h 0 rfl).symm))
    (hout := fun c => entails_of_eq ((phi_later m c h (Fin.last cfg0.N) (by decide : cfg0.N ≠ 0)).trans
      (((congrArg (ΦK c (V m c main_arg2)) (show GF m h c main_v2_2 = (zF m c h : S16x32000.Idx → Elt F .f32) from Function.update_self ..)).symm).trans (phi_eq m c _).symm)))
    (Q' := fun r => (∀ c : Dev nD, (∀ w, r.2.mem (((cfgs 0).spec w).arr.view.loc (c : Thread nD τ)) = (dats m h 0 c).arrAt w cfg0.N)
      ∧ ∀ b ∈ Pipeline.restRefs sig spec0, r.2.mem ((c : Thread nD τ).loc b) = Wfin m h c (Proc.devRef .tc b)) ∧ r.2.sem = fun _ => 0)
    (hQ' := fun _ hh => hh)

end Launch

end Cert.Kernel.Hand

end
-- ==== Proof.KFinal.lean ====
module

public import proofs.«01_k».proof.Proof.KRun

/-!
  The end of a run, array by array: the arguments as launched, each result at its value.
-/

@[expose] public section

set_option maxRecDepth 16384

noncomputable section

namespace Cert.Kernel.Hand

open Cert.Kernel Cert.Kernel.Gen
open Idealize.ShloMosaic
open Idealize.ShloMosaic.TcCoe
open Idealize.SL.Sem
open Idealize.ShloMosaic.Pipeline (Dat)

variable {F : FTy → Type} [FloatOps F]
variable (m : (ℓ : Loc nD τ sig) → Buf (Elt F) ℓ) (ρ : Dev nD → PrngReg) (h : OffOK m) (c : Dev nD)

/-- A buffer the last host line does not write, that is neither a window's nor the logits', ends as the region found it. -/
theorem Wfin_keep (b : Ref sig .tc) (h3 : b ≠ main_v3) (hw : ∀ w, Pipeline.arrRef spec0 w ≠ b) (hr : b ∉ RR) :
    Wfin m h c (Proc.devRef .tc b) = V m c b := by
  unfold Wfin
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne h3)),
    Pipeline.withArrays_of_ne _ c _ _ b hw, Pipeline.withR_of_not_mem _ _ _ _ _ hr]

/-- The logits' buffer at the end. -/
theorem Wfin_z : Wfin m h c (Proc.devRef .tc main_v2_2) = (zF m c h : S16x32000.Idx → Elt F .f32) := by
  unfold Wfin
  rw [StableHlo.after_of_forall_not_mem (b := Proc.devRef .tc main_v2_2) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c _ _ main_v2_2 (by exact (by decide : ∀ w, Pipeline.arrRef spec0 w ≠ main_v2_2)), Pipeline.withR_of_mem _ _ _ _ _ (by decide)]
  exact Function.update_self ..

include h in
/-- Every run ends, the arguments as launched, the counters at zero. -/
theorem frame_of_ok : θ_run defs (onTc (τ := τ) (main (F := F))) ⟨m, fun _ => 0, ρ⟩ (fun r =>
      (∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run defs _ _).mono (fun _ hh => ⟨fun c : Dev nD =>
     ⟨((hh.1 c).1 5).trans (((dats m h 0 c).arrAt_in 5 rfl _).trans (V_main_arg0 m c)),
      ((hh.1 c).1 1).trans (((dats m h 0 c).arrAt_in 1 rfl _).trans (V_main_arg1 m c)),
      ((hh.1 c).2 main_arg2 (Pipeline.mem_restRefs_of main_arg2 (by decide) (by decide))).trans ((Wfin_keep m h c main_arg2 (by decide) (by exact (by decide : ∀ w, Pipeline.arrRef spec0 w ≠ main_arg2)) (by decide)).trans (V_main_arg2 m c)),
      ((hh.1 c).2 main_arg3 (Pipeline.mem_restRefs_of main_arg3 (by decide) (by decide))).trans ((Wfin_keep m h c main_arg3 (by decide) (by exact (by decide : ∀ w, Pipeline.arrRef spec0 w ≠ main_arg3)) (by decide)).trans (V_main_arg3 m c)),
      ((hh.1 c).2 main_arg4 (Pipeline.mem_restRefs_of main_arg4 (by decide) (by decide))).trans ((Wfin_keep m h c main_arg4 (by decide) (by exact (by decide : ∀ w, Pipeline.arrRef spec0 w ≠ main_arg4)) (by decide)).trans (V_main_arg4 m c)),
      ((hh.1 c).1 0).trans (((dats m h 0 c).arrAt_in 0 rfl _).trans (V_main_arg5 m c)),
      ((hh.1 c).1 2).trans (((dats m h 0 c).arrAt_in 2 rfl _).trans (V_main_arg6 m c)),
      ((hh.1 c).1 3).trans (((dats m h 0 c).arrAt_in 3 rfl _).trans (V_main_arg7 m c)),
      ((hh.1 c).1 4).trans (((dats m h 0 c).arrAt_in 4 rfl _).trans (V_main_arg8 m c)),
      ((hh.1 c).1 8).trans (((dats m h 0 c).arrAt_in 8 rfl _).trans (V_main_arg9 m c))⟩, hh.2⟩) (run_main m ρ h)

end Cert.Kernel.Hand

end
-- ==== Proof.VMath.lean ====
module

public import Idealize.ShloMosaic.PureOps.Ideal
public import Mathlib.Data.EReal.Inv

/-!
  The logarithm of a sum of exponentials over the extended reals: it does not depend on the finite number subtracted before the exponentials, and
  a running maximum with a running sum can be rescaled.
-/

@[expose] public section

noncomputable section

namespace Cert.Hand

open Idealize.ShloMosaic

theorem exp_nonneg (x : EReal) : 0 ≤ Ideal.exp x := by
  induction x with
  | bot => simp
  | coe x => rw [Ideal.exp_coe]; exact_mod_cast (Real.exp_pos x).le
  | top => simp

theorem sub_top' (x : EReal) : x - ⊤ = ⊥ := by
  induction x <;> rfl

/-- Subtracting `m` and then rescaling by `m - m'` is subtracting `m'`, for `m ≤ m'` above every number. -/
theorem exp_rescale (z m m' : EReal) (hz : z ≤ m) (hm : m ≤ m') (hb : m ≠ ⊥) :
    Ideal.exp (z - m) * Ideal.exp (m - m') = Ideal.exp (z - m') := by
  induction m' with
  | bot => exact absurd (le_bot_iff.1 hm) hb
  | top => rw [sub_top', sub_top']; simp
  | coe m' =>
    induction m with
    | bot => exact absurd rfl hb
    | top => simp at hm
    | coe m =>
      induction z with
      | bot => simp
      | top => simp at hz
      | coe z =>
        rw [← EReal.coe_sub, ← EReal.coe_sub, ← EReal.coe_sub, Ideal.exp_coe, Ideal.exp_coe, Ideal.exp_coe, ← EReal.coe_mul, ← Real.exp_add,
          show z - m + (m - m') = z - m' by ring]

/-- The same for a sum. -/
theorem sum_rescale {ι : Type*} (s : Finset ι) (z : ι → EReal) (m m' : EReal) (hz : ∀ i ∈ s, z i ≤ m) (hm : m ≤ m') (hb : m ≠ ⊥) :
    (∑ i ∈ s, Ideal.exp (z i - m)) * Ideal.exp (m - m') = ∑ i ∈ s, Ideal.exp (z i - m') := by
  classical
  induction s using Finset.induction_on with
  | empty => simp
  | insert a s ha ih =>
    rw [Finset.sum_insert ha, Finset.sum_insert ha, EReal.right_distrib_of_nonneg (exp_nonneg _) (Finset.sum_nonneg fun i _ => exp_nonneg _),
      exp_rescale _ _ _ (hz a (Finset.mem_insert_self a s)) hm hb, ih fun i hi => hz i (Finset.mem_insert_of_mem hi)]

/-- The logarithm of the sum of exponentials, with the maximum or any finite number above it taken out first, is one and the same. -/
theorem lse_base {ι : Type*} (s : Finset ι) (z : ι → EReal) (t m : EReal) (hz : ∀ i ∈ s, z i ≤ t) (hat : ∃ i ∈ s, z i = t) (b : ℝ)
    (hm : m = max (b : EReal) t) :
    m + Ideal.log (∑ i ∈ s, Ideal.exp (z i - m)) = Ideal.log (∑ i ∈ s, Ideal.exp (z i - t)) + t := by
  subst hm
  rcases le_total (b : EReal) t with h | h
  · rw [max_eq_right h, add_comm]
  rw [max_eq_left h]
  induction t with
  | top => simp at h
  | bot =>
    have e : ∑ i ∈ s, Ideal.exp (z i - (b : EReal)) = 0 := Finset.sum_eq_zero fun i hi => by
      rw [le_bot_iff.1 (hz i hi)]; simp
    rw [e, EReal.add_bot]
    have : Ideal.log (0 : EReal) = ⊥ := by rw [← EReal.coe_zero, Ideal.log_coe]; simp
    rw [this, EReal.add_bot]
  | coe t =>
    rw [← sum_rescale s z t b hz h (EReal.coe_ne_bot t)]
    have hr : ∃ S : ℝ, 0 < S ∧ ∑ i ∈ s, Ideal.exp (z i - (t : EReal)) = S := by
      have hall : ∀ i ∈ s, ∃ r : ℝ, 0 ≤ r ∧ Ideal.exp (z i - (t : EReal)) = r := fun i hi => by
        have h1 := hz i hi
        induction hzi : z i with
        | bot => exact ⟨0, le_rfl, by simp⟩
        | top => rw [hzi] at h1; simp at h1
        | coe x => exact ⟨Real.exp (x - t), (Real.exp_pos _).le, by rw [← EReal.coe_sub, Ideal.exp_coe]⟩
      choose! r hr0 hr using hall
      refine ⟨∑ i ∈ s, r i, ?_, ?_⟩
      · obtain ⟨i, hi, e⟩ := hat
        refine Finset.sum_pos' hr0 ⟨i, hi, ?_⟩
        have := hr i hi
        rw [e, ← EReal.coe_sub, Ideal.exp_coe, EReal.coe_eq_coe_iff] at this
        rw [← this]; exact Real.exp_pos _
      · rw [Finset.sum_congr rfl hr]
        exact (map_sum (⟨⟨fun x : ℝ => (x : EReal), EReal.coe_zero⟩, EReal.coe_add⟩ : ℝ →+ EReal) r s).symm
    obtain ⟨S, hS, e⟩ := hr
    rw [e, ← EReal.coe_sub, Ideal.exp_coe, ← EReal.coe_mul, Ideal.log_coe, Ideal.log_coe, if_neg (by have := mul_pos hS (Real.exp_pos (t - b)); linarith), if_neg (by linarith),
      Real.log_mul hS.ne' (Real.exp_pos _).ne', Real.log_exp, ← EReal.coe_add, ← EReal.coe_add]
    congr 1; ring

/-- A running maximum `m` and a running sum `s` of the numbers `z` below `k`, the maximum starting at `b`. -/
structure Online (b : EReal) (z : ℕ → EReal) (k : ℕ) (m s : EReal) : Prop where
  base : b ≤ m
  up : ∀ g < k, z g ≤ m
  least : ∀ u, b ≤ u → (∀ g < k, z g ≤ u) → m ≤ u
  sum : s = ∑ g ∈ Finset.range k, Ideal.exp (z g - m)

theorem Online.zero (b : EReal) (z : ℕ → EReal) : Online b z 0 b 0 := ⟨le_rfl, by simp, fun u h _ => h, by simp⟩

/-- Two more numbers. -/
theorem Online.step2 {b : EReal} {z : ℕ → EReal} {k : ℕ} {m s : EReal} (h : Online b z k m s) (hb : b ≠ ⊥) :
    Online b z (k + 2) (max (max m (z k)) (z (k + 1)))
      (s * Ideal.exp (m - max (max m (z k)) (z (k + 1))) + Ideal.exp (z k - max (max m (z k)) (z (k + 1))) + Ideal.exp (z (k + 1) - max (max m (z k)) (z (k + 1)))) := by
  have hm : m ≤ max (max m (z k)) (z (k + 1)) := (le_max_left _ _).trans (le_max_left _ _)
  refine ⟨h.base.trans hm, fun g hg => ?_, fun u hu hz => ?_, ?_⟩
  · rcases Nat.lt_or_ge g k with hk | hk
    · exact (h.up g hk).trans hm
    · rcases (show g = k ∨ g = k + 1 by omega) with rfl | rfl
      · exact (le_max_right _ _).trans (le_max_left _ _)
      · exact le_max_right _ _
  · exact max_le (max_le (h.least u hu fun g hg => hz g (by omega)) (hz k (by omega))) (hz (k + 1) (by omega))
  · rw [Finset.sum_range_succ, Finset.sum_range_succ, h.sum,
      sum_rescale _ _ _ _ (fun i hi => h.up i (Finset.mem_range.1 hi)) hm (fun e => hb (le_bot_iff.1 (e ▸ h.base)))]

/-- The lanes put together: their maxima's maximum, and their sums rescaled to it. -/
theorem lanes {ι : Type*} [Fintype ι] [Nonempty ι] (b : ℝ) (k : ℕ) (hk : 0 < k) (z : ι → ℕ → EReal) (m s : ι → EReal) (h : ∀ l, Online b (z l) k (m l) (s l)) (M t : EReal)
    (hM : ∀ l, m l ≤ M) (hM' : ∀ u, (∀ l, m l ≤ u) → M ≤ u)
    (ht : ∀ l, ∀ g < k, z l g ≤ t) (hat : ∃ l, ∃ g < k, z l g = t) :
    M + Ideal.log (∑ l, s l * Ideal.exp (m l - M)) = Ideal.log (∑ l, ∑ g ∈ Finset.range k, Ideal.exp (z l g - t)) + t := by
  have e : ∑ l, s l * Ideal.exp (m l - M) = ∑ p ∈ (Finset.univ : Finset ι) ×ˢ Finset.range k, Ideal.exp (z p.1 p.2 - M) := by
    rw [Finset.sum_product]
    refine Finset.sum_congr rfl fun l _ => ?_
    rw [(h l).sum, sum_rescale _ _ _ _ (fun i hi => (h l).up i (Finset.mem_range.1 hi)) (hM l) fun e => by
      have := (h l).base; rw [e] at this; simp at this]
  rw [e, ← Finset.sum_product (f := fun p : ι × ℕ => Ideal.exp (z p.1 p.2 - t))]
  refine lse_base _ (fun p : ι × ℕ => z p.1 p.2) t M (fun p hp => ht p.1 p.2 (Finset.mem_range.1 (Finset.mem_product.1 hp).2)) ?_ b ?_
  · obtain ⟨l, g, hg, e⟩ := hat
    exact ⟨(l, g), Finset.mem_product.2 ⟨Finset.mem_univ _, Finset.mem_range.2 hg⟩, e⟩
  · refine le_antisymm (hM' _ fun l => (h l).least _ (le_max_left _ _) fun g hg => (ht l g hg).trans (le_max_right _ _)) (max_le ?_ ?_)
    · exact ((h (Classical.arbitrary ι)).base).trans (hM _)
    · obtain ⟨l, g, hg, e⟩ := hat
      exact e ▸ ((h l).up g hg).trans (hM l)

/-- A sum over `n` blocks of `m`. -/
theorem sum_blocks (m : ℕ) (f : ℕ → EReal) : ∀ n, ∑ p ∈ Finset.range (m * n), f p = ∑ R ∈ Finset.range n, ∑ x ∈ Finset.range m, f (m * R + x)
  | 0 => by simp
  | n + 1 => by rw [Nat.mul_succ, Finset.sum_range_add, sum_blocks m f n, Finset.sum_range_succ]

/-! ## The logit -/

/-- A logit from the product, the two scales, the count and the penalties. -/
def lgt (acc xs ws c pres freq rep : EReal) : EReal :=
  (if 0 < c then (if 0 < acc * xs * ws then Ideal.div (acc * xs * ws) rep else acc * xs * ws * rep) else acc * xs * ws) - c * freq - (if 0 < c then pres else 0)

end Cert.Hand

end
-- ==== Proof.VRef.lean ====
module

public import proofs.«01_k».proof.Proof.Gen.ReferenceIdeal.Run
public import proofs.«01_k».proof.Proof.VMath
public import Idealize.ShloMosaic.Lib.Pointwise
public import Idealize.ShloMosaic.Lib.ReduceAll
public import Idealize.ShloMosaic.Lib.Routing.OpsPair
public import Idealize.ShloMosaic.PureOps.Ideal.Laws

/-!
  The reference over the extended reals, read at an index: its counts, its logits, and the logarithm of the sum of their exponentials.
-/

@[expose] public section

set_option maxRecDepth 16384

noncomputable section

namespace Cert.ReferenceIdeal.Value

open Cert.ReferenceIdeal Cert.ReferenceIdeal.Gen Cert.Hand Idealize.ShloMosaic Idealize.ShloMosaic.TcCoe Idealize.ShloMosaic.StableHlo

/-- The scaled product, element by element. -/
theorem v6_core (a : FVec Ideal S16x32000 .f32) (b : FVec Ideal S16 .f32) (d : FVec Ideal S32000 .f32) (r : Fin 16) (n : Fin 32000) :
    mulf (mulf a (broadcastInDim S16x32000 ![0, 1] bcast_S16x1_S16x32000_0_1 (broadcastInDim S16x1 ![0] bcast_S16_S16x1_0 b))) (broadcastInDim S16x32000 ![0, 1] bcast_S1x32000_S16x32000_0_1 (broadcastInDim S1x32000 ![1] bcast_S32000_S1x32000_1 d)) (ix2 (n0 := 16) (n1 := 32000) r n)
      = a (ix2 (n0 := 16) (n1 := 32000) r n) * b (ix1 r) * d (ix1 n) := by
  pointwise

/-- The formula of a logit with its selects written on bits, the presence penalty multiplied by the bit. -/
theorem lgt_bits (z c pres freq rep : EReal) (acc xs ws : EReal) (hz : acc * xs * ws = z) :
    Scalar.select (Ideal.cmp .ogt c 0) (Scalar.select (Ideal.cmp .ogt z 0) (Ideal.div z rep) (z * rep)) z - c * freq - (((Ideal.cmp .ogt c 0).toNat : ℝ) : EReal) * pres
      = lgt acc xs ws c pres freq rep := by
  subst hz
  unfold lgt
  simp only [Ideal.cmp, Scalar.select]
  by_cases h : 0 < c <;> by_cases h' : 0 < acc * xs * ws <;> simp [h, h']

/-- A vector over the requests, broadcast over the vocabulary. -/
theorem bcRow (b : FVec Ideal S16 .f32) (r : Fin 16) (n : Fin 32000) :
    broadcastInDim S16x32000 ![0, 1] bcast_S16x1_S16x32000_0_1 (broadcastInDim S16x1 ![0] bcast_S16_S16x1_0 b) (ix2 (n0 := 16) (n1 := 32000) r n) = b (ix1 r) := by
  pointwise

theorem zeros_at (r : Fin 16) (n : Fin 32000) :
    broadcastInDim S16x32000 ![] bcast_S_S16x32000 (constant (F := Ideal) S_ .f32 0x00000000#32) (ix2 (n0 := 16) (n1 := 32000) r n) = 0 := by
  pointwise

/-- The penalised logit, element by element. -/
theorem v50_core (z y : FVec Ideal S16x32000 .f32) (a b d : FVec Ideal S16 .f32) (acc xs ws : EReal) (r : Fin 16) (n : Fin 32000) (hz : acc * xs * ws = z (ix2 (n0 := 16) (n1 := 32000) r n)) :
    subf (subf (select (cmpf .ogt y (broadcastInDim S16x32000 ![] bcast_S_S16x32000 (constant S_ .f32 0x00000000#32))) (select (cmpf .ogt z (broadcastInDim S16x32000 ![] bcast_S_S16x32000 (constant S_ .f32 0x00000000#32))) (Host.divf z (broadcastInDim S16x32000 ![0, 1] bcast_S16x1_S16x32000_0_1 (broadcastInDim S16x1 ![0] bcast_S16_S16x1_0 d))) (mulf z (broadcastInDim S16x32000 ![0, 1] bcast_S16x1_S16x32000_0_1 (broadcastInDim S16x1 ![0] bcast_S16_S16x1_0 d)))) z) (mulf y (broadcastInDim S16x32000 ![0, 1] bcast_S16x1_S16x32000_0_1 (broadcastInDim S16x1 ![0] bcast_S16_S16x1_0 b)))) (mulf (uitofp .f32 (cmpf .ogt y (broadcastInDim S16x32000 ![] bcast_S_S16x32000 (constant S_ .f32 0x00000000#32)))) (broadcastInDim S16x32000 ![0, 1] bcast_S16x1_S16x32000_0_1 (broadcastInDim S16x1 ![0] bcast_S16_S16x1_0 a))) (ix2 (n0 := 16) (n1 := 32000) r n)
      = lgt acc xs ws (y (ix2 (n0 := 16) (n1 := 32000) r n)) (a (ix1 r)) (b (ix1 r)) (d (ix1 r)) := by
  rw [← lgt_bits _ _ _ _ _ _ _ _ hz, ← bcRow a r n, ← bcRow b r n, ← bcRow d r n, ← zeros_at r n]
  generalize broadcastInDim S16x32000 ![0, 1] bcast_S16x1_S16x32000_0_1 (broadcastInDim S16x1 ![0] bcast_S16_S16x1_0 d) = d'
  generalize broadcastInDim S16x32000 ![0, 1] bcast_S16x1_S16x32000_0_1 (broadcastInDim S16x1 ![0] bcast_S16_S16x1_0 a) = a'
  generalize broadcastInDim S16x32000 ![0, 1] bcast_S16x1_S16x32000_0_1 (broadcastInDim S16x1 ![0] bcast_S16_S16x1_0 b) = b'
  generalize broadcastInDim S16x32000 ![] bcast_S_S16x32000 (constant (F := Ideal) S_ .f32 0x00000000#32) = k
  generalize (ix2 (n0 := 16) (n1 := 32000) r n) = j
  rfl

end Cert.ReferenceIdeal.Value

end
-- ==== Proof.VSeg.lean ====
module

public import proofs.«01_k».proof.Proof.Gen.ReferenceIdeal.Run
public import proofs.«01_k».proof.Proof.VMath
public import Idealize.ShloMosaic.Lib.Pointwise
public import Idealize.ShloMosaic.Lib.ReduceAll
public import Idealize.ShloMosaic.Lib.Routing.OpsPair
public import Idealize.ShloMosaic.PureOps.Ideal.Laws

/-!
  The reference over the extended reals, read at an index: its counts, its logits, and the logarithm of the sum of their exponentials.
-/

@[expose] public section

set_option maxRecDepth 16384

noncomputable section

namespace Cert.ReferenceIdeal.Value

open Cert.ReferenceIdeal Cert.ReferenceIdeal.Gen Cert.Hand Idealize.ShloMosaic Idealize.ShloMosaic.TcCoe Idealize.ShloMosaic.StableHlo

theorem fold_addi {ι : Type} (s : Finset ι) (f : ι → ℕ) :
    Finset.fold IntOp.addi (0#32) (fun x => BitVec.ofNat 32 (f x)) s = BitVec.ofNat 32 (∑ x ∈ s, f x) := by
  classical
  induction s using Finset.induction_on with
  | empty => rfl
  | insert a s ha ih =>
    rw [Finset.fold_insert ha, ih, Finset.sum_insert ha]
    exact (BitVec.ofNat_add _ _ ).symm

/-- How many of the offsets are at most `p`. -/
def cntLe (off : S17.Idx → BitVec 32) (p : ℕ) : ℕ := (Finset.univ.filter fun b : Fin 17 => (off (ix1 b)).toNat ≤ p).card

theorem toNat_of_nonneg (v : BitVec 32) (h : 0 ≤ v.toInt) : v.toInt = v.toNat ∧ v.toNat < 2 ^ 31 := by
  rw [BitVec.toInt_eq_toNat_cond] at h ⊢
  have := v.isLt
  split at h
  · next q => rw [if_pos q]; exact ⟨rfl, by omega⟩
  · omega

theorem toInt_small (c : ℕ) (hc : c < 2 ^ 31) : (BitVec.ofNat 32 c).toInt = c := by
  rw [BitVec.toInt_eq_toNat_cond, BitVec.toNat_ofNat, Nat.mod_eq_of_lt (by omega), if_pos (by omega)]

theorem sle_word (v : BitVec 32) (h : 0 ≤ v.toInt) (p : ℕ) (hp : p < 2 ^ 31) :
    BitVec.setWidth 32 (IntOp.cmpi .sle v (BitVec.ofNat 32 p)) = BitVec.ofNat 32 (if v.toNat ≤ p then 1 else 0) := by
  show BitVec.setWidth 32 (BitVec.ofBool (v.sle (BitVec.ofNat 32 p))) = _
  rw [BitVec.sle_eq_decide, toInt_small p hp, (toNat_of_nonneg v h).1]
  by_cases q : v.toNat ≤ p
  · rw [if_pos q, decide_eq_true (by exact_mod_cast q)]; rfl
  · rw [if_neg q, decide_eq_false (by exact_mod_cast q)]; rfl

/-- A position's segment is the number of offsets at or below it, less one. -/
theorem v10_core (a : IVec S17 32) (ha : ∀ b : Fin 17, 0 ≤ (a (ix1 b)).toInt) (p : Fin 16384) :
    subi (Host.reduce IntOp.addi (extui 32 (cmpi .sle (broadcastInDim S17x16384 ![0, 1] bcast_S17x1_S17x16384_0_1 (broadcastInDim S17x1 ![0] bcast_S17_S17x1_0 a)) (broadcastInDim S17x16384 ![0, 1] bcast_S1x16384_S17x16384_0_1 (broadcastInDim S1x16384 ![1] bcast_S16384_S1x16384_1 (iotaInDim S16384 32 0)))) natLt_1_32) (constantI S_ 32 0#32) reducesTo_S17x16384_S16384_d0 h_S_) (broadcastInDim S16384 ![] bcast_S_S16384 (constantI S_ 32 1#32)) (ix1 p)
      = BitVec.ofNat 32 (cntLe a p.val) - 1#32 := by
  pointwise
  have hp := p.isLt
  simp only [sle_word _ (ha _) p.val (by omega)]
  rw [fold_addi, ← Finset.card_filter]
  rfl

/-- With offsets that start at zero and do not decrease, `r + 1` of them are at most `p` exactly when `p` is request `r`'s. -/
theorem cntLe_eq (a : IVec S17 32) (h0 : (a (ix1 0)).toNat = 0) (hm : ∀ b c : Fin 17, b ≤ c → (a (ix1 b)).toNat ≤ (a (ix1 c)).toNat) (p : ℕ) (r : Fin 16) :
    cntLe a p = r.val + 1 ↔ (a (ix1 r.castSucc)).toNat ≤ p ∧ p < (a (ix1 r.succ)).toNat := by
  have hr := r.isLt
  unfold cntLe
  have cI : ∀ b : Fin 17, (Finset.univ.filter fun c : Fin 17 => c ≤ b).card = b.val + 1 := by decide
  have cL : ∀ b : Fin 17, (Finset.univ.filter fun c : Fin 17 => c < b).card = b.val := by decide
  constructor
  · intro h
    constructor
    · by_contra hn
      have hs : (Finset.univ.filter fun b : Fin 17 => (a (ix1 b)).toNat ≤ p) ⊆ Finset.univ.filter fun c : Fin 17 => c < r.castSucc := by
        intro b hb
        rw [Finset.mem_filter] at hb ⊢
        refine ⟨Finset.mem_univ _, ?_⟩
        by_contra q
        have := hm _ _ (not_lt.1 q)
        have := hb.2
        omega
      have := Finset.card_le_card hs
      rw [h, cL] at this
      simp at this
    · by_contra hn
      have hs : (Finset.univ.filter fun c : Fin 17 => c ≤ r.succ) ⊆ (Finset.univ.filter fun b : Fin 17 => (a (ix1 b)).toNat ≤ p) := by
        intro b hb
        rw [Finset.mem_filter] at hb ⊢
        refine ⟨Finset.mem_univ _, ?_⟩
        have := hm _ _ hb.2
        omega
      have := Finset.card_le_card hs
      rw [h, cI] at this
      simp at this
  · rintro ⟨h1, h2⟩
    have : (Finset.univ.filter fun b : Fin 17 => (a (ix1 b)).toNat ≤ p) = Finset.univ.filter fun c : Fin 17 => c ≤ r.castSucc := by
      ext b
      rw [Finset.mem_filter, Finset.mem_filter]
      refine and_congr_right fun _ => ⟨fun hb => ?_, fun hb => (hm _ _ hb).trans h1⟩
      by_contra q
      have q' : r.succ ≤ b := by
        have := not_le.1 q
        rw [Fin.lt_def] at this
        rw [Fin.le_def]
        simp at this ⊢
        omega
      have := hm _ _ q'
      omega
    rw [this, cI]
    rfl

/-- At least one offset, and at most all, lie at or below a position. -/
theorem cntLe_pos (a : IVec S17 32) (h0 : (a (ix1 0)).toNat = 0) (p : ℕ) : 1 ≤ cntLe a p ∧ cntLe a p ≤ 17 := by
  unfold cntLe
  exact ⟨Finset.card_pos.2 ⟨0, Finset.mem_filter.2 ⟨Finset.mem_univ _, by omega⟩⟩, (Finset.card_le_univ _).trans (by simp)⟩

/-- Where an update of the counts lands: at the request and the id its two index words name. -/
theorem lands (idx : IVec S16384x2 32) (p : Fin 16384) (r : Fin 16) (n : Fin 32000) :
    scatter_S16x32000_S16384x2_S16384_n_01_01_1.resultIdx? (ix1 p) idx = some (ix2 (n0 := 16) (n1 := 32000) r n)
      ↔ (idx (ix2 (n0 := 16384) (n1 := 2) p 0)).toInt = r.val ∧ (idx (ix2 (n0 := 16384) (n1 := 2) p 1)).toInt = n.val := by
  have hsi : ∀ q : Fin 2, scatter_S16x32000_S16384x2_S16384_n_01_01_1.start (ix1 p) idx q = (idx (ix2 (n0 := 16384) (n1 := 2) p q)).toInt := by
    intro q
    unfold ScatterDims.start
    have hm : q ∈ scatter_S16x32000_S16384x2_S16384_n_01_01_1.scatterDimsToOperandDims := (by decide : ∀ q : Fin 2, q ∈ [0, 1]) q
    rw [dif_pos hm]
    refine congrArg (fun j => (idx j).toInt) (funext fun b => Fin.ext ?_)
    match b with
    | ⟨0, _⟩ => rfl
    | ⟨1, _⟩ =>
      match q with
      | ⟨0, _⟩ => rfl
      | ⟨1, _⟩ => rfl
  have hw : ∀ q : Fin 2, scatter_S16x32000_S16384x2_S16384_n_01_01_1.window (ix1 p) q = 0 := by
    intro q
    unfold ScatterDims.window
    exact dif_neg ((by decide : ∀ q : Fin 2, q ∉ ([] : List (Fin 2))) q)
  refine (Routing.resultIdx?_ix2 _ _ idx r n).trans ?_
  rw [hsi, hsi, hw, hw]
  simp

end Cert.ReferenceIdeal.Value

end
-- ==== Proof.VCnt.lean ====
module

public import proofs.«01_k».proof.Proof.Gen.ReferenceIdeal.Run
public import proofs.«01_k».proof.Proof.VMath
public import Idealize.ShloMosaic.Lib.Pointwise
public import Idealize.ShloMosaic.Lib.ReduceAll
public import Idealize.ShloMosaic.Lib.Routing.OpsPair
public import proofs.«01_k».proof.Proof.VSeg
public import Idealize.ShloMosaic.PureOps.Ideal.Laws

/-!
  The reference over the extended reals, read at an index: its counts, its logits, and the logarithm of the sum of their exponentials.
-/

@[expose] public section

set_option maxRecDepth 16384

noncomputable section

namespace Cert.ReferenceIdeal.Value

open Cert.ReferenceIdeal Cert.ReferenceIdeal.Gen Cert.Hand Idealize.ShloMosaic Idealize.ShloMosaic.TcCoe Idealize.ShloMosaic.StableHlo

theorem sum_ix1 (f : S16384.Idx → EReal) : ∑ j, f j = ∑ p : Fin 16384, f (ix1 p) := by
  refine (Fintype.sum_bijective (fun p : Fin 16384 => (ix1 p : S16384.Idx)) ⟨fun a b h => congrFun h 0, fun j => ⟨j 0, funext fun b => ?_⟩⟩ _ _ fun _ => rfl).symm
  obtain rfl : b = 0 := Subsingleton.elim _ _
  rfl

/-- An accumulating scatter read at one place: what was there and every update that lands there. -/
theorem scat_core (x : FVec Ideal S16x32000 .f32) (idx : IVec S16384x2 32) (upd : FVec Ideal S16384 .f32) (r : Fin 16) (n : Fin 32000) :
    Host.scatterAdd scatter_S16x32000_S16384x2_S16384_n_01_01_1 x idx upd (ix2 (n0 := 16) (n1 := 32000) r n)
      = x (ix2 (n0 := 16) (n1 := 32000) r n) + ∑ p : Fin 16384, if (idx (ix2 (n0 := 16384) (n1 := 2) p 0)).toInt = r.val ∧ (idx (ix2 (n0 := 16384) (n1 := 2) p 1)).toInt = n.val then upd (ix1 p) else 0 := by
  show x _ + ∑ j ∈ Finset.univ.filter (fun j => scatter_S16x32000_S16384x2_S16384_n_01_01_1.resultIdx? j idx = some (ix2 (n0 := 16) (n1 := 32000) r n)), upd j = _
  rw [Finset.sum_filter, sum_ix1]
  refine congrArg (x (ix2 (n0 := 16) (n1 := 32000) r n) + ·) (Finset.sum_congr rfl fun p _ => ?_)
  simp only [lands]

theorem idx_pair (a b : IVec S16384 32) (p : Fin 16384) :
    concatenate S16384x2 1 [⟨S16384x1, broadcastInDim S16384x1 ![0] bcast_S16384_S16384x1_0 a⟩, ⟨S16384x1, broadcastInDim S16384x1 ![0] bcast_S16384_S16384x1_0 b⟩] concatenates_S16384x1_S16384x1_S16384x2_d1 (ix2 (n0 := 16384) (n1 := 2) p 0) = a (ix1 p)
    ∧ concatenate S16384x2 1 [⟨S16384x1, broadcastInDim S16384x1 ![0] bcast_S16384_S16384x1_0 a⟩, ⟨S16384x1, broadcastInDim S16384x1 ![0] bcast_S16384_S16384x1_0 b⟩] concatenates_S16384x1_S16384x1_S16384x2_d1 (ix2 (n0 := 16384) (n1 := 2) p 1) = b (ix1 p) := by
  constructor <;> pointwise

theorem wrap_core (a b : IVec S16384 32) (p : Fin 16384) (h : 0 ≤ (a (ix1 p)).toInt) :
    select (cmpi .slt a (broadcastInDim S16384 ![] bcast_S_S16384 (constantI S_ 32 0#32))) b a (ix1 p) = a (ix1 p) := by
  pointwise
  exact Routing.wrap_of_lt _ _ (toNat_of_nonneg _ h).2

theorem min15 : ∀ k : Fin 17, IntOp.minsi (BitVec.ofNat 32 k.val) 15#32 = BitVec.ofNat 32 (min k.val 15) := by decide

theorem lt16 : ∀ k : Fin 17, IntOp.cmpi .slt (BitVec.ofNat 32 k.val) 16#32 = if k.val < 16 then 1#1 else 0#1 := by decide

theorem min_core (a : IVec S16384 32) (p : Fin 16384) :
    minsi a (broadcastInDim S16384 ![] bcast_S_S16384 (constantI S_ 32 15#32)) (ix1 p) = IntOp.minsi (a (ix1 p)) 15#32 := by
  pointwise

theorem upd_core (a : IVec S16384 32) (p : Fin 16384) :
    uitofp (F := Ideal) .f32 (cmpi .slt a (broadcastInDim S16384 ![] bcast_S_S16384 (constantI S_ 32 16#32))) (ix1 p) = (((IntOp.cmpi .slt (a (ix1 p)) 16#32).toNat : ℝ) : EReal) := rfl

theorem pick_seg (k r : ℕ) (hr : r < 16) (P : Prop) [Decidable P] :
    (if min k 15 = r ∧ P then ((((if k < 16 then 1#1 else 0#1 : BitVec 1).toNat : ℝ)) : EReal) else 0) = if k = r ∧ P then 1 else 0 := by
  by_cases h1 : k = r
  · subst h1
    have e : min k 15 = k := by omega
    by_cases hP : P <;> simp [e, hP, hr]
  · by_cases h3 : k < 16
    · have e : ¬ min k 15 = r := by omega
      simp [e, h1]
    · simp [h1, h3]

/-- The counts, with the segment of each position given. -/
theorem v30_core (v10 ids : IVec S16384 32) (k : Fin 16384 → Fin 17) (hv : ∀ p, v10 (ix1 p) = BitVec.ofNat 32 (k p).val) (hids : ∀ p : Fin 16384, 0 ≤ (ids (ix1 p)).toInt) (r : Fin 16) (n : Fin 32000) :
    Host.scatterAdd (F := Ideal) (φ := .f32) scatter_S16x32000_S16384x2_S16384_n_01_01_1 (broadcastInDim S16x32000 ![] bcast_S_S16x32000 (constant S_ .f32 0x00000000#32)) (concatenate S16384x2 1 [⟨S16384x1, (broadcastInDim S16384x1 ![0] bcast_S16384_S16384x1_0 (select (cmpi .slt (minsi v10 (broadcastInDim S16384 ![] bcast_S_S16384 (constantI S_ 32 15#32))) (broadcastInDim S16384 ![] bcast_S_S16384 (constantI S_ 32 0#32))) (addi (minsi v10 (broadcastInDim S16384 ![] bcast_S_S16384 (constantI S_ 32 15#32))) (broadcastInDim S16384 ![] bcast_S_S16384 (constantI S_ 32 16#32))) (minsi v10 (broadcastInDim S16384 ![] bcast_S_S16384 (constantI S_ 32 15#32)))))⟩, ⟨S16384x1, (broadcastInDim S16384x1 ![0] bcast_S16384_S16384x1_0 (select (cmpi .slt ids (broadcastInDim S16384 ![] bcast_S_S16384 (constantI S_ 32 0#32))) (addi ids (broadcastInDim S16384 ![] bcast_S_S16384 (constantI S_ 32 32000#32))) ids))⟩] concatenates_S16384x1_S16384x1_S16384x2_d1) (uitofp .f32 (cmpi .slt v10 (broadcastInDim S16384 ![] bcast_S_S16384 (constantI S_ 32 16#32)))) (ix2 (n0 := 16) (n1 := 32000) r n)
      = ∑ p : Fin 16384, if (k p).val = r.val ∧ ids (ix1 p) = BitVec.ofNat 32 n.val then 1 else 0 := by
  have hz : (broadcastInDim S16x32000 ![] bcast_S_S16x32000 (constant (F := Ideal) S_ .f32 0x00000000#32) (ix2 (n0 := 16) (n1 := 32000) r n) : EReal) = 0 := by
    pointwise
  rw [scat_core, hz, zero_add]
  refine Finset.sum_congr rfl fun p _ => ?_
  have em : minsi v10 (broadcastInDim S16384 ![] bcast_S_S16384 (constantI S_ 32 15#32)) (ix1 p) = BitVec.ofNat 32 (min (k p).val 15) := by
    rw [min_core, hv, min15]
  rw [(idx_pair _ _ p).1, (idx_pair _ _ p).2, wrap_core _ _ p (by rw [em, toInt_small _ (by omega)]; omega), wrap_core _ _ p (hids p), em, toInt_small _ (by omega), upd_core, hv, lt16,
    (toNat_of_nonneg _ (hids p)).1]
  have hn := n.isLt
  have hr := r.isLt
  have hk := (k p).isLt
  have e2 : (((ids (ix1 p)).toNat : ℤ) = (n.val : ℤ)) ↔ ids (ix1 p) = BitVec.ofNat 32 n.val := by
    constructor
    · intro h
      apply BitVec.eq_of_toNat_eq
      rw [BitVec.toNat_ofNat, Nat.mod_eq_of_lt (by omega)]
      exact_mod_cast h
    · intro h
      rw [h, BitVec.toNat_ofNat, Nat.mod_eq_of_lt (by omega)]
  simp only [e2, Nat.cast_inj]
  exact pick_seg _ _ hr _

end Cert.ReferenceIdeal.Value

end
-- ==== Proof.VLse.lean ====
module

public import proofs.«01_k».proof.Proof.Gen.ReferenceIdeal.Run
public import proofs.«01_k».proof.Proof.VMath
public import Idealize.ShloMosaic.Lib.Pointwise
public import Idealize.ShloMosaic.Lib.ReduceAll
public import Idealize.ShloMosaic.Lib.Routing.OpsPair
public import Idealize.ShloMosaic.PureOps.Ideal.Laws

/-!
  The reference over the extended reals, read at an index: its counts, its logits, and the logarithm of the sum of their exponentials.
-/

@[expose] public section

set_option maxRecDepth 16384

noncomputable section

namespace Cert.ReferenceIdeal.Value

open Cert.ReferenceIdeal Cert.ReferenceIdeal.Gen Cert.Hand Idealize.ShloMosaic Idealize.ShloMosaic.TcCoe Idealize.ShloMosaic.StableHlo

theorem toInt_ofNat (c : ℕ) (hc : c < 2 ^ 31) : (BitVec.ofNat 32 c).toInt = c := by
  rw [BitVec.toInt_eq_toNat_cond, BitVec.toNat_ofNat, Nat.mod_eq_of_lt (by omega), if_pos (by omega)]

theorem redm_core {α : Type} (f : α → α → α) [Std.Commutative f] [Std.Associative f] (a : S16x32000.Idx → α) (init : S_.Idx → α) (r : Fin 16) :
    Host.reduce f a init reducesTo_S16x32000_S16_d1 h_S_ (ix1 r)
      = (Finset.univ : Finset (Fin 32000)).fold f (init (Shape.Idx.first h_S_)) (fun n => a (ix2 (n0 := 16) (n1 := 32000) r n)) := by
  have h : S16x32000.Reduces [1] S16 := by decide
  have e : ∀ l : Fin 32000, a (h.lift (ix1 r) l) = a (ix2 (n0 := 16) (n1 := 32000) r l) := by
    intro l
    refine congrArg a (funext fun b => Fin.ext ?_)
    match b with
    | ⟨0, _⟩ => rfl
    | ⟨1, _⟩ => rfl
  rw [Host.reduce_eq_fold_single f a init reducesTo_S16x32000_S16_d1 h h_S_ (ix1 r)]
  exact Finset.fold_congr fun l _ => e l

theorem bot_at : (constant (F := Ideal) S_ .f32 0xFF800000#32 (Shape.Idx.first h_S_) : EReal) = ⊥ := by
  show Ideal.ofBits .f32 0xFF800000#32 = ⊥
  simp [Ideal.ofBits, Ideal.ieee]

/-- A row's maximum. -/
theorem redm (a : FVec Ideal S16x32000 .f32) (r : Fin 16) :
    Host.reduce FloatOps.maximumf a (constant S_ .f32 0xFF800000#32) reducesTo_S16x32000_S16_d1 h_S_ (ix1 r)
      = (Finset.univ : Finset (Fin 32000)).fold max ⊥ (fun n => a (ix2 (n0 := 16) (n1 := 32000) r n)) := by
  have := redm_core (max : EReal → EReal → EReal) a (constant (F := Ideal) S_ .f32 0xFF800000#32) r
  rw [bot_at] at this
  exact this

/-- The log-sum-exp of a row, from its maximum and its logits. -/
theorem lse_core (z : FVec Ideal S16x32000 .f32) (v : FVec Ideal S16 .f32) (r : Fin 16) :
    addf v (Host.log (Host.reduceAdd (Host.exp (subf z (broadcastInDim S16x32000 ![0, 1] bcast_S16x1_S16x32000_0_1 (broadcastInDim S16x1 ![0] bcast_S16_S16x1_0 v)))) (constant S_ .f32 0x00000000#32) reducesTo_S16x32000_S16_d1 h_S_)) (ix1 r)
      = v (ix1 r) + Ideal.log (∑ n : Fin 32000, Ideal.exp (z (ix2 (n0 := 16) (n1 := 32000) r n) - v (ix1 r))) := by
  pointwise

/-- A vector over the requests, broadcast over the candidates. -/
theorem bcRow20 (v : FVec Ideal S16 .f32) (r : Fin 16) (q : Fin 20) :
    broadcastInDim S16x20 ![0, 1] bcast_S16x1_S16x20_0_1 (broadcastInDim S16x1 ![0] bcast_S16_S16x1_0 v) (ix2 (n0 := 16) (n1 := 20) r q) = v (ix1 r) := by
  pointwise

/-- A candidate's index, where it is a word of the vocabulary, is left as it is. -/
theorem idx_core (x : IVec S16x20 32) (r : Fin 16) (q : Fin 20) (c : ℕ) (hc : c < 32000) (h : x (ix2 (n0 := 16) (n1 := 20) r q) = BitVec.ofNat 32 c) :
    shapeCast S16x20x1 (select (cmpi .slt x (broadcastInDim S16x20 ![] bcast_S_S16x20 (constantI S_ 32 0#32))) (addi x (broadcastInDim S16x20 ![] bcast_S_S16x20 (constantI S_ 32 32000#32))) x) shapeCasts_S16x20_S16x20x1 (ix3 (n0 := 16) (n1 := 20) (n2 := 1) r q 0)
      = BitVec.ofNat 32 c := by
  pointwise
  rw [h]
  exact Routing.wrap_of_lt _ _ (by rw [BitVec.toNat_ofNat]; omega)

/-- The mask is set where the candidate is a word of the vocabulary. -/
theorem mask_core (x : IVec S16x20x1 32) (r : Fin 16) (q : Fin 20) (c : ℕ) (hc : c < 32000) (h : x (ix3 (n0 := 16) (n1 := 20) (n2 := 1) r q 0) = BitVec.ofNat 32 c) :
    Host.reduce IntOp.andi (andi (cmpi .sge x (broadcastInDim S16x20x1 ![] bcast_S_S16x20x1 (constantI S_ 32 0#32))) (cmpi .sle x (broadcastInDim S16x20x1 ![0, 1, 2] bcast_S1x1x1_S16x20x1_0_1_2 (broadcastInDim S1x1x1 ![2] bcast_S1_S1x1x1_2 (constantI S1 32 31999#32))))) (constantI S_ 1 1#1) reducesTo_S16x20x1_S16x20_d2 h_S_ (ix2 (n0 := 16) (n1 := 20) r q) = 1#1 := by
  pointwise
  have e : ∀ k : Fin 1, k = 0 := fun k => Subsingleton.elim _ _
  have h1 : IntOp.cmpi .sge (BitVec.ofNat 32 c) 0#32 = 1#1 := by
    show BitVec.ofBool ((0#32).sle (BitVec.ofNat 32 c)) = 1#1
    rw [BitVec.sle_eq_decide, toInt_ofNat c (by omega), decide_eq_true (by simp)]; rfl
  have h2 : IntOp.cmpi .sle (BitVec.ofNat 32 c) 31999#32 = 1#1 := by
    show BitVec.ofBool ((BitVec.ofNat 32 c).sle 31999#32) = 1#1
    rw [BitVec.sle_eq_decide, toInt_ofNat c (by omega), decide_eq_true (by
      show (c : ℤ) ≤ (31999#32 : BitVec 32).toInt
      have : (31999#32 : BitVec 32).toInt = 31999 := by decide
      omega)]; rfl
  refine (Finset.fold_congr (g := fun _ : Fin 1 => (1#1 : BitVec 1)) fun k _ => ?_).trans rfl
  rw [e k, h, h1, h2]
  rfl

/-- The gather takes the row's logit at the candidate. -/
theorem gather_core (z : FVec Ideal S16x32000 .f32) (x : IVec S16x20x1 32) (r : Fin 16) (q : Fin 20) (c : ℕ) (hc : c < 32000) (h : x (ix3 (n0 := 16) (n1 := 20) (n2 := 1) r q 0) = BitVec.ofNat 32 c) :
    Host.gather gather_S16x32000_S16x20x1_S16x20_n_1_0_0_1_2_11 z x (ix2 (n0 := 16) (n1 := 20) r q) = z (ix2 (n0 := 16) (n1 := 32000) r ⟨c, hc⟩) := by
  unfold Host.gather
  refine congrArg z (funext fun a => Fin.ext ?_)
  show (gather_S16x32000_S16x20x1_S16x20_n_1_0_0_1_2_11.start (ix2 (n0 := 16) (n1 := 20) r q) x a + gather_S16x32000_S16x20x1_S16x20_n_1_0_0_1_2_11.batchCoord (ix2 (n0 := 16) (n1 := 20) r q) a
      + gather_S16x32000_S16x20x1_S16x20_n_1_0_0_1_2_11.offCoord (ix2 (n0 := 16) (n1 := 20) r q) a) = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S16x32000_S16x20x1_S16x20_n_1_0_0_1_2_11.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S16x32000_S16x20x1_S16x20_n_1_0_0_1_2_11.startIndexMap from List.mem_singleton.mpr rfl)]
    have hsi : gather_S16x32000_S16x20x1_S16x20_n_1_0_0_1_2_11.siIdx (ix2 (n0 := 16) (n1 := 20) r q) ⟨List.idxOf (1 : Fin 2) gather_S16x32000_S16x20x1_S16x20_n_1_0_0_1_2_11.startIndexMap,
        List.idxOf_lt_length_iff.2 (List.mem_singleton.mpr rfl)⟩ = ix3 (n0 := 16) (n1 := 20) (n2 := 1) r q 0 := by
      funext b; refine Fin.ext ?_
      match b with
      | ⟨0, _⟩ => rfl
      | ⟨1, _⟩ => rfl
      | ⟨2, _⟩ => rfl
    rw [hsi, h, toInt_ofNat c (by omega)]
    show min c 31999 = c
    omega

end Cert.ReferenceIdeal.Value

end
-- ==== Proof.VRunR.lean ====
module

public import proofs.«01_k».proof.Proof.Gen.ReferenceIdeal.Run
public import proofs.«01_k».proof.Proof.Gen.ReferenceIdeal.Frame
public import proofs.«01_k».proof.Proof.VRef
public import proofs.«01_k».proof.Proof.VSeg
public import proofs.«01_k».proof.Proof.VCnt
public import proofs.«01_k».proof.Proof.VLse
public import Idealize.ShloMosaic.Lib.Pipeline.Value

/-!
  The reference's three results over the extended reals, as the mathematics of its arguments.
-/

@[expose] public section

set_option maxRecDepth 16384

noncomputable section

namespace Cert.ReferenceIdeal.Value

open Cert.ReferenceIdeal Cert.ReferenceIdeal.Gen Cert.Hand
open Idealize.ShloMosaic Idealize.ShloMosaic.Tactic
open Idealize.ShloMosaic.TcCoe
open Idealize.SL.Sem

section
variable {F : FTy → Type} [FloatOps F]
variable (m : (ℓ : Loc nD τ sig) → Buf (Elt F) ℓ) (c : Dev nD)

/-- The product's window after its one step. -/
theorem out_eq (x0 : Vec F S16x12288 .fp8e4m3) (x1 : Vec F S12288x32000 .fp8e4m3) : out0_2 (F := F) x0 x1 = k0_pay1 x0 x1 := by
  have hz2 : (![0, 0] : Fin S16x32000.rank → Nat) = fun _ => 0 := funext fun a => by fin_cases a <;> rfl
  have hz0 : (![0, 0] : Fin S16x12288.rank → Nat) = fun _ => 0 := funext fun a => by fin_cases a <;> rfl
  have hz1 : (![0, 0] : Fin S12288x32000.rank → Nat) = fun _ => 0 := funext fun a => by fin_cases a <;> rfl
  unfold out0_2
  rw [View.canon_unit_zero hz2, View.ld_unit_zero hz0, View.ld_unit_zero hz1]

/-- The product's array holds the product of the two arguments as launched. -/
theorem dot_value : (dats (F := F) m 0 c).arrAt 2 cfg0.N = k0_pay1 (m ((c : Thread nD τ).loc main_arg0)) (m ((c : Thread nD τ).loc main_arg2)) := by
  have ho : ((cfg0.win 2).blk t0_0).view.read (Elt F) ((dats m 0 c).arrAt 2 cfg0.N) = (dats m 0 c).flushed 2 t0_0 := by
    rw [show cfg0.N = (t0_0 : Fin cfg0.N).val + 1 from rfl, (dats m 0 c).arrAt_succ 2 t0_0, flush0_2 t0_0, if_pos rfl]
    exact View.read_write_univ _ _
  have hz2 : (fun a => (win0_2.index t0_0) a * main_v0.ty.shape.size a) = fun _ => 0 := funext fun a => by fin_cases a <;> decide
  have hr2 := fun f => Memref.read_access_unit_zero (Elt F) main_v0 hz2 (fun a => by fin_cases a <;> decide) f
  have hz0 : (fun a => (win0_0.index t0_0) a * main_arg0.ty.shape.size a) = fun _ => 0 := funext fun a => by fin_cases a <;> decide
  have hr0 := fun f => Memref.read_access_unit_zero (Elt F) main_arg0 hz0 (fun a => by fin_cases a <;> decide) f
  have hz1 : (fun a => (win0_1.index t0_0) a * main_arg2.ty.shape.size a) = fun _ => 0 := funext fun a => by fin_cases a <;> decide
  have hr1 := fun f => Memref.read_access_unit_zero (Elt F) main_arg2 hz1 (fun a => by fin_cases a <;> decide) f
  refine ((hr2 _).symm.trans ho).trans ?_
  show (cfg0.win 2).cut _ ((dats (F := F) m 0 c).after 2 t0_0) = _
  rw [after0_2, out_eq]
  have e0 : iblk m c 0 t0_0 = m ((c : Thread nD τ).loc main_arg0) := hr0 _
  have e1 : iblk m c 1 t0_0 = m ((c : Thread nD τ).loc main_arg2) := hr1 _
  rw [e0, e1]
  rfl
end

/-- An element of the product is a sum of products. -/
theorem dot_at (X : FVec Ideal S16x12288 .fp8e4m3) (W : FVec Ideal S12288x32000 .fp8e4m3) (r : Fin 16) (n : Fin 32000) :
    k0_pay1 (F := Ideal) X W (ix2 (n0 := 16) (n1 := 32000) r n)
      = ∑ k : Fin 12288, X (ix2 (n0 := 16) (n1 := 12288) r k) * W (ix2 (n0 := 12288) (n1 := 32000) k n) := by
  simp only [k0_pay1]
  pointwise

end Cert.ReferenceIdeal.Value

end
-- ==== Proof.VPay.lean ====
module

public import proofs.«01_k».proof.Proof.IVals
public import proofs.«01_k».proof.Proof.VMath
public import Idealize.ShloMosaic.PureOps.Ideal.Laws

/-!
  The payloads of the column loop, read at an index over the extended reals.
-/

@[expose] public section

set_option maxRecDepth 16384

noncomputable section

namespace Cert.KernelIdeal.Hand

open Cert.KernelIdeal Cert.KernelIdeal.Gen Cert.Hand
open Idealize.ShloMosaic
open Idealize.ShloMosaic.TcCoe Idealize.ShloMosaic.Tactic

abbrev i16 (r : Fin 16) (l : Fin 128) : S16x128.Idx := ix2 (n0 := 16) (n1 := 128) r l

theorem ofBits_zero' : (Ideal.ofBits .f32 0x00000000#32 : EReal) = 0 := Ideal.ofBits_zero_f32

/-- The formula of a logit with its selects written on bits. -/
theorem lgt_bits (z c pres freq rep : EReal) (acc xs ws : EReal) (hz : acc * xs * ws = z) :
    Scalar.select (Ideal.cmp .ogt c 0) (Scalar.select (Ideal.cmp .ogt z 0) (Ideal.div z rep) (z * rep)) z - c * freq - Scalar.select (Ideal.cmp .ogt c 0) pres 0
      = lgt acc xs ws c pres freq rep := by
  subst hz
  unfold lgt
  simp only [Ideal.cmp, Scalar.select]
  by_cases h : 0 < c <;> by_cases h' : 0 < acc * xs * ws <;> simp [h, h']

theorem pay4_at (v151 v229 v307 rep d c : FVec Ideal S16x128 .f32) (w : FVec Ideal S1x128 .f32) (r : Fin 16) (l : Fin 128) :
    k0_pay4 v151 v229 v307 rep d w c (i16 r l)
      = lgt (d (i16 r l)) (v151 (i16 r l)) (w (ix2 (n0 := 1) (n1 := 128) 0 l)) (c (i16 r l)) (v229 (i16 r l)) (v307 (i16 r l)) (rep (i16 r l)) := by
  rw [← lgt_bits _ _ _ _ _ _ _ _ rfl]
  simp only [k0_pay4]
  pointwise

theorem pay9_at (v151 v229 v307 rep d c : FVec Ideal S16x128 .f32) (w : FVec Ideal S1x128 .f32) (r : Fin 16) (l : Fin 128) :
    k0_pay9 v229 v307 rep (k0_pay8 v151 d w) c (i16 r l)
      = lgt (d (i16 r l)) (v151 (i16 r l)) (w (ix2 (n0 := 1) (n1 := 128) 0 l)) (c (i16 r l)) (v229 (i16 r l)) (v307 (i16 r l)) (rep (i16 r l)) := by
  rw [← lgt_bits _ _ _ _ _ _ _ _ rfl]
  simp only [k0_pay9, k0_pay8]
  pointwise

theorem pay3_at (X : FVec Ideal S16x12288 .fp8e4m3) (W : FVec Ideal S1x12288x256 .fp8e4m3) (r : Fin 16) (n : Fin 256) :
    k0_pay3 (F := Ideal) (k0_pay2 (F := Ideal)) X W (ix2 (n0 := 16) (n1 := 256) r n)
      = ∑ k : Fin 12288, X (ix2 (n0 := 16) (n1 := 12288) r k) * W (ix3 (n0 := 1) (n1 := 12288) (n2 := 256) 0 k n) := by
  simp only [k0_pay3, k0_pay2]
  pointwise

theorem pay13_at (v229 v307 rep m s z mm y c : FVec Ideal S16x128 .f32) (j : S16x128.Idx) :
    k0_pay13 v229 v307 rep m s z mm y c j
      = s j * Ideal.exp (m j - max (mm j) (k0_pay9 v229 v307 rep y c j)) + Ideal.exp (z j - max (mm j) (k0_pay9 v229 v307 rep y c j)) := rfl

theorem pay12_at (v229 v307 rep mm y c : FVec Ideal S16x128 .f32) (j : S16x128.Idx) :
    k0_pay12 v229 v307 rep mm y c j = max (mm j) (k0_pay9 v229 v307 rep y c j) := rfl
theorem pay7_at (m z : FVec Ideal S16x128 .f32) (j : S16x128.Idx) : k0_pay7 m z j = max (m j) (z j) := rfl
theorem pay39_at (z m s : FVec Ideal S16x128 .f32) (j : S16x128.Idx) : k0_pay39 z m s j = s j + Ideal.exp (z j - m j) := rfl

/-- The lane word with its negative case wrapped, as the payload's two casts leave it. -/
theorem pick_idx (lo : IVec S16x128 32) (r : Fin 16) (q l : Fin 128) (hl : lo (i16 r q) = BitVec.ofNat 32 l.val) :
    shapeCast S16x128 (shapeCast S16x128x1 (select (cmpi .slt lo (broadcast S16x128 0#32)) (addi lo (broadcast S16x128 128#32)) lo) shapeCasts_S16x128_S16x128x1) shapeCasts_S16x128x1_S16x128 (i16 r q)
      = BitVec.ofNat 32 l.val := by
  have hlo : ∀ l : Fin 128, Scalar.select (IntOp.cmpi .slt (BitVec.ofNat 32 l.val) 0#32) (IntOp.addi (BitVec.ofNat 32 l.val) 128#32) (BitVec.ofNat 32 l.val) = BitVec.ofNat 32 l.val := by decide
  rw [shapeCast_shapeCast]
  show Scalar.select (IntOp.cmpi .slt (lo (i16 r q)) 0#32) (IntOp.addi (lo (i16 r q)) 128#32) (lo (i16 r q)) = _
  rw [hl, hlo]

theorem gather_at (z : FVec Ideal S16x128 .f32) (ix : IVec S16x128 32) (r : Fin 16) (q l : Fin 128) (h : ix (i16 r q) = BitVec.ofNat 32 l.val) :
    dynamicGather 1 z ix (i16 r q) = z (i16 r l) := by
  rw [dynamicGather_apply, h]
  refine congrArg z (funext fun b => Fin.ext ?_)
  match b with
  | ⟨0, _⟩ => rfl
  | ⟨1, _⟩ =>
    have := l.isLt
    show (BitVec.ofNat 32 l.val).toNat % 128 = l.val
    rw [BitVec.toNat_ofNat]; omega

theorem select_eq_at (hi : IVec S16x128 32) (w : BitVec 32) (a b : FVec Ideal S16x128 .f32) (j : S16x128.Idx) :
    select (cmpi .eq hi (broadcast S16x128 w)) a b j = if hi j = w then a j else b j := by
  show Scalar.select (BitVec.ofBool (hi j == w)) (a j) (b j) = _
  by_cases h : hi j = w
  · rw [if_pos h, h, beq_self_eq_true]; rfl
  · rw [if_neg h, beq_false_of_ne h]; rfl

theorem pay6_at (hi lo : IVec S16x128 32) (p z : FVec Ideal S16x128 .f32) (w : BitVec 32) (r : Fin 16) (q : Fin 128) (l : Fin 128) (hl : lo (i16 r q) = BitVec.ofNat 32 l.val) :
    k0_pay6 hi lo p w z (i16 r q) = if hi (i16 r q) = w then z (i16 r l) else p (i16 r q) :=
  (select_eq_at hi w _ p (i16 r q)).trans (by rw [gather_at z _ r q l (pick_idx lo r q l hl)])

theorem pay11_at (v229 v307 rep : FVec Ideal S16x128 .f32) (hi lo : IVec S16x128 32) (p y c : FVec Ideal S16x128 .f32) (w : BitVec 32) (r : Fin 16) (q : Fin 128) (l : Fin 128) (hl : lo (i16 r q) = BitVec.ofNat 32 l.val) :
    k0_pay11 v229 v307 rep hi lo p w y c (i16 r q) = if hi (i16 r q) = w then k0_pay9 v229 v307 rep y c (i16 r l) else p (i16 r q) :=
  (select_eq_at hi w _ p (i16 r q)).trans (by rw [gather_at _ _ r q l (pick_idx lo r q l hl)])

theorem pay33_at (cand : IVec S16x20 32) (r : Fin 16) (q : Fin 20) :
    k0_pay33 (F := Ideal) cand (i16 r ⟨q.val, by have := q.isLt; omega⟩) = cand (ix2 (n0 := 16) (n1 := 20) r q) := by
  simp only [k0_pay33]
  rw [concatenate_pair_apply]
  refine (dif_pos (show (i16 r ⟨q.val, by have := q.isLt; omega⟩ 1).val < 20 from q.isLt)).trans ?_
  refine congrArg cand (funext fun b => Fin.ext ?_)
  match b with
  | ⟨0, _⟩ => rfl
  | ⟨1, _⟩ => rfl

theorem reds (z : FVec Ideal S16x128 .f32) (r : Fin 16) :
    multiReduction .add [1] S16 z 0x00000000#32 reduces_S16x128_S16 (.inl rfl) rfl (ix1 r) = ∑ l : Fin 128, z (i16 r l) := by
  pointwise

theorem redm (z : FVec Ideal S16x128 .f32) (r : Fin 16) :
    multiReduction .maximumf [1] S16 z 0xFF800000#32 reduces_S16x128_S16 (.inl rfl) rfl (ix1 r)
      = (Finset.univ : Finset (Fin 128)).fold max ⊥ (fun l => z (i16 r l)) := by
  refine (Ideal.multiReduction_maximumf_single z 0xFF800000#32 reduces_S16x128_S16 (.inl rfl) rfl (ix1 r)).trans ?_
  have e : (FloatOps.ofBits (F := Ideal) .f32 0xFF800000#32 : EReal) = ⊥ := by
    show Ideal.ofBits .f32 0xFF800000#32 = ⊥
    simp [Ideal.ofBits, Ideal.ieee]
  rw [e]
  refine Finset.fold_congr fun l _ => congrArg z (funext fun b => Fin.ext ?_)
  match b with
  | ⟨0, _⟩ => rfl
  | ⟨1, _⟩ => rfl

/-- The start of the running maxima is a finite number. -/
theorem pay36_real : ∃ b : ℝ, ∀ j : S16x128.Idx, k0_pay36 (F := Ideal) j = (b : EReal) := by
  refine ⟨(Ideal.ofBits .f32 0xFF7FFFFF#32).toReal, fun j => (EReal.coe_toReal ?_ ?_).symm⟩
  · show ¬ Ideal.ofBits .f32 0xFF7FFFFF#32 = _; simp [Ideal.ofBits, Ideal.ieee, -EReal.coe_mul]
  · show ¬ Ideal.ofBits .f32 0xFF7FFFFF#32 = _; simp [Ideal.ofBits, Ideal.ieee, -EReal.coe_mul]

/-- The row's logarithm of the sum of exponentials from the lanes' maxima and sums. -/
theorem pay40_at (m s : FVec Ideal S16x128 .f32) (r : Fin 16) (M : EReal) (hM : (Finset.univ : Finset (Fin 128)).fold max ⊥ (fun l => m (i16 r l)) = M) :
    k0_pay40 m s (ix2 (n0 := 16) (n1 := 1) r 0) = M + Ideal.log (∑ l : Fin 128, s (i16 r l) * Ideal.exp (m (i16 r l) - M)) := by
  subst hM
  simp only [k0_pay40, ← redm]
  pointwise

theorem pay41_at (m s p : FVec Ideal S16x128 .f32) (r : Fin 16) (q : Fin 20) :
    k0_pay41 m s p (ix2 (n0 := 16) (n1 := 20) r q) = p (i16 r ⟨q.val, by have := q.isLt; omega⟩) - k0_pay40 m s (ix2 (n0 := 16) (n1 := 1) r 0) := by
  simp only [k0_pay41]
  pointwise

theorem pay1_at (v : FVec Ideal S16x1 .f32) (r : Fin 16) :
    k0_pay1 (F := Ideal) v k0_pay42 (Scalar.ofBits .f32 0x00000000#32) (ix2 (n0 := 1) (n1 := 16) 0 r) = v (ix2 (n0 := 16) (n1 := 1) r 0) := by
  simp only [k0_pay1, k0_pay42]
  pointwise
  have hh : ∀ x r : Fin 16, IntOp.cmpi .eq (BitVec.ofNat 32 x.val) (BitVec.ofNat 32 r.val) = if x = r then 1#1 else 0#1 := by decide
  refine (Finset.sum_eq_single r (fun b _ hb => ?_) (fun h => absurd (Finset.mem_univ r) h)).trans ?_
  · have e := hh b r
    rw [if_neg hb] at e
    exact (congrArg (fun w => Scalar.select w (v (ix2 (n0 := 16) (n1 := 1) b 0)) (0 : EReal)) e).trans rfl
  · have e := hh r r
    rw [if_pos rfl] at e
    exact (congrArg (fun w => Scalar.select w (v (ix2 (n0 := 16) (n1 := 1) r 0)) (0 : EReal)) e).trans rfl

end Cert.KernelIdeal.Hand

end
-- ==== Proof.VLoop.lean ====
module

public import proofs.«01_k».proof.Proof.IBody
public import proofs.«01_k».proof.Proof.IOffs
public import proofs.«01_k».proof.Proof.VPay

/-!
  The column loop over the extended reals: the logits it stages, its running maxima and sums, and the logits it picks.
-/

@[expose] public section

set_option maxRecDepth 16384

noncomputable section

namespace Cert.KernelIdeal.Hand

open Cert.KernelIdeal Cert.KernelIdeal.Gen Cert.Hand
open Idealize.ShloMosaic
open Idealize.ShloMosaic.TcCoe Idealize.ShloMosaic.Tactic

section
variable (X : Vec Ideal S16x12288 .fp8e4m3) (Wt : Vec Ideal S12288x32000 .fp8e4m3) (WS : Vec Ideal S250x128 .f32) (C : Vec Ideal S4000x128 .f32)
  (xs pres freq rep : S16.Idx → EReal) (cand : Vec Ideal S16x20 .i32)

/-- Logit `n` of request `r`. -/
def zk (r : Fin 16) (n : ℕ) : EReal :=
  if h : n < 32000 then
    lgt (∑ k : Fin 12288, X (ix2 (n0 := 16) (n1 := 12288) r k) * Wt (ix2 (n0 := 12288) (n1 := 32000) k ⟨n, h⟩)) (xs (ix1 r))
      (WS (ix2 (n0 := 250) (n1 := 128) ⟨n / 128, by omega⟩ ⟨n % 128, Nat.mod_lt _ (by decide)⟩))
      (C (ix2 (n0 := 4000) (n1 := 128) ⟨16 * (n / 128) + r.val, by have := r.isLt; omega⟩ ⟨n % 128, Nat.mod_lt _ (by decide)⟩)) (pres (ix1 r)) (freq (ix1 r)) (rep (ix1 r))
  else ⊥

theorem dotB_at (b : Fin 125) (r : Fin 16) (n : Fin 256) :
    dotB X Wt b (ix2 (n0 := 16) (n1 := 256) r n)
      = ∑ k : Fin 12288, X (ix2 (n0 := 16) (n1 := 12288) r k) * Wt (ix2 (n0 := 12288) (n1 := 32000) k ⟨256 * b.val + n.val, by have := n.isLt; have := b.isLt; omega⟩) := by
  unfold dotB
  rw [pay3_at]
  refine Finset.sum_congr rfl fun k _ => congrArg (X (ix2 (n0 := 16) (n1 := 12288) r k) * ·) ?_
  have e : shapeCast S1x12288x256 (wCols (F := Ideal) Wt b) shapeCasts_back (ix3 (n0 := 1) (n1 := 12288) (n2 := 256) 0 k n) = wCols (F := Ideal) Wt b (ix2 (n0 := 12288) (n1 := 256) k n) := by
    pointwise
  exact e

/-- The formula at a column given as block, half and lane. -/
theorem zk_eq (b : Fin 125) (g : Fin 2) (r : Fin 16) (l : Fin 128) :
    lgt (half g (dotB X Wt b) (i16 r l)) (xs (ix1 r)) (wsRow WS b g (ix2 (n0 := 1) (n1 := 128) 0 l)) (cRows C b g (i16 r l)) (pres (ix1 r)) (freq (ix1 r)) (rep (ix1 r))
      = zk X Wt WS C xs pres freq rep r (128 * (2 * b.val + g.val) + l.val) := by
  have hb := b.isLt
  have hg := g.isLt
  have hl := l.isLt
  have h : 128 * (2 * b.val + g.val) + l.val < 32000 := by omega
  unfold zk
  rw [dif_pos h]
  have e1 : half (F := Ideal) g (dotB X Wt b) (i16 r l) = ∑ k : Fin 12288, X (ix2 (n0 := 16) (n1 := 12288) r k) * Wt (ix2 (n0 := 12288) (n1 := 32000) k ⟨128 * (2 * b.val + g.val) + l.val, h⟩) := by
    refine (dotB_at X Wt b r ⟨128 * g.val + l.val, by omega⟩).trans ?_
    refine Finset.sum_congr rfl fun k _ => congrArg (X (ix2 (n0 := 16) (n1 := 12288) r k) * ·) (congrArg (fun n => Wt (ix2 (n0 := 12288) (n1 := 32000) k n)) (Fin.ext ?_))
    show 256 * b.val + (128 * g.val + l.val) = 128 * (2 * b.val + g.val) + l.val
    omega
  have e2 : wsRow (F := Ideal) WS b g (ix2 (n0 := 1) (n1 := 128) 0 l) = WS (ix2 (n0 := 250) (n1 := 128) ⟨(128 * (2 * b.val + g.val) + l.val) / 128, by omega⟩ ⟨(128 * (2 * b.val + g.val) + l.val) % 128, Nat.mod_lt _ (by decide)⟩) := by
    refine congrArg WS (congrArg₂ (fun a b => ix2 (n0 := 250) (n1 := 128) a b) (Fin.ext ?_) (Fin.ext ?_))
    · show 2 * b.val + g.val = (128 * (2 * b.val + g.val) + l.val) / 128
      omega
    · show l.val = (128 * (2 * b.val + g.val) + l.val) % 128
      omega
  have e3 : cRows (F := Ideal) C b g (i16 r l) = C (ix2 (n0 := 4000) (n1 := 128) ⟨16 * ((128 * (2 * b.val + g.val) + l.val) / 128) + r.val, by have := r.isLt; omega⟩ ⟨(128 * (2 * b.val + g.val) + l.val) % 128, Nat.mod_lt _ (by decide)⟩) := by
    refine congrArg C (congrArg₂ (fun a b => ix2 (n0 := 4000) (n1 := 128) a b) (Fin.ext ?_) (Fin.ext ?_))
    · show 16 * (2 * b.val + g.val) + r.val = 16 * ((128 * (2 * b.val + g.val) + l.val) / 128) + r.val
      omega
    · show l.val = (128 * (2 * b.val + g.val) + l.val) % 128
      omega
  rw [e1, e2, e3]

theorem z0_at (b : Fin 125) (r : Fin 16) (l : Fin 128) :
    z0 X Wt WS C (rowsOf (F := Ideal) xs) (rowsOf (F := Ideal) pres) (rowsOf (F := Ideal) freq) (rowsOf (F := Ideal) rep) b (i16 r l)
      = zk X Wt WS C xs pres freq rep r (128 * (2 * b.val) + l.val) :=
  (pay4_at _ _ _ _ _ _ _ r l).trans (zk_eq X Wt WS C xs pres freq rep b 0 r l)

theorem z1_at (b : Fin 125) (r : Fin 16) (l : Fin 128) :
    k0_pay9 (rowsOf (F := Ideal) pres) (rowsOf (F := Ideal) freq) (rowsOf (F := Ideal) rep) (y1 X Wt WS (rowsOf (F := Ideal) xs) b) (cRows (F := Ideal) C b 1) (i16 r l)
      = zk X Wt WS C xs pres freq rep r (128 * (2 * b.val + 1) + l.val) :=
  (pay9_at _ _ _ _ _ _ _ r l).trans (zk_eq X Wt WS C xs pres freq rep b 1 r l)

/-- The logits staged. -/
theorem zAll_at (r : Fin 16) (n : Fin 32000) :
    zAll X Wt WS C (rowsOf (F := Ideal) xs) (rowsOf (F := Ideal) pres) (rowsOf (F := Ideal) freq) (rowsOf (F := Ideal) rep) (ix2 (n0 := 16) (n1 := 32000) r n)
      = zk X Wt WS C xs pres freq rep r n.val := by
  have hn := n.isLt
  unfold zAll zst
  by_cases h : n.val % 256 < 128
  · refine (dif_pos (show (ix2 (n0 := 16) (n1 := 256) r ⟨n.val % 256, Nat.mod_lt _ (by decide)⟩ 1).val < 128 from h)).trans ?_
    have e : ∀ (z : FVec Ideal S16x128 .f32) (l : Fin 128), k0_pay5 (F := Ideal) z (ix3 (n0 := 1) (n1 := 16) (n2 := 128) 0 r l) = z (i16 r l) := by
      intro z l
      simp only [k0_pay5]
      pointwise
    refine (e _ ⟨n.val % 256, h⟩).trans ((z0_at X Wt WS C xs pres freq rep ⟨n.val / 256, by omega⟩ r ⟨n.val % 256, h⟩).trans (congrArg _ ?_))
    show 128 * (2 * (n.val / 256)) + n.val % 256 = n.val
    omega
  · refine (dif_neg (show ¬ (ix2 (n0 := 16) (n1 := 256) r ⟨n.val % 256, Nat.mod_lt _ (by decide)⟩ 1).val < 128 from h)).trans ?_
    have e : ∀ (a b c y d : FVec Ideal S16x128 .f32) (l : Fin 128), k0_pay10 (F := Ideal) a b c y d (ix3 (n0 := 1) (n1 := 16) (n2 := 128) 0 r l) = k0_pay9 a b c y d (i16 r l) := by
      intro a b c y d l
      simp only [k0_pay10]
      generalize k0_pay9 a b c y d = z
      pointwise
    refine (e _ _ _ _ _ ⟨n.val % 256 - 128, by omega⟩).trans ((z1_at X Wt WS C xs pres freq rep ⟨n.val / 256, by omega⟩ r ⟨n.val % 256 - 128, by omega⟩).trans (congrArg _ ?_))
    show 128 * (2 * (n.val / 256) + 1) + (n.val % 256 - 128) = n.val
    omega

/-- The running values before trip `k`. -/
abbrev car (k : ℕ) := carry X Wt WS C (rowsOf (F := Ideal) xs) (rowsOf (F := Ideal) pres) (rowsOf (F := Ideal) freq) (rowsOf (F := Ideal) rep) cand k

theorem car_online (b : ℝ) (hb : ∀ j : S16x128.Idx, k0_pay36 (F := Ideal) j = (b : EReal)) (r : Fin 16) (l : Fin 128) : ∀ k, k ≤ 125 →
    Online b (fun g => zk X Wt WS C xs pres freq rep r (128 * g + l.val)) (2 * k) ((car X Wt WS C xs pres freq rep cand k).1 (i16 r l)) ((car X Wt WS C xs pres freq rep cand k).2.1 (i16 r l))
  | 0, _ => by
    have e : k0_pay37 (F := Ideal) (i16 r l) = 0 := ofBits_zero'
    show Online b _ 0 (k0_pay36 (F := Ideal) (i16 r l)) (k0_pay37 (F := Ideal) (i16 r l))
    rw [hb, e]
    exact Online.zero _ _
  | k + 1, hk => by
    have hk' : k < 125 := hk
    have ih := (car_online b hb r l k hk'.le).step2 (EReal.coe_ne_bot b)
    have ec : car X Wt WS C xs pres freq rep cand (k + 1)
        = stepB X Wt WS C (rowsOf (F := Ideal) xs) (rowsOf (F := Ideal) pres) (rowsOf (F := Ideal) freq) (rowsOf (F := Ideal) rep) cand ⟨k, hk'⟩ (car X Wt WS C xs pres freq rep cand k) := dif_pos hk'
    rw [ec]
    simp only [stepB, pay12_at, pay39_at, pay13_at, pay7_at, z0_at, z1_at]
    exact ih

theorem toInt_small (c : ℕ) (hc : c < 2 ^ 31) : (BitVec.ofNat 32 c).toInt = c := by
  rw [BitVec.toInt_eq_toNat_cond, BitVec.toNat_ofNat, Nat.mod_eq_of_lt (by omega), if_pos (by omega)]

theorem hi_eq (c : ℕ) (hc : c < 2 ^ 31) : IntOp.shrsi .vector (BitVec.ofNat 32 c) 7#32 = BitVec.ofNat 32 (c / 128) := by
  have h0 := toInt_small c hc
  have h := toIntOf (isInt_lo (BitVec.ofNat 32 c) (by omega))
  apply BitVec.eq_of_toInt_eq
  refine h.trans ?_
  rw [h0, toInt_small _ (by omega)]
  omega

theorem lo_eq (c : ℕ) (hc : c < 2 ^ 31) : IntOp.andi (BitVec.ofNat 32 c) 127#32 = BitVec.ofNat 32 (c % 128) := by
  apply BitVec.eq_of_toNat_eq
  show (BitVec.ofNat 32 c &&& BitVec.ofNat 32 127).toNat = _
  rw [BitVec.toNat_and, BitVec.toNat_ofNat, BitVec.toNat_ofNat, BitVec.toNat_ofNat, Nat.mod_eq_of_lt (show c < 2 ^ 32 by omega), Nat.mod_eq_of_lt (show c % 128 < 2 ^ 32 by omega)]
  exact Nat.and_two_pow_sub_one_eq_mod c 7

theorem gw_eq : ∀ b : Fin 125, gw b 0#32 = BitVec.ofNat 32 (2 * b.val) ∧ gw b 1#32 = BitVec.ofNat 32 (2 * b.val + 1) := by decide +kernel

theorem ofNat_inj (a b : ℕ) (ha : a < 32000) (hb : b < 32000) : (BitVec.ofNat 32 a = BitVec.ofNat 32 b) ↔ a = b := by
  refine ⟨fun h => ?_, fun h => h ▸ rfl⟩
  have := congrArg BitVec.toNat h
  rw [BitVec.toNat_ofNat, BitVec.toNat_ofNat] at this
  omega

/-- The logits picked. -/
theorem car_pick (r : Fin 16) (q : Fin 20) (c : ℕ) (hc : c < 32000) (e : cand (ix2 (n0 := 16) (n1 := 20) r q) = BitVec.ofNat 32 c) : ∀ k, k ≤ 125 →
    (car X Wt WS C xs pres freq rep cand k).2.2 (i16 r ⟨q.val, by have := q.isLt; omega⟩) = if c / 128 < 2 * k then zk X Wt WS C xs pres freq rep r c else 0
  | 0, _ => by
    rw [if_neg (by omega)]
    exact ofBits_zero'
  | k + 1, hk => by
    have hk' : k < 125 := hk
    have ih := car_pick r q c hc e k hk'.le
    have ehi : k0_pay34 (F := Ideal) cand (i16 r ⟨q.val, by have := q.isLt; omega⟩) = BitVec.ofNat 32 (c / 128) := by
      refine (congrArg (fun w => IntOp.shrsi .vector w 7#32) ((pay33_at cand r q).trans e)).trans (hi_eq c (by omega))
    have elo : k0_pay35 (F := Ideal) cand (i16 r ⟨q.val, by have := q.isLt; omega⟩) = BitVec.ofNat 32 (⟨c % 128, Nat.mod_lt _ (by decide)⟩ : Fin 128).val := by
      refine (congrArg (fun w => IntOp.andi w 127#32) ((pay33_at cand r q).trans e)).trans (lo_eq c (by omega))
    have ec : car X Wt WS C xs pres freq rep cand (k + 1)
        = stepB X Wt WS C (rowsOf (F := Ideal) xs) (rowsOf (F := Ideal) pres) (rowsOf (F := Ideal) freq) (rowsOf (F := Ideal) rep) cand ⟨k, hk'⟩ (car X Wt WS C xs pres freq rep cand k) := dif_pos hk'
    rw [ec]
    simp only [stepB]
    rw [pay11_at _ _ _ _ _ _ _ _ _ r _ ⟨c % 128, Nat.mod_lt _ (by decide)⟩ elo, pay6_at _ _ _ _ _ r _ ⟨c % 128, Nat.mod_lt _ (by decide)⟩ elo, ehi, ih, z0_at, z1_at, (gw_eq ⟨k, hk'⟩).1, (gw_eq ⟨k, hk'⟩).2]
    simp only [ofNat_inj _ _ (show c / 128 < 32000 by omega) (show 2 * k < 32000 by omega), ofNat_inj _ _ (show c / 128 < 32000 by omega) (show 2 * k + 1 < 32000 by omega)]
    by_cases h1 : c / 128 = 2 * k + 1
    · rw [if_pos h1, if_pos (by omega)]; congr 1; omega
    · rw [if_neg h1]
      by_cases h2 : c / 128 = 2 * k
      · rw [if_pos h2, if_pos (by omega)]; congr 1; omega
      · rw [if_neg h2]
        by_cases h3 : c / 128 < 2 * k
        · rw [if_pos h3, if_pos (by omega)]
        · rw [if_neg h3, if_neg (by omega)]
end

end Cert.KernelIdeal.Hand

end
-- ==== Proof.VCount.lean ====
module

public import proofs.«01_k».proof.Proof.VLoop

/-!
  The counts the kernel makes, over the extended reals: for each request and each id, the number of positions of the request that hold the id.
-/

@[expose] public section

set_option maxRecDepth 16384

noncomputable section

namespace Cert.KernelIdeal.Hand

open Cert.KernelIdeal Cert.KernelIdeal.Gen Cert.Hand
open Idealize.ShloMosaic
open Idealize.ShloMosaic.TcCoe Idealize.ShloMosaic.Tactic

theorem sel_bool (b : Bool) (x y : EReal) : Scalar.select (BitVec.ofBool b) x y = if b = true then x else y := by
  cases b <;> rfl

/-- One term of the product of the two indicator matrices. -/
theorem term_at (w : BitVec 32) (hw : 0 ≤ w.toInt) (h : Fin 256) (l : Fin 128) (ok : BitVec 1) :
    Scalar.select (IntOp.cmpi .eq (BitVec.ofNat 32 h.val) (Scalar.select ok (IntOp.shrsi .vector w 7#32) 4294967295#32)) (1 : EReal) 0
      * Scalar.select (IntOp.cmpi .eq (BitVec.ofNat 32 l.val) (IntOp.andi w 127#32)) (1 : EReal) 0
      = if ok = 1#1 ∧ w = BitVec.ofNat 32 (128 * h.val + l.val) then 1 else 0 := by
  have hh := h.isLt
  have hl := l.isLt
  obtain ⟨c, hc, rfl⟩ : ∃ c, c < 2 ^ 31 ∧ w = BitVec.ofNat 32 c := ⟨w.toNat, by
    rw [BitVec.toInt_eq_toNat_cond] at hw
    have := w.isLt
    split at hw <;> omega, by simp⟩
  have inj : ∀ a b : ℕ, a < 2 ^ 32 → b < 2 ^ 32 → ((BitVec.ofNat 32 a = BitVec.ofNat 32 b) ↔ a = b) := fun a b ha hb => by
    refine ⟨fun h => ?_, fun h => h ▸ rfl⟩
    have := congrArg BitVec.toNat h
    rw [BitVec.toNat_ofNat, BitVec.toNat_ofNat] at this
    omega
  rw [hi_eq c hc, lo_eq c hc]
  show Scalar.select (BitVec.ofBool (BitVec.ofNat 32 h.val == Scalar.select ok (BitVec.ofNat 32 (c / 128)) 4294967295#32)) (1 : EReal) 0
    * Scalar.select (BitVec.ofBool (BitVec.ofNat 32 l.val == BitVec.ofNat 32 (c % 128))) (1 : EReal) 0 = _
  rw [sel_bool, sel_bool]
  have bq : ∀ a b : ℕ, a < 2 ^ 32 → b < 2 ^ 32 → ((BitVec.ofNat 32 a == BitVec.ofNat 32 b) = true ↔ a = b) := fun a b ha hb => beq_iff_eq.trans (inj a b ha hb)
  simp only [bq _ _ (show l.val < 2 ^ 32 by omega) (show c % 128 < 2 ^ 32 by omega), inj _ _ (show c < 2 ^ 32 by omega) (show 128 * h.val + l.val < 2 ^ 32 by omega)]
  rcases (by decide : ∀ o : BitVec 1, o = 1#1 ∨ o = 0#1) ok with rfl | rfl
  · have e : (Scalar.select 1#1 (BitVec.ofNat 32 (c / 128)) 4294967295#32 : BitVec 32) = BitVec.ofNat 32 (c / 128) := rfl
    rw [e]
    simp only [bq _ _ (show h.val < 2 ^ 32 by omega) (show c / 128 < 2 ^ 32 by omega)]
    by_cases h1 : h.val = c / 128 <;> by_cases h2 : l.val = c % 128
    · rw [if_pos h1, if_pos h2, if_pos ⟨trivial, by omega⟩, one_mul]
    · rw [if_neg h2, mul_zero, if_neg fun h => by omega]
    · rw [if_neg h1, zero_mul, if_neg fun h => by omega]
    · rw [if_neg h1, zero_mul, if_neg fun h => by omega]
  · have e : (Scalar.select 0#1 (BitVec.ofNat 32 (c / 128)) 4294967295#32 : BitVec 32) = BitVec.ofNat 32 4294967295 := rfl
    rw [e, if_neg (fun q => by have := (bq _ _ (show h.val < 2 ^ 32 by omega) (by decide)).1 q; omega), zero_mul, if_neg fun h => absurd h.1 (by decide)]

theorem one_bits : (Ideal.ofBits .f32 0x3F800000#32 : EReal) = 1 := by simp [Ideal.ofBits, Ideal.ieee, -EReal.coe_mul]; norm_num

/-- The position of lane `x` in the row of trip `k` is one of the request's. -/
def okW (v v' : BitVec 32) (k : ℕ) (x : Fin 128) : BitVec 1 :=
  IntOp.andi (IntOp.cmpi .sge (IntOp.addi (Scalar.muli (Scf.iv (Scalar.shrsi v 7#32) 1#32 k) 128#32) (BitVec.ofNat 32 x.val)) v)
    (IntOp.cmpi .slt (IntOp.addi (Scalar.muli (Scf.iv (Scalar.shrsi v 7#32) 1#32 k) 128#32) (BitVec.ofNat 32 x.val)) (Scalar.minsi v' 16384#32))

theorem pay15_core (P v m : BitVec 32) (acc : FVec Ideal S256x128 .f32) (row : Vec Ideal S1x128 .i32) (h : Fin 256) (l : Fin 128) :
    addf acc (matmul dot_S256x128_S128x128_S256x128_1_1_0_0_n_n none
      (truncf .bf16 (select (cmpi .eq (iota .tc S256x128 32 [0] iota_S256x128_d0_w32) (broadcastTo S256x128
        (select (andi (cmpi .sge (addi (broadcast S1x128 P) (iota .tc S1x128 32 [1] iota_S1x128_d1_w32)) (broadcast S1x128 v))
          (cmpi .slt (addi (broadcast S1x128 P) (iota .tc S1x128 32 [1] iota_S1x128_d1_w32)) (broadcast S1x128 m)))
          (shrsi (shapeCast S1x128 row shapeCasts_S1x128_S1x128) (broadcast S1x128 7#32)) (broadcast S1x128 4294967295#32)) broadcasts_S1x128_S256x128))
        (broadcast S256x128 (Scalar.ofBits (F := Ideal) .f32 0x3F800000#32)) (broadcast S256x128 (Scalar.ofBits (F := Ideal) .f32 0x00000000#32))) bitsLt_bf16_f32)
      (truncf .bf16 (select (cmpi .eq (iota .tc S128x128 32 [0] iota_S128x128_d0_w32) (broadcastTo S128x128
        (andi (shapeCast S1x128 row shapeCasts_S1x128_S1x128) (broadcast S1x128 127#32)) broadcasts_S1x128_S128x128))
        (broadcast S128x128 (Scalar.ofBits (F := Ideal) .f32 0x3F800000#32)) (broadcast S128x128 (Scalar.ofBits (F := Ideal) .f32 0x00000000#32))) bitsLt_bf16_f32)
      (constant S256x128 .f32 0x00000000#32)) (ix2 (n0 := 256) (n1 := 128) h l)
      = acc (ix2 (n0 := 256) (n1 := 128) h l) + ∑ x : Fin 128,
        Scalar.select (IntOp.cmpi .eq (BitVec.ofNat 32 h.val) (Scalar.select (IntOp.andi (IntOp.cmpi .sge (IntOp.addi P (BitVec.ofNat 32 x.val)) v) (IntOp.cmpi .slt (IntOp.addi P (BitVec.ofNat 32 x.val)) m))
            (IntOp.shrsi .vector (row (ix2 (n0 := 1) (n1 := 128) 0 x)) 7#32) 4294967295#32)) (1 : EReal) 0
          * Scalar.select (IntOp.cmpi .eq (BitVec.ofNat 32 l.val) (IntOp.andi (row (ix2 (n0 := 1) (n1 := 128) 0 x)) 127#32)) (1 : EReal) 0 := by
  pointwise

theorem pay15_at (v v' : BitVec 32) (k : Fin (k0_t2_loop v v').trips) (acc : FVec Ideal S256x128 .f32) (row : Vec Ideal S1x128 .i32)
    (hrow : ∀ x : Fin 128, 0 ≤ (row (ix2 (n0 := 1) (n1 := 128) 0 x) : BitVec 32).toInt) (h : Fin 256) (l : Fin 128) :
    k0_pay15 (F := Ideal) v v' k acc row (ix2 (n0 := 256) (n1 := 128) h l)
      = acc (ix2 (n0 := 256) (n1 := 128) h l) + ∑ x : Fin 128, if okW v v' k.val x = 1#1 ∧ row (ix2 (n0 := 1) (n1 := 128) 0 x) = BitVec.ofNat 32 (128 * h.val + l.val) then (1 : EReal) else 0 := by
  refine (pay15_core (Scalar.muli (Scf.iv (Scalar.shrsi v 7#32) 1#32 k.val) 128#32) v (Scalar.minsi v' 16384#32) acc row h l).trans ?_
  refine congrArg (acc (ix2 (n0 := 256) (n1 := 128) h l) + ·) (Finset.sum_congr rfl fun x _ => ?_)
  exact term_at _ (hrow x) h l (okW v v' k.val x)

theorem okW_iff (v v' : BitVec 32) (h : 0 ≤ v.toInt) (h' : 0 ≤ v'.toInt) (k : ℕ) (hk : k < (k0_t2_loop v v').trips) (x : Fin 128) :
    okW v v' k x = 1#1 ↔ v.toNat ≤ 128 * (v.toNat / 128 + k) + x.val ∧ 128 * (v.toNat / 128 + k) + x.val < min v'.toNat 16384 := by
  have hx := x.isLt
  rw [trips2_eq v v' h h'] at hk
  have ev : v.toInt = v.toNat := by rw [BitVec.toInt_eq_toNat_cond] at h ⊢; have := v.isLt; split at h <;> simp_all <;> omega
  have ev' : v'.toInt = v'.toNat := by rw [BitVec.toInt_eq_toNat_cond] at h' ⊢; have := v'.isLt; split at h' <;> simp_all <;> omega
  have e1 : Affine.IsInt (Scf.iv (Scalar.shrsi v 7#32) 1#32 k) (v.toInt / 128 + k) :=
    Affine.iv (ea := v.toInt / 128) (eb := 1) (isInt_lo v h) (Affine.ofNat (e := 1) 1 ⟨rfl, by decide⟩) k ⟨by omega, by omega, by omega⟩
  have e2 : Affine.IsInt (Scalar.muli (Scf.iv (Scalar.shrsi v 7#32) 1#32 k) 128#32) ((v.toInt / 128 + k) * 128) :=
    Affine.muli (ea := v.toInt / 128 + k) (eb := 128) e1 (Affine.ofNat (e := 128) 128 ⟨rfl, by decide⟩) ⟨rfl, by omega, by omega⟩
  have e3 : Affine.IsInt (Scalar.addi (Scalar.muli (Scf.iv (Scalar.shrsi v 7#32) 1#32 k) 128#32) (BitVec.ofNat 32 x.val)) ((v.toInt / 128 + k) * 128 + x.val) :=
    Affine.addi (ea := (v.toInt / 128 + k) * 128) (eb := x.val) e2 (Affine.ofNat (e := x.val) x.val ⟨rfl, by omega⟩) ⟨rfl, by omega, by omega⟩
  have e4 : (Scalar.minsi v' 16384#32).toInt = min v'.toInt 16384 := by
    exact toIntOf (Affine.minsi (ea := v'.toInt) (eb := 16384) (Affine.word v') (Affine.ofNat (e := 16384) 16384 ⟨rfl, by decide⟩) rfl)
  have e3 := toIntOf e3
  unfold okW
  show IntOp.andi (BitVec.ofBool (BitVec.sle v _)) (BitVec.ofBool (BitVec.slt _ (Scalar.minsi v' 16384#32))) = 1#1 ↔ _
  have hb : ∀ a b : Bool, IntOp.andi (BitVec.ofBool a) (BitVec.ofBool b) = 1#1 ↔ a = true ∧ b = true := by decide
  rw [hb, BitVec.sle_eq_decide, BitVec.slt_eq_decide, decide_eq_true_iff, decide_eq_true_iff, e4]
  have e3' : (IntOp.addi (Scalar.muli (Scf.iv (Scalar.shrsi v 7#32) 1#32 k) 128#32) (BitVec.ofNat 32 x.val)).toInt = _ := e3
  rw [e3', ev, ev']
  omega

/-- The id at position `p`. -/
def idn (ids : Vec Ideal S128x128 .i32) (p : ℕ) : BitVec 32 :=
  ids (ix2 (n0 := 128) (n1 := 128) ⟨p / 128 % 128, Nat.mod_lt _ (by decide)⟩ ⟨p % 128, Nat.mod_lt _ (by decide)⟩)

/-- The row of trip `k` at lane `x`. -/
theorem row_at (v v' : BitVec 32) (h : 0 ≤ v.toInt) (h' : 0 ≤ v'.toInt) (ids : Vec Ideal S128x128 .i32) (hw : k0_chk1 v v') (k : ℕ) (hk : k < (k0_t2_loop v v').trips) (x : Fin 128) (p : ℕ)
    (hp : p = 128 * (v.toNat / 128 + k) + x.val) :
    ids ((Rect.unit (s := S128x128) (k0_off3 v v' ⟨k, hk⟩) S1x128.size (k0_off3_inb v v' hw ⟨k, hk⟩)).toLoadRect.idx (ix2 (n0 := 1) (n1 := 128) 0 x)) = idn ids p := by
  have hx := x.isLt
  have eo := off3_eq v v' h h' ⟨k, hk⟩
  have ev : v.toInt = v.toNat := by rw [BitVec.toInt_eq_toNat_cond] at h ⊢; have := v.isLt; split at h <;> simp_all <;> omega
  have hk2 := hk
  rw [trips2_eq v v' h h'] at hk2
  have e0 : k0_off3 v v' ⟨k, hk⟩ 0 = (v.toInt / 128).toNat + k := congrFun eo 0
  have e1 : k0_off3 v v' ⟨k, hk⟩ 1 = 0 := congrFun eo 1
  unfold idn
  have a0 : k0_off3 v v' ⟨k, hk⟩ 0 + 1 * 0 = p / 128 % 128 := by rw [e0]; omega
  have a1 : k0_off3 v v' ⟨k, hk⟩ 1 + 1 * x.val = p % 128 := by rw [e1]; omega
  generalize k0_off3_inb v v' hw ⟨k, hk⟩ = hi
  revert hi
  generalize k0_off3 v v' ⟨k, hk⟩ = o at a0 a1
  intro hi
  refine congrArg ids (funext fun a => Fin.ext ?_)
  match a with
  | ⟨0, _⟩ => exact a0
  | ⟨1, _⟩ => exact a1

/-- One if position `p` is from `a` to below `b` and holds id `n`. -/
def hit (ids : Vec Ideal S128x128 .i32) (a b n p : ℕ) : EReal := if (a ≤ p ∧ p < b) ∧ idn ids p = BitVec.ofNat 32 n then 1 else 0

theorem cntAcc_at (v v' : BitVec 32) (h : 0 ≤ v.toInt) (h' : 0 ≤ v'.toInt) (ids : Vec Ideal S128x128 .i32) (hids : ∀ j, 0 ≤ (ids j : BitVec 32).toInt) (hw : k0_chk1 v v') (hh : Fin 256) (l : Fin 128) :
    ∀ k, k ≤ (k0_t2_loop v v').trips → cntAcc (F := Ideal) v v' ids hw k (ix2 (n0 := 256) (n1 := 128) hh l)
      = ∑ i ∈ Finset.range k, ∑ x ∈ Finset.range 128, hit ids v.toNat (min v'.toNat 16384) (128 * hh.val + l.val) (128 * (v.toNat / 128 + i) + x)
  | 0, _ => by
    rw [Finset.range_zero, Finset.sum_empty]
    exact ofBits_zero'
  | k + 1, hk => by
    have hk' : k < (k0_t2_loop v v').trips := hk
    have hk2 := hk'
    rw [trips2_eq v v' h h'] at hk2
    have ev : v.toInt = v.toNat := by rw [BitVec.toInt_eq_toNat_cond] at h ⊢; have := v.isLt; split at h <;> simp_all <;> omega
    rw [Finset.sum_range_succ, ← cntAcc_at v v' h h' ids hids hw hh l k hk'.le]
    have es : cntAcc (F := Ideal) v v' ids hw (k + 1) = k0_pay15 v v' ⟨k, hk'⟩ (cntAcc v v' ids hw k) (fun j => ids ((Rect.unit (s := S128x128) (k0_off3 v v' ⟨k, hk'⟩) S1x128.size (k0_off3_inb v v' hw ⟨k, hk'⟩)).toLoadRect.idx j)) := dif_pos hk'
    rw [es, pay15_at _ _ _ _ _ (fun x => hids _), Finset.sum_range (fun x => hit ids v.toNat (min v'.toNat 16384) (128 * hh.val + l.val) (128 * (v.toNat / 128 + k) + x))]
    refine congrArg (cntAcc (F := Ideal) v v' ids hw k (ix2 (n0 := 256) (n1 := 128) hh l) + ·) (Finset.sum_congr rfl fun x _ => ?_)
    have e := row_at v v' h h' ids hw k hk' x _ rfl
    unfold hit
    rw [e]
    simp only [okW_iff v v' h h' k hk' x]

/-- The counts of one request: the positions from its offset to below the next that hold the id. -/
theorem rowVal_at (off : S17.Idx → BitVec 32) (hoff : ∀ n, 0 ≤ (wd off n).toInt) (hr : ChkOK off) (ids : Vec Ideal S128x128 .i32) (hids : ∀ j, 0 ≤ (ids j : BitVec 32).toInt) (b : Fin 16) (g : Fin 250) (l : Fin 128) :
    rowVal (F := Ideal) off hr ids b (ix2 (n0 := 250) (n1 := 128) g l)
      = ∑ p ∈ Finset.range 16384, hit ids (wd off b.castSucc).toNat (wd off b.succ).toNat (128 * g.val + l.val) p := by
  have hg := g.isLt
  have e17 : ∀ f : FVec Ideal S256x128 .f32, k0_pay17 (F := Ideal) f (ix2 (n0 := 250) (n1 := 128) g l) = f (ix2 (n0 := 256) (n1 := 128) ⟨g.val, by omega⟩ l) := by
    intro f
    simp only [k0_pay17]
    pointwise
  unfold rowVal
  rw [e17, cntAcc_at _ _ (hoff _) (hoff _) ids hids _ _ l _ le_rfl]
  have h := hoff b.castSucc
  have h' := hoff b.succ
  generalize wd off b.castSucc = v at *
  generalize wd off b.succ = v' at *
  have ev : v.toInt = v.toNat := by rw [BitVec.toInt_eq_toNat_cond] at h ⊢; have := v.isLt; split at h <;> simp_all <;> omega
  have ev' : v'.toInt = v'.toNat := by rw [BitVec.toInt_eq_toNat_cond] at h' ⊢; have := v'.isLt; split at h' <;> simp_all <;> omega
  have et : (k0_t2_loop v v').trips = (min v'.toNat 16384 + 127) / 128 - v.toNat / 128 := by rw [trips2_eq v v' h h']; omega
  have esum : ∀ a b n, ∑ p ∈ Finset.range 16384, hit ids a b n p = ∑ R ∈ Finset.range 128, ∑ x ∈ Finset.range 128, hit ids a b n (128 * R + x) := fun a b n => sum_blocks 128 _ 128
  rw [esum, et]
  refine (Finset.sum_Ico_eq_sum_range (fun R => ∑ x ∈ Finset.range 128, hit ids v.toNat (min v'.toNat 16384) (128 * g.val + l.val) (128 * R + x)) (v.toNat / 128) ((min v'.toNat 16384 + 127) / 128)).symm.trans ?_
  refine (Finset.sum_subset (fun R hR => ?_) fun R hR hn => ?_).trans (Finset.sum_congr rfl fun R hR => Finset.sum_congr rfl fun x hx => ?_)
  · rw [Finset.mem_Ico] at hR
    rw [Finset.mem_range]
    omega
  · rw [Finset.mem_Ico] at hn
    refine Finset.sum_eq_zero fun x hx => ?_
    rw [Finset.mem_range] at hx hR
    exact if_neg fun q => hn ⟨by omega, by omega⟩
  · rw [Finset.mem_range] at hR hx
    unfold hit
    have : (v.toNat ≤ 128 * R + x ∧ 128 * R + x < min v'.toNat 16384) ↔ (v.toNat ≤ 128 * R + x ∧ 128 * R + x < v'.toNat) := by omega
    simp only [this]

end Cert.KernelIdeal.Hand

end
-- ==== Proof.VKer.lean ====
module

public import proofs.«01_k».proof.Proof.VLoop
public import proofs.«01_k».proof.Proof.VCount
public import proofs.«01_k».proof.Proof.IRun

/-!
  The kernel's three results over the extended reals, as the mathematics of its arguments.
-/

@[expose] public section

set_option maxRecDepth 16384

noncomputable section

namespace Cert.KernelIdeal.Hand

open Cert.KernelIdeal Cert.KernelIdeal.Gen Cert.Hand
open Idealize.ShloMosaic
open Idealize.ShloMosaic.TcCoe Idealize.ShloMosaic.Tactic

/-- Logit `n` of request `r`, from the arguments as given: the product scaled twice, penalised by how often the request's history holds `n`. -/
def Lg (x : S16x12288.Idx → EReal) (xs : S16.Idx → EReal) (w : S12288x32000.Idx → EReal) (ws : S32000.Idx → EReal) (ids : S16384.Idx → BitVec 32) (off : S17.Idx → BitVec 32)
    (pres freq rep : S16.Idx → EReal) (r : Fin 16) (n : ℕ) : EReal :=
  if h : n < 32000 then
    lgt (∑ k : Fin 12288, x (ix2 (n0 := 16) (n1 := 12288) r k) * w (ix2 (n0 := 12288) (n1 := 32000) k ⟨n, h⟩)) (xs (ix1 r)) (ws (ix1 ⟨n, h⟩))
      (∑ p : Fin 16384, if ((off (ix1 r.castSucc)).toNat ≤ p.val ∧ p.val < (off (ix1 r.succ)).toNat) ∧ ids (ix1 p) = BitVec.ofNat 32 n then 1 else 0)
      (pres (ix1 r)) (freq (ix1 r)) (rep (ix1 r))
  else ⊥

section
variable (off : S17.Idx → BitVec 32) (hr : ChkOK off) (xs pres freq rep : S16.Idx → EReal)
  (X : Vec Ideal S16x12288 .fp8e4m3) (Wt : Vec Ideal S12288x32000 .fp8e4m3) (WS : Vec Ideal S250x128 .f32) (ids : Vec Ideal S128x128 .i32) (cand : Vec Ideal S16x20 .i32)

/-- The kernel's logit in the arguments as it is given them. -/
abbrev zc (r : Fin 16) (n : ℕ) : EReal := zk X Wt WS (cntFull (F := Ideal) off hr ids) xs pres freq rep r n

omit hr in
/-- An offset, by its index. -/
theorem wd_eq (b : Fin 17) : wd off b = off (ix1 b) := by
  refine congrArg off (funext fun a => ?_)
  obtain rfl : a = 0 := Subsingleton.elim _ _
  rfl

/-- An element of the counts is the request's count at its group and lane. -/
theorem cntFull_at (a : Fin 4000) (g : Fin 250) (r : Fin 16) (l : Fin 128) (h : a.val = 16 * g.val + r.val) :
    cntFull (F := Ideal) off hr ids (ix2 (n0 := 4000) (n1 := 128) a l) = rowVal (F := Ideal) off hr ids r (ix2 (n0 := 250) (n1 := 128) g l) := by
  have hr' := r.isLt
  have hg := g.isLt
  have er : (⟨a.val % 16, Nat.mod_lt _ (by decide)⟩ : Fin 16) = r := Fin.ext (by show a.val % 16 = r.val; omega)
  have eg : (⟨a.val / 16, by omega⟩ : Fin 250) = g := Fin.ext (by show a.val / 16 = g.val; omega)
  refine Eq.trans (b := rowVal (F := Ideal) off hr ids ⟨a.val % 16, Nat.mod_lt _ (by decide)⟩ (ix2 (n0 := 250) (n1 := 128) ⟨a.val / 16, by omega⟩ l)) rfl ?_
  rw [er, eg]

/-- A position counts where it lies in the request's history and holds the word. -/
theorem hit_at (id1 : S16384.Idx → BitVec 32) (hid : ∀ p : Fin 16384, idn ids p.val = id1 (ix1 p)) (r : Fin 16) (n : ℕ) (p : Fin 16384) (n' : ℕ) (hn : n' = n) :
    hit ids (wd off r.castSucc).toNat (wd off r.succ).toNat n' p.val
      = if ((off (ix1 r.castSucc)).toNat ≤ p.val ∧ p.val < (off (ix1 r.succ)).toNat) ∧ id1 (ix1 p) = BitVec.ofNat 32 n then 1 else 0 := by
  subst hn
  unfold hit
  rw [hid p, wd_eq, wd_eq]

/-- The kernel's logit, from the arguments as given rather than as it reads them. -/
theorem zc_eq (hoff : ∀ b : Fin 17, 0 ≤ (off (ix1 b)).toInt) (hids : ∀ j, 0 ≤ (ids j : BitVec 32).toInt)
    (ws : S32000.Idx → EReal) (hws : ∀ n : Fin 32000, WS (ix2 (n0 := 250) (n1 := 128) ⟨n.val / 128, by have := n.isLt; omega⟩ ⟨n.val % 128, Nat.mod_lt _ (by decide)⟩) = ws (ix1 n))
    (id1 : S16384.Idx → BitVec 32) (hid : ∀ p : Fin 16384, idn ids p.val = id1 (ix1 p)) (r : Fin 16) (n : ℕ) :
    zc off hr xs pres freq rep X Wt WS ids r n = Lg X xs Wt ws id1 off pres freq rep r n := by
  unfold zc zk Lg
  by_cases h : n < 32000
  · rw [dif_pos h, dif_pos h]
    refine congrArg₂ (fun s c => lgt (∑ k : Fin 12288, X (ix2 (n0 := 16) (n1 := 12288) r k) * Wt (ix2 (n0 := 12288) (n1 := 32000) k ⟨n, h⟩)) (xs (ix1 r)) s c (pres (ix1 r)) (freq (ix1 r)) (rep (ix1 r))) (hws ⟨n, h⟩) ?_
    rw [cntFull_at off hr ids _ ⟨n / 128, by omega⟩ r _ rfl, rowVal_at off (fun b => (wd_eq off b).symm ▸ hoff b) hr ids hids r _ _, Finset.sum_range]
    refine Finset.sum_congr rfl fun p _ => ?_
    exact hit_at off ids id1 hid r n p _ (by show 128 * (n / 128) + n % 128 = n; omega)
  · rw [dif_neg h, dif_neg h]

/-- An element of the kernel's logits. -/
theorem fnZ_at (r : Fin 16) (n : Fin 32000) :
    fnZ (F := Ideal) off hr xs pres freq rep X Wt WS ids (ix2 (n0 := 16) (n1 := 32000) r n) = zc off hr xs pres freq rep X Wt WS ids r n.val :=
  zAll_at X Wt WS _ xs pres freq rep r n

/-- A sum over lanes and groups is the sum over the vocabulary. -/
theorem sum_cols (f : ℕ → EReal) : ∑ l : Fin 128, ∑ g ∈ Finset.range 250, f (128 * g + l.val) = ∑ n : Fin 32000, f n.val := by
  rw [Finset.sum_comm, ← Finset.sum_range (fun n => f n), show (32000 : ℕ) = 128 * 250 from rfl, sum_blocks]
  exact Finset.sum_congr rfl fun g _ => (Finset.sum_range fun x => f (128 * g + x)).symm

/-- A row's logarithm of the sum of exponentials, from any bound of its logits that one of them attains. -/
theorem fnLse_at (r : Fin 16) (t : EReal) (ht : ∀ n < 32000, zc off hr xs pres freq rep X Wt WS ids r n ≤ t) (hat : ∃ n < 32000, zc off hr xs pres freq rep X Wt WS ids r n = t) :
    fnLse (F := Ideal) off hr xs pres freq rep X Wt WS ids cand (ix2 (n0 := 1) (n1 := 16) 0 r)
      = Ideal.log (∑ n : Fin 32000, Ideal.exp (zc off hr xs pres freq rep X Wt WS ids r n.val - t)) + t := by
  obtain ⟨b, hb⟩ := pay36_real
  unfold fnLse
  refine (pay1_at _ r).trans ((pay40_at _ _ r _ rfl).trans ?_)
  refine (lanes (ι := Fin 128) b 250 (by decide) (fun l g => zc off hr xs pres freq rep X Wt WS ids r (128 * g + l.val))
      (fun l => (car X Wt WS (cntFull (F := Ideal) off hr ids) xs pres freq rep cand 125).1 (i16 r l)) (fun l => (car X Wt WS (cntFull (F := Ideal) off hr ids) xs pres freq rep cand 125).2.1 (i16 r l))
      (fun l => car_online X Wt WS (cntFull (F := Ideal) off hr ids) xs pres freq rep cand b hb r l 125 le_rfl) _ t
      (fun l => (Finset.le_fold_max _).2 (Or.inr ⟨l, Finset.mem_univ _, le_rfl⟩))
      (fun u hu => (Finset.fold_max_le _).2 ⟨bot_le, fun l _ => hu l⟩)
      (fun l g hg => ht _ (by have := l.isLt; omega)) ?_).trans ?_
  · obtain ⟨n, hn, e⟩ := hat
    refine ⟨⟨n % 128, Nat.mod_lt _ (by decide)⟩, n / 128, by omega, ?_⟩
    show zc off hr xs pres freq rep X Wt WS ids r (128 * (n / 128) + n % 128) = t
    rw [show 128 * (n / 128) + n % 128 = n by omega, e]
  · rw [sum_cols (fun n => Ideal.exp (zc off hr xs pres freq rep X Wt WS ids r n - t))]

/-- A candidate's log-probability: its logit less the row's logarithm of the sum of exponentials. -/
theorem fnLp_at (r : Fin 16) (q : Fin 20) (c : ℕ) (hc : c < 32000) (e : cand (ix2 (n0 := 16) (n1 := 20) r q) = BitVec.ofNat 32 c) :
    fnLp (F := Ideal) off hr xs pres freq rep X Wt WS ids cand (ix2 (n0 := 16) (n1 := 20) r q)
      = zc off hr xs pres freq rep X Wt WS ids r c - fnLse (F := Ideal) off hr xs pres freq rep X Wt WS ids cand (ix2 (n0 := 1) (n1 := 16) 0 r) := by
  unfold fnLp fnLse
  rw [pay41_at, pay1_at]
  refine congrArg (· - _) ?_
  refine (car_pick X Wt WS (cntFull (F := Ideal) off hr ids) xs pres freq rep cand r q c hc e 125 le_rfl).trans (if_pos (by omega))
end

end Cert.KernelIdeal.Hand

end
-- ==== Proof.VRunK.lean ====
module

public import proofs.«01_k».proof.Proof.VKer
public import proofs.«01_k».proof.Proof.IFinal
public import Idealize.ShloMosaic.Lib.Pipeline.Value

/-!
  Where the kernel's results lie at the end of a run, and what its windows read.
-/

@[expose] public section

set_option maxRecDepth 16384

noncomputable section

namespace Cert.KernelIdeal.Hand

open Cert.KernelIdeal Cert.KernelIdeal.Gen
open Idealize.ShloMosaic
open Idealize.ShloMosaic.TcCoe
open Idealize.SL.Sem
open Idealize.ShloMosaic.Pipeline (Dat)

variable {F : FTy → Type} [FloatOps F]
variable (m : (ℓ : Loc nD τ sig) → Buf (Elt F) ℓ) (h : OffOK m) (c : Dev nD)

theorem bOff_eq : bOff m c t0_0 = (m ((c : Thread nD τ).loc main_arg5) : S17.Idx → BitVec 32) := by
  have hz : (fun a => (win0_0.index t0_0) a * main_arg5.ty.shape.size a) = fun _ => 0 := funext fun a => by fin_cases a <;> decide
  have hr := fun f => Memref.read_access_unit_zero (Elt F) main_arg5 hz (fun a => by fin_cases a <;> decide) f
  unfold bOff iblk
  exact (hr _).trans (V_main_arg5 m c)
theorem bXs_eq : bXs m c t0_0 = (m ((c : Thread nD τ).loc main_arg1) : S16.Idx → F .f32) := by
  have hz : (fun a => (win0_1.index t0_0) a * main_arg1.ty.shape.size a) = fun _ => 0 := funext fun a => by fin_cases a <;> decide
  have hr := fun f => Memref.read_access_unit_zero (Elt F) main_arg1 hz (fun a => by fin_cases a <;> decide) f
  unfold bXs iblk
  exact (hr _).trans (V_main_arg1 m c)
theorem bPres_eq : bPres m c t0_0 = (m ((c : Thread nD τ).loc main_arg6) : S16.Idx → F .f32) := by
  have hz : (fun a => (win0_2.index t0_0) a * main_arg6.ty.shape.size a) = fun _ => 0 := funext fun a => by fin_cases a <;> decide
  have hr := fun f => Memref.read_access_unit_zero (Elt F) main_arg6 hz (fun a => by fin_cases a <;> decide) f
  unfold bPres iblk
  exact (hr _).trans (V_main_arg6 m c)
theorem bFreq_eq : bFreq m c t0_0 = (m ((c : Thread nD τ).loc main_arg7) : S16.Idx → F .f32) := by
  have hz : (fun a => (win0_3.index t0_0) a * main_arg7.ty.shape.size a) = fun _ => 0 := funext fun a => by fin_cases a <;> decide
  have hr := fun f => Memref.read_access_unit_zero (Elt F) main_arg7 hz (fun a => by fin_cases a <;> decide) f
  unfold bFreq iblk
  exact (hr _).trans (V_main_arg7 m c)
theorem bRep_eq : bRep m c t0_0 = (m ((c : Thread nD τ).loc main_arg8) : S16.Idx → F .f32) := by
  have hz : (fun a => (win0_4.index t0_0) a * main_arg8.ty.shape.size a) = fun _ => 0 := funext fun a => by fin_cases a <;> decide
  have hr := fun f => Memref.read_access_unit_zero (Elt F) main_arg8 hz (fun a => by fin_cases a <;> decide) f
  unfold bRep iblk
  exact (hr _).trans (V_main_arg8 m c)
theorem bX_eq : bX m c t0_0 = (m ((c : Thread nD τ).loc main_arg0) : S16x12288.Idx → F .fp8e4m3) := by
  have hz : (fun a => (win0_5.index t0_0) a * main_arg0.ty.shape.size a) = fun _ => 0 := funext fun a => by fin_cases a <;> decide
  have hr := fun f => Memref.read_access_unit_zero (Elt F) main_arg0 hz (fun a => by fin_cases a <;> decide) f
  unfold bX iblk
  exact (hr _).trans (V_main_arg0 m c)
theorem bCand_eq : bCand m c t0_0 = (m ((c : Thread nD τ).loc main_arg9) : S16x20.Idx → BitVec 32) := by
  have hz : (fun a => (win0_8.index t0_0) a * main_arg9.ty.shape.size a) = fun _ => 0 := funext fun a => by fin_cases a <;> decide
  have hr := fun f => Memref.read_access_unit_zero (Elt F) main_arg9 hz (fun a => by fin_cases a <;> decide) f
  unfold bCand iblk
  exact (hr _).trans (V_main_arg9 m c)
theorem bW_eq : bW m c = (m ((c : Thread nD τ).loc main_arg2) : S12288x32000.Idx → F .fp8e4m3) := by
  unfold bW
  exact V_main_arg2 m c

/-- The weights' scales as the region finds them: in rows of 128. -/
theorem V_scales : V m c main_v0 = shapeCast S250x128 (m ((c : Thread nD τ).loc main_arg3)) shapeCasts_S32000_S250x128 := by
  show StableHlo.after _ _ (Proc.devRef .tc main_v0) = _
  rw [List.flatten_cons, List.flatten_nil, List.append_nil, hostOps0, StableHlo.after_cons, StableHlo.after_cons, StableHlo.after_nil, StableHlo.reshape_result_ne _ _ _ _ _ _ _ (by decide), StableHlo.reshape_result]
  rfl
/-- The history's ids as the region finds them: in rows of 128. -/
theorem V_ids : V m c main_v1 = shapeCast S128x128 (m ((c : Thread nD τ).loc main_arg4)) shapeCasts_S16384_S128x128 := by
  show StableHlo.after _ _ (Proc.devRef .tc main_v1) = _
  rw [List.flatten_cons, List.flatten_nil, List.append_nil, hostOps0, StableHlo.after_cons, StableHlo.after_cons, StableHlo.after_nil, StableHlo.reshape_result, StableHlo.reshape_result_ne _ _ _ _ _ _ _ (by decide)]
  rfl
theorem bWS_eq : bWS m c t0_0 = shapeCast S250x128 (m ((c : Thread nD τ).loc main_arg3)) shapeCasts_S32000_S250x128 := by
  have hz : (fun a => (win0_6.index t0_0) a * main_v0.ty.shape.size a) = fun _ => 0 := funext fun a => by fin_cases a <;> decide
  have hr := fun f => Memref.read_access_unit_zero (Elt F) main_v0 hz (fun a => by fin_cases a <;> decide) f
  unfold bWS iblk
  exact (hr _).trans (V_scales m c)
theorem bIds_eq : bIds m c t0_0 = shapeCast S128x128 (m ((c : Thread nD τ).loc main_arg4)) shapeCasts_S16384_S128x128 := by
  have hz : (fun a => (win0_7.index t0_0) a * main_v1.ty.shape.size a) = fun _ => 0 := funext fun a => by fin_cases a <;> decide
  have hr := fun f => Memref.read_access_unit_zero (Elt F) main_v1 hz (fun a => by fin_cases a <;> decide) f
  unfold bIds iblk
  exact (hr _).trans (V_ids m c)

/-- The log-sum-exps' array at the end. -/
theorem arr_lse : (dats m h 0 c).arrAt 9 cfg0.N = (lseF m c h t0_0 : S1x16.Idx → F .f32) := by
  have ho : ((cfg0.win 9).blk t0_0).view.read (Elt F) ((dats m h 0 c).arrAt 9 cfg0.N) = (dats m h 0 c).flushed 9 t0_0 := by
    rw [show cfg0.N = (t0_0 : Fin cfg0.N).val + 1 from rfl, (dats m h 0 c).arrAt_succ 9 t0_0, flush0_9 t0_0, if_pos rfl]
    exact View.read_write_univ _ _
  have hz : (fun a => (win0_9.index t0_0) a * main_v2_0.ty.shape.size a) = fun _ => 0 := funext fun a => by fin_cases a <;> decide
  have hr := fun f => Memref.read_access_unit_zero (Elt F) main_v2_0 hz (fun a => by fin_cases a <;> decide) f
  refine ((hr _).symm.trans ho).trans ?_
  show (cfg0.win 9).cut _ ((dats m h 0 c).after 9 t0_0) = _
  rw [after_lse]
  rfl

/-- The candidates' array at the end. -/
theorem arr_lp : (dats m h 0 c).arrAt 10 cfg0.N = (lpF m c h t0_0 : S16x20.Idx → F .f32) := by
  have ho : ((cfg0.win 10).blk t0_0).view.read (Elt F) ((dats m h 0 c).arrAt 10 cfg0.N) = (dats m h 0 c).flushed 10 t0_0 := by
    rw [show cfg0.N = (t0_0 : Fin cfg0.N).val + 1 from rfl, (dats m h 0 c).arrAt_succ 10 t0_0, flush0_10 t0_0, if_pos rfl]
    exact View.read_write_univ _ _
  have hz : (fun a => (win0_10.index t0_0) a * main_v2_1.ty.shape.size a) = fun _ => 0 := funext fun a => by fin_cases a <;> decide
  have hr := fun f => Memref.read_access_unit_zero (Elt F) main_v2_1 hz (fun a => by fin_cases a <;> decide) f
  refine ((hr _).symm.trans ho).trans ?_
  show (cfg0.win 10).cut _ ((dats m h 0 c).after 10 t0_0) = _
  rw [after_lp]
  rfl

/-- The log-sum-exps as they are returned. -/
theorem Wfin_lse : Wfin m h c (Proc.devRef .tc main_v3) = shapeCast S16 (lseF m c h t0_0 : S1x16.Idx → F .f32) shapeCasts_S1x16_S16 := by
  unfold Wfin
  rw [List.flatten_cons, List.flatten_nil, List.append_nil, hostOps1, StableHlo.after_cons, StableHlo.after_nil, StableHlo.reshape_result]
  have e := Pipeline.withArrays_arr spec0 launch0.win.arr_inj c (Pipeline.withR (V0 m c) RR c (GF m h c)) (fun w => (dats m h 0 c).arrAt w cfg0.N) 9
  have e' : Pipeline.withArrays spec0 c (Pipeline.withR (V0 m c) RR c (GF m h c)) (fun w => (dats m h 0 c).arrAt w cfg0.N) (Proc.devRef .tc main_v2_0) = (lseF m c h t0_0 : S1x16.Idx → F .f32) :=
    e.trans (arr_lse m h c)
  rw [e']
  rfl

/-- Every run ends with the three results at their values and the arguments as launched. -/
theorem run_values (ρ : Dev nD → PrngReg) : θ_run defs (onTc (τ := τ) (main (F := F))) ⟨m, fun _ => 0, ρ⟩ (fun r => ∀ c : Dev nD,
        r.2.mem ((c.tc : Thread nD τ).loc main_v3) = shapeCast S16 (lseF m c h t0_0 : S1x16.Idx → F .f32) shapeCasts_S1x16_S16
      ∧ r.2.mem ((c.tc : Thread nD τ).loc main_v2_1) = (lpF m c h t0_0 : S16x20.Idx → F .f32)
      ∧ r.2.mem ((c.tc : Thread nD τ).loc main_v2_2) = (zF m c h : S16x32000.Idx → Elt F .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ hh => fun c : Dev nD =>
     ⟨((hh.1 c).2 main_v3 (Pipeline.mem_restRefs_of main_v3 (by decide) (by decide))).trans (Wfin_lse m h c),
      ((hh.1 c).1 10).trans (arr_lp m h c),
      ((hh.1 c).2 main_v2_2 (Pipeline.mem_restRefs_of main_v2_2 (by decide) (by decide))).trans (Wfin_z m h c),
      ((hh.1 c).1 5).trans (((dats m h 0 c).arrAt_in 5 rfl _).trans (V_main_arg0 m c)),
      ((hh.1 c).1 1).trans (((dats m h 0 c).arrAt_in 1 rfl _).trans (V_main_arg1 m c)),
      ((hh.1 c).2 main_arg2 (Pipeline.mem_restRefs_of main_arg2 (by decide) (by decide))).trans ((Wfin_keep m h c main_arg2 (by decide) (by exact (by decide : ∀ w, Pipeline.arrRef spec0 w ≠ main_arg2)) (by decide)).trans (V_main_arg2 m c)),
      ((hh.1 c).2 main_arg3 (Pipeline.mem_restRefs_of main_arg3 (by decide) (by decide))).trans ((Wfin_keep m h c main_arg3 (by decide) (by exact (by decide : ∀ w, Pipeline.arrRef spec0 w ≠ main_arg3)) (by decide)).trans (V_main_arg3 m c)),
      ((hh.1 c).2 main_arg4 (Pipeline.mem_restRefs_of main_arg4 (by decide) (by decide))).trans ((Wfin_keep m h c main_arg4 (by decide) (by exact (by decide : ∀ w, Pipeline.arrRef spec0 w ≠ main_arg4)) (by decide)).trans (V_main_arg4 m c)),
      ((hh.1 c).1 0).trans (((dats m h 0 c).arrAt_in 0 rfl _).trans (V_main_arg5 m c)),
      ((hh.1 c).1 2).trans (((dats m h 0 c).arrAt_in 2 rfl _).trans (V_main_arg6 m c)),
      ((hh.1 c).1 3).trans (((dats m h 0 c).arrAt_in 3 rfl _).trans (V_main_arg7 m c)),
      ((hh.1 c).1 4).trans (((dats m h 0 c).arrAt_in 4 rfl _).trans (V_main_arg8 m c)),
      ((hh.1 c).1 8).trans (((dats m h 0 c).arrAt_in 8 rfl _).trans (V_main_arg9 m c))⟩) (run_main m ρ h)

end Cert.KernelIdeal.Hand

end
-- ==== Proof.VVal.lean ====
module

public import proofs.«01_k».proof.Proof.VRunR
public import proofs.«01_k».proof.Proof.VRunK

/-!
  The two programs' results compared, element by element.
-/

@[expose] public section

set_option maxRecDepth 16384

noncomputable section

namespace Cert.ReferenceIdeal.Value

open Cert.ReferenceIdeal Cert.ReferenceIdeal.Gen Cert.Hand
open Idealize.ShloMosaic Idealize.ShloMosaic.Tactic
open Idealize.ShloMosaic.TcCoe
open Idealize.SL.Sem
open Cert.KernelIdeal.Hand (Lg)

section
variable (V : Valuation τ sig (Elt Ideal))
  (A0 : FVec Ideal S16x12288 .fp8e4m3) (A1 : FVec Ideal S16 .f32) (A2 : FVec Ideal S12288x32000 .fp8e4m3) (A3 : FVec Ideal S32000 .f32) (A4 : IVec S16384 32) (A5 : IVec S17 32)
  (A6 A7 A8 : FVec Ideal S16 .f32) (A9 : IVec S16x20 32)

/-- The reference's buffers hold the arguments and the product of the first and third. -/
structure Reads : Prop where
  e0 : V (Proc.devRef .tc main_v0) = k0_pay1 (F := Ideal) A0 A2
  e1 : V (Proc.devRef .tc main_arg1) = A1
  e3 : V (Proc.devRef .tc main_arg3) = A3
  e4 : V (Proc.devRef .tc main_arg4) = A4
  e5 : V (Proc.devRef .tc main_arg5) = A5
  e6 : V (Proc.devRef .tc main_arg6) = A6
  e7 : V (Proc.devRef .tc main_arg7) = A7
  e8 : V (Proc.devRef .tc main_arg8) = A8
  e9 : V (Proc.devRef .tc main_arg9) = A9

/-- What is asked of the integer arguments. -/
structure Good : Prop where
  zero : A5 (ix1 0) = 0#32
  step : ∀ b : Fin 16, (A5 (ix1 b.castSucc)).toInt ≤ (A5 (ix1 b.succ)).toInt
  ids : ∀ p : Fin 16384, 0 ≤ (A4 (ix1 p)).toInt
  cand : ∀ (r : Fin 16) (q : Fin 20), 0 ≤ (A9 (ix2 (n0 := 16) (n1 := 20) r q)).toInt ∧ (A9 (ix2 (n0 := 16) (n1 := 20) r q)).toInt < 32000

variable {A4 A5 A9} in
/-- The offsets do not decrease. -/
theorem Good.mono (h : Good A4 A5 A9) : Monotone fun b : Fin 17 => (A5 (ix1 b)).toInt :=
  Fin.monotone_iff_le_succ.2 h.step

variable {A4 A5 A9} in
/-- No offset is negative. -/
theorem Good.nonneg (h : Good A4 A5 A9) (b : Fin 17) : 0 ≤ (A5 (ix1 b)).toInt := by
  have h1 := h.mono (Fin.zero_le b)
  dsimp only at h1
  rw [h.zero] at h1
  exact h1

variable {A4 A5 A9} in
/-- The offsets, as naturals, do not decrease. -/
theorem Good.monoNat (h : Good A4 A5 A9) (b c : Fin 17) (hbc : b ≤ c) : (A5 (ix1 b)).toNat ≤ (A5 (ix1 c)).toNat := by
  have h1 := h.mono hbc
  dsimp only at h1
  rw [(toNat_of_nonneg _ (h.nonneg b)).1, (toNat_of_nonneg _ (h.nonneg c)).1] at h1
  exact_mod_cast h1

/-- A reference logit, from the buffers it is computed of. -/
theorem v50_gen (r : Fin 16) (n : Fin 32000) :
    (res_main_v50 V : FVec Ideal S16x32000 .f32) (ix2 (n0 := 16) (n1 := 32000) r n)
      = lgt ((V (Proc.devRef .tc main_v0) : FVec Ideal S16x32000 .f32) (ix2 (n0 := 16) (n1 := 32000) r n)) ((V (Proc.devRef .tc main_arg1) : FVec Ideal S16 .f32) (ix1 r)) ((V (Proc.devRef .tc main_arg3) : FVec Ideal S32000 .f32) (ix1 n))
          ((res_main_v30 V : FVec Ideal S16x32000 .f32) (ix2 (n0 := 16) (n1 := 32000) r n)) ((V (Proc.devRef .tc main_arg6) : FVec Ideal S16 .f32) (ix1 r)) ((V (Proc.devRef .tc main_arg7) : FVec Ideal S16 .f32) (ix1 r)) ((V (Proc.devRef .tc main_arg8) : FVec Ideal S16 .f32) (ix1 r)) :=
  v50_core (res_main_v6 V) (res_main_v30 V) _ _ _ _ _ _ r n (v6_core _ _ _ r n).symm

/-- A reference count: the positions of the request's history that hold the word. -/
theorem v30_gen (hg : Good A4 A5 A9) (e4 : V (Proc.devRef .tc main_arg4) = A4) (e5 : V (Proc.devRef .tc main_arg5) = A5) (r : Fin 16) (n : Fin 32000) :
    (res_main_v30 V : FVec Ideal S16x32000 .f32) (ix2 (n0 := 16) (n1 := 32000) r n)
      = (∑ p : Fin 16384, if ((A5 (ix1 r.castSucc)).toNat ≤ p.val ∧ p.val < (A5 (ix1 r.succ)).toNat) ∧ A4 (ix1 p) = BitVec.ofNat 32 n.val then 1 else 0 : EReal) := by
  subst e4 e5
  have h0 : ((V (Proc.devRef .tc main_arg5) : IVec S17 32) (ix1 0)).toNat = 0 := by rw [hg.zero]; rfl
  have hp := fun p : Fin 16384 => cntLe_pos (V (Proc.devRef .tc main_arg5)) h0 p.val
  refine (v30_core (res_main_v10 V) (V (Proc.devRef .tc main_arg4)) (fun p => ⟨cntLe (V (Proc.devRef .tc main_arg5)) p.val - 1, by have := hp p; omega⟩) (fun p => ?_) hg.ids r n).trans ?_
  · refine (v10_core (V (Proc.devRef .tc main_arg5)) hg.nonneg p).trans ?_
    obtain ⟨k, hk⟩ : ∃ k, cntLe (V (Proc.devRef .tc main_arg5)) p.val = k + 1 := ⟨_, (Nat.succ_pred_eq_of_pos (hp p).1).symm⟩
    show BitVec.ofNat 32 (cntLe (V (Proc.devRef .tc main_arg5)) p.val) - 1#32 = BitVec.ofNat 32 (cntLe (V (Proc.devRef .tc main_arg5)) p.val - 1)
    rw [hk]
    rw [BitVec.ofNat_add, Nat.add_sub_cancel]
    exact BitVec.add_sub_cancel _ _
  · refine Finset.sum_congr rfl fun p _ => ?_
    have e : (cntLe (V (Proc.devRef .tc main_arg5)) p.val - 1 = r.val) ↔ (((V (Proc.devRef .tc main_arg5) : IVec S17 32) (ix1 r.castSucc)).toNat ≤ p.val ∧ p.val < ((V (Proc.devRef .tc main_arg5) : IVec S17 32) (ix1 r.succ)).toNat) := by
      rw [← cntLe_eq _ h0 hg.monoNat p.val r]
      have := hp p
      omega
    simp only [e]

variable {V A0 A1 A2 A3 A4 A5 A6 A7 A8 A9}

/-- The reference's logits. -/
theorem v50_val (hV : Reads V A0 A1 A2 A3 A4 A5 A6 A7 A8 A9) (hg : Good A4 A5 A9) (r : Fin 16) (n : Fin 32000) :
    (res_main_v50 V : FVec Ideal S16x32000 .f32) (ix2 (n0 := 16) (n1 := 32000) r n) = Lg A0 A1 A2 A3 A4 A5 A6 A7 A8 r n.val := by
  rw [v50_gen, v30_gen V A4 A5 A9 hg hV.e4 hV.e5, hV.e0, hV.e1, hV.e3, hV.e6, hV.e7, hV.e8, dot_at]
  unfold Lg
  rw [dif_pos n.isLt]

/-- The reference's maximum of a row bounds its logits and is one of them. -/
theorem v51_val (hV : Reads V A0 A1 A2 A3 A4 A5 A6 A7 A8 A9) (hg : Good A4 A5 A9) (r : Fin 16) :
    (∀ n < 32000, Lg A0 A1 A2 A3 A4 A5 A6 A7 A8 r n ≤ (res_main_v51 V : FVec Ideal S16 .f32) (ix1 r))
      ∧ ∃ n < 32000, Lg A0 A1 A2 A3 A4 A5 A6 A7 A8 r n = (res_main_v51 V : FVec Ideal S16 .f32) (ix1 r) := by
  have e : (res_main_v51 V : FVec Ideal S16 .f32) (ix1 r) = (Finset.univ : Finset (Fin 32000)).fold max ⊥ (fun n => Lg A0 A1 A2 A3 A4 A5 A6 A7 A8 r n.val) :=
    (redm (res_main_v50 V) r).trans (Finset.fold_congr fun n _ => v50_val hV hg r n)
  rw [e]
  refine ⟨fun n hn => (Finset.le_fold_max _).2 (Or.inr ⟨⟨n, hn⟩, Finset.mem_univ _, le_rfl⟩), ?_⟩
  obtain ⟨i, _, hi⟩ := Finset.exists_mem_eq_sup' (s := (Finset.univ : Finset (Fin 32000))) ⟨⟨0, by decide⟩, Finset.mem_univ _⟩ (fun n => Lg A0 A1 A2 A3 A4 A5 A6 A7 A8 r n.val)
  refine ⟨i.val, i.isLt, hi.symm.trans (le_antisymm ?_ ?_)⟩
  · exact Finset.sup'_le _ _ fun n _ => (Finset.le_fold_max _).2 (Or.inr ⟨n, Finset.mem_univ _, le_rfl⟩)
  · exact (Finset.fold_max_le _).2 ⟨bot_le, fun n hn => Finset.le_sup' (fun n : Fin 32000 => Lg A0 A1 A2 A3 A4 A5 A6 A7 A8 r n.val) hn⟩

/-- The reference's log-sum-exp, as its program computes it. -/
abbrev rLse (V : Valuation τ sig (Elt Ideal)) : FVec Ideal S16 .f32 :=
  addf (res_main_v51 V) (Host.log (Host.reduceAdd (Host.exp (subf (res_main_v50 V) (broadcastInDim S16x32000 ![0, 1] bcast_S16x1_S16x32000_0_1 (broadcastInDim S16x1 ![0] bcast_S16_S16x1_0 (res_main_v51 V))))) (constant S_ .f32 0x00000000#32) reducesTo_S16x32000_S16_d1 h_S_))

/-- The reference's log-sum-exp of a row, from its logits. -/
theorem lse_val (hV : Reads V A0 A1 A2 A3 A4 A5 A6 A7 A8 A9) (hg : Good A4 A5 A9) (r : Fin 16) :
    rLse V (ix1 r) = Ideal.log (∑ n : Fin 32000, Ideal.exp (Lg A0 A1 A2 A3 A4 A5 A6 A7 A8 r n.val - (res_main_v51 V : FVec Ideal S16 .f32) (ix1 r))) + (res_main_v51 V : FVec Ideal S16 .f32) (ix1 r) := by
  refine (lse_core (res_main_v50 V) (res_main_v51 V) r).trans ?_
  rw [add_comm]
  simp only [v50_val hV hg r]

/-- The reference's log-probabilities of the candidates, as its program computes them. -/
abbrev rLp (V : Valuation τ sig (Elt Ideal)) : FVec Ideal S16x20 .f32 :=
  subf (select (Host.reduce IntOp.andi (andi (cmpi .sge (res_main_call3_v5 V) (broadcastInDim S16x20x1 ![] bcast_S_S16x20x1 (constantI S_ 32 0#32))) (cmpi .sle (res_main_call3_v5 V) (broadcastInDim S16x20x1 ![0, 1, 2] bcast_S1x1x1_S16x20x1_0_1_2 (broadcastInDim S1x1x1 ![2] bcast_S1_S1x1x1_2 (constantI S1 32 31999#32))))) (constantI S_ 1 1#1) reducesTo_S16x20x1_S16x20_d2 h_S_) (Host.gather gather_S16x32000_S16x20x1_S16x20_n_1_0_0_1_2_11 (res_main_v50 V) (res_main_call3_v5 V)) (broadcastInDim S16x20 ![] bcast_S_S16x20 (constant S_ .f32 0x7FC00000#32))) (broadcastInDim S16x20 ![0, 1] bcast_S16x1_S16x20_0_1 (broadcastInDim S16x1 ![0] bcast_S16_S16x1_0 (rLse V)))

/-- Where the mask is set the gathered value is the one taken. -/
theorem lp_core (mask : IVec S16x20 1) (g nan b : FVec Ideal S16x20 .f32) (j : S16x20.Idx) (h : mask j = 1#1) : subf (select mask g nan) b j = g j - b j := by
  show Scalar.select (mask j) (g j) (nan j) - b j = _
  rw [h]
  rfl

/-- The reference's log-probability of a candidate, from its logits. -/
theorem lp_val (hV : Reads V A0 A1 A2 A3 A4 A5 A6 A7 A8 A9) (hg : Good A4 A5 A9) (r : Fin 16) (q : Fin 20) (c : ℕ) (hc : c < 32000) (e : A9 (ix2 (n0 := 16) (n1 := 20) r q) = BitVec.ofNat 32 c) :
    rLp V (ix2 (n0 := 16) (n1 := 20) r q) = Lg A0 A1 A2 A3 A4 A5 A6 A7 A8 r c - rLse V (ix1 r) := by
  have hi : (res_main_call3_v5 V : IVec S16x20x1 32) (ix3 (n0 := 16) (n1 := 20) (n2 := 1) r q 0) = BitVec.ofNat 32 c :=
    idx_core (V (Proc.devRef .tc main_arg9)) r q c hc (by rw [hV.e9]; exact e)
  refine (lp_core _ _ _ _ _ (mask_core (res_main_call3_v5 V) r q c hc hi)).trans ?_
  exact congrArg₂ (· - ·) ((gather_core (res_main_v50 V) (res_main_call3_v5 V) r q c hc hi).trans (v50_val hV hg r ⟨c, hc⟩)) (bcRow20 (rLse V) r q)
end

end Cert.ReferenceIdeal.Value

end
-- ==== Proof.VPre.lean ====
module

public import proofs.«01_k».proof.Pre_well_formed
public import Idealize.ShloMosaic.Lib.ReduceAll
public import Idealize.ShloMosaic.Lib.Pointwise

/-!
  What the predicate on the inputs says: offsets from zero that do not decrease, ids not negative, candidates in the vocabulary.
-/

@[expose] public section

noncomputable section

namespace Cert.Hand

open Cert.Pre_well_formed Idealize.ShloMosaic Idealize.ShloMosaic.Tactic

/-- The side conditions of the predicate. -/
theorem wf_facts : Cert.Pre_well_formed.Facts := by
  constructor <;> decide

theorem and_one : ∀ a b : BitVec 1, IntOp.andi a b = 1#1 → a = 1#1 ∧ b = 1#1 := by decide

theorem sge_one (a b : BitVec 32) (h : IntOp.cmpi .sge a b = 1#1) : b.toInt ≤ a.toInt := by
  simp only [IntOp.cmpi, BitVec.sle_eq_decide] at h
  by_contra hn
  simp [hn] at h

theorem slt_one (a b : BitVec 32) (h : IntOp.cmpi .slt a b = 1#1) : a.toInt < b.toInt := by
  simp only [IntOp.cmpi, BitVec.slt_eq_decide] at h
  by_contra hn
  simp [hn] at h

theorem eq_one (a b : BitVec 32) (h : IntOp.cmpi .eq a b = 1#1) : a = b := by
  change BitVec.ofBool (a == b) = 1#1 at h
  by_contra hn
  rw [beq_false_of_ne hn] at h
  exact absurd h (by decide)

attribute [local instance] wf_facts

/-- The predicate all ones gives the four facts of the integer arguments. -/
theorem wf_of_pre {F : FTy → Type} [FloatOps F] (a0 : FVec F S16x12288 .fp8e4m3) (a1 : FVec F S16 .f32) (a2 : FVec F S12288x32000 .fp8e4m3) (a3 : FVec F S32000 .f32) (ids : IVec S16384 32) (off : IVec S17 32) (a6 a7 a8 : FVec F S16 .f32) (cand : IVec S16x20 32)
    (h : fn a0 a1 a2 a3 ids off a6 a7 a8 cand = fun _ => 1#1) :
    off (ix1 0) = 0#32 ∧ (∀ b : Fin 16, (off (ix1 b.castSucc)).toInt ≤ (off (ix1 b.succ)).toInt) ∧ (∀ p : Fin 16384, 0 ≤ (ids (ix1 p)).toInt)
      ∧ ∀ (r : Fin 16) (q : Fin 20), 0 ≤ (cand (ix2 (n0 := 16) (n1 := 20) r q)).toInt ∧ (cand (ix2 (n0 := 16) (n1 := 20) r q)).toInt < 32000 := by
  have h0 := congrFun h (fun a => a.elim0)
  obtain ⟨h1, h4⟩ := and_one _ _ h0
  obtain ⟨h1, h3⟩ := and_one _ _ h1
  obtain ⟨h1, h2⟩ := and_one _ _ h1
  refine ⟨?_, fun b => ?_, fun p => ?_, fun r q => ?_⟩
  · have := eq_one _ _ h1
    refine Eq.trans (congrArg off ?_) this
    funext a
    refine Fin.ext ?_
    match a with
    | ⟨0, _⟩ => rfl
  · have := sge_one _ _ (Host.reduce_andi_eq_one _ _ _ _ _ h2 (ix1 b) (funext fun a => a.elim0))
    refine le_trans (le_of_eq (congrArg (fun j => (off j).toInt) ?_)) (this.trans (le_of_eq (congrArg (fun j => (off j).toInt) ?_)))
    · funext a
      refine Fin.ext ?_
      match a with
      | ⟨0, _⟩ => show b.val = 0 + b.val; omega
    · funext a
      refine Fin.ext ?_
      match a with
      | ⟨0, _⟩ => show 1 + b.val = b.val + 1; omega
  · exact sge_one _ _ (Host.reduce_andi_eq_one _ _ _ _ _ h3 (ix1 p) (funext fun a => a.elim0))
  · obtain ⟨h5, h6⟩ := and_one _ _ (Host.reduce_andi_eq_one _ _ _ _ _ h4 (ix2 (n0 := 16) (n1 := 20) r q) (funext fun a => a.elim0))
    exact ⟨sge_one _ _ h5, slt_one _ _ h6⟩

end Cert.Hand

end
-- ==== Proof.VFinal.lean ====
module

public import proofs.«01_k».proof.Proof.VVal
public import proofs.«01_k».proof.Proof.VPre

/-!
  The kernel's three results are the reference's.
-/

@[expose] public section

set_option maxRecDepth 16384

noncomputable section

namespace Cert.Hand

open Idealize.ShloMosaic Idealize.ShloMosaic.Tactic
open Idealize.ShloMosaic.TcCoe
open Idealize.SL.Sem
open Cert.KernelIdeal.Hand (Lg zc zc_eq idn ChkOK fnZ fnLse fnLp fnZ_at fnLse_at fnLp_at)
open Cert.ReferenceIdeal.Value (Reads Good rLse rLp v50_val v51_val lse_val lp_val)
open Cert.ReferenceIdeal.Value (res_main_v50 res_main_v51)
open Cert.KernelIdeal

/-- Every index of a vector is given by its coordinate. -/
theorem ix1_of {n : ℕ} (j : (⟨1, ![n]⟩ : Shape).Idx) : ∃ r : Fin n, j = ix1 r :=
  ⟨j 0, funext fun a => by obtain rfl : a = 0 := Subsingleton.elim _ _; rfl⟩

/-- Every index of a matrix is given by its coordinates. -/
theorem ix2_of {n k : ℕ} (j : (⟨2, ![n, k]⟩ : Shape).Idx) : ∃ (r : Fin n) (q : Fin k), j = ix2 r q :=
  ⟨j 0, j 1, funext fun a => by fin_cases a <;> rfl⟩

section
variable {V : Valuation Cert.ReferenceIdeal.τ Cert.ReferenceIdeal.sig (Elt Ideal)}
  {A0 : FVec Ideal S16x12288 .fp8e4m3} {A1 : FVec Ideal S16 .f32} {A2 : FVec Ideal S12288x32000 .fp8e4m3} {A3 : FVec Ideal S32000 .f32} {A4 : IVec S16384 32} {A5 : IVec S17 32}
  {A6 A7 A8 : FVec Ideal S16 .f32} {A9 : IVec S16x20 32}

/-- The scales as the kernel reads them, 128 to a row. -/
theorem scales_at (h : S32000.ShapeCasts S250x128) (n : Fin 32000) :
    shapeCast S250x128 A3 h (ix2 (n0 := 250) (n1 := 128) ⟨n.val / 128, by have := n.isLt; omega⟩ ⟨n.val % 128, Nat.mod_lt _ (by decide)⟩) = A3 (ix1 n) := by
  pointwise

/-- The ids as the kernel reads them, 128 to a row. -/
theorem ids_at (h : S16384.ShapeCasts S128x128) (p : Fin 16384) :
    idn (shapeCast S128x128 A4 h) p.val = A4 (ix1 p) := by
  unfold idn
  pointwise

/-- Every id the kernel reads is one of the ids. -/
theorem ids_nonneg (h : S16384.ShapeCasts S128x128) (hi : ∀ p : Fin 16384, 0 ≤ (A4 (ix1 p)).toInt) (j : S128x128.Idx) :
    0 ≤ (shapeCast S128x128 A4 h j : BitVec 32).toInt := by
  unfold shapeCast
  generalize Shape.reshapeEquiv _ j = i
  obtain ⟨p, rfl⟩ := ix1_of i
  exact hi _

variable (hV : Reads V A0 A1 A2 A3 A4 A5 A6 A7 A8 A9) (hg : Good A4 A5 A9) (hr : ChkOK A5) (h3 : S32000.ShapeCasts S250x128) (h4 : S16384.ShapeCasts S128x128)
include hg

/-- The kernel's logit, from the arguments as given. -/
theorem zc_val (r : Fin 16) (n : ℕ) :
    zc A5 hr A1 A6 A7 A8 A0 A2 (shapeCast S250x128 A3 h3) (shapeCast S128x128 A4 h4) r n = Lg A0 A1 A2 A3 A4 A5 A6 A7 A8 r n :=
  zc_eq A5 hr A1 A6 A7 A8 A0 A2 _ _ hg.nonneg (ids_nonneg h4 hg.ids) A3 (scales_at h3) A4 (ids_at h4) r n

include hV

/-- The logits of the two programs are equal. -/
theorem z_agree : (fnZ (F := Ideal) A5 hr A1 A6 A7 A8 A0 A2 (shapeCast S250x128 A3 h3) (shapeCast S128x128 A4 h4) : FVec Ideal S16x32000 .f32) = res_main_v50 V := by
  funext j
  obtain ⟨r, n, rfl⟩ := ix2_of j
  exact (fnZ_at A5 hr A1 A6 A7 A8 A0 A2 _ _ _ _).trans ((zc_val hg hr h3 h4 _ _).trans (v50_val hV hg _ _).symm)

/-- The kernel's log-sum-exp of a row is the reference's. -/
theorem lse_at (r : Fin 16) :
    fnLse (F := Ideal) A5 hr A1 A6 A7 A8 A0 A2 (shapeCast S250x128 A3 h3) (shapeCast S128x128 A4 h4) A9 (ix2 (n0 := 1) (n1 := 16) 0 r) = rLse V (ix1 r) := by
  obtain ⟨h1, h2⟩ := v51_val hV hg r
  refine (fnLse_at A5 hr A1 A6 A7 A8 A0 A2 _ _ A9 r ((res_main_v51 V : FVec Ideal S16 .f32) (ix1 r)) (fun n hn => ?_) ?_).trans ?_
  · rw [zc_val hg hr h3 h4]
    exact h1 n hn
  · obtain ⟨n, hn, e⟩ := h2
    exact ⟨n, hn, by rw [zc_val hg hr h3 h4]; exact e⟩
  · rw [lse_val hV hg r]
    simp only [zc_val hg hr h3 h4]

/-- The rows' log-sum-exps of the two programs are equal. -/
theorem lse_agree (h : S1x16.ShapeCasts S16) :
    (shapeCast S16 (fnLse (F := Ideal) A5 hr A1 A6 A7 A8 A0 A2 (shapeCast S250x128 A3 h3) (shapeCast S128x128 A4 h4) A9) h : FVec Ideal S16 .f32) = rLse V := by
  funext j
  obtain ⟨r, rfl⟩ := ix1_of j
  refine Eq.trans ?_ (lse_at hV hg hr h3 h4 r)
  generalize fnLse (F := Ideal) A5 hr A1 A6 A7 A8 A0 A2 (shapeCast S250x128 A3 h3) (shapeCast S128x128 A4 h4) A9 = L
  pointwise

/-- The candidates' log-probabilities of the two programs are equal. -/
theorem lp_agree : (fnLp (F := Ideal) A5 hr A1 A6 A7 A8 A0 A2 (shapeCast S250x128 A3 h3) (shapeCast S128x128 A4 h4) A9 : FVec Ideal S16x20 .f32) = rLp V := by
  funext j
  obtain ⟨r, q, rfl⟩ := ix2_of j
  obtain ⟨c0, c1⟩ := hg.cand r q
  have hc := (Cert.ReferenceIdeal.Value.toNat_of_nonneg _ c0).1
  have hl : (A9 (ix2 (n0 := 16) (n1 := 20) r q)).toNat < 32000 := by omega
  have e : A9 (ix2 (n0 := 16) (n1 := 20) r q) = BitVec.ofNat 32 (A9 (ix2 (n0 := 16) (n1 := 20) r q)).toNat := by simp
  refine (fnLp_at A5 hr A1 A6 A7 A8 A0 A2 _ _ A9 r q _ hl e).trans ?_
  refine Eq.trans ?_ (lp_val hV hg r q _ hl e).symm
  exact congrArg₂ (· - ·) (zc_val hg hr h3 h4 r _) (lse_at hV hg hr h3 h4 r)
end

end Cert.Hand

end
-- ==== Proof.VMem.lean ====
module

public import proofs.«01_k».proof.Defs
public import proofs.«01_k».proof.Proof.VFinal

/-!
  Both programs run to the same three results.
-/

@[expose] public section

set_option maxRecDepth 16384

noncomputable section

namespace Cert.KernelIdeal.Hand

open Cert.KernelIdeal Cert.KernelIdeal.Gen
open Idealize.ShloMosaic Idealize.ShloMosaic.Tactic
open Idealize.ShloMosaic.TcCoe
open Idealize.SL.Sem

variable (m : (ℓ : Loc nD τ sig) → Buf (Elt Ideal) ℓ) (h : OffOK m) (c : Dev nD) (hr : ChkOK (m ((c : Thread nD τ).loc main_arg5)))

/-- The kernel's logits, of the arguments as launched. -/
theorem zF_eq : zF (F := Ideal) m c h = fnZ (F := Ideal) (m ((c : Thread nD τ).loc main_arg5)) hr (m ((c : Thread nD τ).loc main_arg1)) (m ((c : Thread nD τ).loc main_arg6)) (m ((c : Thread nD τ).loc main_arg7)) (m ((c : Thread nD τ).loc main_arg8)) (m ((c : Thread nD τ).loc main_arg0)) (m ((c : Thread nD τ).loc main_arg2))
    (shapeCast S250x128 (m ((c : Thread nD τ).loc main_arg3)) shapeCasts_S32000_S250x128) (shapeCast S128x128 (m ((c : Thread nD τ).loc main_arg4)) shapeCasts_S16384_S128x128) := by
  unfold zF
  generalize chkOK (F := Ideal) c t0_0 h = p
  revert p
  rw [bOff_eq, bXs_eq, bPres_eq, bFreq_eq, bRep_eq, bX_eq, bW_eq, bWS_eq, bIds_eq]
  intro p
  rfl

/-- The kernel's log-sum-exps, of the arguments as launched. -/
theorem lseF_eq : lseF (F := Ideal) m c h t0_0 = fnLse (F := Ideal) (m ((c : Thread nD τ).loc main_arg5)) hr (m ((c : Thread nD τ).loc main_arg1)) (m ((c : Thread nD τ).loc main_arg6)) (m ((c : Thread nD τ).loc main_arg7)) (m ((c : Thread nD τ).loc main_arg8)) (m ((c : Thread nD τ).loc main_arg0)) (m ((c : Thread nD τ).loc main_arg2))
    (shapeCast S250x128 (m ((c : Thread nD τ).loc main_arg3)) shapeCasts_S32000_S250x128) (shapeCast S128x128 (m ((c : Thread nD τ).loc main_arg4)) shapeCasts_S16384_S128x128) (m ((c : Thread nD τ).loc main_arg9)) := by
  unfold lseF
  generalize chkOK (F := Ideal) c t0_0 h = p
  revert p
  rw [bOff_eq, bXs_eq, bPres_eq, bFreq_eq, bRep_eq, bX_eq, bW_eq, bWS_eq, bIds_eq, bCand_eq]
  intro p
  rfl

/-- The kernel's log-probabilities of the candidates, of the arguments as launched. -/
theorem lpF_eq : lpF (F := Ideal) m c h t0_0 = fnLp (F := Ideal) (m ((c : Thread nD τ).loc main_arg5)) hr (m ((c : Thread nD τ).loc main_arg1)) (m ((c : Thread nD τ).loc main_arg6)) (m ((c : Thread nD τ).loc main_arg7)) (m ((c : Thread nD τ).loc main_arg8)) (m ((c : Thread nD τ).loc main_arg0)) (m ((c : Thread nD τ).loc main_arg2))
    (shapeCast S250x128 (m ((c : Thread nD τ).loc main_arg3)) shapeCasts_S32000_S250x128) (shapeCast S128x128 (m ((c : Thread nD τ).loc main_arg4)) shapeCasts_S16384_S128x128) (m ((c : Thread nD τ).loc main_arg9)) := by
  unfold lpF
  generalize chkOK (F := Ideal) c t0_0 h = p
  revert p
  rw [bOff_eq, bXs_eq, bPres_eq, bFreq_eq, bRep_eq, bX_eq, bW_eq, bWS_eq, bIds_eq, bCand_eq]
  intro p
  rfl

include h in
theorem chk_arg : ChkOK (m ((c : Thread nD τ).loc main_arg5)) := by
  have p := chkOK (F := Ideal) c t0_0 h
  rw [bOff_eq] at p
  exact p

end Cert.KernelIdeal.Hand

namespace Cert.Hand

open Idealize.ShloMosaic Idealize.ShloMosaic.Tactic
open Idealize.ShloMosaic.TcCoe
open Idealize.SL.Sem
open Cert.KernelIdeal.Hand (OffOK lseF lpF zF lseF_eq lpF_eq zF_eq chk_arg run_values)
open Cert.ReferenceIdeal.Value (Reads Good exitV)

/-- A memory that is well formed holds good integer arguments. -/
theorem good_of_pre (m : (ℓ : Loc Cert.KernelIdeal.nD Cert.KernelIdeal.τ Cert.KernelIdeal.sig) → Buf (Elt Ideal) ℓ) (h : Cert.Pre_KernelIdeal_well_formed (hPre_well_formed := wf_facts) m) (c : Dev Cert.KernelIdeal.nD) :
    Good (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg9)) := by
  obtain ⟨h0, h1, h2, h3⟩ := wf_of_pre _ _ _ _ _ _ _ _ _ _ (h c)
  exact ⟨h0, h1, h2, h3⟩

/-- A memory that is well formed holds no negative offset. -/
theorem offOK_of_pre (m : (ℓ : Loc Cert.KernelIdeal.nD Cert.KernelIdeal.τ Cert.KernelIdeal.sig) → Buf (Elt Ideal) ℓ) (h : Cert.Pre_KernelIdeal_well_formed (hPre_well_formed := wf_facts) m) : OffOK m := fun c j => by
  obtain ⟨b, rfl⟩ := ix1_of j
  exact (good_of_pre m h c).nonneg b

/-- From memories holding the same arguments, well formed, both programs run and end with equal results. -/
theorem algebraic : Cert.algebraic_KernelIdeal_ReferenceIdeal_pre_well_formed (hKernelIdeal := Cert.KernelIdeal.Gen.facts) (hReferenceIdeal := Cert.ReferenceIdeal.Gen.facts) (hPre_well_formed := wf_facts) := by
  intro m g m' g' hp hag
  have h : OffOK m := offOK_of_pre m hp
  have hV : ∀ c : Dev Cert.KernelIdeal.nD, Reads (exitV m' c) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := fun c => by
    obtain ⟨a0, a1, a2, a3, a4, a5, a6, a7, a8, a9⟩ := hag c
    refine ⟨?_, (Cert.ReferenceIdeal.Value.exit_main_arg1 m' c).trans a1, (Cert.ReferenceIdeal.Value.exit_main_arg3 m' c).trans a3, (Cert.ReferenceIdeal.Value.exit_main_arg4 m' c).trans a4, (Cert.ReferenceIdeal.Value.exit_main_arg5 m' c).trans a5, (Cert.ReferenceIdeal.Value.exit_main_arg6 m' c).trans a6, (Cert.ReferenceIdeal.Value.exit_main_arg7 m' c).trans a7, (Cert.ReferenceIdeal.Value.exit_main_arg8 m' c).trans a8, (Cert.ReferenceIdeal.Value.exit_main_arg9 m' c).trans a9⟩
    refine (Cert.ReferenceIdeal.Value.exit_main_v0 m' c).trans ((Cert.ReferenceIdeal.Value.dot_value m' c).trans ?_)
    exact congrArg₂ (Cert.ReferenceIdeal.Gen.k0_pay1 (F := Ideal)) a0 a2
  refine ⟨fun c => shapeCast Cert.KernelIdeal.S16 (lseF m c h Cert.KernelIdeal.Gen.t0_0) Cert.KernelIdeal.Gen.facts.shapeCasts_S1x16_S16, fun c => lpF m c h Cert.KernelIdeal.Gen.t0_0, fun c => zF m c h, run_values m h g, (θ_run _ _ _).mono (fun r hr c => ?_) (Cert.ReferenceIdeal.Value.run m' g')⟩
  obtain ⟨e0, e1, e2, e3⟩ := hr c
  refine ⟨e0.trans ?_, e1.trans ?_, e2.trans ?_, e3⟩
  · refine (lse_agree (hV c) (good_of_pre m hp c) (chk_arg m h c) Cert.KernelIdeal.Gen.facts.shapeCasts_S32000_S250x128 Cert.KernelIdeal.Gen.facts.shapeCasts_S16384_S128x128 Cert.KernelIdeal.Gen.facts.shapeCasts_S1x16_S16).symm.trans ?_
    exact congrArg (fun L => shapeCast Cert.KernelIdeal.S16 L Cert.KernelIdeal.Gen.facts.shapeCasts_S1x16_S16) (lseF_eq m h c (chk_arg m h c)).symm
  · refine (lp_agree (hV c) (good_of_pre m hp c) (chk_arg m h c) Cert.KernelIdeal.Gen.facts.shapeCasts_S32000_S250x128 Cert.KernelIdeal.Gen.facts.shapeCasts_S16384_S128x128).symm.trans ?_
    exact (lpF_eq m h c (chk_arg m h c)).symm
  · refine (z_agree (hV c) (good_of_pre m hp c) (chk_arg m h c) Cert.KernelIdeal.Gen.facts.shapeCasts_S32000_S250x128 Cert.KernelIdeal.Gen.facts.shapeCasts_S16384_S128x128).symm.trans ?_
    exact (zF_eq m h c (chk_arg m h c)).symm

end Cert.Hand

end
-- ==== Proof.lean ====
module

public import proofs.«01_k».proof.Defs
public import proofs.«01_k».proof.Proof.IFinal
public import proofs.«01_k».proof.Proof.KFinal
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Frame
public import proofs.«01_k».proof.Proof.VMem
public import Idealize.ShloMosaic.Adequacy
public import Idealize.ShloMosaic.Init
public import Idealize.ShloMosaic.Lib.ReduceAll

@[expose] public section

noncomputable section

namespace Cert.Proof

open Idealize.ShloMosaic Idealize.SL.Sem

/-- The side conditions of the predicate on the segment offsets. -/
theorem offs_facts : Cert.Pre_offsets_nonneg.Facts := by
  constructor <;> decide

/-- A word every one of whose comparisons with zero is true holds no negative entry. -/
theorem offs_of_pre (off : IVec Cert.Pre_offsets_nonneg.S17 32)
    (h : Host.reduce IntOp.andi (cmpi .sge off (broadcastInDim Cert.Pre_offsets_nonneg.S17 ![]
      offs_facts.bcast_S_S17 (constantI Cert.Pre_offsets_nonneg.S_ 32 0#32)))
      (constantI Cert.Pre_offsets_nonneg.S_ 1 1#1) offs_facts.reducesTo_S17_S_d0 offs_facts.h_S_
      = fun _ => 1#1) (j : Cert.Pre_offsets_nonneg.S17.Idx) : 0 ≤ (off j).toInt := by
  have h0 := Host.reduce_andi_eq_one _ _ _ _ _ (congrFun h (fun a => a.elim0)) j (funext fun a => a.elim0)
  simp only [cmpi, broadcastInDim, constantI, IntOp.cmpi, BitVec.sle_eq_decide] at h0
  by_contra hn
  simp [hn] at h0

theorem claim : Cert.Claim :=
  ⟨Cert.Kernel.Gen.facts, Cert.KernelIdeal.Gen.facts, Cert.ReferenceIdeal.Gen.facts, offs_facts, Cert.Hand.wf_facts,
    fun m g h => Cert.Kernel.Hand.frame_of_ok m g fun c j => offs_of_pre _ (h c) j,
    fun m g h => Cert.KernelIdeal.Hand.frame_of_ok m g fun c j => offs_of_pre _ (h c) j,
    fun m g h => Cert.KernelIdeal.Hand.frame_of_ok m g (Cert.Hand.offOK_of_pre m h),
    fun m g _ => Cert.ReferenceIdeal.Gen.frame m g,
    fun m g _ => Cert.ReferenceIdeal.Gen.frame m g,
    trivial,
    Cert.Hand.algebraic⟩

end Cert.Proof

end
